-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2 = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_range [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Reference [hPre_slots_in_range : Cert.Pre_slots_in_range.Facts] (m : (ℓ : Loc Cert.Reference.nD Cert.Reference.τ Cert.Reference.sig) → Buf (Elt Bits) ℓ) : Prop :=
  ∀ c : Dev Cert.Reference.nD,
    (Cert.Pre_slots_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).1 = (fun _ => 1#1)
    ∧ (Cert.Pre_slots_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.1 = (fun _ => 1#1)
    ∧ (Cert.Pre_slots_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.1 = (fun _ => 1#1)
    ∧ (Cert.Pre_slots_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2.2 = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2 = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_lanes_set [hPre_lanes_set : Cert.Pre_lanes_set.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_lanes_set.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_lanes_set.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_lanes_set.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_lanes_set [hPre_lanes_set : Cert.Pre_lanes_set.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_lanes_set.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_lanes_set.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_lanes_set.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2 = (fun _ => 1#1)

def Pre_Kernel7 [hPre_first_in_range : Cert.Pre_first_in_range.Facts] (m : (ℓ : Loc Cert.Kernel7.nD Cert.Kernel7.τ Cert.Kernel7.sig) → Buf (Elt Bits) ℓ) : Prop :=
  ∀ c : Dev Cert.Kernel7.nD,
    (Cert.Pre_first_in_range.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))).1 = (fun _ => 1#1)
    ∧ (Cert.Pre_first_in_range.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))).2 = (fun _ => 1#1)

def Pre_Kernel7Ideal [hPre_first_in_range : Cert.Pre_first_in_range.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_first_in_range.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_first_in_range.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 = (fun _ => 1#1)

def Pre_Kernel7Ideal_first_and_lanes [hPre_first_and_lanes : Cert.Pre_first_and_lanes.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_first_and_lanes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_first_and_lanes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_first_and_lanes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_first_and_lanes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_first_and_lanes.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_first_and_lanes [hPre_first_and_lanes : Cert.Pre_first_and_lanes.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_first_and_lanes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_first_and_lanes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_first_and_lanes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_first_and_lanes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_first_and_lanes.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2 = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_in_range [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_slots_in_range : Cert.Pre_slots_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_lanes_set [hKernel6Ideal : Cert.Kernel6Ideal.Facts] [hPre_lanes_set : Cert.Pre_lanes_set.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_lanes_set m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_lanes_set [hReference6Ideal : Cert.Reference6Ideal.Facts] [hPre_lanes_set : Cert.Pre_lanes_set.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_lanes_set m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_first_in_range : Cert.Pre_first_in_range.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_first_in_range : Cert.Pre_first_in_range.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_first_and_lanes [hKernel7Ideal : Cert.Kernel7Ideal.Facts] [hPre_first_and_lanes : Cert.Pre_first_and_lanes.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_first_and_lanes m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_first_and_lanes [hReference7Ideal : Cert.Reference7Ideal.Facts] [hPre_first_and_lanes : Cert.Pre_first_and_lanes.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_first_and_lanes m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v12) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_lanes_set [hKernel6Ideal : Cert.Kernel6Ideal.Facts] [hReference6Ideal : Cert.Reference6Ideal.Facts] [hPre_lanes_set : Cert.Pre_lanes_set.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_lanes_set m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_first_and_lanes [hKernel7Ideal : Cert.Kernel7Ideal.Facts] [hReference7Ideal : Cert.Reference7Ideal.Facts] [hPre_first_and_lanes : Cert.Pre_first_and_lanes.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_first_and_lanes m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v57) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_slots_in_range : Cert.Pre_slots_in_range.Facts) (hPre_experts_in_range : Cert.Pre_experts_in_range.Facts) (hPre_lanes_set : Cert.Pre_lanes_set.Facts) (hPre_first_in_range : Cert.Pre_first_in_range.Facts) (hPre_first_and_lanes : Cert.Pre_first_and_lanes.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal)
    ∧ quiescent_ReferenceIdeal_pre_slots_in_range (hReferenceIdeal := hReferenceIdeal) (hPre_slots_in_range := hPre_slots_in_range)
    ∧ quiescent_Reference (hReference := hReference) (hPre_slots_in_range := hPre_slots_in_range)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_lanes_set (hKernel6Ideal := hKernel6Ideal) (hPre_lanes_set := hPre_lanes_set)
    ∧ quiescent_Reference6Ideal (hReference6Ideal := hReference6Ideal)
    ∧ quiescent_Reference6Ideal_pre_lanes_set (hReference6Ideal := hReference6Ideal) (hPre_lanes_set := hPre_lanes_set)
    ∧ quiescent_Kernel7 (hKernel7 := hKernel7) (hPre_first_in_range := hPre_first_in_range)
    ∧ quiescent_Kernel7Ideal (hKernel7Ideal := hKernel7Ideal) (hPre_first_in_range := hPre_first_in_range)
    ∧ quiescent_Kernel7Ideal_pre_first_and_lanes (hKernel7Ideal := hKernel7Ideal) (hPre_first_and_lanes := hPre_first_and_lanes)
    ∧ quiescent_Reference7Ideal (hReference7Ideal := hReference7Ideal)
    ∧ quiescent_Reference7Ideal_pre_first_and_lanes (hReference7Ideal := hReference7Ideal) (hPre_first_and_lanes := hPre_first_and_lanes)
    ∧ preserves_Kernel_KernelIdeal
    ∧ algebraic_KernelIdeal_ReferenceIdeal (hKernelIdeal := hKernelIdeal) (hReferenceIdeal := hReferenceIdeal) (hPre_slots_in_range := hPre_slots_in_range)
    ∧ bitexact_Kernel_Reference (hKernel := hKernel) (hReference := hReference) (hPre_slots_in_range := hPre_slots_in_range)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_lanes_set (hKernel6Ideal := hKernel6Ideal) (hReference6Ideal := hReference6Ideal) (hPre_lanes_set := hPre_lanes_set)
    ∧ preserves_Kernel7_Kernel7Ideal
    ∧ algebraic_Kernel7Ideal_Reference7Ideal_pre_first_and_lanes (hKernel7Ideal := hKernel7Ideal) (hReference7Ideal := hReference7Ideal) (hPre_first_and_lanes := hPre_first_and_lanes)
-- ==== Pre_experts_in_range.lean ====
abbrev S138 : Shape := ⟨1, ![138]⟩
abbrev S1 : Shape := ⟨1, ![1]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S138 : S_.BroadcastsInDim S138 (![] : Fin 0 → Fin S138.rank)
  bcast_S_S1 : S_.BroadcastsInDim S1 (![] : Fin 0 → Fin S1.rank)

variable [Facts]

def fn {F : FTy → Type} [FloatOps F] (main_arg0 : IVec S138 32) (main_arg1 : IVec S1 32) (main_arg2 : FVec F S70656x1024 .f32) (main_arg3 : FVec F S8x1024x3584 .f32) (main_arg4 : FVec F S8x1024x3584 .f32) (main_arg5 : FVec F S8x3584x1024 .f32) : IVec S138 1 × IVec S138 1 × IVec S1 1 :=
  let main_c : IVec S_ 32 := constantI S_ 32 0#32
  let main_v0 : IVec S138 32 := broadcastInDim S138 ![] bcast_S_S138 main_c
  let main_v1 : IVec S138 1 := cmpi .sge main_arg0 main_v0
  let main_c_0 : IVec S_ 32 := constantI S_ 32 8#32
  let main_v2 : IVec S138 32 := broadcastInDim S138 ![] bcast_S_S138 main_c_0
  let main_v3 : IVec S138 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Pre_first_and_lanes.lean ====
abbrev S52 : Shape := ⟨1, ![52]⟩
abbrev S16 : Shape := ⟨1, ![16]⟩
abbrev S33280x512 : Shape := ⟨2, ![33280, 512]⟩
abbrev S256 : Shape := ⟨1, ![256]⟩
abbrev S4x13 : Shape := ⟨2, ![4, 13]⟩
abbrev S33280x4x128 : Shape := ⟨3, ![33280, 4, 128]⟩
abbrev S_ : Shape := ⟨0, ![]⟩
abbrev S13 : Shape := ⟨1, ![13]⟩
abbrev S1x13 : Shape := ⟨2, ![1, 13]⟩
abbrev S33280x4x1 : Shape := ⟨3, ![33280, 4, 1]⟩
abbrev S33280x4 : Shape := ⟨2, ![33280, 4]⟩

class Facts : Prop where
  shapeCasts_S52_S4x13 : S52.ShapeCasts S4x13
  shapeCasts_S33280x512_S33280x4x128 : S33280x512.ShapeCasts S33280x4x128
  bcast_S_S4x13 : S_.BroadcastsInDim S4x13 (![] : Fin 0 → Fin S4x13.rank)
  bcast_S13_S1x13_1 : S13.BroadcastsInDim S1x13 (![1] : Fin 1 → Fin S1x13.rank)
  bcast_S1x13_S4x13_0_1 : S1x13.BroadcastsInDim S4x13 (![0, 1] : Fin 2 → Fin S4x13.rank)
  slices_S33280x4x128_S33280x4x1_0_0_100 : S33280x4x128.Slices ![0, 0, 100] S33280x4x1
  shapeCasts_S33280x4x1_S33280x4 : S33280x4x1.ShapeCasts S33280x4
  bcast_S_S33280x4 : S_.BroadcastsInDim S33280x4 (![] : Fin 0 → Fin S33280x4.rank)
  slices_S33280x4x128_S33280x4x1_0_0_64 : S33280x4x128.Slices ![0, 0, 64] S33280x4x1

variable [Facts]

def fn_part1 {F : FTy → Type} [FloatOps F] (main_v5 : IVec S4x13 1) (main_v9 : IVec S4x13 1) (main_v13 : IVec S33280x4 1) (main_v17 : IVec S33280x4 1) (main_v19 : FVec F S33280x4 .bf16) (main_cst_1 : FVec F S_ .bf16) : IVec S4x13 1 × IVec S4x13 1 × IVec S33280x4 1 × IVec S33280x4 1 × IVec S33280x4 1 :=
  let main_v20 : FVec F S33280x4 .bf16 := broadcastInDim S33280x4 ![] bcast_S_S33280x4 main_cst_1
  let main_v21 : IVec S33280x4 1 := cmpf .oeq main_v19 main_v20
  (main_v5, main_v9, main_v13, main_v17, main_v21)

def fn {F : FTy → Type} [FloatOps F] (main_arg0 : IVec S52 32) (main_arg1 : FVec F S16 .f32) (main_arg2 : FVec F S33280x512 .bf16) (main_arg3 : FVec F S33280x512 .bf16) (main_arg4 : FVec F S33280x512 .bf16) (main_arg5 : FVec F S256 .f32) : IVec S4x13 1 × IVec S4x13 1 × IVec S33280x4 1 × IVec S33280x4 1 × IVec S33280x4 1 :=
  let main_v0 : IVec S4x13 32 := shapeCast S4x13 main_arg0 shapeCasts_S52_S4x13
  let main_v1 : FVec F S33280x4x128 .bf16 := shapeCast S33280x4x128 main_arg2 shapeCasts_S33280x512_S33280x4x128
  let main_v2 : FVec F S33280x4x128 .bf16 := shapeCast S33280x4x128 main_arg3 shapeCasts_S33280x512_S33280x4x128
  let main_v3 : FVec F S33280x4x128 .bf16 := shapeCast S33280x4x128 main_arg4 shapeCasts_S33280x512_S33280x4x128
  let main_c : IVec S_ 32 := constantI S_ 32 0#32
  let main_v4 : IVec S4x13 32 := broadcastInDim S4x13 ![] bcast_S_S4x13 main_c
  let main_v5 : IVec S4x13 1 := cmpi .sge main_v0 main_v4
  let main_v6 : IVec S13 32 := iotaInDim S13 32 0
  let main_v7 : IVec S1x13 32 := broadcastInDim S1x13 ![1] bcast_S13_S1x13_1 main_v6
  let main_v8 : IVec S4x13 32 := broadcastInDim S4x13 ![0, 1] bcast_S1x13_S4x13_0_1 main_v7
  let main_v9 : IVec S4x13 1 := cmpi .sle main_v0 main_v8
  let main_v10 : FVec F S33280x4x1 .bf16 := (extractStridedSlice S33280x4x1 ![0, 0, 100] · slices_S33280x4x128_S33280x4x1_0_0_100) main_v1
  let main_v11 : FVec F S33280x4 .bf16 := shapeCast S33280x4 main_v10 shapeCasts_S33280x4x1_S33280x4
  let main_cst : FVec F S_ .bf16 := constant S_ .bf16 0x0000#16
  let main_v12 : FVec F S33280x4 .bf16 := broadcastInDim S33280x4 ![] bcast_S_S33280x4 main_cst
  let main_v13 : IVec S33280x4 1 := cmpf .oeq main_v11 main_v12
  let main_v14 : FVec F S33280x4x1 .bf16 := (extractStridedSlice S33280x4x1 ![0, 0, 100] · slices_S33280x4x128_S33280x4x1_0_0_100) main_v2
  let main_v15 : FVec F S33280x4 .bf16 := shapeCast S33280x4 main_v14 shapeCasts_S33280x4x1_S33280x4
  let main_cst_0 : FVec F S_ .bf16 := constant S_ .bf16 0x3F80#16
  let main_v16 : FVec F S33280x4 .bf16 := broadcastInDim S33280x4 ![] bcast_S_S33280x4 main_cst_0
  let main_v17 : IVec S33280x4 1 := cmpf .oeq main_v15 main_v16
  let main_v18 : FVec F S33280x4x1 .bf16 := (extractStridedSlice S33280x4x1 ![0, 0, 64] · slices_S33280x4x128_S33280x4x1_0_0_64) main_v3
  let main_v19 : FVec F S33280x4 .bf16 := shapeCast S33280x4 main_v18 shapeCasts_S33280x4x1_S33280x4
  let main_cst_1 : FVec F S_ .bf16 := constant S_ .bf16 0x3F80#16
  fn_part1 (F := F) main_v5 main_v9 main_v13 main_v17 main_v19 main_cst_1
-- ==== Pre_first_in_range.lean ====
abbrev S52 : Shape := ⟨1, ![52]⟩
abbrev S16 : Shape := ⟨1, ![16]⟩
abbrev S33280x512 : Shape := ⟨2, ![33280, 512]⟩
abbrev S256 : Shape := ⟨1, ![256]⟩
abbrev S4x13 : Shape := ⟨2, ![4, 13]⟩
abbrev S_ : Shape := ⟨0, ![]⟩
abbrev S13 : Shape := ⟨1, ![13]⟩
abbrev S1x13 : Shape := ⟨2, ![1, 13]⟩

class Facts : Prop where
  shapeCasts_S52_S4x13 : S52.ShapeCasts S4x13
  bcast_S_S4x13 : S_.BroadcastsInDim S4x13 (![] : Fin 0 → Fin S4x13.rank)
  bcast_S13_S1x13_1 : S13.BroadcastsInDim S1x13 (![1] : Fin 1 → Fin S1x13.rank)
  bcast_S1x13_S4x13_0_1 : S1x13.BroadcastsInDim S4x13 (![0, 1] : Fin 2 → Fin S4x13.rank)

variable [Facts]

def fn {F : FTy → Type} [FloatOps F] (main_arg0 : IVec S52 32) (main_arg1 : FVec F S16 .f32) (main_arg2 : FVec F S33280x512 .bf16) (main_arg3 : FVec F S33280x512 .bf16) (main_arg4 : FVec F S33280x512 .bf16) (main_arg5 : FVec F S256 .f32) : IVec S4x13 1 × IVec S4x13 1 :=
  let main_v0 : IVec S4x13 32 := shapeCast S4x13 main_arg0 shapeCasts_S52_S4x13
  let main_c : IVec S_ 32 := constantI S_ 32 0#32
  let main_v1 : IVec S4x13 32 := broadcastInDim S4x13 ![] bcast_S_S4x13 main_c
  let main_v2 : IVec S4x13 1 := cmpi .sge main_v0 main_v1
  let main_v3 : IVec S13 32 := iotaInDim S13 32 0
  let main_v4 : IVec S1x13 32 := broadcastInDim S1x13 ![1] bcast_S13_S1x13_1 main_v3
  let main_v5 : IVec S4x13 32 := broadcastInDim S4x13 ![0, 1] bcast_S1x13_S4x13_0_1 main_v4
  let main_v6 : IVec S4x13 1 := cmpi .sle main_v0 main_v5
  (main_v2, main_v6)
-- ==== Pre_lanes_set.lean ====
abbrev S16 : Shape := ⟨1, ![16]⟩
abbrev S33280x512 : Shape := ⟨2, ![33280, 512]⟩
abbrev S256 : Shape := ⟨1, ![256]⟩
abbrev S33280x4x128 : Shape := ⟨3, ![33280, 4, 128]⟩
abbrev S33280x4x1 : Shape := ⟨3, ![33280, 4, 1]⟩
abbrev S33280x4 : Shape := ⟨2, ![33280, 4]⟩
abbrev S_ : Shape := ⟨0, ![]⟩

class Facts : Prop where
  shapeCasts_S33280x512_S33280x4x128 : S33280x512.ShapeCasts S33280x4x128
  slices_S33280x4x128_S33280x4x1_0_0_100 : S33280x4x128.Slices ![0, 0, 100] S33280x4x1
  shapeCasts_S33280x4x1_S33280x4 : S33280x4x1.ShapeCasts S33280x4
  bcast_S_S33280x4 : S_.BroadcastsInDim S33280x4 (![] : Fin 0 → Fin S33280x4.rank)
  slices_S33280x4x128_S33280x4x1_0_0_64 : S33280x4x128.Slices ![0, 0, 64] S33280x4x1

variable [Facts]

def fn {F : FTy → Type} [FloatOps F] (main_arg0 : FVec F S16 .f32) (main_arg1 : FVec F S33280x512 .bf16) (main_arg2 : FVec F S33280x512 .bf16) (main_arg3 : FVec F S33280x512 .bf16) (main_arg4 : FVec F S256 .f32) : IVec S33280x4 1 × IVec S33280x4 1 × IVec S33280x4 1 :=
  let main_v0 : FVec F S33280x4x128 .bf16 := shapeCast S33280x4x128 main_arg1 shapeCasts_S33280x512_S33280x4x128
  let main_v1 : FVec F S33280x4x128 .bf16 := shapeCast S33280x4x128 main_arg2 shapeCasts_S33280x512_S33280x4x128
  let main_v2 : FVec F S33280x4x128 .bf16 := shapeCast S33280x4x128 main_arg3 shapeCasts_S33280x512_S33280x4x128
  let main_v3 : FVec F S33280x4x1 .bf16 := (extractStridedSlice S33280x4x1 ![0, 0, 100] · slices_S33280x4x128_S33280x4x1_0_0_100) main_v0
  let main_v4 : FVec F S33280x4 .bf16 := shapeCast S33280x4 main_v3 shapeCasts_S33280x4x1_S33280x4
  let main_cst : FVec F S_ .bf16 := constant S_ .bf16 0x0000#16
  let main_v5 : FVec F S33280x4 .bf16 := broadcastInDim S33280x4 ![] bcast_S_S33280x4 main_cst
  let main_v6 : IVec S33280x4 1 := cmpf .oeq main_v4 main_v5
  let main_v7 : FVec F S33280x4x1 .bf16 := (extractStridedSlice S33280x4x1 ![0, 0, 100] · slices_S33280x4x128_S33280x4x1_0_0_100) main_v1
  let main_v8 : FVec F S33280x4 .bf16 := shapeCast S33280x4 main_v7 shapeCasts_S33280x4x1_S33280x4
  let main_cst_0 : FVec F S_ .bf16 := constant S_ .bf16 0x3F80#16
  let main_v9 : FVec F S33280x4 .bf16 := broadcastInDim S33280x4 ![] bcast_S_S33280x4 main_cst_0
  let main_v10 : IVec S33280x4 1 := cmpf .oeq main_v8 main_v9
  let main_v11 : FVec F S33280x4x1 .bf16 := (extractStridedSlice S33280x4x1 ![0, 0, 64] · slices_S33280x4x128_S33280x4x1_0_0_64) main_v2
  let main_v12 : FVec F S33280x4 .bf16 := shapeCast S33280x4 main_v11 shapeCasts_S33280x4x1_S33280x4
  let main_cst_1 : FVec F S_ .bf16 := constant S_ .bf16 0x3F80#16
  let main_v13 : FVec F S33280x4 .bf16 := broadcastInDim S33280x4 ![] bcast_S_S33280x4 main_cst_1
  let main_v14 : IVec S33280x4 1 := cmpf .oeq main_v12 main_v13
  (main_v6, main_v10, main_v14)
-- ==== Pre_slots_in_range.lean ====
abbrev S33280 : Shape := ⟨1, ![33280]⟩
abbrev S33280x1024 : Shape := ⟨2, ![33280, 1024]⟩
abbrev S33280x128 : Shape := ⟨2, ![33280, 128]⟩
abbrev S70656x1024 : Shape := ⟨2, ![70656, 1024]⟩
abbrev S_ : Shape := ⟨0, ![]⟩

class Facts : Prop where
  bcast_S_S33280 : S_.BroadcastsInDim S33280 (![] : Fin 0 → Fin S33280.rank)

variable [Facts]

def fn {F : FTy → Type} [FloatOps F] (main_arg0 : IVec S33280 32) (main_arg1 : IVec S33280 32) (main_arg2 : FVec F S33280x1024 .f32) (main_arg3 : FVec F S33280x128 .f32) (main_arg4 : FVec F S70656x1024 .f32) : IVec S33280 1 × IVec S33280 1 × IVec S33280 1 × IVec S33280 1 :=
  let main_c : IVec S_ 32 := constantI S_ 32 0#32
  let main_v0 : IVec S33280 32 := broadcastInDim S33280 ![] bcast_S_S33280 main_c
  let main_v1 : IVec S33280 1 := cmpi .sge main_arg0 main_v0
  let main_c_0 : IVec S_ 32 := constantI S_ 32 70656#32
  let main_v2 : IVec S33280 32 := broadcastInDim S33280 ![] bcast_S_S33280 main_c_0
  let main_v3 : IVec S33280 1 := cmpi .slt main_arg0 main_v2
  let main_c_1 : IVec S_ 32 := constantI S_ 32 0#32
  let main_v4 : IVec S33280 32 := broadcastInDim S33280 ![] bcast_S_S33280 main_c_1
  let main_v5 : IVec S33280 1 := cmpi .sge main_arg1 main_v4
  let main_c_2 : IVec S_ 32 := constantI S_ 32 70656#32
  let main_v6 : IVec S33280 32 := broadcastInDim S33280 ![] bcast_S_S33280 main_c_2
  let main_v7 : IVec S33280 1 := cmpi .slt main_arg1 main_v6
  (main_v1, main_v3, main_v5, main_v7)
-- ==== Kernel.lean ====
abbrev S33280 : Shape := ⟨1, ![33280]⟩
abbrev S33280x1024 : Shape := ⟨2, ![33280, 1024]⟩
abbrev S33280x128 : Shape := ⟨2, ![33280, 128]⟩
abbrev S70656x1024 : Shape := ⟨2, ![70656, 1024]⟩
abbrev S32768x1024 : Shape := ⟨2, ![32768, 1024]⟩
abbrev S512x1024 : Shape := ⟨2, ![512, 1024]⟩
abbrev S512x128 : Shape := ⟨2, ![512, 128]⟩
abbrev S_ : Shape := ⟨0, ![]⟩
abbrev S1 : Shape := ⟨1, ![1]⟩
abbrev S1x1024 : Shape := ⟨2, ![1, 1024]⟩
abbrev S512x1 : Shape := ⟨2, ![512, 1]⟩

abbrev nBuf : Space → Nat
  | .hbm => 4
  | .vmem => 8
  | .smem => 2
  | _ => 0

abbrev bufTy : (tb : Table) → Fin (tcTables nBuf tb) → BufTy
  | .hbm, ⟨0, _⟩ => ⟨S33280x1024, .f32⟩
  | .hbm, ⟨1, _⟩ => ⟨S33280x128, .f32⟩
  | .hbm, ⟨2, _⟩ => ⟨S70656x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .smem, ⟨0, _⟩ => ⟨S33280, .i32⟩
  | .local _ .smem, ⟨1, _⟩ => ⟨S33280, .i32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_mult1 (i : grid0.Coords) : BitVec 32 :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  v3
@[reducible] def k0_t1_loop : Scf.Loop 32 :=
  let c0_i32 : BitVec 32 := 0#32
  let c512_i32_0 : BitVec 32 := 512#32
  let v4 : BitVec 32 := Scalar.addi c0_i32 c512_i32_0
  let c1_i32 : BitVec 32 := 1#32
  ⟨c0_i32, v4, c1_i32⟩
def k0_off1 (i : grid0.Coords) (k0_t1 : Fin k0_t1_loop.trips) : Fin 1 → Nat :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  let c0_i32 : BitVec 32 := 0#32
  let c1_i32 : BitVec 32 := 1#32
  let arg11 : BitVec 32 := Scf.iv c0_i32 c1_i32 k0_t1
  let v19 : BitVec 32 := Scalar.addi v3 arg11
  let v20 : Index := Scalar.indexCast v19
  ![v20.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_15 : BitVec 32 := 0#32
  ![arg11.toNat, 0]
def k0_off3 (v21 : BitVec 32) : Fin 2 → Nat :=
  let c0_i32_16 : BitVec 32 := 0#32
  ![v21.toNat, 0]

def k0_chk1 (v21 : BitVec 32) : Prop :=
  (∀ a, (k0_off3 v21) a + S1x1024.size a ≤ S70656x1024.size a)
theorem k0_off3_inb : ∀ (v21 : BitVec 32) (k0_hw1 : k0_chk1 v21), ∀ a, (k0_off3 v21) a + S1x1024.size a ≤ S70656x1024.size a := fun v21 k0_hw1 => k0_hw1

def k0_off4 (i : grid0.Coords) (k0_t1 : Fin k0_t1_loop.trips) : Fin 1 → Nat :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c512_i32 : BitVec 32 := 512#32
  let v2 : BitVec 32 := Scalar.muli arg1 c512_i32
  let v3 : BitVec 32 := Scalar.addi v1 v2
  let c0_i32 : BitVec 32 := 0#32
  let c1_i32 : BitVec 32 := 1#32
  let arg11 : BitVec 32 := Scf.iv c0_i32 c1_i32 k0_t1
  let v24 : BitVec 32 := Scalar.addi v3 arg11
  let v25 : Index := Scalar.indexCast v24
  ![v25.toNat]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_17 : BitVec 32 := 0#32
  ![arg11.toNat, 0]
def k0_off6 (v26 : BitVec 32) : Fin 2 → Nat :=
  let c0_i32_18 : BitVec 32 := 0#32
  ![v26.toNat, 0]

def k0_chk2 (v26 : BitVec 32) : Prop :=
  (∀ a, (k0_off6 v26) a + S1x1024.size a ≤ S70656x1024.size a)
theorem k0_off6_inb : ∀ (v26 : BitVec 32) (k0_hw2 : k0_chk2 v26), ∀ a, (k0_off6 v26) a + S1x1024.size a ≤ S70656x1024.size a := fun v26 k0_hw2 => k0_hw2

@[reducible] def k0_t2_loop : Scf.Loop 32 :=
  let c0_i32_2 : BitVec 32 := 0#32
  let c512_i32_3 : BitVec 32 := 512#32
  let v5 : BitVec 32 := Scalar.addi c0_i32_2 c512_i32_3
  let c1_i32_4 : BitVec 32 := 1#32
  ⟨c0_i32_2, v5, c1_i32_4⟩
def k0_off7 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c0_i32_15 : BitVec 32 := 0#32
  ![arg11.toNat, 0]
def cc0_transform_0 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c16_i32 : BitVec 32 := 16#32
  let v1 : BitVec 32 := Scalar.addi v0 c16_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S33280 : Shape := ⟨1, ![33280]⟩
abbrev S33280x1024 : Shape := ⟨2, ![33280, 1024]⟩
abbrev S33280x128 : Shape := ⟨2, ![33280, 128]⟩
abbrev S70656x1024 : Shape := ⟨2, ![70656, 1024]⟩
abbrev S33280x1 : Shape := ⟨2, ![33280, 1]⟩
abbrev S4x8320x1024 : Shape := ⟨3, ![4, 8320, 1024]⟩
abbrev S4x8192x1024 : Shape := ⟨3, ![4, 8192, 1024]⟩
abbrev S32768x1024 : Shape := ⟨2, ![32768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S33280, .i32⟩
  | .hbm, ⟨1, _⟩ => ⟨S33280, .i32⟩
  | .hbm, ⟨2, _⟩ => ⟨S33280x1024, .f32⟩
  | .hbm, ⟨3, _⟩ => ⟨S33280x128, .f32⟩
  | .hbm, ⟨4, _⟩ => ⟨S70656x1024, .f32⟩
  | .hbm, ⟨5, _⟩ => ⟨S33280x1, .f32⟩
  | .hbm, ⟨6, _⟩ => ⟨S33280x1, .f32⟩
  | .hbm, ⟨7, _⟩ => ⟨S33280x1, .i32⟩
  | .hbm, ⟨8, _⟩ => ⟨S33280x1024, .f32⟩
  | .hbm, ⟨9, _⟩ => ⟨S33280x1024, .f32⟩
  | .hbm, ⟨10, _⟩ => ⟨S33280x1024, .f32⟩
  | .hbm, ⟨11, _⟩ => ⟨S33280x1024, .f32⟩
  | .hbm, ⟨12, _⟩ => ⟨S33280x1, .i32⟩
  | .hbm, ⟨13, _⟩ => ⟨S33280x1024, .f32⟩
  | .hbm, ⟨14, _⟩ => ⟨S33280x1024, .f32⟩
  | .hbm, ⟨15, _⟩ => ⟨S33280x1024, .f32⟩
  | .hbm, ⟨16, _⟩ => ⟨S33280x1024, .f32⟩
  | .hbm, ⟨17, _⟩ => ⟨S4x8320x1024, .f32⟩
  | .hbm, ⟨18, _⟩ => ⟨S4x8192x1024, .f32⟩
  | .hbm, ⟨19, _⟩ => ⟨S32768x1024, .f32⟩
  | _, _ => ⟨S33280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel2.lean ====
abbrev S138 : Shape := ⟨1, ![138]⟩
abbrev S1 : Shape := ⟨1, ![1]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 11
  | .smem => 2
  | _ => 0

abbrev bufTy : (tb : Table) → Fin (tcTables nBuf tb) → BufTy
  | .hbm, ⟨0, _⟩ => ⟨S70656x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S70656x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .smem, ⟨0, _⟩ => ⟨S138, .i32⟩
  | .local _ .smem, ⟨1, _⟩ => ⟨S1, .i32⟩
  | _, _ => ⟨S70656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![138, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_1 : BitVec 32 := 0#32
  let v8 : BitVec 1 := Scalar.cmpi .ne v7 c0_i32_1
  v8

def k0_cond4 (i : grid0.Coords) : BitVec 1 :=
  let arg1 : BitVec 32 := BitVec.ofNat 32 (i 1).val
  let c0_i32_20 : BitVec 32 := 0#32
  let v32 : BitVec 1 := Scalar.cmpi .eq arg1 c0_i32_20
  let v33 : BitVec 32 := Scalar.extui v32
  let c0_i32_21 : BitVec 32 := 0#32
  let v34 : BitVec 1 := Scalar.cmpi .ne v33 c0_i32_21
  v34

def k0_cond5 (i : grid0.Coords) : BitVec 1 :=
  let arg1 : BitVec 32 := BitVec.ofNat 32 (i 1).val
  let c0_i32_22 : BitVec 32 := 0#32
  let v35 : BitVec 1 := Scalar.cmpi .sgt arg1 c0_i32_22
  let v36 : BitVec 32 := Scalar.extui v35
  let c0_i32_23 : BitVec 32 := 0#32
  let v37 : BitVec 1 := Scalar.cmpi .ne v36 c0_i32_23
  v37

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S138 : Shape := ⟨1, ![138]⟩
abbrev S1 : Shape := ⟨1, ![1]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S_ : Shape := ⟨0, ![]⟩
abbrev S8 : Shape := ⟨1, ![8]⟩
abbrev S8x1 : Shape := ⟨2, ![8, 1]⟩
abbrev S1x138 : Shape := ⟨2, ![1, 138]⟩
abbrev S8x138 : Shape := ⟨2, ![8, 138]⟩
abbrev S8x138x1 : Shape := ⟨3, ![8, 138, 1]⟩
abbrev S8x138x512 : Shape := ⟨3, ![8, 138, 512]⟩
abbrev S8x70656 : Shape := ⟨2, ![8, 70656]⟩
abbrev S8x3584x70656 : Shape := ⟨3, ![8, 3584, 70656]⟩
abbrev S8x70656x3584 : Shape := ⟨3, ![8, 70656, 3584]⟩
abbrev S8x70656x1024 : Shape := ⟨3, ![8, 70656, 1024]⟩
abbrev S8x70656x1 : Shape := ⟨3, ![8, 70656, 1]⟩

abbrev nBuf : Space → Nat
  | .hbm => 45
  | .vmem => 0
  | .smem => 0
  | _ => 0

abbrev bufTy : (tb : Table) → Fin (tcTables nBuf tb) → BufTy
  | .hbm, ⟨0, _⟩ => ⟨S138, .i32⟩
  | .hbm, ⟨1, _⟩ => ⟨S1, .i32⟩
  | .hbm, ⟨2, _⟩ => ⟨S70656x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S138, .i32⟩
  | .hbm, ⟨7, _⟩ => ⟨S_, .i32⟩
  | .hbm, ⟨8, _⟩ => ⟨S138, .i32⟩
  | .hbm, ⟨9, _⟩ => ⟨S138, .i1⟩
  | .hbm, ⟨10, _⟩ => ⟨S8, .i32⟩
  | .hbm, ⟨11, _⟩ => ⟨S8x1, .i32⟩
  | .hbm, ⟨12, _⟩ => ⟨S1x138, .i32⟩
  | .hbm, ⟨13, _⟩ => ⟨S8x138, .i32⟩
  | .hbm, ⟨14, _⟩ => ⟨S8x138, .i32⟩
  | .hbm, ⟨15, _⟩ => ⟨S8x138, .i1⟩
  | .hbm, ⟨16, _⟩ => ⟨S1x138, .i1⟩
  | .hbm, ⟨17, _⟩ => ⟨S8x138, .i1⟩
  | .hbm, ⟨18, _⟩ => ⟨S8x138, .i1⟩
  | .hbm, ⟨19, _⟩ => ⟨S8x138x1, .i1⟩
  | .hbm, ⟨20, _⟩ => ⟨S8x138x512, .i1⟩
  | .hbm, ⟨21, _⟩ => ⟨S8x70656, .i1⟩
  | .hbm, ⟨22, _⟩ => ⟨S8x3584x70656, .f32⟩
  | .hbm, ⟨23, _⟩ => ⟨S8x70656x3584, .f32⟩
  | .hbm, ⟨24, _⟩ => ⟨S8x3584x70656, .f32⟩
  | .hbm, ⟨25, _⟩ => ⟨S8x70656x3584, .f32⟩
  | .hbm, ⟨26, _⟩ => ⟨S8x70656x3584, .f32⟩
  | .hbm, ⟨27, _⟩ => ⟨S8x70656x3584, .f32⟩
  | .hbm, ⟨28, _⟩ => ⟨S_, .f32⟩
  | .hbm, ⟨29, _⟩ => ⟨S8x70656x3584, .f32⟩
  | .hbm, ⟨30, _⟩ => ⟨S8x70656x3584, .f32⟩
  | .hbm, ⟨31, _⟩ => ⟨S_, .f32⟩
  | .hbm, ⟨32, _⟩ => ⟨S8x70656x3584, .f32⟩
  | .hbm, ⟨33, _⟩ => ⟨S8x70656x3584, .f32⟩
  | .hbm, ⟨34, _⟩ => ⟨S8x70656x3584, .f32⟩
  | .hbm, ⟨35, _⟩ => ⟨S8x70656x3584, .f32⟩
  | .hbm, ⟨36, _⟩ => ⟨S8x70656x1024, .f32⟩
  | .hbm, ⟨37, _⟩ => ⟨S8x70656x1, .i1⟩
  | .hbm, ⟨38, _⟩ => ⟨S_, .f32⟩
  | .hbm, ⟨39, _⟩ => ⟨S_, .f32⟩
  | .hbm, ⟨40, _⟩ => ⟨S8x70656x1024, .i1⟩
  | .hbm, ⟨41, _⟩ => ⟨S8x70656x1024, .f32⟩
  | .hbm, ⟨42, _⟩ => ⟨S8x70656x1024, .f32⟩
  | .hbm, ⟨43, _⟩ => ⟨S_, .f32⟩
  | .hbm, ⟨44, _⟩ => ⟨S70656x1024, .f32⟩
  | _, _ => ⟨S138, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel3.lean ====
abbrev S33280x1024 : Shape := ⟨2, ![33280, 1024]⟩
abbrev S1024x2816 : Shape := ⟨2, ![1024, 2816]⟩
abbrev S2816x1024 : Shape := ⟨2, ![2816, 1024]⟩
abbrev S640x1024 : Shape := ⟨2, ![640, 1024]⟩
abbrev S1024x1408 : Shape := ⟨2, ![1024, 1408]⟩
abbrev S1408x1024 : Shape := ⟨2, ![1408, 1024]⟩
abbrev S640x1408 : Shape := ⟨2, ![640, 1408]⟩

abbrev nBuf : Space → Nat
  | .hbm => 9
  | .vmem => 12
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S33280x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S640x1024, .f32⟩
  | .local _ .vmem, ⟨11, _⟩ => ⟨S640x1024, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![52, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S33280x1024 : Shape := ⟨2, ![33280, 1024]⟩
abbrev S1024x2816 : Shape := ⟨2, ![1024, 2816]⟩
abbrev S2816x1024 : Shape := ⟨2, ![2816, 1024]⟩
abbrev S33280x2816 : Shape := ⟨2, ![33280, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S33280x1024, .f32⟩
  | .hbm, ⟨6, _⟩ => ⟨S33280x2816, .f32⟩
  | .hbm, ⟨7, _⟩ => ⟨S33280x2816, .f32⟩
  | .hbm, ⟨8, _⟩ => ⟨S33280x2816, .f32⟩
  | .hbm, ⟨9, _⟩ => ⟨S_, .f32⟩
  | .hbm, ⟨10, _⟩ => ⟨S33280x2816, .f32⟩
  | .hbm, ⟨11, _⟩ => ⟨S33280x2816, .f32⟩
  | .hbm, ⟨12, _⟩ => ⟨S_, .f32⟩
  | .hbm, ⟨13, _⟩ => ⟨S33280x2816, .f32⟩
  | .hbm, ⟨14, _⟩ => ⟨S33280x2816, .f32⟩
  | .hbm, ⟨15, _⟩ => ⟨S33280x2816, .f32⟩
  | .hbm, ⟨16, _⟩ => ⟨S33280x2816, .f32⟩
  | .hbm, ⟨17, _⟩ => ⟨S33280x2816, .f32⟩
  | .hbm, ⟨18, _⟩ => ⟨S33280x1024, .f32⟩
  | .hbm, ⟨19, _⟩ => ⟨S33280x1024, .f32⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel4.lean ====
abbrev S33280x1024 : Shape := ⟨2, ![33280, 1024]⟩
abbrev S1024 : Shape := ⟨1, ![1024]⟩
abbrev S1024x2660 : Shape := ⟨2, ![1024, 2660]⟩
abbrev S1024x512 : Shape := ⟨2, ![1024, 512]⟩
abbrev S1024x1024 : Shape := ⟨2, ![1024, 1024]⟩
abbrev S1024x128 : Shape := ⟨2, ![1024, 128]⟩
abbrev S_ : Shape := ⟨0, ![]⟩
abbrev S1024x64 : Shape := ⟨2, ![1024, 64]⟩
abbrev S1024x32 : Shape := ⟨2, ![1024, 32]⟩
abbrev S1024x192 : Shape := ⟨2, ![1024, 192]⟩
abbrev S1024x256 : Shape := ⟨2, ![1024, 256]⟩
abbrev S1024x768 : Shape := ⟨2, ![1024, 768]⟩
abbrev S1024x4 : Shape := ⟨2, ![1024, 4]⟩
abbrev S1024x896 : Shape := ⟨2, ![1024, 896]⟩
abbrev S1x1024 : Shape := ⟨2, ![1, 1024]⟩
abbrev S33280x512 : Shape := ⟨2, ![33280, 512]⟩
abbrev S33280x896 : Shape := ⟨2, ![33280, 896]⟩
abbrev S640x1024 : Shape := ⟨2, ![640, 1024]⟩
abbrev S640x512 : Shape := ⟨2, ![640, 512]⟩
abbrev S640x896 : Shape := ⟨2, ![640, 896]⟩
abbrev S640 : Shape := ⟨1, ![640]⟩
abbrev S640x1 : Shape := ⟨2, ![640, 1]⟩

abbrev nBuf : Space → Nat
  | .hbm => 34
  | .vmem => 15
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2660, .f32⟩
  | .hbm, ⟨3, _⟩ => ⟨S1024x512, .f32⟩
  | .hbm, ⟨4, _⟩ => ⟨S1024x512, .bf16⟩
  | .hbm, ⟨5, _⟩ => ⟨S1024x1024, .f32⟩
  | .hbm, ⟨6, _⟩ => ⟨S1024x1024, .bf16⟩
  | .hbm, ⟨7, _⟩ => ⟨S1024x128, .f32⟩
  | .hbm, ⟨8, _⟩ => ⟨S1024x128, .bf16⟩
  | .hbm, ⟨9, _⟩ => ⟨S_, .bf16⟩
  | .hbm, ⟨10, _⟩ => ⟨S1024x64, .bf16⟩
  | .hbm, ⟨11, _⟩ => ⟨S1024x32, .f32⟩
  | .hbm, ⟨12, _⟩ => ⟨S1024x32, .bf16⟩
  | .hbm, ⟨13, _⟩ => ⟨S_, .bf16⟩
  | .hbm, ⟨14, _⟩ => ⟨S1024x32, .bf16⟩
  | .hbm, ⟨15, _⟩ => ⟨S1024x192, .f32⟩
  | .hbm, ⟨16, _⟩ => ⟨S1024x192, .bf16⟩
  | .hbm, ⟨17, _⟩ => ⟨S_, .i32⟩
  | .hbm, ⟨18, _⟩ => ⟨S_, .bf16⟩
  | .hbm, ⟨19, _⟩ => ⟨S1024x256, .bf16⟩
  | .hbm, ⟨20, _⟩ => ⟨S1024x512, .bf16⟩
  | .hbm, ⟨21, _⟩ => ⟨S1024x768, .f32⟩
  | .hbm, ⟨22, _⟩ => ⟨S1024x768, .bf16⟩
  | .hbm, ⟨23, _⟩ => ⟨S1024x4, .f32⟩
  | .hbm, ⟨24, _⟩ => ⟨S1024x4, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S1024x896, .bf16⟩
  | .hbm, ⟨29, _⟩ => ⟨S1x1024, .f32⟩
  | .hbm, ⟨30, _⟩ => ⟨S33280x512, .f32⟩
  | .hbm, ⟨31, _⟩ => ⟨S33280x1024, .f32⟩
  | .hbm, ⟨32, _⟩ => ⟨S33280x512, .f32⟩
  | .hbm, ⟨33, _⟩ => ⟨S33280x896, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S1024x896, .bf16⟩
  | .local _ .vmem, ⟨7, _⟩ => ⟨S640x512, .f32⟩
  | .local _ .vmem, ⟨8, _⟩ => ⟨S640x512, .f32⟩
  | .local _ .vmem, ⟨9, _⟩ => ⟨S640x1024, .f32⟩
  | .local _ .vmem, ⟨10, _⟩ => ⟨S640x1024, .f32⟩
  | .local _ .vmem, ⟨11, _⟩ => ⟨S640x512, .f32⟩
  | .local _ .vmem, ⟨12, _⟩ => ⟨S640x512, .f32⟩
  | .local _ .vmem, ⟨13, _⟩ => ⟨S640x896, .f32⟩
  | .local _ .vmem, ⟨14, _⟩ => ⟨S640x896, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S33280x1024 : Shape := ⟨2, ![33280, 1024]⟩
abbrev S1024 : Shape := ⟨1, ![1024]⟩
abbrev S1024x2660 : Shape := ⟨2, ![1024, 2660]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x2660 : Shape := ⟨2, ![33280, 2660]⟩
abbrev S33280x512 : Shape := ⟨2, ![33280, 512]⟩
abbrev S33280x192 : Shape := ⟨2, ![33280, 192]⟩
abbrev S33280x128 : Shape := ⟨2, ![33280, 128]⟩
abbrev S33280x32 : Shape := ⟨2, ![33280, 32]⟩
abbrev S33280x768 : Shape := ⟨2, ![33280, 768]⟩
abbrev S33280x4 : Shape := ⟨2, ![33280, 4]⟩
abbrev S33280x64 : Shape := ⟨2, ![33280, 64]⟩
abbrev S33280x124 : Shape := ⟨2, ![33280, 124]⟩
abbrev S33280x896 : Shape := ⟨2, ![33280, 896]⟩

abbrev nBuf : Space → Nat
  | .hbm => 37
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2660, .f32⟩
  | .hbm, ⟨3, _⟩ => ⟨S33280x1024, .f32⟩
  | .hbm, ⟨4, _⟩ => ⟨S_, .f32⟩
  | .hbm, ⟨5, _⟩ => ⟨S33280, .f32⟩
  | .hbm, ⟨6, _⟩ => ⟨S33280x1, .f32⟩
  | .hbm, ⟨7, _⟩ => ⟨S_, .f32⟩
  | .hbm, ⟨8, _⟩ => ⟨S33280x1, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S33280x1, .f32⟩
  | .hbm, ⟨14, _⟩ => ⟨S33280x1024, .f32⟩
  | .hbm, ⟨15, _⟩ => ⟨S33280x1024, .f32⟩
  | .hbm, ⟨16, _⟩ => ⟨S1x1024, .f32⟩
  | .hbm, ⟨17, _⟩ => ⟨S33280x1024, .f32⟩
  | .hbm, ⟨18, _⟩ => ⟨S33280x1024, .f32⟩
  | .hbm, ⟨19, _⟩ => ⟨S33280x2660, .f32⟩
  | .hbm, ⟨20, _⟩ => ⟨S33280x512, .f32⟩
  | .hbm, ⟨21, _⟩ => ⟨S33280x1024, .f32⟩
  | .hbm, ⟨22, _⟩ => ⟨S33280x192, .f32⟩
  | .hbm, ⟨23, _⟩ => ⟨S33280x128, .f32⟩
  | .hbm, ⟨24, _⟩ => ⟨S33280x32, .f32⟩
  | .hbm, ⟨25, _⟩ => ⟨S33280x768, .f32⟩
  | .hbm, ⟨26, _⟩ => ⟨S33280x4, .f32⟩
  | .hbm, ⟨27, _⟩ => ⟨S_, .f32⟩
  | .hbm, ⟨28, _⟩ => ⟨S33280x64, .f32⟩
  | .hbm, ⟨29, _⟩ => ⟨S_, .f32⟩
  | .hbm, ⟨30, _⟩ => ⟨S33280x32, .f32⟩
  | .hbm, ⟨31, _⟩ => ⟨S_, .f32⟩
  | .hbm, ⟨32, _⟩ => ⟨S33280x64, .f32⟩
  | .hbm, ⟨33, _⟩ => ⟨S33280x512, .f32⟩
  | .hbm, ⟨34, _⟩ => ⟨S_, .f32⟩
  | .hbm, ⟨35, _⟩ => ⟨S33280x124, .f32⟩
  | .hbm, ⟨36, _⟩ => ⟨S33280x896, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S33280x1024 : Shape := ⟨2, ![33280, 1024]⟩
abbrev S33280x256 : Shape := ⟨2, ![33280, 256]⟩
abbrev S4x8320x256 : Shape := ⟨3, ![4, 8320, 256]⟩
abbrev S1024x1024 : Shape := ⟨2, ![1024, 1024]⟩
abbrev S1024 : Shape := ⟨1, ![1024]⟩
abbrev S1x1024 : Shape := ⟨2, ![1, 1024]⟩
abbrev S640x1024 : Shape := ⟨2, ![640, 1024]⟩
abbrev S640x256 : Shape := ⟨2, ![640, 256]⟩
abbrev S1x640x256 : Shape := ⟨3, ![1, 640, 256]⟩
abbrev S640 : Shape := ⟨1, ![640]⟩
abbrev S640x1 : Shape := ⟨2, ![640, 1]⟩

abbrev nBuf : Space → Nat
  | .hbm => 11
  | .vmem => 16
  | .smem => 0
  | _ => 0

abbrev bufTy : (tb : Table) → Fin (tcTables nBuf tb) → BufTy
  | .hbm, ⟨0, _⟩ => ⟨S33280x1024, .f32⟩
  | .hbm, ⟨1, _⟩ => ⟨S33280x256, .bf16⟩
  | .hbm, ⟨2, _⟩ => ⟨S4x8320x256, .bf16⟩
  | .hbm, ⟨3, _⟩ => ⟨S33280x256, .bf16⟩
  | .hbm, ⟨4, _⟩ => ⟨S33280x256, .bf16⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S33280x1024, .f32⟩
  | .hbm, ⟨10, _⟩ => ⟨S33280x1024, .bf16⟩
  | .local _ .vmem, ⟨0, _⟩ => ⟨S640x1024, .f32⟩
  | .local _ .vmem, ⟨1, _⟩ => ⟨S640x1024, .f32⟩
  | .local _ .vmem, ⟨2, _⟩ => ⟨S640x256, .bf16⟩
  | .local _ .vmem, ⟨3, _⟩ => ⟨S640x256, .bf16⟩
  | .local _ .vmem, ⟨4, _⟩ => ⟨S1x640x256, .bf16⟩
  | .local _ .vmem, ⟨5, _⟩ => ⟨S1x640x256, .bf16⟩
  | .local _ .vmem, ⟨6, _⟩ => ⟨S640x256, .bf16⟩
  | .local _ .vmem, ⟨7, _⟩ => ⟨S640x256, .bf16⟩
  | .local _ .vmem, ⟨8, _⟩ => ⟨S640x256, .bf16⟩
  | .local _ .vmem, ⟨9, _⟩ => ⟨S640x256, .bf16⟩
  | .local _ .vmem, ⟨10, _⟩ => ⟨S1024x1024, .bf16⟩
  | .local _ .vmem, ⟨11, _⟩ => ⟨S1x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .bf16⟩
  | .local _ .vmem, ⟨15, _⟩ => ⟨S640x1024, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S33280x1024 : Shape := ⟨2, ![33280, 1024]⟩
abbrev S33280x256 : Shape := ⟨2, ![33280, 256]⟩
abbrev S4x8320x256 : Shape := ⟨3, ![4, 8320, 256]⟩
abbrev S1024x1024 : Shape := ⟨2, ![1024, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x256, .bf16⟩
  | .hbm, ⟨2, _⟩ => ⟨S4x8320x256, .bf16⟩
  | .hbm, ⟨3, _⟩ => ⟨S33280x256, .bf16⟩
  | .hbm, ⟨4, _⟩ => ⟨S33280x256, .bf16⟩
  | .hbm, ⟨5, _⟩ => ⟨S1024x1024, .f32⟩
  | .hbm, ⟨6, _⟩ => ⟨S1024, .f32⟩
  | .hbm, ⟨7, _⟩ => ⟨S33280x256, .bf16⟩
  | .hbm, ⟨8, _⟩ => ⟨S33280x1024, .bf16⟩
  | .hbm, ⟨9, _⟩ => ⟨S33280x1024, .f32⟩
  | .hbm, ⟨10, _⟩ => ⟨S33280x1024, .f32⟩
  | .hbm, ⟨11, _⟩ => ⟨S33280x1024, .f32⟩
  | .hbm, ⟨12, _⟩ => ⟨S33280x1024, .f32⟩
  | .hbm, ⟨13, _⟩ => ⟨S_, .f32⟩
  | .hbm, ⟨14, _⟩ => ⟨S33280, .f32⟩
  | .hbm, ⟨15, _⟩ => ⟨S33280x1, .f32⟩
  | .hbm, ⟨16, _⟩ => ⟨S_, .f32⟩
  | .hbm, ⟨17, _⟩ => ⟨S33280x1, .f32⟩
  | .hbm, ⟨18, _⟩ => ⟨S33280x1, .f32⟩
  | .hbm, ⟨19, _⟩ => ⟨S_, .f32⟩
  | .hbm, ⟨20, _⟩ => ⟨S33280x1, .f32⟩
  | .hbm, ⟨21, _⟩ => ⟨S33280x1, .f32⟩
  | .hbm, ⟨22, _⟩ => ⟨S33280x1, .f32⟩
  | .hbm, ⟨23, _⟩ => ⟨S33280x1024, .f32⟩
  | .hbm, ⟨24, _⟩ => ⟨S33280x1024, .f32⟩
  | .hbm, ⟨25, _⟩ => ⟨S1x1024, .f32⟩
  | .hbm, ⟨26, _⟩ => ⟨S33280x1024, .f32⟩
  | .hbm, ⟨27, _⟩ => ⟨S33280x1024, .f32⟩
  | .hbm, ⟨28, _⟩ => ⟨S33280x1024, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel6.lean ====
abbrev S16 : Shape := ⟨1, ![16]⟩
abbrev S33280x512 : Shape := ⟨2, ![33280, 512]⟩
abbrev S256 : Shape := ⟨1, ![256]⟩
abbrev S_ : Shape := ⟨0, ![]⟩
abbrev S52 : Shape := ⟨1, ![52]⟩
abbrev S1x256 : Shape := ⟨2, ![1, 256]⟩
abbrev S33280x256 : Shape := ⟨2, ![33280, 256]⟩
abbrev S640x512 : Shape := ⟨2, ![640, 512]⟩
abbrev S8320x512 : Shape := ⟨2, ![8320, 512]⟩
abbrev S640x256 : Shape := ⟨2, ![640, 256]⟩
abbrev S4x640x128 : Shape := ⟨3, ![4, 640, 128]⟩
abbrev S640x1 : Shape := ⟨2, ![640, 1]⟩
abbrev S1x128 : Shape := ⟨2, ![1, 128]⟩
abbrev S1 : Shape := ⟨1, ![1]⟩
abbrev S640x128 : Shape := ⟨2, ![640, 128]⟩
abbrev S1x640x128 : Shape := ⟨3, ![1, 640, 128]⟩
abbrev S640x640 : Shape := ⟨2, ![640, 640]⟩
abbrev S1x768 : Shape := ⟨2, ![1, 768]⟩
abbrev S640x768 : Shape := ⟨2, ![640, 768]⟩
abbrev S768x128 : Shape := ⟨2, ![768, 128]⟩
abbrev S1x640 : Shape := ⟨2, ![1, 640]⟩
abbrev S640x64 : Shape := ⟨2, ![640, 64]⟩
abbrev S640 : Shape := ⟨1, ![640]⟩

abbrev nBuf : Space → Nat
  | .hbm => 8
  | .vmem => 13
  | .smem => 2
  | _ => 0

abbrev bufTy : (tb : Table) → Fin (tcTables nBuf tb) → BufTy
  | .hbm, ⟨0, _⟩ => ⟨S16, .f32⟩
  | .hbm, ⟨1, _⟩ => ⟨S33280x512, .bf16⟩
  | .hbm, ⟨2, _⟩ => ⟨S33280x512, .bf16⟩
  | .hbm, ⟨3, _⟩ => ⟨S33280x512, .bf16⟩
  | .hbm, ⟨4, _⟩ => ⟨S256, .f32⟩
  | .hbm, ⟨5, _⟩ => ⟨S_, .i32⟩
  | .hbm, ⟨6, _⟩ => ⟨S1x256, .f32⟩
  | .hbm, ⟨7, _⟩ => ⟨S33280x256, .bf16⟩
  | .local _ .vmem, ⟨0, _⟩ => ⟨S640x512, .bf16⟩
  | .local _ .vmem, ⟨1, _⟩ => ⟨S640x512, .bf16⟩
  | .local _ .vmem, ⟨2, _⟩ => ⟨S8320x512, .bf16⟩
  | .local _ .vmem, ⟨3, _⟩ => ⟨S8320x512, .bf16⟩
  | .local _ .vmem, ⟨4, _⟩ => ⟨S8320x512, .bf16⟩
  | .local _ .vmem, ⟨5, _⟩ => ⟨S8320x512, .bf16⟩
  | .local _ .vmem, ⟨6, _⟩ => ⟨S1x256, .f32⟩
  | .local _ .vmem, ⟨7, _⟩ => ⟨S640x256, .bf16⟩
  | .local _ .vmem, ⟨8, _⟩ => ⟨S640x256, .bf16⟩
  | .local _ .vmem, ⟨9, _⟩ => ⟨S4x640x128, .f32⟩
  | .local _ .vmem, ⟨10, _⟩ => ⟨S4x640x128, .f32⟩
  | .local _ .vmem, ⟨11, _⟩ => ⟨S640x256, .f32⟩
  | .local _ .vmem, ⟨12, _⟩ => ⟨S4x640x128, .bf16⟩
  | .local _ .smem, ⟨0, _⟩ => ⟨S52, .i32⟩
  | .local _ .smem, ⟨1, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 13], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_13 : BitVec 32) : Fin 1 → Nat :=
  let arg0 : BitVec 32 := BitVec.ofNat 32 (i 0).val
  let c4_i32 : BitVec 32 := 4#32
  let v55 : BitVec 32 := Scalar.muli arg0 c4_i32
  let v56 : BitVec 32 := Scalar.addi v55 c0_i32_13
  let v57 : Index := Scalar.indexCast v56
  ![v57.toNat]
def k0_off2 (i : grid0.Coords) : Fin 1 → Nat :=
  let arg0 : BitVec 32 := BitVec.ofNat 32 (i 0).val
  let c13_i32 : BitVec 32 := 13#32
  let v0 : BitVec 32 := Scalar.muli arg0 c13_i32
  let arg1 : BitVec 32 := BitVec.ofNat 32 (i 1).val
  let v1 : BitVec 32 := Scalar.addi v0 arg1
  let v131 : Index := Scalar.indexCast v1
  ![v131.toNat]
@[reducible] def k0_t1_loop (i : grid0.Coords) (v132 : BitVec 32) : Scf.Loop 32 :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_43 : BitVec 32 := 1#32
  ⟨v132, v137, c1_i32_43⟩

def k0_mult1 (i : grid0.Coords) (v132 : BitVec 32) (k0_t1 : Fin (k0_t1_loop i v132).trips) : BitVec 32 :=
  let c1_i32_43 : BitVec 32 := 1#32
  let arg13 : BitVec 32 := Scf.iv v132 c1_i32_43 k0_t1
  let c640_i32_77 : BitVec 32 := 640#32
  let v199 : BitVec 32 := Scalar.muli arg13 c640_i32_77
  v199
def k0_off3 (i : grid0.Coords) (v132 : BitVec 32) (k0_t1 : Fin (k0_t1_loop i v132).trips) : Fin 2 → Nat :=
  let c1_i32_43 : BitVec 32 := 1#32
  let arg13 : BitVec 32 := Scf.iv v132 c1_i32_43 k0_t1
  let c640_i32_77 : BitVec 32 := 640#32
  let v199 : BitVec 32 := Scalar.muli arg13 c640_i32_77
  let v200 : BitVec 32 := v199
  let v203 : Index := Scalar.indexCast v200
  let c0_81 : Index := 0#32
  ![v203.toNat, 0]
def k0_off4 (i : grid0.Coords) (v132 : BitVec 32) (k0_t1 : Fin (k0_t1_loop i v132).trips) : Fin 2 → Nat :=
  let c1_i32_43 : BitVec 32 := 1#32
  let arg13 : BitVec 32 := Scf.iv v132 c1_i32_43 k0_t1
  let c640_i32_77 : BitVec 32 := 640#32
  let v199 : BitVec 32 := Scalar.muli arg13 c640_i32_77
  let v200 : BitVec 32 := v199
  let v219 : Index := Scalar.indexCast v200
  let c128_94 : Index := 128#32
  ![v219.toNat, 128]
def k0_off5 (i : grid0.Coords) (v132 : BitVec 32) (k0_t1 : Fin (k0_t1_loop i v132).trips) : Fin 2 → Nat :=
  let c1_i32_43 : BitVec 32 := 1#32
  let arg13 : BitVec 32 := Scf.iv v132 c1_i32_43 k0_t1
  let c640_i32_77 : BitVec 32 := 640#32
  let v199 : BitVec 32 := Scalar.muli arg13 c640_i32_77
  let v200 : BitVec 32 := v199
  let v235 : Index := Scalar.indexCast v200
  let c256_107 : Index := 256#32
  ![v235.toNat, 256]
def k0_off6 (i : grid0.Coords) (v132 : BitVec 32) (k0_t1 : Fin (k0_t1_loop i v132).trips) : Fin 2 → Nat :=
  let c1_i32_43 : BitVec 32 := 1#32
  let arg13 : BitVec 32 := Scf.iv v132 c1_i32_43 k0_t1
  let c640_i32_77 : BitVec 32 := 640#32
  let v199 : BitVec 32 := Scalar.muli arg13 c640_i32_77
  let v200 : BitVec 32 := v199
  let v251 : Index := Scalar.indexCast v200
  let c384_120 : Index := 384#32
  ![v251.toNat, 384]
@[reducible] def k0_t2_loop (i : grid0.Coords) (v132 : BitVec 32) : Scf.Loop 32 :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let v134 : BitVec 32 := Scalar.addi v132 v133
  let c1_i32_44 : BitVec 32 := 1#32
  ⟨v137, v134, c1_i32_44⟩
def k0_mult2 (i : grid0.Coords) (v132 : BitVec 32) (k0_t2 : Fin (k0_t2_loop i v132).trips) : BitVec 32 :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_44 : BitVec 32 := 1#32
  let arg13 : BitVec 32 := Scf.iv v137 c1_i32_44 k0_t2
  let c640_i32_77 : BitVec 32 := 640#32
  let v199 : BitVec 32 := Scalar.muli arg13 c640_i32_77
  v199
def k0_off7 (i : grid0.Coords) (v132 : BitVec 32) (k0_t2 : Fin (k0_t2_loop i v132).trips) : Fin 2 → Nat :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_44 : BitVec 32 := 1#32
  let arg13 : BitVec 32 := Scf.iv v137 c1_i32_44 k0_t2
  let c640_i32_77 : BitVec 32 := 640#32
  let v199 : BitVec 32 := Scalar.muli arg13 c640_i32_77
  let v200 : BitVec 32 := v199
  let v203 : Index := Scalar.indexCast v200
  let c0_81 : Index := 0#32
  ![v203.toNat, 0]
def k0_off8 (i : grid0.Coords) (v132 : BitVec 32) (k0_t2 : Fin (k0_t2_loop i v132).trips) : Fin 2 → Nat :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_44 : BitVec 32 := 1#32
  let arg13 : BitVec 32 := Scf.iv v137 c1_i32_44 k0_t2
  let c640_i32_77 : BitVec 32 := 640#32
  let v199 : BitVec 32 := Scalar.muli arg13 c640_i32_77
  let v200 : BitVec 32 := v199
  let v219 : Index := Scalar.indexCast v200
  let c128_94 : Index := 128#32
  ![v219.toNat, 128]
def k0_off9 (i : grid0.Coords) (v132 : BitVec 32) (k0_t2 : Fin (k0_t2_loop i v132).trips) : Fin 2 → Nat :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_44 : BitVec 32 := 1#32
  let arg13 : BitVec 32 := Scf.iv v137 c1_i32_44 k0_t2
  let c640_i32_77 : BitVec 32 := 640#32
  let v199 : BitVec 32 := Scalar.muli arg13 c640_i32_77
  let v200 : BitVec 32 := v199
  let v235 : Index := Scalar.indexCast v200
  let c256_107 : Index := 256#32
  ![v235.toNat, 256]
def k0_off10 (i : grid0.Coords) (v132 : BitVec 32) (k0_t2 : Fin (k0_t2_loop i v132).trips) : Fin 2 → Nat :=
  let arg1 : BitVec 32 := BitVec.ofNat 32 (i 1).val
  let c640_i32 : BitVec 32 := 640#32
  let v2 : BitVec 32 := Scalar.muli arg1 c640_i32
  let c16_i32_5 : BitVec 32 := 16#32
  let v36 : BitVec 32 := Scalar.addi v2 c16_i32_5
  let c0_i32_7 : BitVec 32 := 0#32
  let v38 : BitVec 1 := Scalar.cmpi .sgt v36 c0_i32_7
  let v39 : BitVec 32 := Scalar.extui v38
  let c0_i32_8 : BitVec 32 := 0#32
  let v40 : BitVec 1 := Scalar.cmpi .slt v36 c0_i32_8
  let v41 : BitVec 32 := Scalar.extui v40
  let v42 : BitVec 32 := Scalar.subi v39 v41
  let c640_i32_6 : BitVec 32 := 640#32
  let c0_i32_9 : BitVec 32 := 0#32
  let v43 : BitVec 1 := Scalar.cmpi .sgt c640_i32_6 c0_i32_9
  let v44 : BitVec 32 := Scalar.extui v43
  let c0_i32_10 : BitVec 32 := 0#32
  let v45 : BitVec 1 := Scalar.cmpi .slt c640_i32_6 c0_i32_10
  let v46 : BitVec 32 := Scalar.extui v45
  let v47 : BitVec 32 := Scalar.subi v44 v46
  let v48 : BitVec 1 := Scalar.cmpi .ne v42 v47
  let v49 : BitVec 32 := Scalar.remsi v36 c640_i32_6
  let c0_i32_11 : BitVec 32 := 0#32
  let v50 : BitVec 1 := Scalar.cmpi .ne v49 c0_i32_11
  let v51 : BitVec 1 := Scalar.andi v48 v50
  let v37 : BitVec 32 := Scalar.divsi v36 c640_i32_6
  let c1_i32_12 : BitVec 32 := 1#32
  let v52 : BitVec 32 := Scalar.subi v37 c1_i32_12
  let v53 : BitVec 32 := Scalar.select v51 v52 v37
  let v133 : BitVec 32 := Scalar.subi v53 v132
  let c1_i32_42 : BitVec 32 := 1#32
  let v135 : BitVec 32 := Scalar.divsi v133 c1_i32_42
  let v136 : BitVec 32 := Scalar.muli v135 c1_i32_42
  let v137 : BitVec 32 := Scalar.addi v132 v136
  let c1_i32_44 : BitVec 32 := 1#32
  let arg13 : BitVec 32 := Scf.iv v137 c1_i32_44 k0_t2
  let c640_i32_77 : BitVec 32 := 640#32
  let v199 : BitVec 32 := Scalar.muli arg13 c640_i32_77
  let v200 : BitVec 32 := v199
  let v251 : Index := Scalar.indexCast v200
  let c384_120 : Index := 384#32
  ![v251.toNat, 384]

def k0_chk1 (i : grid0.Coords) (v132 : BitVec 32) : Prop :=
  ((k0_t1_loop i v132).OK) ∧
  (∀ k0_t1 : Fin (k0_t1_loop i v132).trips, 128 ∣ (k0_mult1 i v132 k0_t1).toNat) ∧
  (∀ k0_t1 : Fin (k0_t1_loop i v132).trips, ∀ a, (k0_off3 i v132 k0_t1) a + S640x128.size a ≤ S8320x512.size a) ∧
  (∀ k0_t1 : Fin (k0_t1_loop i v132).trips, ∀ a, (k0_off4 i v132 k0_t1) a + S640x128.size a ≤ S8320x512.size a) ∧
  (∀ k0_t1 : Fin (k0_t1_loop i v132).trips, ∀ a, (k0_off5 i v132 k0_t1) a + S640x128.size a ≤ S8320x512.size a) ∧
  (∀ k0_t1 : Fin (k0_t1_loop i v132).trips, ∀ a, (k0_off6 i v132 k0_t1) a + S640x128.size a ≤ S8320x512.size a) ∧
  ((k0_t2_loop i v132).OK) ∧
  (∀ k0_t2 : Fin (k0_t2_loop i v132).trips, 128 ∣ (k0_mult2 i v132 k0_t2).toNat) ∧
  (∀ k0_t2 : Fin (k0_t2_loop i v132).trips, ∀ a, (k0_off7 i v132 k0_t2) a + S640x128.size a ≤ S8320x512.size a) ∧
  (∀ k0_t2 : Fin (k0_t2_loop i v132).trips, ∀ a, (k0_off8 i v132 k0_t2) a + S640x128.size a ≤ S8320x512.size a) ∧
  (∀ k0_t2 : Fin (k0_t2_loop i v132).trips, ∀ a, (k0_off9 i v132 k0_t2) a + S640x128.size a ≤ S8320x512.size a) ∧
  (∀ k0_t2 : Fin (k0_t2_loop i v132).trips, ∀ a, (k0_off10 i v132 k0_t2) a + S640x128.size a ≤ S8320x512.size a)
theorem k0_t1_ok : ∀ (i : grid0.Coords) (v132 : BitVec 32) (k0_hw1 : k0_chk1 i v132), (k0_t1_loop i v132).OK := fun i v132 k0_hw1 => k0_hw1.1
theorem k0_mult1_dvd : ∀ (i : grid0.Coords) (v132 : BitVec 32) (k0_hw1 : k0_chk1 i v132) (k0_t1 : Fin (k0_t1_loop i v132).trips), 128 ∣ (k0_mult1 i v132 k0_t1).toNat := fun i v132 k0_hw1 k0_t1 => k0_hw1.2.1 k0_t1
theorem k0_off3_inb : ∀ (i : grid0.Coords) (v132 : BitVec 32) (k0_hw1 : k0_chk1 i v132) (k0_t1 : Fin (k0_t1_loop i v132).trips), ∀ a, (k0_off3 i v132 k0_t1) a + S640x128.size a ≤ S8320x512.size a := fun i v132 k0_hw1 k0_t1 => k0_hw1.2.2.1 k0_t1
theorem k0_off4_inb : ∀ (i : grid0.Coords) (v132 : BitVec 32) (k0_hw1 : k0_chk1 i v132) (k0_t1 : Fin (k0_t1_loop i v132).trips), ∀ a, (k0_off4 i v132 k0_t1) a + S640x128.size a ≤ S8320x512.size a := fun i v132 k0_hw1 k0_t1 => k0_hw1.2.2.2.1 k0_t1
theorem k0_off5_inb : ∀ (i : grid0.Coords) (v132 : BitVec 32) (k0_hw1 : k0_chk1 i v132) (k0_t1 : Fin (k0_t1_loop i v132).trips), ∀ a, (k0_off5 i v132 k0_t1) a + S640x128.size a ≤ S8320x512.size a := fun i v132 k0_hw1 k0_t1 => k0_hw1.2.2.2.2.1 k0_t1
theorem k0_off6_inb : ∀ (i : grid0.Coords) (v132 : BitVec 32) (k0_hw1 : k0_chk1 i v132) (k0_t1 : Fin (k0_t1_loop i v132).trips), ∀ a, (k0_off6 i v132 k0_t1) a + S640x128.size a ≤ S8320x512.size a := fun i v132 k0_hw1 k0_t1 => k0_hw1.2.2.2.2.2.1 k0_t1
theorem k0_t2_ok : ∀ (i : grid0.Coords) (v132 : BitVec 32) (k0_hw1 : k0_chk1 i v132), (k0_t2_loop i v132).OK := fun i v132 k0_hw1 => k0_hw1.2.2.2.2.2.2.1
theorem k0_mult2_dvd : ∀ (i : grid0.Coords) (v132 : BitVec 32) (k0_hw1 : k0_chk1 i v132) (k0_t2 : Fin (k0_t2_loop i v132).trips), 128 ∣ (k0_mult2 i v132 k0_t2).toNat := fun i v132 k0_hw1 k0_t2 => k0_hw1.2.2.2.2.2.2.2.1 k0_t2
theorem k0_off7_inb : ∀ (i : grid0.Coords) (v132 : BitVec 32) (k0_hw1 : k0_chk1 i v132) (k0_t2 : Fin (k0_t2_loop i v132).trips), ∀ a, (k0_off7 i v132 k0_t2) a + S640x128.size a ≤ S8320x512.size a := fun i v132 k0_hw1 k0_t2 => k0_hw1.2.2.2.2.2.2.2.2.1 k0_t2
theorem k0_off8_inb : ∀ (i : grid0.Coords) (v132 : BitVec 32) (k0_hw1 : k0_chk1 i v132) (k0_t2 : Fin (k0_t2_loop i v132).trips), ∀ a, (k0_off8 i v132 k0_t2) a + S640x128.size a ≤ S8320x512.size a := fun i v132 k0_hw1 k0_t2 => k0_hw1.2.2.2.2.2.2.2.2.2.1 k0_t2
theorem k0_off9_inb : ∀ (i : grid0.Coords) (v132 : BitVec 32) (k0_hw1 : k0_chk1 i v132) (k0_t2 : Fin (k0_t2_loop i v132).trips), ∀ a, (k0_off9 i v132 k0_t2) a + S640x128.size a ≤ S8320x512.size a := fun i v132 k0_hw1 k0_t2 => k0_hw1.2.2.2.2.2.2.2.2.2.2.1 k0_t2
theorem k0_off10_inb : ∀ (i : grid0.Coords) (v132 : BitVec 32) (k0_hw1 : k0_chk1 i v132) (k0_t2 : Fin (k0_t2_loop i v132).trips), ∀ a, (k0_off10 i v132 k0_t2) a + S640x128.size a ≤ S8320x512.size a := fun i v132 k0_hw1 k0_t2 => k0_hw1.2.2.2.2.2.2.2.2.2.2.2 k0_t2

def k0_cond1 (i : grid0.Coords) : BitVec 1 :=
  let arg1 : BitVec 32 := BitVec.ofNat 32 (i 1).val
  let c640_i32 : BitVec 32 := 640#32
  let v2 : BitVec 32 := Scalar.muli arg1 c640_i32
  let c640_i32_45 : BitVec 32 := 640#32
  let v138 : BitVec 32 := Scalar.addi v2 c640_i32_45
  let c8320_i32 : BitVec 32 := 8320#32
  let v139 : BitVec 1 := Scalar.cmpi .slt v138 c8320_i32
  let v140 : BitVec 32 := Scalar.extui v139
  let c0_i32_46 : BitVec 32 := 0#32
  let v141 : BitVec 1 := Scalar.cmpi .ne v140 c0_i32_46
  v141

def k0_mult3 (i : grid0.Coords) : BitVec 32 :=
  let arg1 : BitVec 32 := BitVec.ofNat 32 (i 1).val
  let c640_i32 : BitVec 32 := 640#32
  let v2 : BitVec 32 := Scalar.muli arg1 c640_i32
  v2
def k0_off11 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v208 : Index := Scalar.indexCast v199
  let c0_80 : Index := 0#32
  ![v208.toNat, 0]
def k0_off12 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v226 : Index := Scalar.indexCast v199
  let c128_94 : Index := 128#32
  ![v226.toNat, 128]
def k0_off13 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v244 : Index := Scalar.indexCast v199
  let c256_108 : Index := 256#32
  ![v244.toNat, 256]
def k0_off14 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v262 : Index := Scalar.indexCast v199
  let c384_122 : Index := 384#32
  ![v262.toNat, 384]
def k0_cond2 (i : grid0.Coords) : BitVec 1 :=
  let arg1 : BitVec 32 := BitVec.ofNat 32 (i 1).val
  let c640_i32 : BitVec 32 := 640#32
  let v2 : BitVec 32 := Scalar.muli arg1 c640_i32
  let c640_i32_47 : BitVec 32 := 640#32
  let v142 : BitVec 32 := Scalar.addi v2 c640_i32_47
  let c8320_i32_48 : BitVec 32 := 8320#32
  let v143 : BitVec 1 := Scalar.cmpi .sge v142 c8320_i32_48
  let v144 : BitVec 32 := Scalar.extui v143
  let c0_i32_49 : BitVec 32 := 0#32
  let v145 : BitVec 1 := Scalar.cmpi .ne v144 c0_i32_49
  v145

def k0_mult4 (i : grid0.Coords) : BitVec 32 :=
  let arg1 : BitVec 32 := BitVec.ofNat 32 (i 1).val
  let c640_i32 : BitVec 32 := 640#32
  let v2 : BitVec 32 := Scalar.muli arg1 c640_i32
  v2
def k0_off15 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v208 : Index := Scalar.indexCast v199
  let c0_80 : Index := 0#32
  ![v208.toNat, 0]
def k0_off16 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v226 : Index := Scalar.indexCast v199
  let c128_94 : Index := 128#32
  ![v226.toNat, 128]
def k0_off17 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v244 : Index := Scalar.indexCast v199
  let c256_108 : Index := 256#32
  ![v244.toNat, 256]
def k0_off18 (i : grid0.Coords) : Fin 2 → Nat :=
  let arg1 : BitVec 32 := BitVec.ofNat 32 (i 1).val
  let c640_i32 : BitVec 32 := 640#32
  let v2 : BitVec 32 := Scalar.muli arg1 c640_i32
  let v199 : BitVec 32 := v2
  let v262 : Index := Scalar.indexCast v199
  let c384_122 : Index := 384#32
  ![v262.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16 : Shape := ⟨1, ![16]⟩
abbrev S33280x512 : Shape := ⟨2, ![33280, 512]⟩
abbrev S256 : Shape := ⟨1, ![256]⟩
abbrev S8320 : Shape := ⟨1, ![8320]⟩
abbrev S_ : Shape := ⟨0, ![]⟩
abbrev S1x8320 : Shape := ⟨2, ![1, 8320]⟩
abbrev S8320x1 : Shape := ⟨2, ![8320, 1]⟩
abbrev S8320x8320 : Shape := ⟨2, ![8320, 8320]⟩
abbrev S4x8320x4x128 : Shape := ⟨4, ![4, 8320, 4, 128]⟩
abbrev S4x4x8320x128 : Shape := ⟨4, ![4, 4, 8320, 128]⟩
abbrev S4x4x8320x8320 : Shape := ⟨4, ![4, 4, 8320, 8320]⟩
abbrev S4x4 : Shape := ⟨2, ![4, 4]⟩
abbrev S4x4x1x1 : Shape := ⟨4, ![4, 4, 1, 1]⟩
abbrev S4x4x8320x64 : Shape := ⟨4, ![4, 4, 8320, 64]⟩
abbrev S4x4x8320 : Shape := ⟨3, ![4, 4, 8320]⟩
abbrev S4x4x8320x1 : Shape := ⟨4, ![4, 4, 8320, 1]⟩
abbrev S4x8320x4x64 : Shape := ⟨4, ![4, 8320, 4, 64]⟩
abbrev S33280x256 : Shape := ⟨2, ![33280, 256]⟩
abbrev S33280 : Shape := ⟨1, ![33280]⟩
abbrev S33280x1 : Shape := ⟨2, ![33280, 1]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S16, .f32⟩
  | .hbm, ⟨1, _⟩ => ⟨S33280x512, .bf16⟩
  | .hbm, ⟨2, _⟩ => ⟨S33280x512, .bf16⟩
  | .hbm, ⟨3, _⟩ => ⟨S33280x512, .bf16⟩
  | .hbm, ⟨4, _⟩ => ⟨S256, .f32⟩
  | .hbm, ⟨5, _⟩ => ⟨S8320, .i32⟩
  | .hbm, ⟨6, _⟩ => ⟨S_, .i32⟩
  | .hbm, ⟨7, _⟩ => ⟨S8320, .i32⟩
  | .hbm, ⟨8, _⟩ => ⟨S8320, .i1⟩
  | .hbm, ⟨9, _⟩ => ⟨S_, .i32⟩
  | .hbm, ⟨10, _⟩ => ⟨S8320, .i32⟩
  | .hbm, ⟨11, _⟩ => ⟨S8320, .i32⟩
  | .hbm, ⟨12, _⟩ => ⟨S_, .i32⟩
  | .hbm, ⟨13, _⟩ => ⟨S_, .i32⟩
  | .hbm, ⟨14, _⟩ => ⟨S8320, .i32⟩
  | .hbm, ⟨15, _⟩ => ⟨S8320, .i32⟩
  | .hbm, ⟨16, _⟩ => ⟨S8320, .i32⟩
  | .hbm, ⟨17, _⟩ => ⟨S_, .i32⟩
  | .hbm, ⟨18, _⟩ => ⟨S8320, .i32⟩
  | .hbm, ⟨19, _⟩ => ⟨S8320, .i1⟩
  | .hbm, ⟨20, _⟩ => ⟨S8320, .i32⟩
  | .hbm, ⟨21, _⟩ => ⟨S8320, .i32⟩
  | .hbm, ⟨22, _⟩ => ⟨S_, .i32⟩
  | .hbm, ⟨23, _⟩ => ⟨S8320, .i32⟩
  | .hbm, ⟨24, _⟩ => ⟨S8320, .i1⟩
  | .hbm, ⟨25, _⟩ => ⟨S8320, .i1⟩
  | .hbm, ⟨26, _⟩ => ⟨S_, .i32⟩
  | .hbm, ⟨27, _⟩ => ⟨S8320, .i32⟩
  | .hbm, ⟨28, _⟩ => ⟨S8320, .i32⟩
  | .hbm, ⟨29, _⟩ => ⟨S8320, .i32⟩
  | .hbm, ⟨30, _⟩ => ⟨S_, .i32⟩
  | .hbm, ⟨31, _⟩ => ⟨S8320, .i32⟩
  | .hbm, ⟨32, _⟩ => ⟨S8320, .i32⟩
  | .hbm, ⟨33, _⟩ => ⟨S_, .i32⟩
  | .hbm, ⟨34, _⟩ => ⟨S_, .i32⟩
  | .hbm, ⟨35, _⟩ => ⟨S8320, .i32⟩
  | .hbm, ⟨36, _⟩ => ⟨S8320, .i32⟩
  | .hbm, ⟨37, _⟩ => ⟨S1x8320, .i32⟩
  | .hbm, ⟨38, _⟩ => ⟨S8320x1, .i32⟩
  | .hbm, ⟨39, _⟩ => ⟨S8320x8320, .i32⟩
  | .hbm, ⟨40, _⟩ => ⟨S8320x8320, .i32⟩
  | .hbm, ⟨41, _⟩ => ⟨S8320x8320, .i1⟩
  | .hbm, ⟨42, _⟩ => ⟨S33280x512, .f32⟩
  | .hbm, ⟨43, _⟩ => ⟨S4x8320x4x128, .f32⟩
  | .hbm, ⟨44, _⟩ => ⟨S4x4x8320x128, .f32⟩
  | .hbm, ⟨45, _⟩ => ⟨S33280x512, .f32⟩
  | .hbm, ⟨46, _⟩ => ⟨S4x8320x4x128, .f32⟩
  | .hbm, ⟨47, _⟩ => ⟨S4x4x8320x128, .f32⟩
  | .hbm, ⟨48, _⟩ => ⟨S33280x512, .f32⟩
  | .hbm, ⟨49, _⟩ => ⟨S4x8320x4x128, .f32⟩
  | .hbm, ⟨50, _⟩ => ⟨S4x4x8320x128, .f32⟩
  | .hbm, ⟨51, _⟩ => ⟨S4x4x8320x8320, .f32⟩
  | .hbm, ⟨52, _⟩ => ⟨S4x4, .f32⟩
  | .hbm, ⟨53, _⟩ => ⟨S4x4x1x1, .f32⟩
  | .hbm, ⟨54, _⟩ => ⟨S4x4x8320x8320, .f32⟩
  | .hbm, ⟨55, _⟩ => ⟨S4x4x8320x8320, .f32⟩
  | .hbm, ⟨56, _⟩ => ⟨S_, .f32⟩
  | .hbm, ⟨57, _⟩ => ⟨S4x4x8320x8320, .f32⟩
  | .hbm, ⟨58, _⟩ => ⟨S4x4x8320x8320, .f32⟩
  | .hbm, ⟨59, _⟩ => ⟨S_, .f32⟩
  | .hbm, ⟨60, _⟩ => ⟨S_, .f32⟩
  | .hbm, ⟨61, _⟩ => ⟨S4x4x8320x8320, .i1⟩
  | .hbm, ⟨62, _⟩ => ⟨S4x4x8320x8320, .f32⟩
  | .hbm, ⟨63, _⟩ => ⟨S4x4x8320x8320, .f32⟩
  | .hbm, ⟨64, _⟩ => ⟨S4x4x8320x64, .f32⟩
  | .hbm, ⟨65, _⟩ => ⟨S4x4x8320x64, .f32⟩
  | .hbm, ⟨66, _⟩ => ⟨S_, .f32⟩
  | .hbm, ⟨67, _⟩ => ⟨S4x4x8320, .f32⟩
  | .hbm, ⟨68, _⟩ => ⟨S4x4x8320x1, .f32⟩
  | .hbm, ⟨69, _⟩ => ⟨S4x4x8320x64, .f32⟩
  | .hbm, ⟨70, _⟩ => ⟨S4x4x8320x64, .f32⟩
  | .hbm, ⟨71, _⟩ => ⟨S4x8320x4x64, .f32⟩
  | .hbm, ⟨72, _⟩ => ⟨S33280x256, .f32⟩
  | .hbm, ⟨73, _⟩ => ⟨S33280x256, .f32⟩
  | .hbm, ⟨74, _⟩ => ⟨S_, .f32⟩
  | .hbm, ⟨75, _⟩ => ⟨S33280, .f32⟩
  | .hbm, ⟨76, _⟩ => ⟨S33280x1, .f32⟩
  | .hbm, ⟨77, _⟩ => ⟨S_, .f32⟩
  | .hbm, ⟨78, _⟩ => ⟨S33280x1, .f32⟩
  | .hbm, ⟨79, _⟩ => ⟨S33280x1, .f32⟩
  | .hbm, ⟨80, _⟩ => ⟨S_, .f32⟩
  | .hbm, ⟨81, _⟩ => ⟨S33280x1, .f32⟩
  | .hbm, ⟨82, _⟩ => ⟨S33280x1, .f32⟩
  | .hbm, ⟨83, _⟩ => ⟨S33280x1, .f32⟩
  | .hbm, ⟨84, _⟩ => ⟨S33280x256, .f32⟩
  | .hbm, ⟨85, _⟩ => ⟨S33280x256, .f32⟩
  | .hbm, ⟨86, _⟩ => ⟨S1x256, .f32⟩
  | .hbm, ⟨87, _⟩ => ⟨S33280x256, .f32⟩
  | .hbm, ⟨88, _⟩ => ⟨S33280x256, .f32⟩
  | .hbm, ⟨89, _⟩ => ⟨S33280x256, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_cst_7 : Ref sig .tc := ⟨.hbm, 77, rfl⟩
abbrev main_v42 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Kernel7.lean ====
abbrev S52 : Shape := ⟨1, ![52]⟩
abbrev S16 : Shape := ⟨1, ![16]⟩
abbrev S33280x512 : Shape := ⟨2, ![33280, 512]⟩
abbrev S256 : Shape := ⟨1, ![256]⟩
abbrev S1x256 : Shape := ⟨2, ![1, 256]⟩
abbrev S33280x256 : Shape := ⟨2, ![33280, 256]⟩
abbrev S640x512 : Shape := ⟨2, ![640, 512]⟩
abbrev S8320x512 : Shape := ⟨2, ![8320, 512]⟩
abbrev S640x256 : Shape := ⟨2, ![640, 256]⟩
abbrev S4x640x128 : Shape := ⟨3, ![4, 640, 128]⟩
abbrev S640x1 : Shape := ⟨2, ![640, 1]⟩
abbrev S1x128 : Shape := ⟨2, ![1, 128]⟩
abbrev S1 : Shape := ⟨1, ![1]⟩
abbrev S640x128 : Shape := ⟨2, ![640, 128]⟩
abbrev S1x640x128 : Shape := ⟨3, ![1, 640, 128]⟩
abbrev S640x640 : Shape := ⟨2, ![640, 640]⟩
abbrev S1x640 : Shape := ⟨2, ![1, 640]⟩
abbrev S640x64 : Shape := ⟨2, ![640, 64]⟩
abbrev S640 : Shape := ⟨1, ![640]⟩

abbrev nBuf : Space → Nat
  | .hbm => 7
  | .vmem => 13
  | .smem => 2
  | _ => 0

abbrev bufTy : (tb : Table) → Fin (tcTables nBuf tb) → BufTy
  | .hbm, ⟨0, _⟩ => ⟨S16, .f32⟩
  | .hbm, ⟨1, _⟩ => ⟨S33280x512, .bf16⟩
  | .hbm, ⟨2, _⟩ => ⟨S33280x512, .bf16⟩
  | .hbm, ⟨3, _⟩ => ⟨S33280x512, .bf16⟩
  | .hbm, ⟨4, _⟩ => ⟨S256, .f32⟩
  | .hbm, ⟨5, _⟩ => ⟨S1x256, .f32⟩
  | .hbm, ⟨6, _⟩ => ⟨S33280x256, .bf16⟩
  | .local _ .vmem, ⟨0, _⟩ => ⟨S640x512, .bf16⟩
  | .local _ .vmem, ⟨1, _⟩ => ⟨S640x512, .bf16⟩
  | .local _ .vmem, ⟨2, _⟩ => ⟨S8320x512, .bf16⟩
  | .local _ .vmem, ⟨3, _⟩ => ⟨S8320x512, .bf16⟩
  | .local _ .vmem, ⟨4, _⟩ => ⟨S8320x512, .bf16⟩
  | .local _ .vmem, ⟨5, _⟩ => ⟨S8320x512, .bf16⟩
  | .local _ .vmem, ⟨6, _⟩ => ⟨S1x256, .f32⟩
  | .local _ .vmem, ⟨7, _⟩ => ⟨S640x256, .bf16⟩
  | .local _ .vmem, ⟨8, _⟩ => ⟨S640x256, .bf16⟩
  | .local _ .vmem, ⟨9, _⟩ => ⟨S4x640x128, .f32⟩
  | .local _ .vmem, ⟨10, _⟩ => ⟨S4x640x128, .f32⟩
  | .local _ .vmem, ⟨11, _⟩ => ⟨S640x256, .f32⟩
  | .local _ .vmem, ⟨12, _⟩ => ⟨S4x640x128, .bf16⟩
  | .local _ .smem, ⟨0, _⟩ => ⟨S52, .i32⟩
  | .local _ .smem, ⟨1, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 13], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_17 : BitVec 32) : Fin 1 → Nat :=
  let arg0 : BitVec 32 := BitVec.ofNat 32 (i 0).val
  let c4_i32 : BitVec 32 := 4#32
  let v48 : BitVec 32 := Scalar.muli arg0 c4_i32
  let v49 : BitVec 32 := Scalar.addi v48 c0_i32_17
  let v50 : Index := Scalar.indexCast v49
  ![v50.toNat]
def k0_off2 (i : grid0.Coords) : Fin 1 → Nat :=
  let arg0 : BitVec 32 := BitVec.ofNat 32 (i 0).val
  let c13_i32 : BitVec 32 := 13#32
  let v0 : BitVec 32 := Scalar.muli arg0 c13_i32
  let arg1 : BitVec 32 := BitVec.ofNat 32 (i 1).val
  let v1 : BitVec 32 := Scalar.addi v0 arg1
  let v124 : Index := Scalar.indexCast v1
  ![v124.toNat]
@[reducible] def k0_t1_loop (i : grid0.Coords) (v125 : BitVec 32) : Scf.Loop 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_47 : BitVec 32 := 1#32
  ⟨v125, v130, c1_i32_47⟩

def k0_mult1 (i : grid0.Coords) (v125 : BitVec 32) (k0_t1 : Fin (k0_t1_loop i v125).trips) : BitVec 32 :=
  let c1_i32_47 : BitVec 32 := 1#32
  let arg13 : BitVec 32 := Scf.iv v125 c1_i32_47 k0_t1
  let c640_i32_80 : BitVec 32 := 640#32
  let v189 : BitVec 32 := Scalar.muli arg13 c640_i32_80
  v189
def k0_off3 (i : grid0.Coords) (v125 : BitVec 32) (k0_t1 : Fin (k0_t1_loop i v125).trips) : Fin 2 → Nat :=
  let c1_i32_47 : BitVec 32 := 1#32
  let arg13 : BitVec 32 := Scf.iv v125 c1_i32_47 k0_t1
  let c640_i32_80 : BitVec 32 := 640#32
  let v189 : BitVec 32 := Scalar.muli arg13 c640_i32_80
  let v190 : BitVec 32 := v189
  let v193 : Index := Scalar.indexCast v190
  let c0_84 : Index := 0#32
  ![v193.toNat, 0]
def k0_off4 (i : grid0.Coords) (v125 : BitVec 32) (k0_t1 : Fin (k0_t1_loop i v125).trips) : Fin 2 → Nat :=
  let c1_i32_47 : BitVec 32 := 1#32
  let arg13 : BitVec 32 := Scf.iv v125 c1_i32_47 k0_t1
  let c640_i32_80 : BitVec 32 := 640#32
  let v189 : BitVec 32 := Scalar.muli arg13 c640_i32_80
  let v190 : BitVec 32 := v189
  let v209 : Index := Scalar.indexCast v190
  let c128_97 : Index := 128#32
  ![v209.toNat, 128]
def k0_off5 (i : grid0.Coords) (v125 : BitVec 32) (k0_t1 : Fin (k0_t1_loop i v125).trips) : Fin 2 → Nat :=
  let c1_i32_47 : BitVec 32 := 1#32
  let arg13 : BitVec 32 := Scf.iv v125 c1_i32_47 k0_t1
  let c640_i32_80 : BitVec 32 := 640#32
  let v189 : BitVec 32 := Scalar.muli arg13 c640_i32_80
  let v190 : BitVec 32 := v189
  let v225 : Index := Scalar.indexCast v190
  let c256_110 : Index := 256#32
  ![v225.toNat, 256]
def k0_off6 (i : grid0.Coords) (v125 : BitVec 32) (k0_t1 : Fin (k0_t1_loop i v125).trips) : Fin 2 → Nat :=
  let c1_i32_47 : BitVec 32 := 1#32
  let arg13 : BitVec 32 := Scf.iv v125 c1_i32_47 k0_t1
  let c640_i32_80 : BitVec 32 := 640#32
  let v189 : BitVec 32 := Scalar.muli arg13 c640_i32_80
  let v190 : BitVec 32 := v189
  let v241 : Index := Scalar.indexCast v190
  let c384_123 : Index := 384#32
  ![v241.toNat, 384]
@[reducible] def k0_t2_loop (i : grid0.Coords) (v125 : BitVec 32) : Scf.Loop 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let v127 : BitVec 32 := Scalar.addi v125 v126
  let c1_i32_48 : BitVec 32 := 1#32
  ⟨v130, v127, c1_i32_48⟩
def k0_mult2 (i : grid0.Coords) (v125 : BitVec 32) (k0_t2 : Fin (k0_t2_loop i v125).trips) : BitVec 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_48 : BitVec 32 := 1#32
  let arg13 : BitVec 32 := Scf.iv v130 c1_i32_48 k0_t2
  let c640_i32_80 : BitVec 32 := 640#32
  let v189 : BitVec 32 := Scalar.muli arg13 c640_i32_80
  v189
def k0_off7 (i : grid0.Coords) (v125 : BitVec 32) (k0_t2 : Fin (k0_t2_loop i v125).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_48 : BitVec 32 := 1#32
  let arg13 : BitVec 32 := Scf.iv v130 c1_i32_48 k0_t2
  let c640_i32_80 : BitVec 32 := 640#32
  let v189 : BitVec 32 := Scalar.muli arg13 c640_i32_80
  let v190 : BitVec 32 := v189
  let v193 : Index := Scalar.indexCast v190
  let c0_84 : Index := 0#32
  ![v193.toNat, 0]
def k0_off8 (i : grid0.Coords) (v125 : BitVec 32) (k0_t2 : Fin (k0_t2_loop i v125).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_48 : BitVec 32 := 1#32
  let arg13 : BitVec 32 := Scf.iv v130 c1_i32_48 k0_t2
  let c640_i32_80 : BitVec 32 := 640#32
  let v189 : BitVec 32 := Scalar.muli arg13 c640_i32_80
  let v190 : BitVec 32 := v189
  let v209 : Index := Scalar.indexCast v190
  let c128_97 : Index := 128#32
  ![v209.toNat, 128]
def k0_off9 (i : grid0.Coords) (v125 : BitVec 32) (k0_t2 : Fin (k0_t2_loop i v125).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_48 : BitVec 32 := 1#32
  let arg13 : BitVec 32 := Scf.iv v130 c1_i32_48 k0_t2
  let c640_i32_80 : BitVec 32 := 640#32
  let v189 : BitVec 32 := Scalar.muli arg13 c640_i32_80
  let v190 : BitVec 32 := v189
  let v225 : Index := Scalar.indexCast v190
  let c256_110 : Index := 256#32
  ![v225.toNat, 256]
def k0_off10 (i : grid0.Coords) (v125 : BitVec 32) (k0_t2 : Fin (k0_t2_loop i v125).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let v126 : BitVec 32 := Scalar.subi v25 v125
  let c1_i32_46 : BitVec 32 := 1#32
  let v128 : BitVec 32 := Scalar.divsi v126 c1_i32_46
  let v129 : BitVec 32 := Scalar.muli v128 c1_i32_46
  let v130 : BitVec 32 := Scalar.addi v125 v129
  let c1_i32_48 : BitVec 32 := 1#32
  let arg13 : BitVec 32 := Scf.iv v130 c1_i32_48 k0_t2
  let c640_i32_80 : BitVec 32 := 640#32
  let v189 : BitVec 32 := Scalar.muli arg13 c640_i32_80
  let v190 : BitVec 32 := v189
  let v241 : Index := Scalar.indexCast v190
  let c384_123 : Index := 384#32
  ![v241.toNat, 384]

def k0_chk1 (i : grid0.Coords) (v125 : BitVec 32) : Prop :=
  ((k0_t1_loop i v125).OK) ∧
  (∀ k0_t1 : Fin (k0_t1_loop i v125).trips, 128 ∣ (k0_mult1 i v125 k0_t1).toNat) ∧
  (∀ k0_t1 : Fin (k0_t1_loop i v125).trips, ∀ a, (k0_off3 i v125 k0_t1) a + S640x128.size a ≤ S8320x512.size a) ∧
  (∀ k0_t1 : Fin (k0_t1_loop i v125).trips, ∀ a, (k0_off4 i v125 k0_t1) a + S640x128.size a ≤ S8320x512.size a) ∧
  (∀ k0_t1 : Fin (k0_t1_loop i v125).trips, ∀ a, (k0_off5 i v125 k0_t1) a + S640x128.size a ≤ S8320x512.size a) ∧
  (∀ k0_t1 : Fin (k0_t1_loop i v125).trips, ∀ a, (k0_off6 i v125 k0_t1) a + S640x128.size a ≤ S8320x512.size a) ∧
  ((k0_t2_loop i v125).OK) ∧
  (∀ k0_t2 : Fin (k0_t2_loop i v125).trips, 128 ∣ (k0_mult2 i v125 k0_t2).toNat) ∧
  (∀ k0_t2 : Fin (k0_t2_loop i v125).trips, ∀ a, (k0_off7 i v125 k0_t2) a + S640x128.size a ≤ S8320x512.size a) ∧
  (∀ k0_t2 : Fin (k0_t2_loop i v125).trips, ∀ a, (k0_off8 i v125 k0_t2) a + S640x128.size a ≤ S8320x512.size a) ∧
  (∀ k0_t2 : Fin (k0_t2_loop i v125).trips, ∀ a, (k0_off9 i v125 k0_t2) a + S640x128.size a ≤ S8320x512.size a) ∧
  (∀ k0_t2 : Fin (k0_t2_loop i v125).trips, ∀ a, (k0_off10 i v125 k0_t2) a + S640x128.size a ≤ S8320x512.size a)
theorem k0_t1_ok : ∀ (i : grid0.Coords) (v125 : BitVec 32) (k0_hw1 : k0_chk1 i v125), (k0_t1_loop i v125).OK := fun i v125 k0_hw1 => k0_hw1.1
theorem k0_mult1_dvd : ∀ (i : grid0.Coords) (v125 : BitVec 32) (k0_hw1 : k0_chk1 i v125) (k0_t1 : Fin (k0_t1_loop i v125).trips), 128 ∣ (k0_mult1 i v125 k0_t1).toNat := fun i v125 k0_hw1 k0_t1 => k0_hw1.2.1 k0_t1
theorem k0_off3_inb : ∀ (i : grid0.Coords) (v125 : BitVec 32) (k0_hw1 : k0_chk1 i v125) (k0_t1 : Fin (k0_t1_loop i v125).trips), ∀ a, (k0_off3 i v125 k0_t1) a + S640x128.size a ≤ S8320x512.size a := fun i v125 k0_hw1 k0_t1 => k0_hw1.2.2.1 k0_t1
theorem k0_off4_inb : ∀ (i : grid0.Coords) (v125 : BitVec 32) (k0_hw1 : k0_chk1 i v125) (k0_t1 : Fin (k0_t1_loop i v125).trips), ∀ a, (k0_off4 i v125 k0_t1) a + S640x128.size a ≤ S8320x512.size a := fun i v125 k0_hw1 k0_t1 => k0_hw1.2.2.2.1 k0_t1
theorem k0_off5_inb : ∀ (i : grid0.Coords) (v125 : BitVec 32) (k0_hw1 : k0_chk1 i v125) (k0_t1 : Fin (k0_t1_loop i v125).trips), ∀ a, (k0_off5 i v125 k0_t1) a + S640x128.size a ≤ S8320x512.size a := fun i v125 k0_hw1 k0_t1 => k0_hw1.2.2.2.2.1 k0_t1
theorem k0_off6_inb : ∀ (i : grid0.Coords) (v125 : BitVec 32) (k0_hw1 : k0_chk1 i v125) (k0_t1 : Fin (k0_t1_loop i v125).trips), ∀ a, (k0_off6 i v125 k0_t1) a + S640x128.size a ≤ S8320x512.size a := fun i v125 k0_hw1 k0_t1 => k0_hw1.2.2.2.2.2.1 k0_t1
theorem k0_t2_ok : ∀ (i : grid0.Coords) (v125 : BitVec 32) (k0_hw1 : k0_chk1 i v125), (k0_t2_loop i v125).OK := fun i v125 k0_hw1 => k0_hw1.2.2.2.2.2.2.1
theorem k0_mult2_dvd : ∀ (i : grid0.Coords) (v125 : BitVec 32) (k0_hw1 : k0_chk1 i v125) (k0_t2 : Fin (k0_t2_loop i v125).trips), 128 ∣ (k0_mult2 i v125 k0_t2).toNat := fun i v125 k0_hw1 k0_t2 => k0_hw1.2.2.2.2.2.2.2.1 k0_t2
theorem k0_off7_inb : ∀ (i : grid0.Coords) (v125 : BitVec 32) (k0_hw1 : k0_chk1 i v125) (k0_t2 : Fin (k0_t2_loop i v125).trips), ∀ a, (k0_off7 i v125 k0_t2) a + S640x128.size a ≤ S8320x512.size a := fun i v125 k0_hw1 k0_t2 => k0_hw1.2.2.2.2.2.2.2.2.1 k0_t2
theorem k0_off8_inb : ∀ (i : grid0.Coords) (v125 : BitVec 32) (k0_hw1 : k0_chk1 i v125) (k0_t2 : Fin (k0_t2_loop i v125).trips), ∀ a, (k0_off8 i v125 k0_t2) a + S640x128.size a ≤ S8320x512.size a := fun i v125 k0_hw1 k0_t2 => k0_hw1.2.2.2.2.2.2.2.2.2.1 k0_t2
theorem k0_off9_inb : ∀ (i : grid0.Coords) (v125 : BitVec 32) (k0_hw1 : k0_chk1 i v125) (k0_t2 : Fin (k0_t2_loop i v125).trips), ∀ a, (k0_off9 i v125 k0_t2) a + S640x128.size a ≤ S8320x512.size a := fun i v125 k0_hw1 k0_t2 => k0_hw1.2.2.2.2.2.2.2.2.2.2.1 k0_t2
theorem k0_off10_inb : ∀ (i : grid0.Coords) (v125 : BitVec 32) (k0_hw1 : k0_chk1 i v125) (k0_t2 : Fin (k0_t2_loop i v125).trips), ∀ a, (k0_off10 i v125 k0_t2) a + S640x128.size a ≤ S8320x512.size a := fun i v125 k0_hw1 k0_t2 => k0_hw1.2.2.2.2.2.2.2.2.2.2.2 k0_t2

@[reducible] def k0_t3_loop (i : grid0.Coords) : Scf.Loop 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_51 : BitVec 32 := 1#32
  ⟨v25, v135, c1_i32_51⟩
def k0_mult3 (i : grid0.Coords) (k0_t3 : Fin (k0_t3_loop i).trips) : BitVec 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c1_i32_51 : BitVec 32 := 1#32
  let arg13 : BitVec 32 := Scf.iv v25 c1_i32_51 k0_t3
  let c640_i32_80 : BitVec 32 := 640#32
  let v189 : BitVec 32 := Scalar.muli arg13 c640_i32_80
  v189
def k0_off11 (i : grid0.Coords) (k0_t3 : Fin (k0_t3_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c1_i32_51 : BitVec 32 := 1#32
  let arg13 : BitVec 32 := Scf.iv v25 c1_i32_51 k0_t3
  let c640_i32_80 : BitVec 32 := 640#32
  let v189 : BitVec 32 := Scalar.muli arg13 c640_i32_80
  let v190 : BitVec 32 := v189
  let v199 : Index := Scalar.indexCast v190
  let c0_84 : Index := 0#32
  ![v199.toNat, 0]
def k0_off12 (i : grid0.Coords) (k0_t3 : Fin (k0_t3_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c1_i32_51 : BitVec 32 := 1#32
  let arg13 : BitVec 32 := Scf.iv v25 c1_i32_51 k0_t3
  let c640_i32_80 : BitVec 32 := 640#32
  let v189 : BitVec 32 := Scalar.muli arg13 c640_i32_80
  let v190 : BitVec 32 := v189
  let v217 : Index := Scalar.indexCast v190
  let c128_98 : Index := 128#32
  ![v217.toNat, 128]
def k0_off13 (i : grid0.Coords) (k0_t3 : Fin (k0_t3_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c1_i32_51 : BitVec 32 := 1#32
  let arg13 : BitVec 32 := Scf.iv v25 c1_i32_51 k0_t3
  let c640_i32_80 : BitVec 32 := 640#32
  let v189 : BitVec 32 := Scalar.muli arg13 c640_i32_80
  let v190 : BitVec 32 := v189
  let v235 : Index := Scalar.indexCast v190
  let c256_112 : Index := 256#32
  ![v235.toNat, 256]
def k0_off14 (i : grid0.Coords) (k0_t3 : Fin (k0_t3_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c1_i32_51 : BitVec 32 := 1#32
  let arg13 : BitVec 32 := Scf.iv v25 c1_i32_51 k0_t3
  let c640_i32_80 : BitVec 32 := 640#32
  let v189 : BitVec 32 := Scalar.muli arg13 c640_i32_80
  let v190 : BitVec 32 := v189
  let v253 : Index := Scalar.indexCast v190
  let c384_126 : Index := 384#32
  ![v253.toNat, 384]
@[reducible] def k0_t4_loop (i : grid0.Coords) : Scf.Loop 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let v132 : BitVec 32 := Scalar.addi v25 v131
  let c1_i32_52 : BitVec 32 := 1#32
  ⟨v135, v132, c1_i32_52⟩
def k0_mult4 (i : grid0.Coords) (k0_t4 : Fin (k0_t4_loop i).trips) : BitVec 32 :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_52 : BitVec 32 := 1#32
  let arg13 : BitVec 32 := Scf.iv v135 c1_i32_52 k0_t4
  let c640_i32_80 : BitVec 32 := 640#32
  let v189 : BitVec 32 := Scalar.muli arg13 c640_i32_80
  v189
def k0_off15 (i : grid0.Coords) (k0_t4 : Fin (k0_t4_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_52 : BitVec 32 := 1#32
  let arg13 : BitVec 32 := Scf.iv v135 c1_i32_52 k0_t4
  let c640_i32_80 : BitVec 32 := 640#32
  let v189 : BitVec 32 := Scalar.muli arg13 c640_i32_80
  let v190 : BitVec 32 := v189
  let v199 : Index := Scalar.indexCast v190
  let c0_84 : Index := 0#32
  ![v199.toNat, 0]
def k0_off16 (i : grid0.Coords) (k0_t4 : Fin (k0_t4_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_52 : BitVec 32 := 1#32
  let arg13 : BitVec 32 := Scf.iv v135 c1_i32_52 k0_t4
  let c640_i32_80 : BitVec 32 := 640#32
  let v189 : BitVec 32 := Scalar.muli arg13 c640_i32_80
  let v190 : BitVec 32 := v189
  let v217 : Index := Scalar.indexCast v190
  let c128_98 : Index := 128#32
  ![v217.toNat, 128]
def k0_off17 (i : grid0.Coords) (k0_t4 : Fin (k0_t4_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_52 : BitVec 32 := 1#32
  let arg13 : BitVec 32 := Scf.iv v135 c1_i32_52 k0_t4
  let c640_i32_80 : BitVec 32 := 640#32
  let v189 : BitVec 32 := Scalar.muli arg13 c640_i32_80
  let v190 : BitVec 32 := v189
  let v235 : Index := Scalar.indexCast v190
  let c256_112 : Index := 256#32
  ![v235.toNat, 256]
def k0_off18 (i : grid0.Coords) (k0_t4 : Fin (k0_t4_loop i).trips) : Fin 2 → Nat :=
  let arg1 : BitVec 32 := BitVec.ofNat 32 (i 1).val
  let c640_i32 : BitVec 32 := 640#32
  let v2 : BitVec 32 := Scalar.muli arg1 c640_i32
  let c0_i32 : BitVec 32 := 0#32
  let v8 : BitVec 32 := Scalar.addi v2 c0_i32
  let c0_i32_1 : BitVec 32 := 0#32
  let v10 : BitVec 1 := Scalar.cmpi .sgt v8 c0_i32_1
  let v11 : BitVec 32 := Scalar.extui v10
  let c0_i32_2 : BitVec 32 := 0#32
  let v12 : BitVec 1 := Scalar.cmpi .slt v8 c0_i32_2
  let v13 : BitVec 32 := Scalar.extui v12
  let v14 : BitVec 32 := Scalar.subi v11 v13
  let c640_i32_0 : BitVec 32 := 640#32
  let c0_i32_3 : BitVec 32 := 0#32
  let v15 : BitVec 1 := Scalar.cmpi .sgt c640_i32_0 c0_i32_3
  let v16 : BitVec 32 := Scalar.extui v15
  let c0_i32_4 : BitVec 32 := 0#32
  let v17 : BitVec 1 := Scalar.cmpi .slt c640_i32_0 c0_i32_4
  let v18 : BitVec 32 := Scalar.extui v17
  let v19 : BitVec 32 := Scalar.subi v16 v18
  let v20 : BitVec 1 := Scalar.cmpi .ne v14 v19
  let v21 : BitVec 32 := Scalar.remsi v8 c640_i32_0
  let c0_i32_5 : BitVec 32 := 0#32
  let v22 : BitVec 1 := Scalar.cmpi .ne v21 c0_i32_5
  let v23 : BitVec 1 := Scalar.andi v20 v22
  let v9 : BitVec 32 := Scalar.divsi v8 c640_i32_0
  let c1_i32_6 : BitVec 32 := 1#32
  let v24 : BitVec 32 := Scalar.subi v9 c1_i32_6
  let v25 : BitVec 32 := Scalar.select v23 v24 v9
  let c640_i32_7 : BitVec 32 := 640#32
  let v26 : BitVec 32 := Scalar.addi v2 c640_i32_7
  let c8320_i32 : BitVec 32 := 8320#32
  let v27 : BitVec 32 := Scalar.minsi v26 c8320_i32
  let c640_i32_8 : BitVec 32 := 640#32
  let v28 : BitVec 32 := Scalar.addi v27 c640_i32_8
  let c1_i32_9 : BitVec 32 := 1#32
  let v29 : BitVec 32 := Scalar.subi v28 c1_i32_9
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c640_i32_10 : BitVec 32 := 640#32
  let c0_i32_13 : BitVec 32 := 0#32
  let v36 : BitVec 1 := Scalar.cmpi .sgt c640_i32_10 c0_i32_13
  let v37 : BitVec 32 := Scalar.extui v36
  let c0_i32_14 : BitVec 32 := 0#32
  let v38 : BitVec 1 := Scalar.cmpi .slt c640_i32_10 c0_i32_14
  let v39 : BitVec 32 := Scalar.extui v38
  let v40 : BitVec 32 := Scalar.subi v37 v39
  let v41 : BitVec 1 := Scalar.cmpi .ne v35 v40
  let v42 : BitVec 32 := Scalar.remsi v29 c640_i32_10
  let c0_i32_15 : BitVec 32 := 0#32
  let v43 : BitVec 1 := Scalar.cmpi .ne v42 c0_i32_15
  let v44 : BitVec 1 := Scalar.andi v41 v43
  let v30 : BitVec 32 := Scalar.divsi v29 c640_i32_10
  let c1_i32_16 : BitVec 32 := 1#32
  let v45 : BitVec 32 := Scalar.subi v30 c1_i32_16
  let v46 : BitVec 32 := Scalar.select v44 v45 v30
  let v131 : BitVec 32 := Scalar.subi v46 v25
  let c1_i32_50 : BitVec 32 := 1#32
  let v133 : BitVec 32 := Scalar.divsi v131 c1_i32_50
  let v134 : BitVec 32 := Scalar.muli v133 c1_i32_50
  let v135 : BitVec 32 := Scalar.addi v25 v134
  let c1_i32_52 : BitVec 32 := 1#32
  let arg13 : BitVec 32 := Scf.iv v135 c1_i32_52 k0_t4
  let c640_i32_80 : BitVec 32 := 640#32
  let v189 : BitVec 32 := Scalar.muli arg13 c640_i32_80
  let v190 : BitVec 32 := v189
  let v253 : Index := Scalar.indexCast v190
  let c384_126 : Index := 384#32
  ![v253.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S52 : Shape := ⟨1, ![52]⟩
abbrev S16 : Shape := ⟨1, ![16]⟩
abbrev S33280x512 : Shape := ⟨2, ![33280, 512]⟩
abbrev S256 : Shape := ⟨1, ![256]⟩
abbrev S8320 : Shape := ⟨1, ![8320]⟩
abbrev S4x13x1 : Shape := ⟨3, ![4, 13, 1]⟩
abbrev S_ : Shape := ⟨0, ![]⟩
abbrev S4x13x640 : Shape := ⟨3, ![4, 13, 640]⟩
abbrev S4x8320 : Shape := ⟨2, ![4, 8320]⟩
abbrev S1x1x8320 : Shape := ⟨3, ![1, 1, 8320]⟩
abbrev S1x8320x1 : Shape := ⟨3, ![1, 8320, 1]⟩
abbrev S1x8320x8320 : Shape := ⟨3, ![1, 8320, 8320]⟩
abbrev S4x8320x1 : Shape := ⟨3, ![4, 8320, 1]⟩
abbrev S4x8320x8320 : Shape := ⟨3, ![4, 8320, 8320]⟩
abbrev S4x8320x4x128 : Shape := ⟨4, ![4, 8320, 4, 128]⟩
abbrev S4x4x8320x128 : Shape := ⟨4, ![4, 4, 8320, 128]⟩
abbrev S4x4x8320x8320 : Shape := ⟨4, ![4, 4, 8320, 8320]⟩
abbrev S4x4 : Shape := ⟨2, ![4, 4]⟩
abbrev S4x4x1x1 : Shape := ⟨4, ![4, 4, 1, 1]⟩
abbrev S4x1x8320x8320 : Shape := ⟨4, ![4, 1, 8320, 8320]⟩
abbrev S4x4x8320x64 : Shape := ⟨4, ![4, 4, 8320, 64]⟩
abbrev S4x4x8320 : Shape := ⟨3, ![4, 4, 8320]⟩
abbrev S4x4x8320x1 : Shape := ⟨4, ![4, 4, 8320, 1]⟩
abbrev S4x8320x4x64 : Shape := ⟨4, ![4, 8320, 4, 64]⟩
abbrev S33280x256 : Shape := ⟨2, ![33280, 256]⟩
abbrev S33280 : Shape := ⟨1, ![33280]⟩
abbrev S33280x1 : Shape := ⟨2, ![33280, 1]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S52, .i32⟩
  | .hbm, ⟨1, _⟩ => ⟨S16, .f32⟩
  | .hbm, ⟨2, _⟩ => ⟨S33280x512, .bf16⟩
  | .hbm, ⟨3, _⟩ => ⟨S33280x512, .bf16⟩
  | .hbm, ⟨4, _⟩ => ⟨S33280x512, .bf16⟩
  | .hbm, ⟨5, _⟩ => ⟨S256, .f32⟩
  | .hbm, ⟨6, _⟩ => ⟨S8320, .i32⟩
  | .hbm, ⟨7, _⟩ => ⟨S4x13x1, .i32⟩
  | .hbm, ⟨8, _⟩ => ⟨S_, .i32⟩
  | .hbm, ⟨9, _⟩ => ⟨S4x13x1, .i32⟩
  | .hbm, ⟨10, _⟩ => ⟨S4x13x1, .i32⟩
  | .hbm, ⟨11, _⟩ => ⟨S4x13x640, .i32⟩
  | .hbm, ⟨12, _⟩ => ⟨S4x8320, .i32⟩
  | .hbm, ⟨13, _⟩ => ⟨S1x1x8320, .i32⟩
  | .hbm, ⟨14, _⟩ => ⟨S1x8320x1, .i32⟩
  | .hbm, ⟨15, _⟩ => ⟨S1x8320x8320, .i32⟩
  | .hbm, ⟨16, _⟩ => ⟨S1x8320x8320, .i32⟩
  | .hbm, ⟨17, _⟩ => ⟨S1x8320x8320, .i1⟩
  | .hbm, ⟨18, _⟩ => ⟨S1x1x8320, .i32⟩
  | .hbm, ⟨19, _⟩ => ⟨S4x8320x1, .i32⟩
  | .hbm, ⟨20, _⟩ => ⟨S4x8320x8320, .i32⟩
  | .hbm, ⟨21, _⟩ => ⟨S4x8320x8320, .i32⟩
  | .hbm, ⟨22, _⟩ => ⟨S4x8320x8320, .i1⟩
  | .hbm, ⟨23, _⟩ => ⟨S4x8320x8320, .i1⟩
  | .hbm, ⟨24, _⟩ => ⟨S4x8320x8320, .i1⟩
  | .hbm, ⟨25, _⟩ => ⟨S33280x512, .f32⟩
  | .hbm, ⟨26, _⟩ => ⟨S4x8320x4x128, .f32⟩
  | .hbm, ⟨27, _⟩ => ⟨S4x4x8320x128, .f32⟩
  | .hbm, ⟨28, _⟩ => ⟨S33280x512, .f32⟩
  | .hbm, ⟨29, _⟩ => ⟨S4x8320x4x128, .f32⟩
  | .hbm, ⟨30, _⟩ => ⟨S4x4x8320x128, .f32⟩
  | .hbm, ⟨31, _⟩ => ⟨S33280x512, .f32⟩
  | .hbm, ⟨32, _⟩ => ⟨S4x8320x4x128, .f32⟩
  | .hbm, ⟨33, _⟩ => ⟨S4x4x8320x128, .f32⟩
  | .hbm, ⟨34, _⟩ => ⟨S4x4x8320x8320, .f32⟩
  | .hbm, ⟨35, _⟩ => ⟨S4x4, .f32⟩
  | .hbm, ⟨36, _⟩ => ⟨S4x4x1x1, .f32⟩
  | .hbm, ⟨37, _⟩ => ⟨S4x4x8320x8320, .f32⟩
  | .hbm, ⟨38, _⟩ => ⟨S4x4x8320x8320, .f32⟩
  | .hbm, ⟨39, _⟩ => ⟨S4x1x8320x8320, .i1⟩
  | .hbm, ⟨40, _⟩ => ⟨S_, .f32⟩
  | .hbm, ⟨41, _⟩ => ⟨S4x4x8320x8320, .f32⟩
  | .hbm, ⟨42, _⟩ => ⟨S4x4x8320x8320, .f32⟩
  | .hbm, ⟨43, _⟩ => ⟨S_, .f32⟩
  | .hbm, ⟨44, _⟩ => ⟨S_, .f32⟩
  | .hbm, ⟨45, _⟩ => ⟨S4x4x8320x8320, .i1⟩
  | .hbm, ⟨46, _⟩ => ⟨S4x4x8320x8320, .f32⟩
  | .hbm, ⟨47, _⟩ => ⟨S4x4x8320x8320, .f32⟩
  | .hbm, ⟨48, _⟩ => ⟨S4x4x8320x64, .f32⟩
  | .hbm, ⟨49, _⟩ => ⟨S4x4x8320x64, .f32⟩
  | .hbm, ⟨50, _⟩ => ⟨S_, .f32⟩
  | .hbm, ⟨51, _⟩ => ⟨S4x4x8320, .f32⟩
  | .hbm, ⟨52, _⟩ => ⟨S4x4x8320x1, .f32⟩
  | .hbm, ⟨53, _⟩ => ⟨S4x4x8320x64, .f32⟩
  | .hbm, ⟨54, _⟩ => ⟨S4x4x8320x64, .f32⟩
  | .hbm, ⟨55, _⟩ => ⟨S4x8320x4x64, .f32⟩
  | .hbm, ⟨56, _⟩ => ⟨S33280x256, .f32⟩
  | .hbm, ⟨57, _⟩ => ⟨S33280x256, .f32⟩
  | .hbm, ⟨58, _⟩ => ⟨S_, .f32⟩
  | .hbm, ⟨59, _⟩ => ⟨S33280, .f32⟩
  | .hbm, ⟨60, _⟩ => ⟨S33280x1, .f32⟩
  | .hbm, ⟨61, _⟩ => ⟨S_, .f32⟩
  | .hbm, ⟨62, _⟩ => ⟨S33280x1, .f32⟩
  | .hbm, ⟨63, _⟩ => ⟨S33280x1, .f32⟩
  | .hbm, ⟨64, _⟩ => ⟨S_, .f32⟩
  | .hbm, ⟨65, _⟩ => ⟨S33280x1, .f32⟩
  | .hbm, ⟨66, _⟩ => ⟨S33280x1, .f32⟩
  | .hbm, ⟨67, _⟩ => ⟨S33280x1, .f32⟩
  | .hbm, ⟨68, _⟩ => ⟨S33280x256, .f32⟩
  | .hbm, ⟨69, _⟩ => ⟨S33280x256, .f32⟩
  | .hbm, ⟨70, _⟩ => ⟨S1x256, .f32⟩
  | .hbm, ⟨71, _⟩ => ⟨S33280x256, .f32⟩
  | .hbm, ⟨72, _⟩ => ⟨S33280x256, .f32⟩
  | .hbm, ⟨73, _⟩ => ⟨S33280x256, .bf16⟩
  | _, _ => ⟨S52, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.Body.lean ====
/- The body of `moe_combine` at one grid point: what it finds, what it leaves. Untrusted. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Batch
public import Idealize.ShloMosaic.Lib.Ring
public import Idealize.ShloMosaic.Lib.Exec
public import Idealize.ShloMosaic.Lib.Tactic
public import Idealize.ShloMosaic.Lib.Pipeline.Frame
public import Idealize.ShloMosaic.Lib.Pipeline.Value
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.Sem Idealize.SL.ProofMode
open Cert.KernelIdeal.Gen
open Cert.KernelIdeal.Facts₀ Cert.KernelIdeal.Facts

variable {F : FTy → Type} [FloatOps F]

local notation "𝕄" => MT nD τ sig Unit (Elt F) ℕ (UD sig nD τ) ℕ

/-! ## Closed forms of the offsets -/

/-- The number of rows of a tile: the trips of the issuing loop. -/
abbrev T : ℕ := k0_t1_loop.trips

theorem T_eq : T = 512 := by decide

/-- The first row of the input tile at a grid point. -/
def row0 (i : grid0.Coords) : ℕ := (i 0).val * 8320 + 16 + (i 1).val * 512

theorem row_lt (i : grid0.Coords) (k : Fin T) : row0 i + k.val < 33280 := by
  have h0 : (i 0).val < 4 := (i 0).isLt
  have h1 : (i 1).val < 16 := (i 1).isLt
  have hk : k.val < 512 := T_eq ▸ k.isLt
  unfold row0; omega

theorem off1_eq (i : grid0.Coords) (k : Fin T) : k0_off1 i k = ![row0 i + k.val] := by
  have h0 : (i 0).val < 4 := (i 0).isLt
  have h1 : (i 1).val < 16 := (i 1).isLt
  have hk : k.val < 512 := T_eq ▸ k.isLt
  unfold k0_off1 row0
  simp only [Scalar.muli, Scalar.addi, Scalar.indexCast, Scf.iv, IntOp.addi, IntOp.muli]
  congr 1
  simp [BitVec.toNat_add, BitVec.toNat_mul, BitVec.toNat_ofNat]
  omega
theorem off4_eq (i : grid0.Coords) (k : Fin T) : k0_off4 i k = ![row0 i + k.val] := off1_eq i k
theorem off2_eq (k : Fin T) : k0_off2 k = ![k.val, 0] := by
  have hk : k.val < 512 := T_eq ▸ k.isLt
  unfold k0_off2
  simp only [Scf.iv, IntOp.addi, IntOp.muli]
  congr 1
  simp [BitVec.toNat_add, BitVec.toNat_mul, BitVec.toNat_ofNat]
  omega

theorem off5_eq (k : Fin T) : k0_off5 k = ![k.val, 0] := off2_eq k

/-! ## The rows and the words that name them -/

/-- The row of the tables that tile row `k` at grid point `i` reads (total in `k`). -/
def tok (i : grid0.Coords) (k : ℕ) : S33280.Idx :=
  fun a => ⟨(row0 i + k) % S33280.size a, Nat.mod_lt _ (by fin_cases a; decide)⟩

/-- Row `r` and lane `j` of the expert rows (total in `r`). -/
def rowIdx (r : ℕ) (j : Fin 1024) : S70656x1024.Idx
  | 0 => ⟨r % 70656, Nat.mod_lt _ (by decide)⟩
  | 1 => j

/-- A word below the number of slots names a row. -/
theorem chk_of_lt {w : BitVec 32} (h : w.toNat < 70656) : k0_chk1 w := by
  intro a; fin_cases a
  · show w.toNat + 1 ≤ 70656; omega
  · show 0 + 1024 ≤ 1024; omega

/-- What the two scratch buffers hold once gathered: row `k` is the row of `ys` that the table names. -/
def gath (i : grid0.Coords) (tb : S33280.Idx → BitVec 32) (ys : S70656x1024.Idx → Elt F .f32) : S512x1024.Idx → Elt F .f32 :=
  fun y => ys (rowIdx (tb (tok i (y 0).val)).toNat (y 1))

/-- Row `k` of the first and of the second scratch buffer; the row of `ys` a word names. -/
def dst0 (k : Fin T) : Memref sig .tc .vmem S1x1024 .f32 :=
  (Memref.whole cc0_scratch0).slice (Rect.unit (s := S512x1024) (k0_off2 k) S1x1024.size (Facts₀.k0_off2_inb k)) (fun _ => rfl)
def dst1 (k : Fin T) : Memref sig .tc .vmem S1x1024 .f32 :=
  (Memref.whole cc0_scratch1).slice (Rect.unit (s := S512x1024) (k0_off5 k) S1x1024.size (Facts₀.k0_off5_inb k)) (fun _ => rfl)
def src (w : BitVec 32) (h : w.toNat < 70656) : Memref sig .tc .hbm S1x1024 .f32 :=
  (Memref.whole main_arg4).slice (Rect.unit (s := S70656x1024) (k0_off3 w) S1x1024.size (k0_off3_inb w (chk_of_lt h))) (fun _ => rfl)

section Defs

variable (c : Dev nD) (i : grid0.Coords) (tb1 tb2 : S33280.Idx → BitVec 32)
  (hb1 : ∀ x, (tb1 x).toNat < 70656) (hb2 : ∀ x, (tb2 x).toNat < 70656)
  (ys : S70656x1024.Idx → Elt F .f32) (f0 f1 : S512x1024.Idx → Elt F .f32)

/-- Row `k` of a scratch buffer, held at contents `f`. -/
abbrev row0At (f : S512x1024.Idx → Elt F .f32) (k : Fin T) : sProp 𝕄 :=
  (dst0 k).view.loc (c : Thread nD τ) ↦[(dst0 k).view.set]{fullShare} f
abbrev row1At (f : S512x1024.Idx → Elt F .f32) (k : Fin T) : sProp 𝕄 :=
  (dst1 k).view.loc (c : Thread nD τ) ↦[(dst1 k).view.set]{fullShare} f
/-- Read token `t` of `ys`: whole, the row a word names, and all but that row. -/
abbrev ysTok (t : ℕ) : sProp 𝕄 := (Memref.whole main_arg4).view.loc (c : Thread nD τ) ↦[Finset.univ]{Transfers.shareTokN fullShare t} ys
abbrev ysRow (w : BitVec 32) (h : w.toNat < 70656) (t : ℕ) : sProp 𝕄 :=
  (src w h).view.loc (c : Thread nD τ) ↦[(src w h).view.set]{Transfers.shareTokN fullShare t} ys
abbrev ysRest (w : BitVec 32) (h : w.toNat < 70656) (t : ℕ) : sProp 𝕄 :=
  (src w h).view.loc (c : Thread nD τ) ↦[Finset.univ \ (src w h).view.set]{Transfers.shareTokN fullShare t} ys

/-- One row's credit on the semaphore. -/
def NN : ℕ := cc0_scratch0.dmaCredit S1x1024 .f32

theorem NN_pos : 0 < NN := by decide
theorem amount0 (k : Fin T) : (dst0 k).view.amount (.dma cc0_scratch2.sem) = NN := rfl
theorem amount1 (k : Fin T) : (dst1 k).view.amount (.dma cc0_scratch2.sem) = NN := rfl

/-- What transfer `2k` (`2k + 1`) delivers: row `k` of the first (second) scratch buffer gathered, its read token back. -/
def dA (k : ℕ) : sProp 𝕄 :=
  iprop((if h : k < T then row0At c (gath i tb1 ys) ⟨k, h⟩ else emp) ∗ ysRow c ys (tb1 (tok i k)) (hb1 _) (2 * k))
def dB (k : ℕ) : sProp 𝕄 :=
  iprop((if h : k < T then row1At c (gath i tb2 ys) ⟨k, h⟩ else emp) ∗ ysRow c ys (tb2 (tok i k)) (hb2 _) (2 * k + 1))

theorem storable_at (ℓ : Loc nD τ sig) (I : Finset (Idx ℓ)) (q : PosShare TreeShare) (f : Buf (Elt F) ℓ) :
    BI.Storable (upEmb : UEmb _ 𝕄) (ℓ ↦[I]{q} f : sProp 𝕄) := inferInstance

instance dA_storable (k : ℕ) : BI.Storable (upEmb : UEmb _ 𝕄) (dA c i tb1 hb1 ys k) := by
  have h2 : BI.Storable (upEmb : UEmb _ 𝕄) (ysRow c ys (tb1 (tok i k)) (hb1 _) (2 * k)) := storable_at _ _ _ _
  unfold dA; split
  · have h1 : ∀ h, BI.Storable (upEmb : UEmb _ 𝕄) (row0At c (gath i tb1 ys) ⟨k, h⟩) := fun h => storable_at _ _ _ _
    have := h1 ‹_›; infer_instance
  · infer_instance
instance dB_storable (k : ℕ) : BI.Storable (upEmb : UEmb _ 𝕄) (dB c i tb2 hb2 ys k) := by
  have h2 : BI.Storable (upEmb : UEmb _ 𝕄) (ysRow c ys (tb2 (tok i k)) (hb2 _) (2 * k + 1)) := storable_at _ _ _ _
  unfold dB; split
  · have h1 : ∀ h, BI.Storable (upEmb : UEmb _ 𝕄) (row1At c (gath i tb2 ys) ⟨k, h⟩) := fun h => storable_at _ _ _ _
    have := h1 ‹_›; infer_instance
  · infer_instance

abbrev dD : Fin (2 * T) → sProp 𝕄 := Ring.interleaved T (dA c i tb1 hb1 ys) (dB c i tb2 hb2 ys)

/-- The batch on the semaphore: `2T` transfers, `j` issued, `u` units consumed. -/
abbrev batch (j u : ℕ) : sProp 𝕄 :=
  Transfers.Batch (countersEmb (U := UD sig nD τ)) (c : Thread nD τ) (.dma cc0_scratch2.sem) () NN (dD c i tb1 tb2 hb1 hb2 ys) j u

/-! ## A transferred row is the gathered row -/

/-- An index of row `k` of a scratch buffer, placed. -/
theorem emb0 (k : Fin T) (y : S1x1024.Idx) :
    ∃ z : S512x1024.Idx, (dst0 k).view.emb y = z ∧ (z 0).val = k.val ∧ (z 1).val = (y 1).val := by
  have hy : (y 0).val < 1 := (y 0).isLt
  refine ⟨(dst0 k).view.emb y, rfl, ?_, ?_⟩
  · refine (ValueKit.view_emb_slice_whole_unit_val cc0_scratch0 _ _ _ y 0).trans ?_
    have e : k0_off2 k 0 = k.val := congrFun (off2_eq k) 0
    show k0_off2 k 0 + (y 0).val = k.val; omega
  · refine (ValueKit.view_emb_slice_whole_unit_val cc0_scratch0 _ _ _ y 1).trans ?_
    have e : k0_off2 k 1 = 0 := congrFun (off2_eq k) 1
    show k0_off2 k 1 + (y 1).val = (y 1).val; omega

theorem deliver0 (tb : S33280.Idx → BitVec 32) (k : Fin T) (w : BitVec 32) (h : w.toNat < 70656) (e : w = tb (tok i k.val)) :
    (row0At c ((dst0 k).view.write (Elt F) f0 ((src w h).view.read (Elt F) ys) Finset.univ) k : sProp 𝕄) = row0At c (gath i tb ys) k := by
  refine pointsTo_congr fun x hx => ?_
  obtain ⟨y, rfl⟩ := View.exists_emb_of_mem_set _ hx
  refine (View.write_emb_of_mem _ _ (Finset.mem_univ y)).trans ?_
  obtain ⟨z, hz, h0, h1⟩ := emb0 k y
  rw [hz]
  subst e
  have hy : (y 0).val < 1 := (y 0).isLt
  refine congrArg ys (funext fun a => Fin.ext ?_)
  refine (ValueKit.view_emb_slice_whole_unit_val main_arg4 _ _ _ y a).trans ?_
  fin_cases a
  · show (tb (tok i k.val)).toNat + (y 0).val = (tb (tok i (z 0).val)).toNat % 70656
    rw [h0, Nat.mod_eq_of_lt h]; omega
  · show 0 + (y 1).val = (z 1).val
    rw [h1]; omega

/-- An index of row `k` of a scratch buffer, placed. -/
theorem emb1 (k : Fin T) (y : S1x1024.Idx) :
    ∃ z : S512x1024.Idx, (dst1 k).view.emb y = z ∧ (z 0).val = k.val ∧ (z 1).val = (y 1).val := by
  have hy : (y 0).val < 1 := (y 0).isLt
  refine ⟨(dst1 k).view.emb y, rfl, ?_, ?_⟩
  · refine (ValueKit.view_emb_slice_whole_unit_val cc0_scratch1 _ _ _ y 0).trans ?_
    have e : k0_off5 k 0 = k.val := congrFun (off5_eq k) 0
    show k0_off5 k 0 + (y 0).val = k.val; omega
  · refine (ValueKit.view_emb_slice_whole_unit_val cc0_scratch1 _ _ _ y 1).trans ?_
    have e : k0_off5 k 1 = 0 := congrFun (off5_eq k) 1
    show k0_off5 k 1 + (y 1).val = (y 1).val; omega

theorem deliver1 (tb : S33280.Idx → BitVec 32) (k : Fin T) (w : BitVec 32) (h : w.toNat < 70656) (e : w = tb (tok i k.val)) :
    (row1At c ((dst1 k).view.write (Elt F) f0 ((src w h).view.read (Elt F) ys) Finset.univ) k : sProp 𝕄) = row1At c (gath i tb ys) k := by
  refine pointsTo_congr fun x hx => ?_
  obtain ⟨y, rfl⟩ := View.exists_emb_of_mem_set _ hx
  refine (View.write_emb_of_mem _ _ (Finset.mem_univ y)).trans ?_
  obtain ⟨z, hz, h0, h1⟩ := emb1 k y
  rw [hz]
  subst e
  have hy : (y 0).val < 1 := (y 0).isLt
  refine congrArg ys (funext fun a => Fin.ext ?_)
  refine (ValueKit.view_emb_slice_whole_unit_val main_arg4 _ _ _ y a).trans ?_
  fin_cases a
  · show (tb (tok i k.val)).toNat + (y 0).val = (tb (tok i (z 0).val)).toNat % 70656
    rw [h0, Nat.mod_eq_of_lt h]; omega
  · show 0 + (y 1).val = (z 1).val
    rw [h1]; omega

theorem deliverA (k : Fin T) :
    iprop(row0At c ((dst0 k).view.write (Elt F) f0 ((src (tb1 (tok i k.val)) (hb1 _)).view.read (Elt F) ys) Finset.univ) k
      ∗ ysRow c ys (tb1 (tok i k.val)) (hb1 _) (2 * k.val)) ⊢ (dD c i tb1 tb2 hb1 hb2 ys ⟨2 * k.val, by have := k.isLt; omega⟩ : sProp 𝕄) := by
  refine (sep_mono (Entails.of_eq (deliver0 c i ys f0 tb1 k _ (hb1 _) rfl)) Entails.rfl).trans (Entails.of_eq ?_)
  unfold dD; rw [Ring.interleaved_even]; unfold dA; rw [dif_pos k.isLt]

theorem deliverB (k : Fin T) :
    iprop(row1At c ((dst1 k).view.write (Elt F) f0 ((src (tb2 (tok i k.val)) (hb2 _)).view.read (Elt F) ys) Finset.univ) k
      ∗ ysRow c ys (tb2 (tok i k.val)) (hb2 _) (2 * k.val + 1)) ⊢ (dD c i tb1 tb2 hb1 hb2 ys ⟨2 * k.val + 1, by have := k.isLt; omega⟩ : sProp 𝕄) := by
  refine (sep_mono (Entails.of_eq (deliver1 c i ys f0 tb2 k _ (hb2 _) rfl)) Entails.rfl).trans (Entails.of_eq ?_)
  unfold dD; rw [Ring.interleaved_odd]; unfold dB; rw [dif_pos k.isLt]

end Defs

/-! ## The issuing loop -/

section Issue

variable {𝒱₀ : Variants} (c : Dev nD) (i : grid0.Coords) (tb1 tb2 : S33280.Idx → BitVec 32)
  (hb1 : ∀ x, (tb1 x).toNat < 70656) (hb2 : ∀ x, (tb2 x).toNat < 70656)
  (ys : S70656x1024.Idx → Elt F .f32) (f0 f1 : S512x1024.Idx → Elt F .f32)
  (arg4 : Memref sig .tc .vmem S512x1024 .f32) (harg4 : arg4.IsWhole) (arg5 : Memref sig .tc .vmem S512x128 .f32) (harg5 : arg5.IsWhole)
  (arg7 : Memref sig .tc .vmem S512x1024 .f32) (harg7 : arg7.IsWhole)

/-- Before trip `k`: `2k` transfers issued; the rows from `k` on and the tokens from `2k` on in hand, and of the tokens
    used what their transfers did not take. -/
def issueAt (k : ℕ) (_ : Unit) : sProp 𝕄 :=
  iprop(batch c i tb1 tb2 hb1 hb2 ys (2 * k) 0
    ∗ bigSep (Ring.rangeSet T k T) (row0At c f0) ∗ bigSep (Ring.rangeSet T k T) (row1At c f1)
    ∗ bigSep (Ring.rangeSet (2 * T) (2 * k) (2 * T)) (fun t => ysTok c ys t.val)
    ∗ bigSep (Finset.range k) (fun j => ysRest c ys (tb1 (tok i j)) (hb1 _) (2 * j))
    ∗ bigSep (Finset.range k) (fun j => ysRest c ys (tb2 (tok i j)) (hb2 _) (2 * j + 1))
    ∗ ((Memref.whole main_arg0).view.loc (c : Thread nD τ) ↦{fullShare.right} tb1)
    ∗ ((Memref.whole main_arg1).view.loc (c : Thread nD τ) ↦{fullShare.right} tb2))

abbrev body1 := k0_t1_body (F := F) i (Memref.whole main_arg0) (Memref.isWhole_whole _) (Memref.whole main_arg1) (Memref.isWhole_whole _)
  arg4 harg4 arg5 harg5 (Memref.whole main_arg4) (Memref.isWhole_whole _) arg7 harg7 (Memref.whole cc0_scratch0) (Memref.isWhole_whole _)
  (Memref.whole cc0_scratch1) (Memref.isWhole_whole _) cc0_scratch2

theorem range_last (k : ℕ) (Φ : ℕ → sProp 𝕄) :
    bigSep (Finset.range (k + 1)) Φ = iprop(Φ k ∗ bigSep (Finset.range k) Φ) := by
  rw [Finset.range_add_one, bigSep_insert Finset.notMem_range_self]; rfl

/-- A value handed on: the program continues at it. -/
theorem ret_bind {α β : Type} {E : Set ℕ} {Q : β → sProp 𝕄} (a : α)
    (k : α → Prog (TpuEff nD τ sig (Elt F) Λ₀ .tc) β) :
    wp frame (wpE defs₀ 𝒱₀ (c : Thread nD τ) none) E (k a) Q
      ⊢ wp frame (wpE defs₀ 𝒱₀ (c : Thread nD τ) none) E ((Prog.ret a).bind k) Q := Entails.rfl

/-- The word the loop reads at trip `k`. -/
theorem read_tok (i : grid0.Coords) (tb : S33280.Idx → BitVec 32) (k : Fin T) (x : S1.Idx) :
    tb ((Rect.unit (s := S33280) (k0_off1 i k) S1.size (Facts₀.k0_off1_inb i k)).emb x) = tb (tok i k.val) := by
  refine congrArg tb (funext fun a => Fin.ext ?_)
  refine (ValueKit.rect_emb_unit_val _ _ _ x a).trans ?_
  have e := congrFun (off1_eq i k) a
  have hr := row_lt i k
  fin_cases a
  have hx : (x 0).val < 1 := (x 0).isLt
  have e' : k0_off1 i k 0 = row0 i + k.val := e
  show k0_off1 i k 0 + (x 0).val = (row0 i + k.val) % 33280
  rw [Nat.mod_eq_of_lt hr]; omega

set_option maxHeartbeats 400000 in
theorem issue_step [∀ e, Nonempty (Elt F e)] (k : Fin T) (acc : Unit) :
    issueAt c i tb1 tb2 hb1 hb2 ys f0 f1 k acc ⊢ wp frame (wpE defs₀ 𝒱₀ (c : Thread nD τ) none) Set.univ
      (body1 i arg4 harg4 arg5 harg5 arg7 harg7 k acc) (issueAt c i tb1 tb2 hb1 hb2 ys f0 f1 (k.val + 1)) := by
  have hk := k.isLt
  unfold issueAt
  rw [Ring.bigSep_rangeSet_head (Φ := row0At c f0) (by omega) (by omega), Ring.bigSep_rangeSet_head (Φ := row1At c f1) (by omega) (by omega),
    Ring.bigSep_rangeSet_head (Φ := fun t => ysTok c ys t.val) (lo := 2 * k.val) (by omega) (by omega),
    Ring.bigSep_rangeSet_head (Φ := fun t => ysTok c ys t.val) (lo := 2 * k.val + 1) (by omega) (by omega),
    show 2 * (k.val + 1) = 2 * k.val + 1 + 1 by omega]
  iintro ⟨HB, ⟨H0, H0s⟩, ⟨H1, H1s⟩, ⟨Ht0, Ht1, Hts⟩, HR0, HR1, HT1, HT2⟩
  unfold body1 k0_t1_body
  sl_exec
  have hr : issue_step.sl.r (F := F) i tb1 k = tb1 (tok i k.val) := by
    unfold issue_step.sl.r
    exact read_tok i tb1 k _
  generalize issue_step.sl.r (F := F) i tb1 k = w at hr ⊢
  subst hr
  iapply (wp_assume _ _ _ _ (chk_of_lt (hb1 _)))
  ihave Hs := (pointsTo_split_subset (Finset.subset_univ (src (tb1 (tok i k.val)) (hb1 _)).view.set)).1 $$ Ht0
  icases Hs with ⟨Hs, Hr⟩
  iapply (Transfers.wp_dmaBatch (countersEmb (U := UD sig nD τ)) 𝒱₀ (c : Thread nD τ) none (src := src (tb1 (tok i k.val)) (hb1 _)) (dst := dst0 k)
    (j := 2 * k.val) (u := 0) () NN (amount0 k) le_rfl (by omega) (Nat.zero_le _) (D := dD c i tb1 tb2 hb1 hb2 ys) (Sd := (dst0 k).view.set)
    (q := Transfers.shareTokN fullShare (2 * k.val)) (via := .same) (fs := ys) (fd := f0)
    (deliverA c i tb1 tb2 hb1 hb2 ys f0 k)) $$ [Hs H0 HB]
  · isplitl [Hs]; · iexact Hs
    isplitl [H0]; · iexact H0
    iexact HB
  iintro HB
  iapply (ret_bind _ _)
  sl_exec
  have hr : issue_step.sl.r_1 (F := F) i tb2 k = tb2 (tok i k.val) := by
    unfold issue_step.sl.r_1
    exact read_tok i tb2 k _
  generalize issue_step.sl.r_1 (F := F) i tb2 k = w at hr ⊢
  subst hr
  iapply (wp_assume _ _ _ _ (chk_of_lt (hb2 _)))
  ihave Hs := (pointsTo_split_subset (Finset.subset_univ (src (tb2 (tok i k.val)) (hb2 _)).view.set)).1 $$ Ht1
  icases Hs with ⟨Hs, Hr'⟩
  iapply (Transfers.wp_dmaBatch (countersEmb (U := UD sig nD τ)) 𝒱₀ (c : Thread nD τ) none (src := src (tb2 (tok i k.val)) (hb2 _)) (dst := dst1 k)
    (j := 2 * k.val + 1) (u := 0) () NN (amount1 k) le_rfl (by omega) (Nat.zero_le _) (D := dD c i tb1 tb2 hb1 hb2 ys) (Sd := (dst1 k).view.set)
    (q := Transfers.shareTokN fullShare (2 * k.val + 1)) (via := .same) (fs := ys) (fd := f1)
    (deliverB c i tb1 tb2 hb1 hb2 ys f1 k)) $$ [Hs H1 HB]
  · isplitl [Hs]; · iexact Hs
    isplitl [H1]; · iexact H1
    iexact HB
  iintro HB
  iapply (ret_bind _ _)
  sl_step
  rw [range_last, range_last]
  isplitl [HB]; · iexact HB
  isplitl [H0s]; · iexact H0s
  isplitl [H1s]; · iexact H1s
  isplitl [Hts]; · iexact Hts
  isplitl [Hr HR0]
  · isplitl [Hr]; · iexact Hr
    iexact HR0
  isplitl [Hr' HR1]
  · isplitl [Hr']; · iexact Hr'
    iexact HR1
  isplitl [HT1] <;> iassumption

end Issue

/-! ## The draining loop -/

section Drain

variable {𝒱₀ : Variants} (c : Dev nD) (i : grid0.Coords) (tb1 tb2 : S33280.Idx → BitVec 32)
  (hb1 : ∀ x, (tb1 x).toNat < 70656) (hb2 : ∀ x, (tb2 x).toNat < 70656)
  (ys : S70656x1024.Idx → Elt F .f32)
  (arg4 : Memref sig .tc .vmem S512x1024 .f32) (harg4 : arg4.IsWhole) (arg5 : Memref sig .tc .vmem S512x128 .f32) (harg5 : arg5.IsWhole)
  (arg7 : Memref sig .tc .vmem S512x1024 .f32) (harg7 : arg7.IsWhole)

/-- Before trip `k`: every transfer issued, `2k` of them waited for. -/
def drainAt (k : ℕ) (_ : Unit) : sProp 𝕄 :=
  iprop(batch c i tb1 tb2 hb1 hb2 ys (2 * T) (2 * k * NN) ∗ (∃ W, owes (c : Thread nD τ) 0 W))

abbrev body2 := k0_t2_body (F := F) i (Memref.whole main_arg0) (Memref.isWhole_whole _) (Memref.whole main_arg1) (Memref.isWhole_whole _)
  arg4 harg4 arg5 harg5 (Memref.whole main_arg4) (Memref.isWhole_whole _) arg7 harg7 (Memref.whole cc0_scratch0) (Memref.isWhole_whole _)
  (Memref.whole cc0_scratch1) (Memref.isWhole_whole _) cc0_scratch2

theorem units_le {a b N : ℕ} (h : a + 1 ≤ b) : a * N + 1 * N ≤ N * b := by
  rw [← Nat.add_mul, Nat.mul_comm N]; exact Nat.mul_le_mul_right _ h

theorem drain_step [∀ e, Nonempty (Elt F e)] (k : Fin T) (acc : Unit) :
    drainAt c i tb1 tb2 hb1 hb2 ys k acc ⊢ wp frame (wpE defs₀ 𝒱₀ (c : Thread nD τ) none) Set.univ
      (body2 i arg4 harg4 arg5 harg5 arg7 harg7 k acc) (drainAt c i tb1 tb2 hb1 hb2 ys (k.val + 1)) := by
  have hk := k.isLt
  unfold drainAt
  iintro ⟨HB, ⟨%W, HO⟩⟩
  unfold body2 k0_t2_body
  iapply (Transfers.wp_waitBatchMul (countersEmb (U := UD sig nD τ)) 𝒱₀ (c : Thread nD τ) none () 1 (N := NN)
    (by rw [Nat.one_mul]; exact amount0 ⟨k.val, hk⟩) (D := dD c i tb1 tb2 hb1 hb2 ys) (j := 2 * T) (u := 2 * k.val * NN)
    (units_le (by omega))) $$ [HB HO]
  · isplitl [HB] <;> iassumption
  iintro ⟨HB, HO⟩
  iapply (ret_bind _ _)
  iapply (Transfers.wp_waitBatchMul (countersEmb (U := UD sig nD τ)) 𝒱₀ (c : Thread nD τ) none () 1 (N := NN)
    (by rw [Nat.one_mul]; exact amount1 ⟨k.val, hk⟩) (D := dD c i tb1 tb2 hb1 hb2 ys) (j := 2 * T) (u := 2 * k.val * NN + 1 * NN)
    (by rw [← Nat.add_mul]; exact units_le (by omega))) $$ [HB HO]
  · isplitl [HB] <;> iassumption
  iintro ⟨HB, HO⟩
  iapply (ret_bind _ _)
  sl_step
  isplitl [HB]
  · rw [show 2 * (k.val + 1) * NN = 2 * k.val * NN + 1 * NN + 1 * NN by rw [← Nat.add_mul, ← Nat.add_mul]; congr 1]
    iexact HB
  iexists _; iexact HO

end Drain

/-! ## The scratch buffers by rows; the deliveries joined -/

/-- The row of an index. -/
def row_of (x : S512x1024.Idx) : Fin 512 := x 0

theorem dst0_mem (k : Fin T) (x : S512x1024.Idx) : x ∈ (dst0 k).view.set ↔ (x 0).val = k.val := by
  have e0 : k0_off2 k 0 = k.val := congrFun (off2_eq k) 0
  have e1 : k0_off2 k 1 = 0 := congrFun (off2_eq k) 1
  have hx : (x 1).val < 1024 := (x 1).isLt
  refine ValueKit.mem_set_slice_whole_iff cc0_scratch0 _ x (Rect.mem_set_unit.trans ⟨fun h => ?_, fun h => ?_⟩)
  · have h0 := h 0
    have h1 : k0_off2 k 0 ≤ (x 0).val := h0.1
    have h2 : (x 0).val < k0_off2 k 0 + 1 := h0.2
    omega
  · intro a; fin_cases a
    · show k0_off2 k 0 ≤ (x 0).val ∧ (x 0).val < k0_off2 k 0 + 1
      omega
    · show k0_off2 k 1 ≤ (x 1).val ∧ (x 1).val < k0_off2 k 1 + 1024
      omega

/-- A scratch buffer held whole is held row by row. -/
theorem rows0 (c : Dev nD) (f : S512x1024.Idx → Elt F .f32) :
    ((Memref.whole cc0_scratch0).view.loc (c : Thread nD τ) ↦{fullShare} f : sProp 𝕄) = bigSep Finset.univ (row0At c f) := by
  refine Ring.pointsTo_blocks (ℓ := (Memref.whole cc0_scratch0).view.loc (c : Thread nD τ)) (fun k : Fin T => (dst0 k).view.set) (fun b b' h => ?_) ?_ f
  · refine Finset.disjoint_left.mpr fun x hx hx' => h (Fin.ext ?_)
    exact ((dst0_mem b x).mp hx).symm.trans ((dst0_mem b' x).mp hx')
  · refine Finset.eq_univ_iff_forall.mpr fun x => Finset.mem_biUnion.mpr ?_
    exact ⟨⟨(row_of x).val, lt_of_lt_of_eq (row_of x).isLt T_eq.symm⟩, Finset.mem_univ _, (dst0_mem _ x).mpr rfl⟩

theorem dst1_mem (k : Fin T) (x : S512x1024.Idx) : x ∈ (dst1 k).view.set ↔ (x 0).val = k.val := by
  have e0 : k0_off5 k 0 = k.val := congrFun (off5_eq k) 0
  have e1 : k0_off5 k 1 = 0 := congrFun (off5_eq k) 1
  have hx : (x 1).val < 1024 := (x 1).isLt
  refine ValueKit.mem_set_slice_whole_iff cc0_scratch1 _ x (Rect.mem_set_unit.trans ⟨fun h => ?_, fun h => ?_⟩)
  · have h0 := h 0
    have h1 : k0_off5 k 0 ≤ (x 0).val := h0.1
    have h2 : (x 0).val < k0_off5 k 0 + 1 := h0.2
    omega
  · intro a; fin_cases a
    · show k0_off5 k 0 ≤ (x 0).val ∧ (x 0).val < k0_off5 k 0 + 1
      omega
    · show k0_off5 k 1 ≤ (x 1).val ∧ (x 1).val < k0_off5 k 1 + 1024
      omega

/-- A scratch buffer held whole is held row by row. -/
theorem rows1 (c : Dev nD) (f : S512x1024.Idx → Elt F .f32) :
    ((Memref.whole cc0_scratch1).view.loc (c : Thread nD τ) ↦{fullShare} f : sProp 𝕄) = bigSep Finset.univ (row1At c f) := by
  refine Ring.pointsTo_blocks (ℓ := (Memref.whole cc0_scratch1).view.loc (c : Thread nD τ)) (fun k : Fin T => (dst1 k).view.set) (fun b b' h => ?_) ?_ f
  · refine Finset.disjoint_left.mpr fun x hx hx' => h (Fin.ext ?_)
    exact ((dst1_mem b x).mp hx).symm.trans ((dst1_mem b' x).mp hx')
  · refine Finset.eq_univ_iff_forall.mpr fun x => Finset.mem_biUnion.mpr ?_
    exact ⟨⟨(row_of x).val, lt_of_lt_of_eq (row_of x).isLt T_eq.symm⟩, Finset.mem_univ _, (dst1_mem _ x).mpr rfl⟩

section Collect

variable (c : Dev nD) (i : grid0.Coords) (tb : S33280.Idx → BitVec 32) (hb : ∀ x, (tb x).toNat < 70656) (ys : S70656x1024.Idx → Elt F .f32)

theorem collectA :
    iprop(bigSep (Finset.range T) (dA c i tb hb ys) ∗ bigSep (Finset.range T) (fun j => ysRest c ys (tb (tok i j)) (hb _) (2 * j)))
      ⊢ (iprop(((Memref.whole cc0_scratch0).view.loc (c : Thread nD τ) ↦{fullShare} gath i tb ys)
        ∗ bigSep (Finset.range T) (fun j => ysTok c ys (2 * j))) : sProp 𝕄) := by
  iintro ⟨HD, HR⟩
  ihave HD := (show bigSep (Finset.range T) (dA c i tb hb ys)
      ⊢ iprop(bigSep (Finset.range T) (fun k => (if h : k < T then row0At c (gath i tb ys) ⟨k, h⟩ else emp : sProp 𝕄))
        ∗ bigSep (Finset.range T) (fun k => ysRow c ys (tb (tok i k)) (hb _) (2 * k)))
    from Entails.of_eq (BI.bigSep_sep _ _ _)) $$ HD
  icases HD with ⟨HD, HS⟩
  isplitl [HD]
  · rw [rows0, Ring.bigSep_fin_eq_range T _ (fun k => (if h : k < T then row0At c (gath i tb ys) ⟨k, h⟩ else emp : sProp 𝕄)) (fun k h => dif_pos h)]
    iexact HD
  · iapply (show iprop(bigSep (Finset.range T) (fun k => ysRow c ys (tb (tok i k)) (hb _) (2 * k))
        ∗ bigSep (Finset.range T) (fun j => ysRest c ys (tb (tok i j)) (hb _) (2 * j))) ⊢ bigSep (Finset.range T) (fun j => ysTok c ys (2 * j))
      from (Entails.of_eq (BI.bigSep_sep _ _ _).symm).trans (BI.bigSep_mono fun j _ =>
        (pointsTo_split_subset (Finset.subset_univ (src (tb (tok i j)) (hb _)).view.set)).2)) $$ [HS HR]
    isplitl [HS] <;> iassumption

theorem collectB :
    iprop(bigSep (Finset.range T) (dB c i tb hb ys) ∗ bigSep (Finset.range T) (fun j => ysRest c ys (tb (tok i j)) (hb _) (2 * j + 1)))
      ⊢ (iprop(((Memref.whole cc0_scratch1).view.loc (c : Thread nD τ) ↦{fullShare} gath i tb ys)
        ∗ bigSep (Finset.range T) (fun j => ysTok c ys (2 * j + 1))) : sProp 𝕄) := by
  iintro ⟨HD, HR⟩
  ihave HD := (show bigSep (Finset.range T) (dB c i tb hb ys)
      ⊢ iprop(bigSep (Finset.range T) (fun k => (if h : k < T then row1At c (gath i tb ys) ⟨k, h⟩ else emp : sProp 𝕄))
        ∗ bigSep (Finset.range T) (fun k => ysRow c ys (tb (tok i k)) (hb _) (2 * k + 1)))
    from Entails.of_eq (BI.bigSep_sep _ _ _)) $$ HD
  icases HD with ⟨HD, HS⟩
  isplitl [HD]
  · rw [rows1, Ring.bigSep_fin_eq_range T _ (fun k => (if h : k < T then row1At c (gath i tb ys) ⟨k, h⟩ else emp : sProp 𝕄)) (fun k h => dif_pos h)]
    iexact HD
  · iapply (show iprop(bigSep (Finset.range T) (fun k => ysRow c ys (tb (tok i k)) (hb _) (2 * k + 1))
        ∗ bigSep (Finset.range T) (fun j => ysRest c ys (tb (tok i j)) (hb _) (2 * j + 1))) ⊢ bigSep (Finset.range T) (fun j => ysTok c ys (2 * j + 1))
      from (Entails.of_eq (BI.bigSep_sep _ _ _).symm).trans (BI.bigSep_mono fun j _ =>
        (pointsTo_split_subset (Finset.subset_univ (src (tb (tok i j)) (hb _)).view.set)).2)) $$ [HS HR]
    isplitl [HS] <;> iassumption

end Collect

/-! ## The whole body -/

section Run

variable {𝒱₀ : Variants} (c : Dev nD) (i : grid0.Coords) (tb1 tb2 : S33280.Idx → BitVec 32)
  (hb1 : ∀ x, (tb1 x).toNat < 70656) (hb2 : ∀ x, (tb2 x).toNat < 70656)
  (ys : S70656x1024.Idx → Elt F .f32)
  (arg4 : Memref sig .tc .vmem S512x1024 .f32) (harg4 : arg4.IsWhole) (arg5 : Memref sig .tc .vmem S512x128 .f32) (harg5 : arg5.IsWhole)
  (arg7 : Memref sig .tc .vmem S512x1024 .f32) (harg7 : arg7.IsWhole)

/-- The body on the operands the pipeline calls it with. -/
abbrev body := cc0_moe_combine (F := F) i (Memref.whole main_arg0) (Memref.isWhole_whole _) (Memref.whole main_arg1) (Memref.isWhole_whole _)
  arg4 harg4 arg5 harg5 (Memref.whole main_arg4) (Memref.isWhole_whole _) arg7 harg7 (Memref.whole cc0_scratch0) (Memref.isWhole_whole _)
  (Memref.whole cc0_scratch1) (Memref.isWhole_whole _) cc0_scratch2

theorem zero2 : (![0, 0] : Fin 2 → ℕ) = fun _ => 0 := by
  funext a; fin_cases a <;> rfl

/-- A load of everything reads everything. -/
theorem readAt_all {Val : EltTy → Type} {κ : Kind} {sp : Space} {S : Shape} {e : EltTy} {v : View sig κ sp S e} {f : v.ty.Contents Val}
    {off : Fin S.rank → ℕ} (h : off = fun _ => 0) {inb : ∀ a, off a + S.size a ≤ S.size a} :
    v.readAt Val (Rect.unit off S.size inb).toLoadRect f = v.read Val f := by
  subst h; funext x
  show v.read Val f ((Rect.whole S).emb x) = v.read Val f x
  rw [Rect.emb_whole_apply]

/-- A store of everything leaves its payload. -/
theorem read_store_all {Val : EltTy → Type} [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a) (P : S.Idx → Val e) :
    v.read Val (v.writes Val f [⟨Rect.unit off S.size inb, P⟩]) = P :=
  (View.read_writes_eq_canon _ _ _ fun y => ⟨_, List.mem_singleton_self _, View.mem_set_unit_zero h inb y⟩).trans
    (View.canon_unit_zero h inb P)

include hb1 hb2 in
set_option maxHeartbeats 1000000 in
theorem body_run [∀ e, Nonempty (Elt F e)] (f0 f1 : S512x1024.Idx → Elt F .f32) (W : Waits sig Unit)
    (g4 : Buf (Elt F) (arg4.view.loc (c : Thread nD τ))) (g5 : Buf (Elt F) (arg5.view.loc (c : Thread nD τ)))
    (g7 : Buf (Elt F) (arg7.view.loc (c : Thread nD τ))) :
    (iprop(((Memref.whole cc0_scratch0).view.loc (c : Thread nD τ) ↦{fullShare} f0)
      ∗ ((Memref.whole cc0_scratch1).view.loc (c : Thread nD τ) ↦{fullShare} f1)
      ∗ semVal ((c : Thread nD τ), SemLoc.dma cc0_scratch2.sem) 0
      ∗ ((Memref.whole main_arg4).view.loc (c : Thread nD τ) ↦{fullShare} ys)
      ∗ ((Memref.whole main_arg0).view.loc (c : Thread nD τ) ↦{fullShare.right} tb1)
      ∗ ((Memref.whole main_arg1).view.loc (c : Thread nD τ) ↦{fullShare.right} tb2)
      ∗ owes (c : Thread nD τ) 0 W
      ∗ (arg4.view.loc (c : Thread nD τ) ↦[arg4.view.set]{fullShare} g4)
      ∗ (arg5.view.loc (c : Thread nD τ) ↦[arg5.view.set]{fullShare} g5)
      ∗ (arg7.view.loc (c : Thread nD τ) ↦[arg7.view.set]{fullShare} g7)) : sProp 𝕄)
    ⊢ wp frame (wpE defs₀ 𝒱₀ (c : Thread nD τ) none) Set.univ (body i arg4 harg4 arg5 harg5 arg7 harg7) fun _ =>
      iprop(((Memref.whole cc0_scratch0).view.loc (c : Thread nD τ) ↦{fullShare} gath i tb1 ys)
      ∗ ((Memref.whole cc0_scratch1).view.loc (c : Thread nD τ) ↦{fullShare} gath i tb2 ys)
      ∗ semVal ((c : Thread nD τ), SemLoc.dma cc0_scratch2.sem) 0
      ∗ ((Memref.whole main_arg4).view.loc (c : Thread nD τ) ↦{fullShare} ys)
      ∗ ((Memref.whole main_arg0).view.loc (c : Thread nD τ) ↦{fullShare.right} tb1)
      ∗ ((Memref.whole main_arg1).view.loc (c : Thread nD τ) ↦{fullShare.right} tb2)
      ∗ (∃ W', owes (c : Thread nD τ) 0 W')
      ∗ (arg4.view.loc (c : Thread nD τ) ↦[arg4.view.set]{fullShare} g4)
      ∗ (arg5.view.loc (c : Thread nD τ) ↦[arg5.view.set]{fullShare} g5)
      ∗ owns (c : Thread nD τ) arg7 fullShare
          (k0_pay1 (arg5.view.read (Elt F) g5) (arg4.view.read (Elt F) g4) (gath i tb1 ys) (gath i tb2 ys))) := by
  iintro ⟨H0, H1, Hc, HY, HT1, HT2, HO, H4, H5, H7⟩
  ihave HY := (Transfers.pointsTo_toks_range fullShare (2 * T)).1 $$ HY
  icases HY with ⟨HYr, HYt⟩
  ihave HYt := (Entails.of_eq (Ring.bigSep_rangeSet_eq_range (NB := 2 * T) (lo := 0) (hi := 2 * T)
    (Φ := fun t => ysTok c ys t.val) le_rfl (fun t => ysTok c ys t) (fun k hk => by show ysTok c ys k = ysTok c ys (0 + k); rw [Nat.zero_add])).symm) $$ HYt
  ihave H0 := (Entails.of_eq (rows0 c f0)) $$ H0
  ihave H1 := (Entails.of_eq (rows1 c f1)) $$ H1
  imod (Transfers.batch_alloc' (Lvl := ℕ) (countersEmb (U := UD sig nD τ)) (c : Thread nD τ) () NN (dD c i tb1 tb2 hb1 hb2 ys)
    (sm := .dma cc0_scratch2.sem) (E := Set.univ)) $$ Hc with HB
  unfold body
  rw [cc0_moe_combine_eq_skeleton]
  unfold cc0_moe_combine_skel
  sl_for (issueAt (F := F) c i tb1 tb2 hb1 hb2 ys f0 f1) $$ [HB H0 H1 HYt HT1 HT2]
  · intro k acc; exact issue_step c i tb1 tb2 hb1 hb2 ys f0 f1 arg4 harg4 arg5 harg5 arg7 harg7 k acc
  · unfold issueAt
    rw [Ring.rangeSet_univ, Finset.range_zero, bigSep_empty, bigSep_empty]
    isplitl [HB]; · iexact HB
    isplitl [H0]; · iexact H0
    isplitl [H1]; · iexact H1
    isplitl [HYt]; · iexact HYt
    isplitr; · iempintro
    isplitr; · iempintro
    isplitl [HT1] <;> iassumption
  iintro %acc HL
  ihave HL := (show issueAt c i tb1 tb2 hb1 hb2 ys f0 f1 T acc ⊢ iprop(batch c i tb1 tb2 hb1 hb2 ys (2 * T) 0
      ∗ bigSep (Finset.range T) (fun j => ysRest c ys (tb1 (tok i j)) (hb1 _) (2 * j))
      ∗ bigSep (Finset.range T) (fun j => ysRest c ys (tb2 (tok i j)) (hb2 _) (2 * j + 1))
      ∗ ((Memref.whole main_arg0).view.loc (c : Thread nD τ) ↦{fullShare.right} tb1)
      ∗ ((Memref.whole main_arg1).view.loc (c : Thread nD τ) ↦{fullShare.right} tb2)) from by
    unfold issueAt
    rw [Ring.bigSep_rangeSet_empty le_rfl, Ring.bigSep_rangeSet_empty le_rfl, Ring.bigSep_rangeSet_empty le_rfl]
    iintro ⟨HB, -, -, -, HR⟩
    isplitl [HB]; · iexact HB
    iexact HR) $$ HL
  icases HL with ⟨HB, HR0, HR1, HT1, HT2⟩
  sl_for (drainAt (F := F) c i tb1 tb2 hb1 hb2 ys) $$ [HB HO]
  · intro k acc; exact drain_step c i tb1 tb2 hb1 hb2 ys arg4 harg4 arg5 harg5 arg7 harg7 k acc
  · unfold drainAt
    isplitl [HB]
    · rw [show 2 * 0 * NN = 0 from Nat.zero_mul _]; iexact HB
    iexists _; iexact HO
  iintro %acc' HL
  ihave HL := (show drainAt c i tb1 tb2 hb1 hb2 ys T acc' ⊢ iprop(batch c i tb1 tb2 hb1 hb2 ys (2 * T) (NN * (2 * T))
      ∗ (∃ W', owes (c : Thread nD τ) 0 W')) from by
    unfold drainAt; rw [Nat.mul_comm NN]) $$ HL
  icases HL with ⟨HB, ⟨%W', HO⟩⟩
  imod (Transfers.batch_collect' (countersEmb (U := UD sig nD τ)) (c : Thread nD τ) (N := NN) NN_pos (D := dD c i tb1 tb2 hb1 hb2 ys)) $$ HB with ⟨Hall, Hc⟩
  ihave Hall := (Entails.of_eq (Ring.bigSep_interleaved T (dA c i tb1 hb1 ys) (dB c i tb2 hb2 ys))) $$ Hall
  icases Hall with ⟨HA, HB⟩
  ihave HA := (collectA c i tb1 hb1 ys) $$ [HA HR0]
  · isplitl [HA] <;> iassumption
  ihave HB := (collectB c i tb2 hb2 ys) $$ [HB HR1]
  · isplitl [HB] <;> iassumption
  icases HA with ⟨H0, HY0⟩
  icases HB with ⟨H1, HY1⟩
  ihave HY := (show iprop(((Memref.whole main_arg4).view.loc (c : Thread nD τ) ↦[Finset.univ]{Transfers.shareDrop fullShare (2 * T)} ys)
      ∗ bigSep (Finset.range T) (fun j => ysTok c ys (2 * j)) ∗ bigSep (Finset.range T) (fun j => ysTok c ys (2 * j + 1)))
      ⊢ ((Memref.whole main_arg4).view.loc (c : Thread nD τ) ↦{fullShare} ys : sProp 𝕄) from
    (sep_mono Entails.rfl (Entails.of_eq (Ring.bigSep_range_deinterleave T (fun t => ysTok c ys t)).symm)).trans
      (Transfers.pointsTo_toks_range fullShare (2 * T)).2) $$ [HYr HY0 HY1]
  · isplitl [HYr]; · iexact HYr
    isplitl [HY0]; · iexact HY0
    iexact HY1
  sl_exec
  sl_step
  isplitl [H0]; · iexact H0
  isplitl [H1]; · iexact H1
  isplitl [Hc]; · iexact Hc
  isplitl [HY]; · iexact HY
  isplitl [HT1]; · iexact HT1
  isplitl [HT2]; · iexact HT2
  isplitl [HO]; · iexists _; iexact HO
  isplitl [H4]; · iexact H4
  isplitl [H5]; · iexact H5
  rw [readAt_all (v := arg5.view) zero2, readAt_all (v := arg4.view) zero2]
  have r0 := readAt_all (Val := Elt F) (S := S512x1024) (v := (Memref.whole cc0_scratch0).view) (f := gath i tb1 ys) zero2
    (inb := Gen.inb_S512x1024_S512x1024_0_0)
  have r1 := readAt_all (Val := Elt F) (S := S512x1024) (v := (Memref.whole cc0_scratch1).view) (f := gath i tb2 ys) zero2
    (inb := Gen.inb_S512x1024_S512x1024_0_0)
  erw [r0, r1]
  unfold owns
  iexists (arg7.view.writes (Elt F) g7 [⟨Rect.unit ![0, 0] S512x1024.size Gen.inb_S512x1024_S512x1024_0_0,
    k0_pay1 (arg5.view.read (Elt F) g5) (arg4.view.read (Elt F) g4) (gath i tb1 ys) (gath i tb2 ys)⟩])
  isplitr
  · ipureintro
    exact read_store_all _ _ zero2 _ _
  iexact H7

end Run

end Cert.KernelIdeal.Hand

end
-- ==== Proof.Run.lean ====
/- The launch of `moe_combine`: from any memory whose tables name rows of the expert output it runs, and leaves in the
   result array the combination computed tile by tile. Untrusted. -/
module

public import proofs.«01_k».proof.Proof.Body
public import Idealize.ShloMosaic.PureOps.BitExact

@[expose] public section

set_option maxRecDepth 16384

noncomputable section

namespace Cert.KernelIdeal.Hand

open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.Sem Idealize.SL.ProofMode
open Cert.KernelIdeal.Gen
open Cert.KernelIdeal.Facts₀ Cert.KernelIdeal.Facts

variable {F : FTy → Type} [FloatOps F]

local notation "𝕄" => MT nD τ sig Unit (Elt F) ℕ (UD sig nD τ) ℕ

section
variable (m : (ℓ : Loc nD τ sig) → Buf (Elt F) ℓ)

/-- The core's buffers at launch. -/
abbrev V (c : Dev nD) (b : Ref sig .tc) : Buf (Elt F) ((c : Thread nD τ).loc b) := m ((c : Thread nD τ).loc b)

/-- The tables at launch. -/
def tbls : pre0.Contents (Elt F) := fun k => V m 0 (pre0.ref k)

/-- The index maps read no table, so any contents are admissible. -/
def adm : (p : Fin 1) → (pcfgs (F := F) p).Adm := fun _ => ⟨tbls m, trivial⟩

/-- The pipeline at the launch tables. -/
abbrev cfgA : Cfg sig Λ₀ := Pipeline.pin pcfgs (adm m) 0

/-- The slots of the first and the second choice. -/
abbrev tb1 : S33280.Idx → BitVec 32 := V m 0 main_arg0
abbrev tb2 : S33280.Idx → BitVec 32 := V m 0 main_arg1
/-- The experts' rows. -/
abbrev ysOf (c : Dev nD) : S70656x1024.Idx → Elt F .f32 := V m c main_arg4

/-- The tile of the residual stream at a point, -/
def hblk (c : Dev nD) (t : Fin grid0.N) : S512x1024.Idx → Elt F .f32 := (((cfgA m).win 0).blk t).view.read (Elt F) (V m c main_arg2)
/-- the tile of the gates, -/
def gblk (c : Dev nD) (t : Fin grid0.N) : S512x128.Idx → Elt F .f32 := (((cfgA m).win 1).blk t).view.read (Elt F) (V m c main_arg3)
/-- and the tile of the result. -/
def oblk (c : Dev nD) (t : Fin grid0.N) : S512x1024.Idx → Elt F .f32 :=
  k0_pay1 (gblk m c t) (hblk m c t) (gath (grid0.coords t) (tb1 m) (ysOf m c)) (gath (grid0.coords t) (tb2 m) (ysOf m c))

/-- The copies' semaphore. -/
abbrev osem : Fin 1 → SemLoc sig := fun _ => .dma cc0_scratch2.sem

theorem ownSemFacts : OwnSemFacts spec0 osem := by decide

/-- Between points: the scratches, the copies' semaphore at zero, the experts' rows, and a share of the tables. -/
def Phi (c : Dev nD) : sProp 𝕄 := iprop(ΦD osem spec0 {main_arg4} (V m) c ∗ ΦT pre0 (tbls m) c)

/-- What the run holds and leaves. -/
def dats (_ : Fin 1) (c : Dev nD) : Dat τ (Elt F) Unit ℕ (UD sig nD τ) ℕ (cfgA m) c where
  A := fun w => V m c (arrRef spec0 w)
  after := fun
    | 0 => hblk m c
    | 1 => gblk m c
    | 2 => oblk m c
    | ⟨_ + 3, h⟩ => absurd h (Nat.not_lt.2 (Nat.le_add_left _ _))
  Φ := fun _ => Phi m c
  q := fun _ => fullShare
  owed := fun _ => 0

end

section Index

/-- Some tables. -/
def admZ : (p : Fin 1) → (pcfgs (F := Bits) p).Adm := fun _ => ⟨fun k => match k with | 0 => fun _ => (0#32 : BitVec 32) | 1 => fun _ => (0#32 : BitVec 32), trivial⟩

theorem fetchZ0 : ∀ t : Fin grid0.N, ((Pipeline.pin (pcfgs (F := Bits)) admZ 0).win 0).fetch t = true := by decide +kernel
theorem fetchZ1 : ∀ t : Fin grid0.N, ((Pipeline.pin (pcfgs (F := Bits)) admZ 0).win 1).fetch t = true := by decide +kernel
theorem flushZ2 : ∀ t : Fin grid0.N, ((Pipeline.pin (pcfgs (F := Bits)) admZ 0).win 2).flush t = true := by decide +kernel
theorem coverZ2 : ((Pipeline.pin (pcfgs (F := Bits)) admZ 0).win 2).Covers := by decide +kernel

variable (m : (ℓ : Loc nD τ sig) → Buf (Elt F) ℓ)
theorem fetch0 (t : Fin grid0.N) : ((cfgA m).win 0).fetch t = true := fetchZ0 t
theorem fetch1 (t : Fin grid0.N) : ((cfgA m).win 1).fetch t = true := fetchZ1 t
theorem flush2 (t : Fin grid0.N) : ((cfgA m).win 2).flush t = true := flushZ2 t
theorem cover2 : ((cfgA m).win 2).Covers := coverZ2

end Index

section Body
variable (m : (ℓ : Loc nD τ sig) → Buf (Elt F) ℓ)
variable [∀ e, Nonempty (Elt F e)]

theorem before0 (c : Dev nD) (t : Fin grid0.N) (d) : (dats m 0 c).before 0 t d = hblk m c t :=
  (dats m 0 c).before_fetched 0 t (fetch0 m t) d
theorem before1 (c : Dev nD) (t : Fin grid0.N) (d) : (dats m 0 c).before 1 t d = gblk m c t :=
  (dats m 0 c).before_fetched 1 t (fetch1 m t) d

theorem ownSems_eq (c : Dev nD) :
    (ownSems0 (Ix := Unit) (Name := ℕ) (U := UD sig nD τ) (Lvl := ℕ) (Val := Elt F) (τ := τ) osem c : sProp 𝕄)
      = semVal ((c : Thread nD τ), SemLoc.dma cc0_scratch2.sem) 0 := by
  rw [ownSems0_eq_of_list c osem [0] (by decide) (by decide)]; rfl

theorem tables_eq (c : Dev nD) : (ΦT (Val := Elt F) pre0 (tbls m) c : sProp 𝕄)
    = iprop(((Memref.whole main_arg0).view.loc (c : Thread nD τ) ↦{fullShare.right} tb1 m)
      ∗ ((Memref.whole main_arg1).view.loc (c : Thread nD τ) ↦{fullShare.right} tb2 m)) := by
  have hc : c = 0 := Subsingleton.elim _ _
  subst hc
  unfold ΦT prefHeld
  exact Idealize.SL.BI.bigSep_univ_eq_bigSepL [(0 : Fin 2), (1 : Fin 2)] (by decide) (by decide) _

/-- The staging buffers at a point. -/
abbrev st0 (t : Fin grid0.N) : Memref sig .tc .vmem S512x1024 .f32 := spec0_0.stage ((cfgA m).slots t 0)
abbrev st1 (t : Fin grid0.N) : Memref sig .tc .vmem S512x128 .f32 := spec0_1.stage ((cfgA m).slots t 1)
abbrev st2 (t : Fin grid0.N) : Memref sig .tc .vmem S512x1024 .f32 := spec0_2.stage ((cfgA m).slots t 2)

theorem body_wp (hb1 : ∀ x, (tb1 m x).toNat < 70656) (hb2 : ∀ x, (tb2 m x).toNat < 70656) (𝒱₀ : Variants) (c : Dev nD) (t : Fin grid0.N)
    (h4 : (st0 m t).IsWhole) (h5 : (st1 m t).IsWhole) (h7 : (st2 m t).IsWhole) :
    (iprop(Phi m c ∗ (dats m 0 c).owesAt () t.castSucc
      ∗ (∃ d, owns (c : Thread nD τ) (st0 m t) fullShare ((dats m 0 c).before 0 t d))
      ∗ (∃ d, owns (c : Thread nD τ) (st1 m t) fullShare ((dats m 0 c).before 1 t d))
      ∗ (∃ d, owns (c : Thread nD τ) (st2 m t) fullShare ((dats m 0 c).before 2 t d))) : sProp 𝕄)
    ⊢ wp frame (wpE defs₀ 𝒱₀ (c : Thread nD τ) none) Set.univ (body (grid0.coords t) (st0 m t) h4 (st1 m t) h5 (st2 m t) h7) fun _ =>
      iprop(Phi m c ∗ (dats m 0 c).owesAt () t.succ ∗ owns (c : Thread nD τ) (st0 m t) fullShare (hblk m c t)
        ∗ owns (c : Thread nD τ) (st1 m t) fullShare (gblk m c t) ∗ owns (c : Thread nD τ) (st2 m t) fullShare (oblk m c t)) := by
  unfold Phi
  rw [ΦD_eq, scopedRest0_eq, ownSems_eq, tables_eq, Idealize.SL.BI.bigSep_singleton]
  iintro ⟨⟨⟨⟨⟨%f0, H0⟩, ⟨%f1, H1⟩⟩, Hp, Hs, HY⟩, ⟨HT1, HT2⟩⟩, ⟨%W, ⟨-, HO⟩⟩, ⟨%d4, H4⟩, ⟨%d5, H5⟩, ⟨%d7, H7⟩⟩
  rw [before0, before1]
  unfold owns
  icases H4 with ⟨%g4, ⟨%e4, H4⟩⟩
  icases H5 with ⟨%g5, ⟨%e5, H5⟩⟩
  icases H7 with ⟨%g7, ⟨-, H7⟩⟩
  iapply (wp_wand_r _ _ _)
  isplitl [H0 H1 Hs HY HT1 HT2 HO H4 H5 H7]
  · iapply (body_run (𝒱₀ := 𝒱₀) c (grid0.coords t) (tb1 m) (tb2 m) hb1 hb2 (ysOf m c) (st0 m t) h4 (st1 m t) h5 (st2 m t) h7 f0 f1 W g4 g5 g7)
    isplitl [H0]; · iexact H0
    isplitl [H1]; · iexact H1
    isplitl [Hs]; · iexact Hs
    isplitl [HY]; · iexact HY
    isplitl [HT1]; · iexact HT1
    isplitl [HT2]; · iexact HT2
    isplitl [HO]; · iexact HO
    isplitl [H4]; · iexact H4
    isplitl [H5]; · iexact H5
    iexact H7
  iintro %_ ⟨H0, H1, Hs, HY, HT1, HT2, ⟨%W', HO⟩, H4, H5, H7⟩
  isplitl [H0 H1 Hp Hs HY HT1 HT2]
  · isplitl [H0 H1 Hp Hs HY]
    · isplitl [H0 H1]
      · isplitl [H0]; · iexists _; iexact H0
        iexists _; iexact H1
      isplitl [Hp]; · iexact Hp
      isplitl [Hs]; · iexact Hs
      iexact HY
    isplitl [HT1]; · iexact HT1
    iexact HT2
  isplitl [HO]
  · iexists W'
    isplitr
    · ipureintro; exact fun _ _ => Or.inl trivial
    iexact HO
  isplitl [H4]
  · iexists g4
    isplitr; · ipureintro; exact e4
    iexact H4
  isplitl [H5]
  · iexists g5
    isplitr; · ipureintro; exact e5
    iexact H5
  rw [e4, e5]
  unfold owns oblk
  iexact H7

theorem body_obligation (hb1 : ∀ x, (tb1 m x).toNat < 70656) (hb2 : ∀ x, (tb2 m x).toNat < 70656) (𝒱₀ : Variants) (c : Dev nD) :
    BodyObligation (dats m 0 c) defs₀ 𝒱₀ () Set.univ := fun t =>
  (sep_mono .rfl (sep_mono .rfl (Entails.of_eq (bigSep_W0 _)))).trans ((body_wp m hb1 hb2 𝒱₀ c t (stage_whole0 0 _) (stage_whole0 1 _) (stage_whole0 2 _)).trans
    (wp_mono _ _ _ fun _ => sep_mono .rfl (sep_mono .rfl
      (Entails.of_eq (bigSep_W0 fun w => owns (c : Thread nD τ) (((cfgA m).win w).stage ((cfgA m).slots t w)) fullShare ((dats m 0 c).after w t)).symm))))

/-- The result array: tile by tile what the body leaves. -/
def outA (c : Dev nD) : S32768x1024.Idx → Elt F .f32 := (dats m 0 c).arrAt 2 grid0.N

/-- From any memory whose tables name rows of the experts' output, every fair execution ends with nothing outstanding, the
    result array at `outA` and the arguments as they were. -/
theorem run_main (ρ : Dev nD → PrngReg) (hb1 : ∀ x, (tb1 m x).toNat < 70656) (hb2 : ∀ x, (tb2 m x).toNat < 70656) :
    θ_run defs (onTc (τ := τ) (main (F := F))) (s₀ m ρ) fun r =>
      (∀ c : Dev nD, r.2.mem ((c : Thread nD τ).loc main_v0) = outA m c
        ∧ r.2.mem ((c : Thread nD τ).loc main_arg0) = V m c main_arg0 ∧ r.2.mem ((c : Thread nD τ).loc main_arg1) = V m c main_arg1
        ∧ r.2.mem ((c : Thread nD τ).loc main_arg2) = V m c main_arg2 ∧ r.2.mem ((c : Thread nD τ).loc main_arg3) = V m c main_arg3
        ∧ r.2.mem ((c : Thread nD τ).loc main_arg4) = V m c main_arg4) ∧ r.2.sem = fun _ => 0 :=
  Pipeline.θ_run_frameP_dma (a := adm m) (dats := dats m) pcfgs (p := 0) (kit := launch0) (osem := osem) defs₀ .none ownSemFacts {main_arg4}
    (by decide : {main_arg4} ⊆ restRefsP sig pre0 spec0) m ρ main
    (fun c => (body_obligation m hb1 hb2 .none c).loose) (fun c w => by unfold Dat.share; split <;> rfl) (fun _ _ => rfl) (V m)
    (hmainP_region _ _ _ _ m main fun c => rfl) (fun _ _ => rfl) (fun c k => by rw [Subsingleton.elim c 0]; rfl)
    (fun _ => .rfl) (fun c => by show Phi m c ⊢ _; unfold Phi; iintro ⟨H, -⟩; iexact H) _
    fun r h => ⟨fun c => ⟨(h.1 c).1 2, (h.1 c).2 _ (by decide : main_arg0 ∈ restRefs sig spec0), (h.1 c).2 _ (by decide : main_arg1 ∈ restRefs sig spec0),
      ((h.1 c).1 0).trans ((dats m 0 c).arrAt_in 0 rfl _), ((h.1 c).1 1).trans ((dats m 0 c).arrAt_in 1 rfl _), (h.1 c).2 _ (by decide : main_arg4 ∈ restRefs sig spec0)⟩, h.2⟩

end Body

end Cert.KernelIdeal.Hand

end
-- ==== Proof.Value.lean ====
/- What the result array of `moe_combine` holds: each row of the residual stream plus its two experts' rows, each times its
   gate. Untrusted. -/
module

public import proofs.«01_k».proof.Proof.Run
public import Idealize.ShloMosaic.Lib.ValueIdxCore

@[expose] public section

set_option maxRecDepth 16384

noncomputable section

namespace Cert.KernelIdeal.Hand

open Idealize.ShloMosaic Idealize.ShloMosaic.TcCoe Idealize.ShloMosaic.Pipeline Idealize.ShloMosaic.ValueIdx
open Cert.KernelIdeal.Gen
open Cert.KernelIdeal.Facts₀ Cert.KernelIdeal.Facts

variable {F : FTy → Type} [FloatOps F]

/-- The combination at an entry of the padded stream. -/
def full (h : S33280x1024.Idx → Elt F .f32) (g : S33280x128.Idx → Elt F .f32) (t1 t2 : S33280.Idx → BitVec 32)
    (ys : S70656x1024.Idx → Elt F .f32) (r : Fin 33280) (j : Fin 1024) : Elt F .f32 :=
  FloatOps.addf (FloatOps.addf (h (ix2 r j)) (FloatOps.mulf (g (ix2 r (4 : Fin 128))) (ys (rowIdx (t1 (ix1 r)).toNat j))))
    (FloatOps.mulf (g (ix2 r (5 : Fin 128))) (ys (rowIdx (t2 (ix1 r)).toNat j)))

/-- The row of the padded stream that a row of the result is: batches of 8320 rows, of which the 8192 after
    the first 16 are kept. -/
def place (r : Fin 32768) : Fin 33280 := ⟨r.val / 8192 * 8320 + 16 + r.val % 8192, by have := r.isLt; omega⟩

/-- The result. -/
def combined (h : S33280x1024.Idx → Elt F .f32) (g : S33280x128.Idx → Elt F .f32) (t1 t2 : S33280.Idx → BitVec 32)
    (ys : S70656x1024.Idx → Elt F .f32) : S32768x1024.Idx → Elt F .f32 := fun z => full h g t1 t2 ys (place (z 0)) (z 1)

theorem ix0_eq (i : grid0.Coords) : cc0_transform_0 i = ![row0 i, 0] := by
  have h0 : (i 0).val < 4 := (i 0).isLt
  have h1 : (i 1).val < 16 := (i 1).isLt
  unfold cc0_transform_0 row0
  simp only [Scalar.muli, Scalar.addi, IntOp.addi, IntOp.muli]
  congr 1
  simp [BitVec.toNat_add, BitVec.toNat_mul, BitVec.toNat_ofNat]
  omega
theorem ix1_eq (i : grid0.Coords) : cc0_transform_1 i = ![row0 i, 0] := ix0_eq i
theorem ix3_eq (i : grid0.Coords) : cc0_transform_3 i = ![(i 0).val * 16 + (i 1).val, 0] := by
  have h0 : (i 0).val < 4 := (i 0).isLt
  have h1 : (i 1).val < 16 := (i 1).isLt
  unfold cc0_transform_3
  simp only [Scalar.muli, Scalar.addi, IntOp.addi, IntOp.muli]
  congr 1
  simp [BitVec.toNat_add, BitVec.toNat_mul, BitVec.toNat_ofNat]
  omega

section
variable (m : (ℓ : Loc nD τ sig) → Buf (Elt F) ℓ) [∀ e, Nonempty (Elt F e)]

/-- The entries of the three arrays that the blocks of a step stand at. -/
def at0 (t : Fin grid0.N) (y : S512x1024.Idx) : S33280x1024.Idx := (((cfgA m).win 0).blk t).view.emb y
def at1 (t : Fin grid0.N) (y : S512x128.Idx) : S33280x128.Idx := (((cfgA m).win 1).blk t).view.emb y
def at2 (t : Fin grid0.N) (y : S512x1024.Idx) : S32768x1024.Idx := (((cfgA m).win 2).blk t).view.emb y

theorem at0_val (t : Fin grid0.N) (y : S512x1024.Idx) (a : Fin 2) :
    (at0 m t y a).val = cc0_transform_0 (grid0.coords t) a + 1 * (y a).val := rfl
theorem at1_val (t : Fin grid0.N) (y : S512x128.Idx) (a : Fin 2) :
    (at1 m t y a).val = cc0_transform_1 (grid0.coords t) a + 1 * (y a).val := rfl
theorem at2_val (t : Fin grid0.N) (y : S512x1024.Idx) (a : Fin 2) :
    (at2 m t y a).val = cc0_transform_3 (grid0.coords t) a * S512x1024.size a + 1 * (y a).val := rfl

/-- The row of the padded stream of row `k` of the block of step `i`. -/
theorem place_row (i : grid0.Coords) (k : ℕ) (hk : k < 512) :
    (((i 0).val * 16 + (i 1).val) * 512 + k) / 8192 * 8320 + 16 + (((i 0).val * 16 + (i 1).val) * 512 + k) % 8192
      = row0 i + k := by
  have h0 : (i 0).val < 4 := (i 0).isLt
  have h1 : (i 1).val < 16 := (i 1).isLt
  unfold row0
  omega

theorem row0_lt (i : grid0.Coords) (k : ℕ) (hk : k < 512) : row0 i + k < 33280 := by
  have h0 : (i 0).val < 4 := (i 0).isLt
  have h1 : (i 1).val < 16 := (i 1).isLt
  unfold row0
  omega

theorem tok_eq (i : grid0.Coords) (k : ℕ) (hk : k < 512) (r : Fin 33280) (hr : r.val = row0 i + k) :
    tok i k = ix1 r := by
  funext a
  have ha : a = (0 : Fin 1) := Subsingleton.elim (α := Fin 1) _ _
  subst ha
  refine Fin.ext ?_
  show (row0 i + k) % 33280 = r.val
  rw [Nat.mod_eq_of_lt (row0_lt i k hk), hr]

/-- The body's block at an entry is the combination at the row the entry has in the padded stream. -/
theorem oblk_apply (c : Dev nD) (t : Fin grid0.N) (y : S512x1024.Idx) (r : Fin 33280)
    (hr : r.val = row0 (grid0.coords t) + (y 0).val) :
    oblk m c t y = full (V m c main_arg2) (V m c main_arg3) (tb1 m) (tb2 m) (ysOf m c) r (y 1) := by
  have hy0 : (y 0).val < 512 := (y 0).isLt
  have hh : hblk m c t y = V m c main_arg2 (ix2 r (y 1)) := by
    show V m c main_arg2 (at0 m t y) = _
    refine congrArg (V m c main_arg2) (funext fun a => Fin.ext ?_)
    refine (at0_val m t y a).trans ?_
    rw [ix0_eq]
    match a with
    | 0 => show row0 _ + 1 * (y 0).val = r.val; omega
    | 1 => show 0 + 1 * (y 1).val = (y 1).val; omega
  have hg : ∀ (k : Fin 128), gblk m c t (ix2 (n0 := 512) (n1 := 128) (y 0) k) = V m c main_arg3 (ix2 r k) := by
    intro k
    show V m c main_arg3 (at1 m t (ix2 (n0 := 512) (n1 := 128) (y 0) k)) = _
    refine congrArg (V m c main_arg3) (funext fun a => Fin.ext ?_)
    refine (at1_val m t _ a).trans ?_
    rw [ix1_eq]
    match a with
    | 0 => show row0 _ + 1 * (y 0).val = r.val; omega
    | 1 => show 0 + 1 * k.val = k.val; omega
  have hga : ∀ tb : S33280.Idx → BitVec 32, gath (grid0.coords t) tb (ysOf m c) y = ysOf m c (rowIdx (tb (ix1 r)).toNat (y 1)) := by
    intro tb
    unfold gath
    rw [tok_eq _ _ hy0 r hr]
  have hs : ∀ (k : Fin 128) (off : Fin 2 → ℕ) (h : _) (hb : _), off = ![0, k.val] →
      broadcastTo S512x1024 (extractStridedSlice S512x1 off (gblk m c t) h) hb y = V m c main_arg3 (ix2 r k) := by
    intro k off h hb ho
    subst ho
    rw [broadcastTo_apply _ hb y (ix2 (n0 := 512) (n1 := 1) (y 0) 0) (fun a => by
        match a with
        | 0 => rfl
        | 1 => rfl),
      extractStridedSlice_apply _ _ h _ (ix2 (n0 := 512) (n1 := 128) (y 0) k) (fun a => by
        match a with
        | 0 => show (y 0).val = 0 + (y 0).val; omega
        | 1 => show k.val = k.val + 0; omega)]
    exact hg k
  unfold oblk k0_pay1 full
  show FloatOps.addf (FloatOps.addf (hblk m c t y) (FloatOps.mulf _ _)) (FloatOps.mulf _ _) = _
  rw [hh, hga, hga, hs 4 ![0, 4] _ _ rfl, hs 5 ![0, 5] _ _ rfl]

/-- The body's block is the combination, where the block stands. -/
theorem oblk_eq (c : Dev nD) (t : Fin grid0.N) (y : S512x1024.Idx) :
    oblk m c t y = combined (V m c main_arg2) (V m c main_arg3) (tb1 m) (tb2 m) (ysOf m c) (at2 m t y) := by
  have e0 := at2_val m t y 0
  have e1 := at2_val m t y 1
  rw [ix3_eq] at e0 e1
  have hy0 : (y 0).val < 512 := (y 0).isLt
  have h1 : at2 m t y 1 = y 1 := Fin.ext (e1.trans (by show 0 * 1024 + 1 * (y 1).val = _; omega))
  have e0' : (at2 m t y 0).val = ((grid0.coords t 0).val * 16 + (grid0.coords t 1).val) * 512 + (y 0).val :=
    e0.trans (by rw [Nat.one_mul]; rfl)
  unfold combined
  rw [h1]
  refine oblk_apply m c t y _ ?_
  show (at2 m t y 0).val / 8192 * 8320 + 16 + (at2 m t y 0).val % 8192 = _
  rw [e0']
  exact place_row (grid0.coords t) (y 0).val hy0

/-- The result array is the combination. -/
theorem outA_eq (c : Dev nD) :
    outA m c = combined (V m c main_arg2) (V m c main_arg3) (tb1 m) (tb2 m) (ysOf m c) :=
  (dats m 0 c).arrAt_eq_of_covers 2 _ (cover2 m) fun t _ y => oblk_eq m c t y

end

end Cert.KernelIdeal.Hand

end
-- ==== Proof.Spec.lean ====
/- The reference's closed form, entry by entry: what `combined` names. Untrusted. -/
module

public import proofs.«01_k».proof.Proof.Value
public import proofs.«01_k».proof.Proof.Gen.ReferenceIdeal.Run
public import proofs.«01_k».proof.Proof.Gen.Reference.Run
public import Idealize.ShloMosaic.Lib.Routing.Ops

@[expose] public section

set_option maxRecDepth 16384

noncomputable section

namespace Cert.KernelIdeal.Hand

open Idealize.ShloMosaic Idealize.ShloMosaic.TcCoe Idealize.ShloMosaic.ValueIdx

variable {F : FTy → Type} [FloatOps F]

section
open Cert.ReferenceIdeal Cert.ReferenceIdeal.Gen

/-- The rows of the expert outputs that a table names. -/
def picked (t : S33280.Idx → BitVec 32) (ys : S70656x1024.Idx → Elt F .f32) : S33280x1024.Idx → Elt F .f32 :=
  Host.gather gather_S70656x1024_S33280x1_S33280x1024_1_0_n_n_0_1_11024 ys (broadcastInDim S33280x1 ![0] bcast_S33280_S33280x1_0 t)

/-- One gate, along the rows. -/
def gateCol (off : Fin 2 → ℕ) (hs : S33280x128.Slices off S33280x1) (g : S33280x128.Idx → Elt F .f32) : S33280x1024.Idx → Elt F .f32 :=
  broadcastInDim S33280x1024 ![0, 1] bcast_S33280x1_S33280x1024_0_1 (extractStridedSlice S33280x1 off g hs)

theorem picked_apply (t : S33280.Idx → BitVec 32) (ys : S70656x1024.Idx → Elt F .f32) (r : Fin 33280) (j : Fin 1024)
    (ht : (t (ix1 r)).toNat < 70656) : picked t ys (ix2 r j) = ys (rowIdx (t (ix1 r)).toNat j) := by
  unfold picked
  refine (Idealize.ShloMosaic.Routing.gather_row _ rfl rfl rfl rfl rfl ys _ r j ⟨(t (ix1 r)).toNat, ht⟩ ?_ (by decide)).trans ?_
  · refine (broadcastInDim_apply _ _ t _ (ix1 r) (fun a => ?_)).trans ?_
    · match a with
      | ⟨0, _⟩ => rfl
    · exact BitVec.eq_of_toNat_eq (by rw [BitVec.toNat_ofNat]; exact (Nat.mod_eq_of_lt (t (ix1 r)).isLt).symm)
  · refine congrArg ys (funext fun a => Fin.ext ?_)
    match a with
    | ⟨0, _⟩ => exact (Nat.mod_eq_of_lt ht).symm
    | ⟨1, _⟩ => rfl

theorem gateCol_apply (k : Fin 128) (off : Fin 2 → ℕ) (hs : S33280x128.Slices off S33280x1) (ho : off = ![0, k.val])
    (g : S33280x128.Idx → Elt F .f32) (r : Fin 33280) (j : Fin 1024) : gateCol off hs g (ix2 r j) = g (ix2 r k) := by
  subst ho
  unfold gateCol
  rw [broadcastInDim_apply _ _ _ _ (ix2 (n0 := 33280) (n1 := 1) r 0) (fun a => by
      match a with
      | ⟨0, _⟩ => rfl
      | ⟨1, _⟩ => rfl),
    extractStridedSlice_apply _ g hs _ (ix2 (n0 := 33280) (n1 := 128) r k) (fun a => by
      match a with
      | ⟨0, _⟩ => show r.val = 0 + r.val; omega
      | ⟨1, _⟩ => show k.val = k.val + 0; omega)]

/-- Entry `(p, q, j)` of the padded stream as four batches. -/
theorem batches_apply {α : Type} (x : S33280x1024.Idx → α) (h : S33280x1024.ShapeCasts S4x8320x1024) (p : Fin 4) (q : Fin 8320)
    (j : Fin 1024) (r : Fin 33280) (hr : r.val = p.val * 8320 + q.val) :
    shapeCast S4x8320x1024 x h (ix3 p q j) = x (ix2 r j) := by
  refine shapeCast_apply x h _ _ ?_
  have e2 := Shape.rowMajor_val_two (d := ![33280, 1024]) (ix2 r j)
  have e3 := Shape.rowMajor_val_three (d := ![4, 8320, 1024]) (ix3 p q j)
  refine e2.trans (Eq.trans ?_ e3.symm)
  show r.val * 1024 + j.val = (p.val * 8320 + q.val) * 1024 + j.val
  omega

/-- The kept rows of a batch. -/
theorem kept_apply {α : Type} (x : S4x8320x1024.Idx → α) (h : S4x8320x1024.Slices ![0, 16, 0] S4x8192x1024) (p : Fin 4) (k : Fin 8192)
    (j : Fin 1024) (q : Fin 8320) (hq : q.val = 16 + k.val) :
    extractStridedSlice S4x8192x1024 ![0, 16, 0] x h (ix3 p k j) = x (ix3 p q j) := by
  refine extractStridedSlice_apply _ x h _ _ (fun a => ?_)
  match a with
  | ⟨0, _⟩ => show p.val = 0 + p.val; omega
  | ⟨1, _⟩ => exact hq
  | ⟨2, _⟩ => show j.val = 0 + j.val; omega

/-- The kept rows of the four batches, as rows. -/
theorem rows_apply {α : Type} (x : S4x8192x1024.Idx → α) (h : S4x8192x1024.ShapeCasts S32768x1024) (z : S32768x1024.Idx)
    (p : Fin 4) (k : Fin 8192) (hz : (z 0).val = p.val * 8192 + k.val) :
    shapeCast S32768x1024 x h z = x (ix3 p k (z 1)) := by
  refine shapeCast_apply x h _ _ ?_
  have e2 := Shape.rowMajor_val_two (d := ![32768, 1024]) z
  have e3 := Shape.rowMajor_val_three (d := ![4, 8192, 1024]) (ix3 p k (z 1))
  refine e3.trans (Eq.trans ?_ e2.symm)
  show (p.val * 8192 + k.val) * 1024 + (z 1).val = (z 0).val * 1024 + (z 1).val
  omega

/-- The reference's whole term. -/
def refTerm (h : S33280x1024.Idx → Elt F .f32) (g : S33280x128.Idx → Elt F .f32) (t1 t2 : S33280.Idx → BitVec 32)
    (ys : S70656x1024.Idx → Elt F .f32) : S32768x1024.Idx → Elt F .f32 :=
  shapeCast _ (extractStridedSlice S4x8192x1024 ![0, 16, 0]
    (shapeCast _ (addf (addf h (mulf (gateCol ![0, 4] slices_S33280x128_S33280x1_0_4 g) (picked t1 ys)))
      (mulf (gateCol ![0, 5] slices_S33280x128_S33280x1_0_5 g) (picked t2 ys))) shapeCasts_S33280x1024_S4x8320x1024)
    slices_S4x8320x1024_S4x8192x1024_0_16_0) shapeCasts_S4x8192x1024_S32768x1024

theorem refTerm_eq (h : S33280x1024.Idx → Elt F .f32) (g : S33280x128.Idx → Elt F .f32) (t1 t2 : S33280.Idx → BitVec 32)
    (ys : S70656x1024.Idx → Elt F .f32) (h1 : ∀ x, (t1 x).toNat < 70656) (h2 : ∀ x, (t2 x).toNat < 70656) :
    refTerm h g t1 t2 ys = combined h g t1 t2 ys := by
  funext z
  have hz0 : (z 0).val < 32768 := (z 0).isLt
  unfold refTerm combined
  refine (rows_apply _ _ z ⟨(z 0).val / 8192, by omega⟩ ⟨(z 0).val % 8192, by omega⟩ (by
      show _ = _ / 8192 * 8192 + _ % 8192
      omega)).trans ((kept_apply _ _ _ _ _ ⟨16 + (z 0).val % 8192, by omega⟩ rfl).trans
    ((batches_apply _ _ _ _ _ (place (z 0)) (by
      show _ / 8192 * 8320 + 16 + _ % 8192 = _ / 8192 * 8320 + (16 + _ % 8192)
      omega)).trans ?_))
  show FloatOps.addf (FloatOps.addf (h (ix2 (place (z 0)) (z 1))) (FloatOps.mulf (gateCol _ _ g (ix2 (place (z 0)) (z 1))) (picked t1 ys (ix2 (place (z 0)) (z 1)))))
    (FloatOps.mulf (gateCol _ _ g (ix2 (place (z 0)) (z 1))) (picked t2 ys (ix2 (place (z 0)) (z 1)))) = full h g t1 t2 ys _ _
  exact congrArg₂ FloatOps.addf (congrArg₂ FloatOps.addf rfl (congrArg₂ FloatOps.mulf (gateCol_apply 4 ![0, 4] _ rfl g _ _)
      (picked_apply t1 ys _ _ (h1 _))))
    (congrArg₂ FloatOps.mulf (gateCol_apply 5 ![0, 5] _ rfl g _ _) (picked_apply t2 ys _ _ (h2 _)))

end

end Cert.KernelIdeal.Hand

end
-- ==== Proof.Claims.lean ====
/- The claims about `moe_combine`: its frames, the frames of its reference, and that the two end with the same array.
   Untrusted. -/
module

public import proofs.«01_k».proof.Defs
public import proofs.«01_k».proof.Proof.Spec
public import proofs.«01_k».proof.Proof.Gen.Kernel
public import proofs.«01_k».proof.Proof.Gen.Pre_slots_in_range
public import Idealize.ShloMosaic.Lib.Quiescent

@[expose] public section

set_option maxRecDepth 16384

noncomputable section

namespace Cert.KernelIdeal.Hand

open Idealize.ShloMosaic Idealize.ShloMosaic.TcCoe Idealize.SL.Sem
open Cert.KernelIdeal.Gen

variable {F : FTy → Type} [FloatOps F]

/-- A signed word of at least zero and less than the number of slots, as a number. -/
theorem toNat_of_range {w : BitVec 32} (h0 : IntOp.cmpi .sge w 0#32 = 1#1) (h1 : IntOp.cmpi .slt w 70656#32 = 1#1) :
    w.toNat < 70656 := by
  have e0 : (0#32).sle w = true := by
    cases h : (0#32).sle w with
    | true => rfl
    | false => exact absurd h0 (by
        show ¬ BitVec.ofBool ((0#32).sle w) = 1#1
        rw [h]; decide)
  have e1 : w.slt 70656#32 = true := by
    cases h : w.slt 70656#32 with
    | true => rfl
    | false => exact absurd h1 (by
        show ¬ BitVec.ofBool (w.slt 70656#32) = 1#1
        rw [h]; decide)
  have k0 : (0#32).toInt ≤ w.toInt := by simpa [BitVec.sle] using e0
  have k1 : w.toInt < (70656#32).toInt := by simpa [BitVec.slt] using e1
  have c0 : (0#32).toInt = 0 := by decide
  have c1 : (70656#32).toInt = 70656 := by decide
  rw [c0] at k0
  rw [c1, BitVec.toInt_eq_toNat_cond] at k1
  rw [BitVec.toInt_eq_toNat_cond] at k0
  have := w.isLt
  split at k0 <;> split at k1 <;> omega

/-- The precondition, read at the two tables. -/
def InRange (t1 t2 : S33280.Idx → BitVec 32) : Prop := (∀ x, (t1 x).toNat < 70656) ∧ ∀ x, (t2 x).toNat < 70656

theorem inRange_of_fn (t1 t2 : S33280.Idx → BitVec 32) (h : S33280x1024.Idx → Elt F .f32) (g : S33280x128.Idx → Elt F .f32)
    (ys : S70656x1024.Idx → Elt F .f32)
    (hp : (Cert.Pre_slots_in_range.fn (F := F) t1 t2 h g ys).1 = (fun _ => 1#1)
      ∧ (Cert.Pre_slots_in_range.fn (F := F) t1 t2 h g ys).2.1 = (fun _ => 1#1)
      ∧ (Cert.Pre_slots_in_range.fn (F := F) t1 t2 h g ys).2.2.1 = (fun _ => 1#1)
      ∧ (Cert.Pre_slots_in_range.fn (F := F) t1 t2 h g ys).2.2.2 = (fun _ => 1#1)) : InRange t1 t2 :=
  ⟨fun x => toNat_of_range (congrFun hp.1 x) (congrFun hp.2.1 x),
    fun x => toNat_of_range (congrFun hp.2.2.1 x) (congrFun hp.2.2.2 x)⟩

theorem frame_kernelIdeal : Cert.quiescent_KernelIdeal := fun m ρ hp =>
  have hr := inRange_of_fn _ _ _ _ _ (hp 0)
  (θ_run Cert.KernelIdeal.defs _ _).mono (fun _ h => ⟨fun c => (h.1 c).2, h.2⟩) (run_main (F := Ideal) m ρ hr.1 hr.2)

/-- The program as printed for the device and as printed for the reals have the same bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) :=
  congrArg (Pipeline.defs (Cert.KernelIdeal.pcfgs (F := Bits))) defs₀_eq

/-- The launch of the program printed for the device. -/
theorem run_bits (m : (ℓ : Loc nD τ sig) → Buf (Elt Bits) ℓ) (ρ : Dev nD → PrngReg) (h1 : ∀ x, (tb1 m x).toNat < 70656)
    (h2 : ∀ x, (tb2 m x).toNat < 70656) :
    θ_run Cert.Kernel.defs (onTc (τ := Cert.Kernel.τ) (Cert.Kernel.main (F := Bits))) ⟨m, fun _ => 0, ρ⟩ fun r =>
      (∀ c : Dev nD, r.2.mem (c.tc.loc main_v0) = outA m c
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)) ∧ r.2.sem = fun _ => 0 := by
  rw [defs_eq]
  exact run_main (F := Bits) m ρ h1 h2

theorem frame_kernel : Cert.quiescent_Kernel := fun m ρ hp =>
  have hr := inRange_of_fn _ _ _ _ _ (hp 0)
  (θ_run Cert.Kernel.defs _ _).mono (fun _ h => ⟨fun c => (h.1 c).2, h.2⟩) (run_bits m ρ hr.1 hr.2)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_slots_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The result of the launch, of its argument arrays. -/
theorem outA_args [∀ e, Nonempty (Elt F e)] (m : (ℓ : Loc nD τ sig) → Buf (Elt F) ℓ) (c : Dev nD) :
    outA m c = combined (m (c.tc.loc main_arg2)) (m (c.tc.loc main_arg3)) (m (c.tc.loc main_arg0)) (m (c.tc.loc main_arg1))
      (m (c.tc.loc main_arg4)) := by
  obtain rfl : c = 0 := Subsingleton.elim (α := Fin 1) _ _
  exact outA_eq m 0

theorem value_ideal : Cert.algebraic_KernelIdeal_ReferenceIdeal := fun m ρ m' ρ' hp hm =>
  have hr := inRange_of_fn _ _ _ _ _ (hp 0)
  ⟨fun c => outA m c,
    (θ_run Cert.KernelIdeal.defs _ _).mono (fun _ h => h.1) (run_main (F := Ideal) m ρ hr.1 hr.2),
    (θ_run Cert.ReferenceIdeal.defs _ _).mono (fun r h c => ⟨by
        refine (h c).1.trans ?_
        obtain rfl : c = 0 := Subsingleton.elim (α := Fin 1) _ _
        obtain ⟨a0, a1, a2, a3, a4⟩ := hm 0
        rw [a0, a1, a2, a3, a4]
        exact (refTerm_eq _ _ _ _ _ hr.1 hr.2).trans (outA_args m 0).symm, (h c).2⟩)
      (Cert.ReferenceIdeal.Value.run (F := Ideal) m' ρ')⟩

theorem value_bits : Cert.bitexact_Kernel_Reference := fun m ρ m' ρ' hp hm =>
  have hr := inRange_of_fn _ _ _ _ _ (hp 0)
  ⟨fun c => outA (F := Bits) m c,
    (θ_run Cert.Kernel.defs _ _).mono (fun _ h => h.1) (run_bits m ρ hr.1 hr.2),
    (θ_run Cert.Reference.defs _ _).mono (fun r h c => ⟨by
        refine (h c).1.trans ?_
        obtain rfl : c = 0 := Subsingleton.elim (α := Fin 1) _ _
        obtain ⟨a0, a1, a2, a3, a4⟩ := hm 0
        rw [a0, a1, a2, a3, a4]
        exact (refTerm_eq (F := Bits) _ _ _ _ _ hr.1 hr.2).trans (outA_args (F := Bits) m 0).symm, (h c).2⟩)
      (Cert.Reference.Value.run (F := Bits) m' ρ')⟩

end Cert.KernelIdeal.Hand

end
-- ==== Proof.Body2.lean ====
/- The body of `moe_expert_ffn` at one grid point: what it finds, what it leaves. Untrusted. -/
module

public import proofs.«01_k».proof.Proof.Gen.Kernel2Ideal.Skeleton
public import proofs.«01_k».proof.Proof.Gen.Kernel2Ideal.Launch
public import Idealize.ShloMosaic.Lib.Exec
public import Idealize.ShloMosaic.Lib.Tactic
public import Idealize.ShloMosaic.Lib.Pipeline.Frame
public import Idealize.ShloMosaic.Lib.Pipeline.FrameBody
public import Idealize.ShloMosaic.Lib.Pipeline.Value
public import Idealize.ShloMosaic.Lib.Pipeline.ValueKit.Geometry

@[expose] public section

set_option maxRecDepth 16384

noncomputable section

namespace Cert.Kernel2Ideal.Hand

open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.Sem Idealize.SL.ProofMode
open Cert.Kernel2Ideal.Gen
open Cert.Kernel2Ideal.Facts₀ Cert.Kernel2Ideal.Facts

variable {F : FTy → Type} [FloatOps F]

local notation "𝕄" => MT nD τ sig Unit (Elt F) ℕ (UR sig nD τ) ℕ

theorem zero2 : (![0, 0] : Fin 2 → ℕ) = fun _ => 0 := by funext a; fin_cases a <;> rfl
theorem zero3 : (![0, 0, 0] : Fin 3 → ℕ) = fun _ => 0 := by funext a; fin_cases a <;> rfl

/-- Reading all of a view by a rectangle that starts at its origin reads the view. -/
theorem readAt_all {Val : EltTy → Type} {κ : Kind} {sp : Space} {S : Shape} {e : EltTy} {v : View sig κ sp S e} {f : v.ty.Contents Val}
    {off : Fin S.rank → ℕ} (h : off = fun _ => 0) {inb : ∀ a, off a + S.size a ≤ S.size a} :
    v.readAt Val (Rect.unit off S.size inb).toLoadRect f = v.read Val f := by
  subst h
  funext x
  show v.read Val f ((Rect.whole S).emb x) = v.read Val f x
  rw [Rect.emb_whole_apply]

/-- A store of everything leaves its payload. -/
theorem read_store_all {Val : EltTy → Type} [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a) (P : S.Idx → Val e) :
    v.read Val (v.writes Val f [⟨Rect.unit off S.size inb, P⟩]) = P :=
  (View.read_writes_eq_canon _ _ _ fun y => ⟨_, List.mem_singleton_self _, View.mem_set_unit_zero h inb y⟩).trans
    (View.canon_unit_zero h inb P)

section Run

variable {𝒱₀ : Variants} (c : Dev nD) (i : grid0.Coords) (nt : S1.Idx → BitVec 32)
  (arg4 : Memref sig .tc .vmem S512x1024 .f32) (harg4 : arg4.IsWhole)
  (arg5 : Memref sig .tc .vmem S1x1024x1792 .bf16) (harg5 : arg5.IsWhole)
  (arg6 : Memref sig .tc .vmem S1x1024x1792 .bf16) (harg6 : arg6.IsWhole)
  (arg7 : Memref sig .tc .vmem S1x1792x1024 .bf16) (harg7 : arg7.IsWhole)
  (arg8 : Memref sig .tc .vmem S512x1024 .f32) (harg8 : arg8.IsWhole)

/-- The kernel's body at a grid point, on the point's staging buffers. -/
abbrev body := cc0_moe_expert_ffn (F := F) i (Memref.whole main_arg0) (Memref.isWhole_whole _) (Memref.whole main_arg1) (Memref.isWhole_whole _)
  arg4 harg4 arg5 harg5 arg6 harg6 arg7 harg7 arg8 harg8 (Memref.whole cc0_scratch0) (Memref.isWhole_whole _)

/-- An unused tile's first point: the tile is cleared. -/
theorem run_clear [∀ e, Nonempty (Elt F e)] (h1 : ∀ x, k0_cond1 i (nt x) = 1#1) (h2 : ∀ x, ¬ k0_cond2 i (nt x) = 1#1)
    (g8 : Buf (Elt F) (arg8.view.loc (c : Thread nD τ))) :
    (iprop(((Memref.whole main_arg1).view.loc (c : Thread nD τ) ↦{fullShare.right} nt)
      ∗ (arg8.view.loc (c : Thread nD τ) ↦[arg8.view.set]{fullShare} g8)) : sProp 𝕄)
    ⊢ wp frame (wpE defs₀ 𝒱₀ (c : Thread nD τ) none) Set.univ (body i arg4 harg4 arg5 harg5 arg6 harg6 arg7 harg7 arg8 harg8) fun _ =>
      iprop(((Memref.whole main_arg1).view.loc (c : Thread nD τ) ↦{fullShare.right} nt)
      ∗ owns (c : Thread nD τ) arg8 fullShare (k0_pay1 (F := F))) := by
  iintro ⟨HT, H8⟩
  unfold body
  rw [cc0_moe_expert_ffn_eq_skeleton]
  unfold cc0_moe_expert_ffn_skel
  sl_exec (disch := first | exact h1 _ | exact h2 _)
  sl_step
  isplitl [HT]; · iexact HT
  unfold owns
  iexists (arg8.view.writes (Elt F) g8 [⟨Rect.unit ![0, 0] S512x1024.size Gen.inb_S512x1024_S512x1024_0_0, k0_pay1⟩])
  isplitr
  · ipureintro
    exact read_store_all _ _ zero2 _ _
  iexact H8

/-- An unused tile's other point: nothing is touched. -/
theorem run_skip [∀ e, Nonempty (Elt F e)] (h1 : ∀ x, ¬ k0_cond1 i (nt x) = 1#1) (h2 : ∀ x, ¬ k0_cond2 i (nt x) = 1#1) :
    (((Memref.whole main_arg1).view.loc (c : Thread nD τ) ↦{fullShare.right} nt) : sProp 𝕄)
    ⊢ wp frame (wpE defs₀ 𝒱₀ (c : Thread nD τ) none) Set.univ (body i arg4 harg4 arg5 harg5 arg6 harg6 arg7 harg7 arg8 harg8) fun _ =>
      ((Memref.whole main_arg1).view.loc (c : Thread nD τ) ↦{fullShare.right} nt) := by
  iintro HT
  unfold body
  rw [cc0_moe_expert_ffn_eq_skeleton]
  unfold cc0_moe_expert_ffn_skel
  sl_exec (disch := first | exact h1 _ | exact h2 _)
  sl_step
  iexact HT

set_option maxHeartbeats 1000000 in
/-- A used tile's first point: the rows are kept, and the first half of the hidden columns gives the tile. -/
theorem run_first [∀ e, Nonempty (Elt F e)] (h1 : ∀ x, ¬ k0_cond1 i (nt x) = 1#1) (h2 : ∀ x, k0_cond2 i (nt x) = 1#1)
    (h3 : Scalar.cmpi .ne (Scalar.extui (Scalar.cmpi .eq (BitVec.ofNat 32 (i 1).val) 0#32) : BitVec 32) 0#32 = 1#1)
    (h4 : k0_cond4 i = 1#1) (h5 : ¬ k0_cond5 i = 1#1)
    (f9 : S512x1024.Idx → Elt F .bf16)
    (g4 : Buf (Elt F) (arg4.view.loc (c : Thread nD τ))) (g5 : Buf (Elt F) (arg5.view.loc (c : Thread nD τ)))
    (g6 : Buf (Elt F) (arg6.view.loc (c : Thread nD τ))) (g7 : Buf (Elt F) (arg7.view.loc (c : Thread nD τ)))
    (g8 : Buf (Elt F) (arg8.view.loc (c : Thread nD τ))) :
    (iprop(((Memref.whole cc0_scratch0).view.loc (c : Thread nD τ) ↦{fullShare} f9)
      ∗ ((Memref.whole main_arg1).view.loc (c : Thread nD τ) ↦{fullShare.right} nt)
      ∗ (arg4.view.loc (c : Thread nD τ) ↦[arg4.view.set]{fullShare} g4)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ (arg8.view.loc (c : Thread nD τ) ↦[arg8.view.set]{fullShare} g8)) : sProp 𝕄)
    ⊢ wp frame (wpE defs₀ 𝒱₀ (c : Thread nD τ) none) Set.univ (body i arg4 harg4 arg5 harg5 arg6 harg6 arg7 harg7 arg8 harg8) fun _ =>
      iprop(owns (c : Thread nD τ) (Memref.whole cc0_scratch0) fullShare (k0_pay2 (arg4.view.read (Elt F) g4))
      ∗ ((Memref.whole main_arg1).view.loc (c : Thread nD τ) ↦{fullShare.right} nt)
      ∗ (arg4.view.loc (c : Thread nD τ) ↦[arg4.view.set]{fullShare} g4)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ owns (c : Thread nD τ) arg8 fullShare (k0_pay3 (k0_pay2 (arg4.view.read (Elt F) g4)) (arg5.view.read (Elt F) g5)
          (arg6.view.read (Elt F) g6) (arg7.view.read (Elt F) g7))) := by
  iintro ⟨H9, HT, H4, H5, H6, H7, H8⟩
  unfold body
  rw [cc0_moe_expert_ffn_eq_skeleton]
  unfold cc0_moe_expert_ffn_skel
  sl_exec (disch := first | exact h1 _ | exact h2 _ | exact h3 | exact h4 | exact h5)
  sl_step
  have e12 : run_first.sl.v12 c arg4 g4 = k0_pay2 (arg4.view.read (Elt F) g4) := by
    unfold run_first.sl.v12 run_first.sl.H9_1
    rw [readAt_all (v := arg4.view) zero2]
    exact View.readCov_unit_zero (Val := Elt F) (S := S512x1024) (e := .bf16) (Memref.whole cc0_scratch0).view zero2
      Gen.inb_S512x1024_S512x1024_0_0 (k0_pay2 (arg4.view.read (Elt F) g4))
  rw [readAt_all (v := arg5.view) zero3, readAt_all (v := arg6.view) zero3, readAt_all (v := arg7.view) zero3, e12]
  isplitl [H9]
  · unfold owns
    iexists ((Memref.whole cc0_scratch0).view.writes (Elt F) f9 (run_first.sl.H9_1 c arg4 g4))
    isplitr
    · ipureintro
      unfold run_first.sl.H9_1
      rw [readAt_all (v := arg4.view) zero2]
      exact read_store_all _ _ zero2 _ _
    rw [show (Memref.whole cc0_scratch0).view.set = Finset.univ from View.set_whole _]
    iexact H9
  isplitl [HT]; · iexact HT
  isplitl [H4]; · iexact H4
  isplitl [H5]; · iexact H5
  isplitl [H6]; · iexact H6
  isplitl [H7]; · iexact H7
  unfold owns
  iexists (arg8.view.writes (Elt F) g8 [⟨Rect.unit ![0, 0] S512x1024.size Gen.inb_S512x1024_S512x1024_0_0,
    k0_pay3 (k0_pay2 (arg4.view.read (Elt F) g4)) (arg5.view.read (Elt F) g5) (arg6.view.read (Elt F) g6) (arg7.view.read (Elt F) g7)⟩])
  isplitr
  · ipureintro
    exact read_store_all _ _ zero2 _ _
  iexact H8

/-- A used tile's second point: the second half is added to what the first left. -/
theorem run_second [∀ e, Nonempty (Elt F e)] (h1 : ∀ x, ¬ k0_cond1 i (nt x) = 1#1) (h2 : ∀ x, k0_cond2 i (nt x) = 1#1)
    (h3 : ¬ Scalar.cmpi .ne (Scalar.extui (Scalar.cmpi .eq (BitVec.ofNat 32 (i 1).val) 0#32) : BitVec 32) 0#32 = 1#1)
    (h4 : ¬ k0_cond4 i = 1#1) (h5 : k0_cond5 i = 1#1)
    (f9 : S512x1024.Idx → Elt F .bf16) (g5 : Buf (Elt F) (arg5.view.loc (c : Thread nD τ)))
    (g6 : Buf (Elt F) (arg6.view.loc (c : Thread nD τ))) (g7 : Buf (Elt F) (arg7.view.loc (c : Thread nD τ)))
    (g8 : Buf (Elt F) (arg8.view.loc (c : Thread nD τ))) :
    (iprop(((Memref.whole cc0_scratch0).view.loc (c : Thread nD τ) ↦{fullShare} f9)
      ∗ ((Memref.whole main_arg1).view.loc (c : Thread nD τ) ↦{fullShare.right} nt)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ (arg8.view.loc (c : Thread nD τ) ↦[arg8.view.set]{fullShare} g8)) : sProp 𝕄)
    ⊢ wp frame (wpE defs₀ 𝒱₀ (c : Thread nD τ) none) Set.univ (body i arg4 harg4 arg5 harg5 arg6 harg6 arg7 harg7 arg8 harg8) fun _ =>
      iprop(((Memref.whole cc0_scratch0).view.loc (c : Thread nD τ) ↦{fullShare} f9)
      ∗ ((Memref.whole main_arg1).view.loc (c : Thread nD τ) ↦{fullShare.right} nt)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ owns (c : Thread nD τ) arg8 fullShare (k0_pay4 f9 (arg5.view.read (Elt F) g5)
          (arg6.view.read (Elt F) g6) (arg7.view.read (Elt F) g7) (arg8.view.read (Elt F) g8))) := by
  iintro ⟨H9, HT, H5, H6, H7, H8⟩
  unfold body
  rw [cc0_moe_expert_ffn_eq_skeleton]
  unfold cc0_moe_expert_ffn_skel
  sl_exec (disch := first | exact h1 _ | exact h2 _ | exact h3 | exact h4 | exact h5)
  sl_step
  rw [readAt_all (v := arg5.view) zero3, readAt_all (v := arg6.view) zero3, readAt_all (v := arg7.view) zero3, readAt_all (v := arg8.view) zero2]
  have r9 := readAt_all (Val := Elt F) (S := S512x1024) (v := (Memref.whole cc0_scratch0).view) (f := f9) zero2
    (inb := Gen.inb_S512x1024_S512x1024_0_0)
  erw [r9]
  isplitl [H9]; · iexact H9
  isplitl [HT]; · iexact HT
  isplitl [H5]; · iexact H5
  isplitl [H6]; · iexact H6
  isplitl [H7]; · iexact H7
  unfold owns
  iexists (arg8.view.writes (Elt F) g8 [⟨Rect.unit ![0, 0] S512x1024.size Gen.inb_S512x1024_S512x1024_0_0,
    k0_pay4 f9 (arg5.view.read (Elt F) g5) (arg6.view.read (Elt F) g6) (arg7.view.read (Elt F) g7) (arg8.view.read (Elt F) g8)⟩])
  isplitr
  · ipureintro
    exact read_store_all _ _ zero2 _ _
  iexact H8

end Run

end Cert.Kernel2Ideal.Hand

end
-- ==== Proof.Run2.lean ====
/- The launch of `moe_expert_ffn`: from any memory whose tile experts are among the eight and whose tile count is positive
   it runs, and leaves in the result array the rows computed tile by tile. Untrusted. -/
module

public import proofs.«01_k».proof.Proof.Body2
public import Idealize.ShloMosaic.Lib.ValueIdxCore
public import Idealize.ShloMosaic.PureOps.BitExact

@[expose] public section

set_option maxRecDepth 16384

noncomputable section

namespace Cert.Kernel2Ideal.Hand

open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.Sem Idealize.SL.ProofMode
open Idealize.ShloMosaic.ValueIdx
open Cert.Kernel2Ideal.Gen
open Cert.Kernel2Ideal.Facts₀ Cert.Kernel2Ideal.Facts

variable {F : FTy → Type} [FloatOps F]

local notation "𝕄" => MT nD τ sig Unit (Elt F) ℕ (UR sig nD τ) ℕ

section Conds

/-- A grid point's tile is one of those in use. -/
abbrev Used (i : grid0.Coords) (w : BitVec 32) : Prop := (BitVec.ofNat 32 (i 0).val).slt w = true

theorem col_cases (i : grid0.Coords) : (i 1).val = 0 ∨ (i 1).val = 1 := by
  have h : (i 1).val < 2 := (i 1).isLt
  omega

theorem cond2_used {i : grid0.Coords} {w : BitVec 32} (h : Used i w) : k0_cond2 i w = 1#1 := by
  show Scalar.cmpi .ne (Scalar.extui (BitVec.ofBool ((BitVec.ofNat 32 (i 0).val).slt w)) : BitVec 32) 0#32 = 1#1
  rw [h]; decide
theorem cond2_unused {i : grid0.Coords} {w : BitVec 32} (h : ¬ Used i w) : ¬ k0_cond2 i w = 1#1 := by
  show ¬ Scalar.cmpi .ne (Scalar.extui (BitVec.ofBool ((BitVec.ofNat 32 (i 0).val).slt w)) : BitVec 32) 0#32 = 1#1
  rw [Bool.eq_false_of_not_eq_true h]; decide
theorem cond1_used {i : grid0.Coords} {w : BitVec 32} (h : Used i w) : ¬ k0_cond1 i w = 1#1 := by
  show ¬ Scalar.cmpi .ne (Scalar.extui (Scalar.andi (Scalar.xori (BitVec.ofBool ((BitVec.ofNat 32 (i 0).val).slt w)) 1#1)
    (Scalar.cmpi .eq (BitVec.ofNat 32 (i 1).val) 0#32)) : BitVec 32) 0#32 = 1#1
  rw [h]
  rcases col_cases i with e | e <;> (rw [e]; decide)
theorem cond1_first {i : grid0.Coords} {w : BitVec 32} (h : ¬ Used i w) (e : (i 1).val = 0) : k0_cond1 i w = 1#1 := by
  show Scalar.cmpi .ne (Scalar.extui (Scalar.andi (Scalar.xori (BitVec.ofBool ((BitVec.ofNat 32 (i 0).val).slt w)) 1#1)
    (Scalar.cmpi .eq (BitVec.ofNat 32 (i 1).val) 0#32)) : BitVec 32) 0#32 = 1#1
  rw [Bool.eq_false_of_not_eq_true h, e]; decide
theorem cond1_second {i : grid0.Coords} {w : BitVec 32} (h : ¬ Used i w) (e : (i 1).val = 1) : ¬ k0_cond1 i w = 1#1 := by
  show ¬ Scalar.cmpi .ne (Scalar.extui (Scalar.andi (Scalar.xori (BitVec.ofBool ((BitVec.ofNat 32 (i 0).val).slt w)) 1#1)
    (Scalar.cmpi .eq (BitVec.ofNat 32 (i 1).val) 0#32)) : BitVec 32) 0#32 = 1#1
  rw [Bool.eq_false_of_not_eq_true h, e]; decide

theorem cond3_first {i : grid0.Coords} (e : (i 1).val = 0) :
    Scalar.cmpi .ne (Scalar.extui (Scalar.cmpi .eq (BitVec.ofNat 32 (i 1).val) 0#32) : BitVec 32) 0#32 = 1#1 := by rw [e]; decide
theorem cond3_second {i : grid0.Coords} (e : (i 1).val = 1) :
    ¬ Scalar.cmpi .ne (Scalar.extui (Scalar.cmpi .eq (BitVec.ofNat 32 (i 1).val) 0#32) : BitVec 32) 0#32 = 1#1 := by rw [e]; decide
theorem cond4_first {i : grid0.Coords} (e : (i 1).val = 0) : k0_cond4 i = 1#1 := cond3_first e
theorem cond4_second {i : grid0.Coords} (e : (i 1).val = 1) : ¬ k0_cond4 i = 1#1 := cond3_second e
theorem cond5_first {i : grid0.Coords} (e : (i 1).val = 0) : ¬ k0_cond5 i = 1#1 := by
  show ¬ Scalar.cmpi .ne (Scalar.extui (Scalar.cmpi .sgt (BitVec.ofNat 32 (i 1).val) 0#32) : BitVec 32) 0#32 = 1#1
  rw [e]; decide
theorem cond5_second {i : grid0.Coords} (e : (i 1).val = 1) : k0_cond5 i = 1#1 := by
  show Scalar.cmpi .ne (Scalar.extui (Scalar.cmpi .sgt (BitVec.ofNat 32 (i 1).val) 0#32) : BitVec 32) 0#32 = 1#1
  rw [e]; decide

/-- The tile whose rows a point reads: its own, or the last in use. -/
theorem tile_toNat (k : ℕ) (hk : k < 138) (w : BitVec 32) (h1 : 1 ≤ w.toNat) (h2 : w.toNat < 2147483648) :
    (Scalar.minsi (BitVec.ofNat 32 k) (Scalar.subi w 1#32)).toNat = min k (w.toNat - 1) := by
  have ek : (BitVec.ofNat 32 k).toNat = k := by rw [BitVec.toNat_ofNat]; exact Nat.mod_eq_of_lt (by omega)
  have es : (Scalar.subi w 1#32).toNat = w.toNat - 1 := by
    show (w - 1#32).toNat = _
    rw [BitVec.toNat_sub_of_le (by show 1 ≤ w.toNat; omega)]; rfl
  have i1 : (BitVec.ofNat 32 k).toInt = (k : ℤ) := by rw [BitVec.toInt_eq_toNat_cond, ek, if_pos (by omega)]
  have i2 : (Scalar.subi w 1#32).toInt = ((w.toNat - 1 : ℕ) : ℤ) := by rw [BitVec.toInt_eq_toNat_cond, es, if_pos (by omega)]
  unfold Scalar.minsi IntOp.minsi
  simp only [BitVec.slt, BitVec.sle, i1, i2]
  split
  · next h => rw [ek]; simp at h; omega
  · next h => rw [es]; simp at h; omega

theorem used_iff {i : grid0.Coords} {w : BitVec 32} (h2 : w.toNat < 2147483648) : Used i w ↔ (i 0).val < w.toNat := by
  have hk : (i 0).val < 138 := (i 0).isLt
  have ek : (BitVec.ofNat 32 (i 0).val).toNat = (i 0).val := by rw [BitVec.toNat_ofNat]; exact Nat.mod_eq_of_lt (by omega)
  have i1 : (BitVec.ofNat 32 (i 0).val).toInt = ((i 0).val : ℤ) := by rw [BitVec.toInt_eq_toNat_cond, ek, if_pos (by omega)]
  have i2 : w.toInt = (w.toNat : ℤ) := by rw [BitVec.toInt_eq_toNat_cond, if_pos (by omega)]
  unfold Used
  simp only [BitVec.slt, i1, i2, decide_eq_true_eq]
  omega

end Conds

/-- Tables whose experts are among the eight and whose count is positive are admissible. -/
theorem ok_of (pf : pre0.Contents (Elt F)) (h0 : ∀ x : S138.Idx, BitVec.toNat (w := 32) (pf 0 x) < 8)
    (h1 : ∀ x : S1.Idx, 1 ≤ BitVec.toNat (w := 32) (pf 1 x) ∧ BitVec.toNat (w := 32) (pf 1 x) < 2147483648) : ok0 pf := by
  unfold ok0
  have aux : ∀ (i : grid0.Coords) (v : BitVec 32), v.toNat < 8 → ∀ a : Fin 3,
      ((![v.toNat, (0#32).toNat, (BitVec.ofNat 32 (i 1).val).toNat] : Fin 3 → Nat) a + 1) * S1x1024x1792.size a ≤ S8x1024x3584.size a := by
    intro i v hv a
    have hi : (i 1).val < 2 := (i 1).isLt
    fin_cases a
    · show (v.toNat + 1) * 1 ≤ 8; omega
    · show (0 + 1) * 1024 ≤ 1024; omega
    · show ((BitVec.ofNat 32 (i 1).val).toNat + 1) * 1792 ≤ 3584
      rw [BitVec.toNat_ofNat, Nat.mod_eq_of_lt (by omega)]; omega
  have aux3 : ∀ (i : grid0.Coords) (v : BitVec 32), v.toNat < 8 → ∀ a : Fin 3,
      ((![v.toNat, (BitVec.ofNat 32 (i 1).val).toNat, (0#32).toNat] : Fin 3 → Nat) a + 1) * S1x1792x1024.size a ≤ S8x3584x1024.size a := by
    intro i v hv a
    have hi : (i 1).val < 2 := (i 1).isLt
    fin_cases a
    · show (v.toNat + 1) * 1 ≤ 8; omega
    · show ((BitVec.ofNat 32 (i 1).val).toNat + 1) * 1792 ≤ 3584
      rw [BitVec.toNat_ofNat, Nat.mod_eq_of_lt (by omega)]; omega
    · show (0 + 1) * 1024 ≤ 1024; omega
  have aux0 : ∀ (i : grid0.Coords) (v : BitVec 32), 1 ≤ v.toNat ∧ v.toNat < 2147483648 → ∀ a : Fin 2,
      ((![(Scalar.minsi (BitVec.ofNat 32 (i 0).val) (Scalar.subi v 1#32)).toNat, (0#32).toNat] : Fin 2 → Nat) a + 1) * S512x1024.size a ≤ S70656x1024.size a := by
    intro i v hv a
    have hi : (i 0).val < 138 := (i 0).isLt
    fin_cases a
    · show ((Scalar.minsi (BitVec.ofNat 32 (i 0).val) (Scalar.subi v 1#32)).toNat + 1) * 512 ≤ 70656
      rw [tile_toNat _ hi _ hv.1 hv.2]; omega
    · show (0 + 1) * 1024 ≤ 1024; omega
  refine ⟨fun i => ⟨aux0 i _ (h1 _), Or.inl rfl⟩, fun i => ⟨aux i _ (h0 _), Or.inr ?_⟩, fun i => ⟨aux i _ (h0 _), Or.inr ?_⟩,
    fun i => ⟨aux3 i _ (h0 _), Or.inr ?_⟩⟩
  · exact Affine.block_words_dvd (by decide) (by decide)
  · exact Affine.block_words_dvd (by decide) (by decide)
  · exact Affine.block_words_dvd (by decide) (by decide)

section
variable (m : (ℓ : Loc nD τ sig) → Buf (Elt F) ℓ)

/-- The core's buffers when the call starts: the weights have been rounded. -/
abbrev V (c : Dev nD) (b : Ref sig .tc) : Buf (Elt F) ((c : Thread nD τ).loc b) := StableHlo.after hostOps0 (fun b => m (c, b)) b

/-- The tables at launch. -/
def tbls : pre0.Contents (Elt F) := fun k => m (((0 : Dev nD) : Thread nD τ).loc (pre0.ref k))

/-- The tiles' experts, and the number of tiles in use. -/
abbrev te : S138.Idx → BitVec 32 := m (((0 : Dev nD) : Thread nD τ).loc main_arg0)
abbrev nt : S1.Idx → BitVec 32 := m (((0 : Dev nD) : Thread nD τ).loc main_arg1)

/-- What the run needs of the tables. -/
def Good : Prop := (∀ x, (te m x).toNat < 8) ∧ ∀ x, 1 ≤ (nt m x).toNat ∧ (nt m x).toNat < 2147483648

theorem ok_tbls (h : Good m) : ok0 (tbls m) := ok_of _ h.1 h.2

/-- The tables are admissible. -/
def adm (h : Good m) : (p : Fin 1) → (pcfgs (F := F) p).Adm := fun _ => ⟨tbls m, ok_tbls m h⟩

/-- The pipeline at the launch tables. -/
abbrev cfgA (h : Good m) : Cfg sig Λ₀ := Pipeline.pin pcfgs (adm m h) 0

/-- What a point is given: a tile of rows, -/
def xblk (h : Good m) (c : Dev nD) (t : Fin grid0.N) : S512x1024.Idx → Elt F .f32 := (((cfgA m h).win 0).blk t).view.read (Elt F) (V m c main_arg2)
/-- and a half of the columns of each of its expert's three matrices. -/
def gblk (h : Good m) (c : Dev nD) (t : Fin grid0.N) : S1x1024x1792.Idx → Elt F .bf16 := (((cfgA m h).win 1).blk t).view.read (Elt F) (V m c main_v0)
def ublk (h : Good m) (c : Dev nD) (t : Fin grid0.N) : S1x1024x1792.Idx → Elt F .bf16 := (((cfgA m h).win 2).blk t).view.read (Elt F) (V m c main_v1)
def dblk (h : Good m) (c : Dev nD) (t : Fin grid0.N) : S1x1792x1024.Idx → Elt F .bf16 := (((cfgA m h).win 3).blk t).view.read (Elt F) (V m c main_v2)

/-- The point before. -/
abbrev prev (t : Fin grid0.N) : Fin grid0.N := ⟨t.val - 1, Nat.lt_of_le_of_lt (Nat.sub_le _ _) t.isLt⟩

/-- What a used tile's first point computes. -/
def part (h : Good m) (c : Dev nD) (t : Fin grid0.N) : S512x1024.Idx → Elt F .f32 :=
  k0_pay3 (k0_pay2 (xblk m h c t)) (gblk m h c t) (ublk m h c t) (dblk m h c t)

/-- The tile of the result after a point. -/
def oblk (h : Good m) (c : Dev nD) (t : Fin grid0.N) : S512x1024.Idx → Elt F .f32 :=
  if Used (grid0.coords t) (nt m (ix1 0)) then
    if (grid0.coords t 1).val = 0 then part m h c t
    else k0_pay4 (k0_pay2 (xblk m h c t)) (gblk m h c t) (ublk m h c t) (dblk m h c t) (part m h c (prev t))
  else k0_pay1 (F := F)

/-- Between points: the scratch holds the rounded rows of the tile the point before was at, if it was in use. -/
def Phi (h : Good m) (c : Dev nD) (t : Fin (grid0.N + 1)) : sProp 𝕄 :=
  iprop((∃ X : S512x1024.Idx → Elt F .bf16,
      ⌜∀ p : Fin grid0.N, p.val + 1 = t.val → Used (grid0.coords p) (nt m (ix1 0)) → X = k0_pay2 (xblk m h c p)⌝
      ∗ ((c : Thread nD τ).loc cc0_scratch0 ↦{fullShare} X))
    ∗ (∃ r, prngReg c r) ∗ ΦT pre0 (tbls m) c)

/-- What the run holds and leaves. -/
def dats (h : Good m) (_ : Fin 1) (c : Dev nD) : Dat τ (Elt F) Unit ℕ (UR sig nD τ) ℕ (cfgA m h) c where
  A := fun w => V m c (arrRef spec0 w)
  after := fun
    | 0 => xblk m h c
    | 1 => gblk m h c
    | 2 => ublk m h c
    | 3 => dblk m h c
    | 4 => oblk m h c
    | ⟨_ + 5, h⟩ => absurd h (Nat.not_lt.2 (Nat.le_add_left _ _))
  Φ := Phi m h c
  q := fun _ => fullShare
  owed := fun _ => 0

end

section Index

/-- Some tables. -/
def tblZ : pre0.Contents (Elt Bits) := fun k => match k with | 0 => fun _ => (0#32 : BitVec 32) | 1 => fun _ => (1#32 : BitVec 32)
theorem ok_tblZ : ok0 tblZ := ok_of _ (fun _ => by show (0#32).toNat < 8; decide) fun _ => by show 1 ≤ (1#32).toNat ∧ (1#32).toNat < 2147483648; decide
def admZ : (p : Fin 1) → (pcfgs (F := Bits) p).Adm := fun _ => ⟨tblZ, ok_tblZ⟩

theorem fetchZ4 : ∀ t : Fin grid0.N, ((Pipeline.pin (pcfgs (F := Bits)) admZ 0).win 4).fetch t = false := by decide +kernel
theorem flushZ4 : ∀ t : Fin grid0.N, ((Pipeline.pin (pcfgs (F := Bits)) admZ 0).win 4).flush t = decide ((grid0.coords t 1).val = 1) := by decide +kernel
theorem coverZ4 : ((Pipeline.pin (pcfgs (F := Bits)) admZ 0).win 4).Covers := by decide +kernel
theorem coordsZ : ∀ t : Fin grid0.N, (grid0.coords t 0).val = t.val / 2 ∧ (grid0.coords t 1).val = t.val % 2 := by decide +kernel

variable (m : (ℓ : Loc nD τ sig) → Buf (Elt F) ℓ)
theorem fetch4 (h : Good m) (t : Fin grid0.N) : ((cfgA m h).win 4).fetch t = false := fetchZ4 t
theorem flush4 (h : Good m) (t : Fin grid0.N) : ((cfgA m h).win 4).flush t = decide ((grid0.coords t 1).val = 1) := flushZ4 t
theorem cover4 (h : Good m) : ((cfgA m h).win 4).Covers := coverZ4

/-- The second of a tile's points comes right after its first. -/
theorem prev_coords {t : Fin grid0.N} (e : (grid0.coords t 1).val = 1) :
    t.val ≠ 0 ∧ (grid0.coords (prev t) 0).val = (grid0.coords t 0).val ∧ (grid0.coords (prev t) 1).val = 0 := by
  obtain ⟨h0, h1⟩ := coordsZ t
  obtain ⟨g0, g1⟩ := coordsZ (prev t)
  have hp : (prev t).val = t.val - 1 := rfl
  rw [hp] at g0 g1
  rw [h0, g0, g1]
  rw [e] at h1
  exact ⟨by omega, by omega, by omega⟩

theorem nt_const (x : S1.Idx) : nt m x = nt m (ix1 0) := by
  congr 1
  funext a
  fin_cases a
  exact Fin.ext (by have := (x 0).isLt; show (x 0).val = 0; have h : S1.size 0 = 1 := rfl; omega)

theorem idle_eq (h : Good m) (i : grid0.Coords) : (cfgA m h).idle 4 i = (!(k0_cond1 i (nt m (ix1 0)) == 1#1)
    && !(k0_cond2 i (nt m (ix1 0)) == 1#1 && k0_cond4 i == 1#1) && !(k0_cond2 i (nt m (ix1 0)) == 1#1 && k0_cond5 i == 1#1)) := by
  have e : (tbls m).atD 1 ![0] = nt m (ix1 0) := by
    unfold Pipeline.Prefetch.Contents.atD
    rw [dif_pos (by decide)]
    exact nt_const m _
  show idle0 (tbls m) 4 i = _
  show (!(k0_cond1 i ((tbls m).atD 1 ![0]) == 1#1)
    && !(k0_cond2 i ((tbls m).atD 1 ![0]) == 1#1 && k0_cond4 i == 1#1) && !(k0_cond2 i ((tbls m).atD 1 ![0]) == 1#1 && k0_cond5 i == 1#1)) = _
  rw [e]

theorem idle_first (h : Good m) (i : grid0.Coords) (e : (i 1).val = 0) : (cfgA m h).idle 4 i = false := by
  rw [idle_eq]
  by_cases hu : Used i (nt m (ix1 0))
  · rw [cond2_used hu, cond4_first e]; simp
  · rw [cond1_first hu e]; simp

end Index

section Body
variable (m : (ℓ : Loc nD τ sig) → Buf (Elt F) ℓ)
variable [∀ e, Nonempty (Elt F e)]

theorem before0 (h : Good m) (c : Dev nD) (t : Fin grid0.N) (d) : (dats m h 0 c).before 0 t d = xblk m h c t :=
  (dats m h 0 c).before_in_eq_fetched 0 rfl (fun _ => rfl) (fun _ _ _ => rfl) (fun _ => rfl) t d
theorem before1 (h : Good m) (c : Dev nD) (t : Fin grid0.N) (d) : (dats m h 0 c).before 1 t d = gblk m h c t :=
  (dats m h 0 c).before_in_eq_fetched 1 rfl (fun _ => rfl) (fun _ _ _ => rfl) (fun _ => rfl) t d
theorem before2 (h : Good m) (c : Dev nD) (t : Fin grid0.N) (d) : (dats m h 0 c).before 2 t d = ublk m h c t :=
  (dats m h 0 c).before_in_eq_fetched 2 rfl (fun _ => rfl) (fun _ _ _ => rfl) (fun _ => rfl) t d
theorem before3 (h : Good m) (c : Dev nD) (t : Fin grid0.N) (d) : (dats m h 0 c).before 3 t d = dblk m h c t :=
  (dats m h 0 c).before_in_eq_fetched 3 rfl (fun _ => rfl) (fun _ _ _ => rfl) (fun _ => rfl) t d

/-- A tile's second point finds in the result's buffer what its first left. -/
theorem before4 (h : Good m) (c : Dev nD) (t : Fin grid0.N) (e : (grid0.coords t 1).val = 1) (d) :
    (dats m h 0 c).before 4 t d = oblk m h c (prev t) := by
  obtain ⟨h0, -, h1⟩ := prev_coords e
  have hf : ((cfgA m h).win 4).flush (prev t) = false := by rw [flush4, h1]; rfl
  have hi : (cfgA m h).idle 4 (grid0.coords (prev t)) = false := idle_first m h _ h1
  refine ((dats m h 0 c).before_of_pos 4 t h0 (fetch4 m h t) d).trans ?_
  refine (if_neg (by rw [hf]; decide)).trans ?_
  unfold Dat.left
  rw [hi]
  rfl

/-- The rows are those of the point before. -/
theorem xblk_prev (h : Good m) (c : Dev nD) (t : Fin grid0.N) (e : (grid0.coords t 1).val = 1) : xblk m h c (prev t) = xblk m h c t := by
  obtain ⟨h0, h2, h1⟩ := prev_coords e
  refine (dats m h 0 c).fetched_congr 0 (t := prev t) (t' := t) ?_ rfl (xblk m h c t)
  refine hreads0 (tbls m) 0 (grid0.coords (prev t)) (grid0.coords t) fun a ha => ?_
  match a with
  | 0 => exact Fin.ext h2
  | 1 => exact absurd ha (by decide)

theorem table_eq (c : Dev nD) : (ΦT (Val := Elt F) pre0 (tbls m) c : sProp 𝕄)
    = iprop(((Memref.whole main_arg0).view.loc (c : Thread nD τ) ↦{fullShare.right} te m)
      ∗ ((Memref.whole main_arg1).view.loc (c : Thread nD τ) ↦{fullShare.right} nt m)) := by
  have hc : c = 0 := Subsingleton.elim _ _
  subst hc
  unfold ΦT prefHeld
  exact Idealize.SL.BI.bigSep_univ_eq_bigSepL [(0 : Fin 2), (1 : Fin 2)] (by decide) (by decide) _

/-- The staging buffers at a point. -/
abbrev st0 (h : Good m) (t : Fin grid0.N) : Memref sig .tc .vmem S512x1024 .f32 := spec0_0.stage ((cfgA m h).slots t 0)
abbrev st1 (h : Good m) (t : Fin grid0.N) : Memref sig .tc .vmem S1x1024x1792 .bf16 := spec0_1.stage ((cfgA m h).slots t 1)
abbrev st2 (h : Good m) (t : Fin grid0.N) : Memref sig .tc .vmem S1x1024x1792 .bf16 := spec0_2.stage ((cfgA m h).slots t 2)
abbrev st3 (h : Good m) (t : Fin grid0.N) : Memref sig .tc .vmem S1x1792x1024 .bf16 := spec0_3.stage ((cfgA m h).slots t 3)
abbrev st4 (h : Good m) (t : Fin grid0.N) : Memref sig .tc .vmem S512x1024 .f32 := spec0_4.stage ((cfgA m h).slots t 4)

/-- What a point leaves its windows with: an unused tile's second point leaves the zeros its first stored. -/
theorem leaves_after (h : Good m) (c : Dev nD) (t : Fin grid0.N) (w : Fin (cfgA m h).W) (hw : (cfgA m h).idle w (grid0.coords t) = false ∨ ((cfgA m h).win w).flush t = true) :
    (dats m h 0 c).leavesExact w t = owns (c : Thread nD τ) (((cfgA m h).win w).stage ((cfgA m h).slots t w)) fullShare ((dats m h 0 c).after w t) := by
  unfold Dat.leavesExact
  rcases hw with hi | hf
  · rw [hi]
  · rw [hf]
    cases (cfgA m h).idle w ((cfgA m h).grid.coords t) <;> rfl

theorem leaves4 (h : Good m) (c : Dev nD) (t : Fin grid0.N) :
    (dats m h 0 c).leavesExact 4 t = owns (c : Thread nD τ) (st4 m h t) fullShare (oblk m h c t) := by
  refine leaves_after m h c t 4 ?_
  rcases col_cases (grid0.coords t) with e | e
  · exact Or.inl (idle_first m h _ e)
  · exact Or.inr (by rw [flush4, e]; rfl)

set_option maxHeartbeats 1000000 in
theorem body_wp (h : Good m) (𝒱₀ : Variants) (c : Dev nD) (t : Fin grid0.N)
    (h4 : (st0 m h t).IsWhole) (h5 : (st1 m h t).IsWhole) (h6 : (st2 m h t).IsWhole) (h7 : (st3 m h t).IsWhole) (h8 : (st4 m h t).IsWhole) :
    (iprop(Phi m h c t.castSucc ∗ (dats m h 0 c).owesAt () t.castSucc
      ∗ (∃ d, owns (c : Thread nD τ) (st0 m h t) fullShare ((dats m h 0 c).before 0 t d))
      ∗ (∃ d, owns (c : Thread nD τ) (st1 m h t) fullShare ((dats m h 0 c).before 1 t d))
      ∗ (∃ d, owns (c : Thread nD τ) (st2 m h t) fullShare ((dats m h 0 c).before 2 t d))
      ∗ (∃ d, owns (c : Thread nD τ) (st3 m h t) fullShare ((dats m h 0 c).before 3 t d))
      ∗ (∃ d, owns (c : Thread nD τ) (st4 m h t) fullShare ((dats m h 0 c).before 4 t d))) : sProp 𝕄)
    ⊢ wp frame (wpE defs₀ 𝒱₀ (c : Thread nD τ) none) Set.univ
      (body (grid0.coords t) (st0 m h t) h4 (st1 m h t) h5 (st2 m h t) h6 (st3 m h t) h7 (st4 m h t) h8) fun _ =>
      iprop(Phi m h c t.succ ∗ (dats m h 0 c).owesAt () t.succ ∗ owns (c : Thread nD τ) (st0 m h t) fullShare (xblk m h c t)
        ∗ owns (c : Thread nD τ) (st1 m h t) fullShare (gblk m h c t) ∗ owns (c : Thread nD τ) (st2 m h t) fullShare (ublk m h c t)
        ∗ owns (c : Thread nD τ) (st3 m h t) fullShare (dblk m h c t) ∗ owns (c : Thread nD τ) (st4 m h t) fullShare (oblk m h c t)) := by
  unfold Phi
  rw [table_eq]
  simp only [before0, before1, before2, before3]
  iintro ⟨⟨⟨%X, ⟨%eX, H9⟩⟩, ⟨Hp, ⟨HT1, HT2⟩⟩⟩, ⟨%W, ⟨-, HO⟩⟩, ⟨%d4, H4⟩, ⟨%d5, H5⟩, ⟨%d6, H6⟩, ⟨%d7, H7⟩, ⟨%d8, H8⟩⟩
  unfold owns
  icases H4 with ⟨%g4, ⟨%e4, H4⟩⟩
  icases H5 with ⟨%g5, ⟨%e5, H5⟩⟩
  icases H6 with ⟨%g6, ⟨%e6, H6⟩⟩
  icases H7 with ⟨%g7, ⟨%e7, H7⟩⟩
  icases H8 with ⟨%g8, ⟨%e8, H8⟩⟩
  have hn : ∀ x, nt m x = nt m (ix1 0) := nt_const m
  by_cases hu : Used (grid0.coords t) (nt m (ix1 0))
  · rcases col_cases (grid0.coords t) with e | e
    · have eo : oblk m h c t = part m h c t := by unfold oblk; rw [if_pos hu, if_pos e]
      rw [eo]
      iapply (wp_wand_r _ _ _)
      isplitl [H9 HT2 H4 H5 H6 H7 H8]
      · iapply (run_first (𝒱₀ := 𝒱₀) c (grid0.coords t) (nt m) (st0 m h t) h4 (st1 m h t) h5 (st2 m h t) h6 (st3 m h t) h7 (st4 m h t) h8 (fun x => by rw [hn x]; exact cond1_used hu) (fun x => by rw [hn x]; exact cond2_used hu) (cond3_first e) (cond4_first e) (cond5_first e) X g4 g5 g6 g7 g8)
        isplitl [H9]; · iexact H9
        isplitl [HT2]; · iexact HT2
        isplitl [H4]; · iexact H4
        isplitl [H5]; · iexact H5
        isplitl [H6]; · iexact H6
        isplitl [H7]; · iexact H7
        iexact H8
      rw [owns_whole]
      iintro %_ ⟨H9, HT2, H4, H5, H6, H7, H8⟩
      isplitl [H9 Hp HT1 HT2]
      · isplitl [H9]
        · iexists (k0_pay2 ((st0 m h t).view.read (Elt F) g4))
          isplitr
          · ipureintro
            intro p ep hp
            obtain rfl : p = t := Fin.ext (Nat.succ.inj ep)
            rw [e4]
          iexact H9
        isplitl [Hp]; · iexact Hp
        isplitl [HT1]; · iexact HT1
        iexact HT2
      isplitl [HO]
      · iexists W
        isplitr
        · ipureintro; exact fun _ _ => Or.inl trivial
        iexact HO
      isplitl [H4]
      · iexists g4
        isplitr; · ipureintro; exact e4
        iexact H4
      isplitl [H5]
      · iexists g5
        isplitr; · ipureintro; exact e5
        iexact H5
      isplitl [H6]
      · iexists g6
        isplitr; · ipureintro; exact e6
        iexact H6
      isplitl [H7]
      · iexists g7
        isplitr; · ipureintro; exact e7
        iexact H7
      rw [e4, e5, e6, e7]
      unfold owns part
      iexact H8
    · obtain ⟨h0, h2, h1⟩ := prev_coords e
      have hup : Used (grid0.coords (prev t)) (nt m (ix1 0)) := by unfold Used; rw [h2]; exact hu
      have e9 : X = k0_pay2 (xblk m h c t) := (eX (prev t) (Nat.succ_pred_eq_of_ne_zero h0) hup).trans (congrArg _ (xblk_prev m h c t e))
      have e8' : (st4 m h t).view.read (Elt F) g8 = part m h c (prev t) := by
        refine e8.trans ((before4 m h c t e d8).trans ?_)
        unfold oblk; rw [if_pos hup, if_pos h1]
      have eo : oblk m h c t = k0_pay4 (k0_pay2 (xblk m h c t)) (gblk m h c t) (ublk m h c t) (dblk m h c t) (part m h c (prev t)) := by
        unfold oblk; rw [if_pos hu, if_neg (by rw [e]; decide)]
      rw [eo]
      iapply (wp_wand_r _ _ _)
      isplitl [H9 HT2 H5 H6 H7 H8]
      · iapply (run_second (𝒱₀ := 𝒱₀) c (grid0.coords t) (nt m) (st0 m h t) h4 (st1 m h t) h5 (st2 m h t) h6 (st3 m h t) h7 (st4 m h t) h8 (fun x => by rw [hn x]; exact cond1_used hu) (fun x => by rw [hn x]; exact cond2_used hu) (cond3_second e) (cond4_second e) (cond5_second e) X g5 g6 g7 g8)
        isplitl [H9]; · iexact H9
        isplitl [HT2]; · iexact HT2
        isplitl [H5]; · iexact H5
        isplitl [H6]; · iexact H6
        isplitl [H7]; · iexact H7
        iexact H8
      iintro %_ ⟨H9, HT2, H5, H6, H7, H8⟩
      isplitl [H9 Hp HT1 HT2]
      · isplitl [H9]
        · iexists _
          isplitr
          · ipureintro
            intro p ep hp
            obtain rfl : p = t := Fin.ext (Nat.succ.inj ep)
            exact e9
          iexact H9
        isplitl [Hp]; · iexact Hp
        isplitl [HT1]; · iexact HT1
        iexact HT2
      isplitl [HO]
      · iexists W
        isplitr
        · ipureintro; exact fun _ _ => Or.inl trivial
        iexact HO
      isplitl [H4]
      · iexists g4
        isplitr; · ipureintro; exact e4
        iexact H4
      isplitl [H5]
      · iexists g5
        isplitr; · ipureintro; exact e5
        iexact H5
      isplitl [H6]
      · iexists g6
        isplitr; · ipureintro; exact e6
        iexact H6
      isplitl [H7]
      · iexists g7
        isplitr; · ipureintro; exact e7
        iexact H7
      rw [e5, e6, e7, e8', e9]
      unfold owns
      iexact H8
  · rcases col_cases (grid0.coords t) with e | e
    · have eo : oblk m h c t = k0_pay1 (F := F) := by unfold oblk; rw [if_neg hu]
      rw [eo]
      iapply (wp_wand_r _ _ _)
      isplitl [HT2 H8]
      · iapply (run_clear (𝒱₀ := 𝒱₀) c (grid0.coords t) (nt m) (st0 m h t) h4 (st1 m h t) h5 (st2 m h t) h6 (st3 m h t) h7 (st4 m h t) h8 (fun x => by rw [hn x]; exact cond1_first hu e) (fun x => by rw [hn x]; exact cond2_unused hu) g8)
        isplitl [HT2]; · iexact HT2
        iexact H8
      iintro %_ ⟨HT2, H8⟩
      isplitl [H9 Hp HT1 HT2]
      · isplitl [H9]
        · iexists _
          isplitr
          · ipureintro
            intro p ep hp
            obtain rfl : p = t := Fin.ext (Nat.succ.inj ep)
            exact absurd hp hu
          iexact H9
        isplitl [Hp]; · iexact Hp
        isplitl [HT1]; · iexact HT1
        iexact HT2
      isplitl [HO]
      · iexists W
        isplitr
        · ipureintro; exact fun _ _ => Or.inl trivial
        iexact HO
      isplitl [H4]
      · iexists g4
        isplitr; · ipureintro; exact e4
        iexact H4
      isplitl [H5]
      · iexists g5
        isplitr; · ipureintro; exact e5
        iexact H5
      isplitl [H6]
      · iexists g6
        isplitr; · ipureintro; exact e6
        iexact H6
      isplitl [H7]
      · iexists g7
        isplitr; · ipureintro; exact e7
        iexact H7
      unfold owns
      iexact H8
    · obtain ⟨h0, h2, h1⟩ := prev_coords e
      have hup : ¬ Used (grid0.coords (prev t)) (nt m (ix1 0)) := by unfold Used; rw [h2]; exact hu
      have e8' : (st4 m h t).view.read (Elt F) g8 = oblk m h c t := by
        refine e8.trans ((before4 m h c t e d8).trans ?_)
        unfold oblk; rw [if_neg hup, if_neg hu]
      iapply (wp_wand_r _ _ _)
      isplitl [HT2]
      · iapply (run_skip (𝒱₀ := 𝒱₀) c (grid0.coords t) (nt m) (st0 m h t) h4 (st1 m h t) h5 (st2 m h t) h6 (st3 m h t) h7 (st4 m h t) h8 (fun x => by rw [hn x]; exact cond1_second hu e) (fun x => by rw [hn x]; exact cond2_unused hu) )
        iexact HT2
      iintro %_ HT2
      isplitl [H9 Hp HT1 HT2]
      · isplitl [H9]
        · iexists _
          isplitr
          · ipureintro
            intro p ep hp
            obtain rfl : p = t := Fin.ext (Nat.succ.inj ep)
            exact absurd hp hu
          iexact H9
        isplitl [Hp]; · iexact Hp
        isplitl [HT1]; · iexact HT1
        iexact HT2
      isplitl [HO]
      · iexists W
        isplitr
        · ipureintro; exact fun _ _ => Or.inl trivial
        iexact HO
      isplitl [H4]
      · iexists g4
        isplitr; · ipureintro; exact e4
        iexact H4
      isplitl [H5]
      · iexists g5
        isplitr; · ipureintro; exact e5
        iexact H5
      isplitl [H6]
      · iexists g6
        isplitr; · ipureintro; exact e6
        iexact H6
      isplitl [H7]
      · iexists g7
        isplitr; · ipureintro; exact e7
        iexact H7
      iexists g8
      isplitr; · ipureintro; exact e8'
      iexact H8

theorem body_obligation (h : Good m) (𝒱₀ : Variants) (c : Dev nD) :
    BodyObligation (dats m h 0 c) defs₀ 𝒱₀ () Set.univ := fun t =>
  (sep_mono .rfl (sep_mono .rfl (Entails.of_eq (bigSep_W0 _)))).trans
    ((body_wp m h 𝒱₀ c t (stage_whole0 0 _) (stage_whole0 1 _) (stage_whole0 2 _) (stage_whole0 3 _) (stage_whole0 4 _)).trans
    (wp_mono _ _ _ fun _ => sep_mono .rfl (sep_mono .rfl
      ((sep_mono .rfl (sep_mono .rfl (sep_mono .rfl (sep_mono .rfl (Entails.of_eq (leaves4 m h c t).symm))))).trans
        (Entails.of_eq (bigSep_W0 fun w => (dats m h 0 c).leavesExact w t).symm)))))

/-- The result array: tile by tile what the points leave. -/
def outA (h : Good m) (c : Dev nD) : S70656x1024.Idx → Elt F .f32 := (dats m h 0 c).arrAt 4 grid0.N

theorem V_arg0 (c : Dev nD) : V m c main_arg0 = m ((c : Thread nD τ).loc main_arg0) := by
  unfold V hostOps0
  after_results
theorem V_arg1 (c : Dev nD) : V m c main_arg1 = m ((c : Thread nD τ).loc main_arg1) := by
  unfold V hostOps0
  after_results
theorem V_arg2 (c : Dev nD) : V m c main_arg2 = m ((c : Thread nD τ).loc main_arg2) := by
  unfold V hostOps0
  after_results
theorem V_arg3 (c : Dev nD) : V m c main_arg3 = m ((c : Thread nD τ).loc main_arg3) := by
  unfold V hostOps0
  after_results
theorem V_arg4 (c : Dev nD) : V m c main_arg4 = m ((c : Thread nD τ).loc main_arg4) := by
  unfold V hostOps0
  after_results
theorem V_arg5 (c : Dev nD) : V m c main_arg5 = m ((c : Thread nD τ).loc main_arg5) := by
  unfold V hostOps0
  after_results
theorem V_v0 (c : Dev nD) : V m c main_v0 = truncf .bf16 (m ((c : Thread nD τ).loc main_arg3)) := by
  unfold V hostOps0
  after_results
theorem V_v1 (c : Dev nD) : V m c main_v1 = truncf .bf16 (m ((c : Thread nD τ).loc main_arg4)) := by
  unfold V hostOps0
  after_results
theorem V_v2 (c : Dev nD) : V m c main_v2 = truncf .bf16 (m ((c : Thread nD τ).loc main_arg5)) := by
  unfold V hostOps0
  after_results

/-- From any memory with good tables every fair execution ends with nothing outstanding, the result array at `outA` and
    the arguments as they were. -/
theorem run_main (ρ : Dev nD → PrngReg) (h : Good m) :
    θ_run defs (onTc (τ := τ) (main (F := F))) (s₀ m ρ) fun r =>
      (∀ c : Dev nD, r.2.mem ((c : Thread nD τ).loc main_v3) = outA m h c
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4) ∧ r.2.mem ((c : Thread nD τ).loc main_arg5) = m ((c : Thread nD τ).loc main_arg5)) ∧ r.2.sem = fun _ => 0 :=
  Pipeline.θ_run_frameP_track (a := adm m h) (dats := dats m h) pcfgs (p := 0) (kit := launch0) defs₀ .none m ρ main
    (fun c => (body_obligation m h .none c).loose) (fun c w => by unfold Dat.share; split <;> rfl) (fun _ _ => rfl) (V m)
    (hmainP_prefix _ _ _ _ m main hostOps0 hostOps0_sub ⟨rfl, rfl, rfl⟩ main_chain) (fun _ _ => rfl)
    (fun c k => by
      rw [Subsingleton.elim c 0]
      match k with
      | 0 => exact V_arg0 m 0
      | 1 => exact V_arg1 m 0)
    (fun c => by
      show iprop(ΦA spec0 c ∗ ΦT pre0 (tbls m) c) ⊢ Phi m h c 0
      unfold Phi ΦA
      rw [scopedRest0_eq]
      iintro ⟨⟨⟨%f, H⟩, Hp⟩, HT⟩
      isplitl [H]
      · iexists f
        isplitr
        · ipureintro
          exact fun p hp => absurd hp (Nat.succ_ne_zero _)
        iexact H
      isplitl [Hp]; · iexact Hp
      iexact HT)
    (fun c => by
      show Phi m h c (Fin.last _) ⊢ ΦA spec0 c
      unfold Phi ΦA
      rw [scopedRest0_eq]
      iintro ⟨⟨%f, ⟨-, H⟩⟩, Hp, -⟩
      isplitl [H]
      · iexists f; iexact H
      iexact Hp) _
    fun r hr => ⟨fun c => ⟨(hr.1 c).1 4,
      ((hr.1 c).2 _ (by decide : main_arg0 ∈ restRefs sig spec0)).trans (V_arg0 m c), ((hr.1 c).2 _ (by decide : main_arg1 ∈ restRefs sig spec0)).trans (V_arg1 m c),
      (((hr.1 c).1 0).trans ((dats m h 0 c).arrAt_in 0 rfl _)).trans (V_arg2 m c),
      ((hr.1 c).2 _ (by decide : main_arg3 ∈ restRefs sig spec0)).trans (V_arg3 m c), ((hr.1 c).2 _ (by decide : main_arg4 ∈ restRefs sig spec0)).trans (V_arg4 m c),
      ((hr.1 c).2 _ (by decide : main_arg5 ∈ restRefs sig spec0)).trans (V_arg5 m c)⟩, hr.2⟩

end Body

end Cert.Kernel2Ideal.Hand

end
-- ==== Proof.Swiglu.lean ====
/- The feed-forward of an expert on one row, as a function of the row and the expert's three matrices, and the two ways of
   writing its gate. Untrusted. -/
module

public import Idealize.ShloMosaic.PureOps.Ideal.Laws
public import Idealize.ShloMosaic.Lib.ValueIdxCore
public import Mathlib.Tactic.Ring
public import Mathlib.Tactic.FieldSimp
public import Mathlib.Analysis.SpecialFunctions.Trigonometric.DerivHyp

@[expose] public section

set_option maxRecDepth 16384

noncomputable section

namespace Cert.Swiglu

open Idealize.ShloMosaic Idealize.ShloMosaic.ValueIdx

theorem half_eq : Ideal.ofBits .f32 0x3F000000#32 = (((1 : ℝ) / 2 : ℝ) : EReal) := by
  simp [Ideal.ofBits, Ideal.ieee]
  rw [← EReal.coe_mul]
  norm_num

theorem real_gate (r : ℝ) : 1 / 2 * Real.tanh (1 / 2 * r) + 1 / 2 = (1 + Real.exp (-r))⁻¹ := by
  have hp : 0 < Real.exp (1 / 2 * r) := Real.exp_pos _
  have hm : 0 < Real.exp (-(1 / 2 * r)) := Real.exp_pos _
  have he : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add, add_neg_cancel, Real.exp_zero]
  rw [Real.tanh_eq_sinh_div_cosh, Real.sinh_eq, Real.cosh_eq, he]
  generalize Real.exp (1 / 2 * r) = a at *
  generalize Real.exp (-(1 / 2 * r)) = b at *
  have hb : b = a⁻¹ := eq_inv_of_mul_eq_one_right h1
  subst hb
  field_simp
  ring

/-- The gate by `tanh` is the logistic function, at the infinities too. -/
theorem gate_eq (x : EReal) :
    Ideal.ofBits .f32 0x3F000000#32 * Ideal.tanh (Ideal.ofBits .f32 0x3F000000#32 * x) + Ideal.ofBits .f32 0x3F000000#32 = Ideal.logistic x := by
  rw [half_eq]
  induction x using EReal.rec with
  | bot =>
    rw [EReal.coe_mul_bot_of_pos (by norm_num), Ideal.tanh_bot, Ideal.logistic_bot]
    have : ((1 / 2 : ℝ) : EReal) * -1 + ((1 / 2 : ℝ) : EReal) = ((1 / 2 * -1 + 1 / 2 : ℝ) : EReal) := by
      rw [EReal.coe_add, EReal.coe_mul, EReal.coe_neg, EReal.coe_one]
    rw [this]; norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_gate]

/-- The hidden activation. -/
def act (a b : EReal) : EReal := a * Ideal.logistic a * b

/-- A row's product with a column of an expert's matrix. -/
def proj (x : (Shape.mk 2 ![70656, 1024]).Idx → EReal) (w : (Shape.mk 3 ![8, 1024, 3584]).Idx → EReal) (e : Fin 8) (s : Fin 70656)
    (f : Fin 3584) : EReal := ∑ k : Fin 1024, x (ix2 s k) * w (ix3 e k f)

/-- A row through an expert. -/
def row (x : (Shape.mk 2 ![70656, 1024]).Idx → EReal) (wg wu : (Shape.mk 3 ![8, 1024, 3584]).Idx → EReal)
    (wd : (Shape.mk 3 ![8, 3584, 1024]).Idx → EReal) (e : Fin 8) (s : Fin 70656) (j : Fin 1024) : EReal :=
  ∑ f : Fin 3584, act (proj x wg e s f) (proj x wu e s f) * wd (ix3 e f j)

/-- The tile a row is in. -/
def tile (s : Fin 70656) : Fin 138 := ⟨s.val / 512, by have := s.isLt; omega⟩

/-- The expert of a tile. -/
def expert (te : (Shape.mk 1 ![138]).Idx → BitVec 32) (n : Fin 138) : Fin 8 := ⟨(te (ix1 n)).toNat % 8, Nat.mod_lt _ (by decide)⟩

/-- The result's entries: each row of a tile in use through its tile's expert, the others zero. -/
def outAt (te : (Shape.mk 1 ![138]).Idx → BitVec 32) (nt : (Shape.mk 1 ![1]).Idx → BitVec 32)
    (x : (Shape.mk 2 ![70656, 1024]).Idx → EReal) (wg wu : (Shape.mk 3 ![8, 1024, 3584]).Idx → EReal)
    (wd : (Shape.mk 3 ![8, 3584, 1024]).Idx → EReal) (s : Fin 70656) (j : Fin 1024) : EReal :=
  if (tile s).val < (nt (ix1 0)).toNat then row x wg wu wd (expert te (tile s)) s j else 0

/-- The result. -/
def out (te : (Shape.mk 1 ![138]).Idx → BitVec 32) (nt : (Shape.mk 1 ![1]).Idx → BitVec 32)
    (x : (Shape.mk 2 ![70656, 1024]).Idx → EReal) (wg wu : (Shape.mk 3 ![8, 1024, 3584]).Idx → EReal)
    (wd : (Shape.mk 3 ![8, 3584, 1024]).Idx → EReal) : (Shape.mk 2 ![70656, 1024]).Idx → EReal := fun z => outAt te nt x wg wu wd (z 0) (z 1)

end Cert.Swiglu

end
-- ==== Proof.Value2.lean ====
/- What the result array of `moe_expert_ffn` holds at the exact numbers: each row of a tile in use through its expert. Untrusted. -/
module

public import proofs.«01_k».proof.Proof.Run2
public import proofs.«01_k».proof.Proof.Swiglu
public import Idealize.ShloMosaic.Lib.MatmulPlain

@[expose] public section

set_option maxRecDepth 16384

noncomputable section

namespace Cert.Kernel2Ideal.Hand

open Idealize.ShloMosaic Idealize.ShloMosaic.TcCoe Idealize.ShloMosaic.Pipeline Idealize.ShloMosaic.ValueIdx
open Cert.Kernel2Ideal.Gen Cert.Swiglu

/-- A matrix with a leading axis of one, without it. -/
theorem cast_in (v : S1x1024x1792.Idx → EReal) (h : S1x1024x1792.ShapeCasts S1024x1792) (k : Fin 1024) (f : Fin 1792) :
    shapeCast S1024x1792 v h (ix2 k f) = v (ix3 0 k f) := by
  refine shapeCast_apply v h _ _ ?_
  have e2 := Shape.rowMajor_val_two (d := ![1024, 1792]) (ix2 k f)
  have e3 := Shape.rowMajor_val_three (d := ![1, 1024, 1792]) (ix3 0 k f)
  refine e3.trans (Eq.trans ?_ e2.symm)
  show (0 * 1024 + k.val) * 1792 + f.val = k.val * 1792 + f.val
  omega
theorem cast_out (v : S1x1792x1024.Idx → EReal) (h : S1x1792x1024.ShapeCasts S1792x1024) (f : Fin 1792) (j : Fin 1024) :
    shapeCast S1792x1024 v h (ix2 f j) = v (ix3 0 f j) := by
  refine shapeCast_apply v h _ _ ?_
  have e2 := Shape.rowMajor_val_two (d := ![1792, 1024]) (ix2 f j)
  have e3 := Shape.rowMajor_val_three (d := ![1, 1792, 1024]) (ix3 0 f j)
  refine e3.trans (Eq.trans ?_ e2.symm)
  show (0 * 1792 + f.val) * 1024 + j.val = f.val * 1024 + j.val
  omega

/-- A point contributes the products over its half of the hidden columns. -/
theorem pay3_apply (X : S512x1024.Idx → EReal) (G U : S1x1024x1792.Idx → EReal) (D : S1x1792x1024.Idx → EReal) (r : Fin 512) (j : Fin 1024) :
    k0_pay3 (F := Ideal) X G U D (ix2 r j)
      = ∑ f : Fin 1792, act (∑ k : Fin 1024, X (ix2 r k) * G (ix3 0 k f)) (∑ k : Fin 1024, X (ix2 r k) * U (ix3 0 k f)) * D (ix3 0 f j) := by
  have hin : ∀ (W : S1x1024x1792.Idx → EReal) (f : Fin 1792),
      FloatOps.matmul (F := Ideal) (φ₁ := .bf16) (φ₂ := .bf16) dot_S512x1024_S1024x1792_S512x1792_1_0_0_1_n_n none X
        (shapeCast S1024x1792 W shapeCasts_S1x1024x1792_S1024x1792) (constant (F := Ideal) S512x1792 .f32 0x00000000#32) (ix2 r f)
      = ∑ k : Fin 1024, X (ix2 r k) * W (ix3 0 k f) := by
    intro W f
    rw [show dot_S512x1024_S1024x1792_S512x1792_1_0_0_1_n_n = DotDims.plain 512 1024 1792 from rfl, Ideal.matmul_plain_apply]
    rw [show (constant (F := Ideal) S512x1792 .f32 0x00000000#32) (ix2 r f) = (0 : EReal) from Ideal.ofBits_zero_f32, zero_add]
    exact Finset.sum_congr rfl fun k _ => congrArg (X (ix2 r k) * ·) (cast_in W _ k f)
  unfold k0_pay3
  rw [show dot_S512x1792_S1792x1024_S512x1024_1_0_0_1_n_n = DotDims.plain 512 1792 1024 from rfl]
  refine (Ideal.matmul_plain_apply (φ₁ := .bf16) (φ₂ := .bf16) none _ _ _ r j).trans ?_
  rw [show (constant (F := Ideal) S512x1024 .f32 0x00000000#32) (ix2 r j) = (0 : EReal) from Ideal.ofBits_zero_f32, zero_add]
  refine Finset.sum_congr rfl fun f _ => ?_
  rw [cast_out]
  refine congrArg (· * D (ix3 0 f j)) ?_
  rw [← hin G f, ← hin U f]
  unfold act
  rw [← gate_eq]
  rfl

section
variable (m : (ℓ : Loc nD τ sig) → Buf (Elt Ideal) ℓ) (h : Good m) [∀ e, Nonempty (Elt Ideal e)]

/-- The entries of the arrays that the blocks of a point stand at. -/
def at0 (t : Fin grid0.N) (y : S512x1024.Idx) : S70656x1024.Idx := (((cfgA m h).win 0).blk t).view.emb y
def at1 (t : Fin grid0.N) (y : S1x1024x1792.Idx) : S8x1024x3584.Idx := (((cfgA m h).win 1).blk t).view.emb y
def at2 (t : Fin grid0.N) (y : S1x1024x1792.Idx) : S8x1024x3584.Idx := (((cfgA m h).win 2).blk t).view.emb y
def at3 (t : Fin grid0.N) (y : S1x1792x1024.Idx) : S8x3584x1024.Idx := (((cfgA m h).win 3).blk t).view.emb y
def at4 (t : Fin grid0.N) (y : S512x1024.Idx) : S70656x1024.Idx := (((cfgA m h).win 4).blk t).view.emb y

/-- The tile of a point, and its expert. -/
abbrev tl (t : Fin grid0.N) : Fin 138 := ⟨(grid0.coords t 0).val, (grid0.coords t 0).isLt⟩
def ex (t : Fin grid0.N) : Fin 8 := expert (te m) (tl t)

theorem table_at (i : grid0.Coords) (hb : _) (h1 : _) :
    (tbls m).at 0 (Rect.unit (s := S138) ![(Scalar.indexCast (BitVec.ofNat 32 (i 0).val) : BitVec 32).toNat] S1.size hb) h1
      = te m (ix1 ⟨(i 0).val, (i 0).isLt⟩) := by
  refine congrArg (te m) (funext fun a => ?_)
  fin_cases a
  refine Fin.ext ?_
  have hi : (i 0).val < 138 := (i 0).isLt
  have hm : (BitVec.ofNat 32 (i 0).val).toNat = (i 0).val := by rw [BitVec.toNat_ofNat]; exact Nat.mod_eq_of_lt (by omega)
  show (BitVec.ofNat 32 (i 0).val).toNat + 1 * 0 = (i 0).val
  omega

theorem idx1_eq (t : Fin grid0.N) (a : Fin 3) :
    ((cfgA m h).win 1).index t a = ![(ex m t).val, 0, (grid0.coords t 1).val] a := by
  have h1 : (grid0.coords t 1).val < 2 := (grid0.coords t 1).isLt
  have hx : (te m (ix1 (tl t))).toNat < 8 := h.1 _
  match a with
  | 0 =>
    refine (congrArg (BitVec.toNat (w := 32)) (table_at m (grid0.coords t) (k0_off1_inb _) numel1_S1)).trans ?_
    show (te m (ix1 (tl t))).toNat = (te m (ix1 (tl t))).toNat % 8; omega
  | 1 => rfl
  | 2 => show (BitVec.ofNat 32 (grid0.coords t 1).val).toNat = (grid0.coords t 1).val; rw [BitVec.toNat_ofNat]; omega
theorem idx2_eq (t : Fin grid0.N) (a : Fin 3) :
    ((cfgA m h).win 2).index t a = ![(ex m t).val, 0, (grid0.coords t 1).val] a := idx1_eq m h t a
theorem idx3_eq (t : Fin grid0.N) (a : Fin 3) :
    ((cfgA m h).win 3).index t a = ![(ex m t).val, (grid0.coords t 1).val, 0] a := by
  have e := idx1_eq m h t
  match a with
  | 0 => exact e 0
  | 1 => exact e 2
  | 2 => rfl
theorem idx4_eq (t : Fin grid0.N) (a : Fin 2) :
    ((cfgA m h).win 4).index t a = ![(grid0.coords t 0).val, 0] a := by
  have h0 : (grid0.coords t 0).val < 138 := (grid0.coords t 0).isLt
  match a with
  | 0 => show (BitVec.ofNat 32 (grid0.coords t 0).val).toNat = (grid0.coords t 0).val; rw [BitVec.toNat_ofNat]; omega
  | 1 => rfl

theorem idx0_eq (t : Fin grid0.N) (hu : Used (grid0.coords t) (nt m (ix1 0))) (a : Fin 2) :
    ((cfgA m h).win 0).index t a = ![(grid0.coords t 0).val, 0] a := by
  have h0 : (grid0.coords t 0).val < 138 := (grid0.coords t 0).isLt
  have hn := h.2 (ix1 0)
  have hlt := (used_iff hn.2).1 hu
  match a with
  | 0 =>
    show (Scalar.minsi (BitVec.ofNat 32 (grid0.coords t 0).val) (Scalar.subi (nt m _) 1#32)).toNat = (grid0.coords t 0).val
    refine (congrArg (fun w => (Scalar.minsi (BitVec.ofNat 32 (grid0.coords t 0).val) (Scalar.subi w 1#32)).toNat) (nt_const m _)).trans ?_
    show (Scalar.minsi (BitVec.ofNat 32 (grid0.coords t 0).val) (Scalar.subi (nt m (ix1 0)) 1#32)).toNat = _
    rw [tile_toNat _ h0 _ hn.1 hn.2]; omega
  | 1 => rfl

theorem at0_val (t : Fin grid0.N) (y : S512x1024.Idx) (a : Fin 2) :
    (at0 m h t y a).val = ((cfgA m h).win 0).index t a * S512x1024.size a + 1 * (y a).val := rfl
theorem at1_val (t : Fin grid0.N) (y : S1x1024x1792.Idx) (a : Fin 3) :
    (at1 m h t y a).val = ((cfgA m h).win 1).index t a * S1x1024x1792.size a + 1 * (y a).val := rfl
theorem at2_val (t : Fin grid0.N) (y : S1x1024x1792.Idx) (a : Fin 3) :
    (at2 m h t y a).val = ((cfgA m h).win 2).index t a * S1x1024x1792.size a + 1 * (y a).val := rfl
theorem at3_val (t : Fin grid0.N) (y : S1x1792x1024.Idx) (a : Fin 3) :
    (at3 m h t y a).val = ((cfgA m h).win 3).index t a * S1x1792x1024.size a + 1 * (y a).val := rfl
theorem at4_val (t : Fin grid0.N) (y : S512x1024.Idx) (a : Fin 2) :
    (at4 m h t y a).val = ((cfgA m h).win 4).index t a * S512x1024.size a + 1 * (y a).val := rfl

/-- The row of the array that a row of the point's tile is. -/
def rw_ (t : Fin grid0.N) (r : Fin 512) : Fin 70656 :=
  ⟨(grid0.coords t 0).val * 512 + r.val, by have h0 : (grid0.coords t 0).val < 138 := (grid0.coords t 0).isLt; have := r.isLt; omega⟩
/-- The hidden column that a column of the point's half is. -/
def cl (t : Fin grid0.N) (f : Fin 1792) : Fin 3584 :=
  ⟨(grid0.coords t 1).val * 1792 + f.val, by have h0 : (grid0.coords t 1).val < 2 := (grid0.coords t 1).isLt; have := f.isLt; omega⟩

theorem xblk_apply (c : Dev nD) (t : Fin grid0.N) (hu : Used (grid0.coords t) (nt m (ix1 0))) (r : Fin 512) (k : Fin 1024) :
    xblk m h c t (ix2 r k) = V m c main_arg2 (ix2 (rw_ t r) k) := by
  show V m c main_arg2 (at0 m h t (ix2 r k)) = _
  refine congrArg (V m c main_arg2) (funext fun a => Fin.ext ?_)
  rw [at0_val, idx0_eq m h t hu]
  match a with
  | 0 => show (grid0.coords t 0).val * 512 + 1 * r.val = (grid0.coords t 0).val * 512 + r.val; omega
  | 1 => show 0 * 1024 + 1 * k.val = k.val; omega
theorem gblk_apply (c : Dev nD) (t : Fin grid0.N) (k : Fin 1024) (f : Fin 1792) :
    gblk m h c t (ix3 0 k f) = V m c main_v0 (ix3 (ex m t) k (cl t f)) := by
  show V m c main_v0 (at1 m h t (ix3 0 k f)) = _
  refine congrArg (V m c main_v0) (funext fun a => Fin.ext ?_)
  rw [at1_val, idx1_eq m h t]
  match a with
  | 0 => show (ex m t).val * 1 + 1 * 0 = (ex m t).val; omega
  | 1 => show 0 * 1024 + 1 * k.val = k.val; omega
  | 2 => show (grid0.coords t 1).val * 1792 + 1 * f.val = (grid0.coords t 1).val * 1792 + f.val; omega
theorem ublk_apply (c : Dev nD) (t : Fin grid0.N) (k : Fin 1024) (f : Fin 1792) :
    ublk m h c t (ix3 0 k f) = V m c main_v1 (ix3 (ex m t) k (cl t f)) := by
  show V m c main_v1 (at2 m h t (ix3 0 k f)) = _
  refine congrArg (V m c main_v1) (funext fun a => Fin.ext ?_)
  rw [at2_val, idx2_eq m h t]
  match a with
  | 0 => show (ex m t).val * 1 + 1 * 0 = (ex m t).val; omega
  | 1 => show 0 * 1024 + 1 * k.val = k.val; omega
  | 2 => show (grid0.coords t 1).val * 1792 + 1 * f.val = (grid0.coords t 1).val * 1792 + f.val; omega
theorem dblk_apply (c : Dev nD) (t : Fin grid0.N) (f : Fin 1792) (j : Fin 1024) :
    dblk m h c t (ix3 0 f j) = V m c main_v2 (ix3 (ex m t) (cl t f) j) := by
  show V m c main_v2 (at3 m h t (ix3 0 f j)) = _
  refine congrArg (V m c main_v2) (funext fun a => Fin.ext ?_)
  rw [at3_val, idx3_eq m h t]
  match a with
  | 0 => show (ex m t).val * 1 + 1 * 0 = (ex m t).val; omega
  | 1 => show (grid0.coords t 1).val * 1792 + 1 * f.val = (grid0.coords t 1).val * 1792 + f.val; omega
  | 2 => show 0 * 1024 + 1 * j.val = j.val; omega

/-- The arguments as functions. -/
abbrev xs (c : Dev nD) : S70656x1024.Idx → EReal := m ((c : Thread nD τ).loc main_arg2)
abbrev wgs (c : Dev nD) : S8x1024x3584.Idx → EReal := m ((c : Thread nD τ).loc main_arg3)
abbrev wus (c : Dev nD) : S8x1024x3584.Idx → EReal := m ((c : Thread nD τ).loc main_arg4)
abbrev wds (c : Dev nD) : S8x3584x1024.Idx → EReal := m ((c : Thread nD τ).loc main_arg5)

/-- A used tile's point contributes its half of the columns. -/
theorem part_apply (c : Dev nD) (t : Fin grid0.N) (hu : Used (grid0.coords t) (nt m (ix1 0))) (r : Fin 512) (j : Fin 1024) :
    part m h c t (ix2 r j) = ∑ f : Fin 1792, act (proj (xs m c) (wgs m c) (ex m t) (rw_ t r) (cl t f))
      (proj (xs m c) (wus m c) (ex m t) (rw_ t r) (cl t f)) * wds m c (ix3 (ex m t) (cl t f) j) := by
  unfold part
  refine (pay3_apply _ _ _ _ r j).trans (Finset.sum_congr rfl fun f _ => ?_)
  have ex2 : ∀ k : Fin 1024, k0_pay2 (xblk m h c t) (ix2 r k) = xs m c (ix2 (rw_ t r) k) := by
    intro k
    unfold k0_pay2
    refine (shapeCast_apply _ _ _ (ix2 r k) rfl).trans ?_
    show xblk m h c t (ix2 r k) = _
    rw [xblk_apply m h c t hu, V_arg2]
  unfold proj
  refine congrArg₂ (· * ·) (congrArg₂ act (Finset.sum_congr rfl fun k _ => ?_) (Finset.sum_congr rfl fun k _ => ?_)) ?_
  · rw [ex2, gblk_apply, V_v0]; rfl
  · rw [ex2, ublk_apply, V_v1]; rfl
  · rw [dblk_apply, V_v2]; rfl

/-- After a tile's second point its buffer holds the result's rows. -/
theorem oblk_apply (c : Dev nD) (t : Fin grid0.N) (e : (grid0.coords t 1).val = 1) (r : Fin 512) (j : Fin 1024) :
    oblk m h c t (ix2 r j) = outAt (te m) (nt m) (xs m c) (wgs m c) (wus m c) (wds m c) (rw_ t r) j := by
  obtain ⟨h0, h2, h1⟩ := prev_coords e
  have hn := h.2 (ix1 0)
  have htl : tile (rw_ t r) = tl t := Fin.ext (by
    show ((grid0.coords t 0).val * 512 + r.val) / 512 = (grid0.coords t 0).val
    have := r.isLt; omega)
  have eo : outAt (te m) (nt m) (xs m c) (wgs m c) (wus m c) (wds m c) (rw_ t r) j
      = if (tl t).val < (nt m (ix1 0)).toNat then row (xs m c) (wgs m c) (wus m c) (wds m c) (ex m t) (rw_ t r) j else 0 := by
    unfold outAt ex
    rw [htl]
  rw [eo]
  by_cases hu : Used (grid0.coords t) (nt m (ix1 0))
  · rw [if_pos ((used_iff hn.2).1 hu)]
    have hup : Used (grid0.coords (prev t)) (nt m (ix1 0)) := by unfold Used; rw [h2]; exact hu
    have o1 : oblk m h c t = k0_pay4 (k0_pay2 (xblk m h c t)) (gblk m h c t) (ublk m h c t) (dblk m h c t) (part m h c (prev t)) := by
      unfold oblk; rw [if_pos hu, if_neg (by rw [e]; decide)]
    rw [o1]
    unfold k0_pay4
    show shapeCast S512x1024 (part m h c (prev t)) _ (ix2 r j) + part m h c t (ix2 r j) = _
    rw [shapeCast_apply _ _ _ (ix2 r j) rfl, part_apply m h c t hu, part_apply m h c (prev t) hup]
    have htp : tl (prev t) = tl t := Fin.ext h2
    have hep : ex m (prev t) = ex m t := by unfold ex; rw [htp]
    have hrp : rw_ (prev t) r = rw_ t r := Fin.ext (by
      show (grid0.coords (prev t) 0).val * 512 + r.val = (grid0.coords t 0).val * 512 + r.val
      rw [h2])
    rw [hep, hrp]
    unfold row
    refine Eq.trans ?_ (Fin.sum_univ_add (a := 1792) (b := 1792) fun f : Fin 3584 =>
      act (proj (xs m c) (wgs m c) (ex m t) (rw_ t r) f) (proj (xs m c) (wus m c) (ex m t) (rw_ t r) f) * wds m c (ix3 (ex m t) f j)).symm
    refine congrArg₂ (· + ·) (Finset.sum_congr rfl fun f _ => ?_) (Finset.sum_congr rfl fun f _ => ?_)
    · have hc : cl (prev t) f = Fin.castAdd 1792 f := Fin.ext (by
        show (grid0.coords (prev t) 1).val * 1792 + f.val = f.val
        rw [h1, Nat.zero_mul, Nat.zero_add])
      rw [hc]
    · have hc : cl t f = Fin.natAdd 1792 f := Fin.ext (by
        show (grid0.coords t 1).val * 1792 + f.val = 1792 + f.val
        rw [e])
      rw [hc]
  · rw [if_neg (fun hh => hu ((used_iff hn.2).2 hh))]
    have o1 : oblk m h c t = k0_pay1 (F := Ideal) := by unfold oblk; rw [if_neg hu]
    rw [o1]
    exact Ideal.ofBits_zero_f32

theorem oblk_at (c : Dev nD) (t : Fin grid0.N) (e : (grid0.coords t 1).val = 1) (y : S512x1024.Idx) :
    oblk m h c t y = out (te m) (nt m) (xs m c) (wgs m c) (wus m c) (wds m c) (at4 m h t y) := by
  have ey : y = ix2 (n0 := 512) (n1 := 1024) (y 0) (y 1) := by
    funext a
    match a with
    | 0 => rfl
    | 1 => rfl
  have e0 : (at4 m h t y 0 : Fin 70656) = rw_ t (y 0) := Fin.ext (by
    rw [at4_val, idx4_eq m h t]
    show (grid0.coords t 0).val * 512 + 1 * (y 0).val = (grid0.coords t 0).val * 512 + (y 0).val; omega)
  have e1 : (at4 m h t y 1 : Fin 1024) = y 1 := Fin.ext (by
    rw [at4_val, idx4_eq m h t]
    show 0 * 1024 + 1 * (y 1).val = (y 1).val; omega)
  refine ((congrArg (oblk m h c t) ey).trans (oblk_apply m h c t e (y 0) (y 1))).trans ?_
  exact (congrArg₂ (outAt (te m) (nt m) (xs m c) (wgs m c) (wus m c) (wds m c)) e0 e1).symm

/-- The result array holds every row of a tile in use through its expert, and zeros. -/
theorem outA_eq (c : Dev nD) : outA m h c = out (te m) (nt m) (xs m c) (wgs m c) (wus m c) (wds m c) :=
  (dats m h 0 c).arrAt_eq_of_covers 4 _ (cover4 m h) fun t hf y => by
    have e : (grid0.coords t 1).val = 1 := by
      have hf' := hf
      rw [flush4] at hf'
      exact of_decide_eq_true hf'
    exact oblk_at m h c t e y

end

end Cert.Kernel2Ideal.Hand

end
-- ==== Proof.Spec2.lean ====
/- What the reference of the expert feed-forward computes, entry by entry. Untrusted. -/
module

public import proofs.«01_k».proof.Proof.Swiglu
public import proofs.«01_k».proof.Proof.Gen.Reference2Ideal.Run
public import Idealize.ShloMosaic.Lib.Pointwise
public import Idealize.ShloMosaic.Lib.Pipeline.Value

@[expose] public section

set_option maxRecDepth 16384

noncomputable section

namespace Cert.Reference2Ideal.Hand

open Idealize.ShloMosaic hiding ix1 ix2 ix3
open Idealize.ShloMosaic.TcCoe Idealize.ShloMosaic.ValueIdx
open Cert.Reference2Ideal Cert.Reference2Ideal.Gen Cert.Swiglu

theorem dotA_apply (w : S8x1024x3584.Idx → EReal) (x : S70656x1024.Idx → EReal) (e : Fin 8) (f : Fin 3584) (s : Fin 70656) :
    Host.dotGeneral (F := Ideal) (φ₁ := .f32) (φ₂ := .f32) dot_S8x1024x3584_S70656x1024_S8x3584x70656_1_1_02_0_n_n none w x (ix3 e f s)
      = ∑ k : Fin 1024, w (ix3 e k f) * x (ix2 s k) := by
  pointwise
  rfl

theorem dotB_apply (v : S8x70656x3584.Idx → EReal) (w : S8x3584x1024.Idx → EReal) (e : Fin 8) (s : Fin 70656) (j : Fin 1024) :
    Host.dotGeneral (F := Ideal) (φ₁ := .f32) (φ₂ := .f32) dot_S8x70656x3584_S8x3584x1024_S8x70656x1024_2_1_1_2_0_0 none v w (ix3 e s j)
      = ∑ f : Fin 3584, v (ix3 e s f) * w (ix3 e f j) := by
  pointwise
  rfl

theorem sum_apply (v : S8x70656x1024.Idx → EReal) (s : Fin 70656) (j : Fin 1024) :
    Host.reduceAdd (F := Ideal) (φ := .f32) v (constant S_ .f32 0x00000000#32) reducesTo_S8x70656x1024_S70656x1024_d0 h_S_ (ix2 s j)
      = ∑ e : Fin 8, v (ix3 e s j) := by
  pointwise
  rfl

/-- The products of every row with every expert's matrix. -/
def prods (w : S8x1024x3584.Idx → EReal) (x : S70656x1024.Idx → EReal) : S8x70656x3584.Idx → EReal :=
  transpose S8x70656x3584 [0, 2, 1]
    (Host.dotGeneral (F := Ideal) (φ₁ := .f32) (φ₂ := .f32) dot_S8x1024x3584_S70656x1024_S8x3584x70656_1_1_02_0_n_n none w x)
    transposes_S8x3584x70656_S8x70656x3584_0_2_1

theorem prods_apply (w : S8x1024x3584.Idx → EReal) (x : S70656x1024.Idx → EReal) (e : Fin 8) (s : Fin 70656) (f : Fin 3584) :
    prods w x (ix3 e s f) = proj x w e s f := by
  unfold prods proj
  refine Eq.trans ?_ ((dotA_apply w x e f s).trans (Finset.sum_congr rfl fun k _ => mul_comm _ _))
  refine congrArg (Host.dotGeneral (F := Ideal) (φ₁ := .f32) (φ₂ := .f32) dot_S8x1024x3584_S70656x1024_S8x3584x70656_1_1_02_0_n_n none w x) ?_
  funext a
  match a with
  | ⟨0, _⟩ => rfl
  | ⟨1, _⟩ => rfl
  | ⟨2, _⟩ => rfl

/-- The constant one. -/
def ones : S8x70656x3584.Idx → EReal :=
  broadcastInDim S8x70656x3584 ![] bcast_S_S8x70656x3584 (constant (F := Ideal) S_ .f32 0x3F800000#32)

theorem ones_apply (z : S8x70656x3584.Idx) : ones z = 1 :=
  (Ideal.ofBits_one_f32 : Ideal.ofBits .f32 0x3F800000#32 = 1)

/-- The hidden activations. -/
def hidden (a b : S8x70656x3584.Idx → EReal) : S8x70656x3584.Idx → EReal :=
  mulf (F := Ideal) (φ := .f32) (mulf (F := Ideal) (φ := .f32) a
    (Host.divf (F := Ideal) (φ := .f32) ones (addf (F := Ideal) (φ := .f32) ones (Host.exp (F := Ideal) (φ := .f32) (Host.negf (F := Ideal) (φ := .f32) a))))) b

theorem hidden_apply (a b : S8x70656x3584.Idx → EReal) (z : S8x70656x3584.Idx) : hidden a b z = act (a z) (b z) := by
  show a z * Ideal.div (ones z) (ones z + Ideal.exp (-(a z))) * b z = _
  rw [ones_apply]
  rfl

/-- Whether an expert does a tile. -/
def picksTile (te : S138.Idx → BitVec 32) (nt : S1.Idx → BitVec 32) : S8x138.Idx → BitVec 1 :=
  andi
    (cmpi .eq (broadcastInDim S8x138 ![0, 1] bcast_S8x1_S8x138_0_1 (broadcastInDim S8x1 ![0] bcast_S8_S8x1_0 (iotaInDim S8 32 0)))
      (broadcastInDim S8x138 ![0, 1] bcast_S1x138_S8x138_0_1 (broadcastInDim S1x138 ![1] bcast_S138_S1x138_1 te)))
    (broadcastInDim S8x138 ![0, 1] bcast_S1x138_S8x138_0_1 (broadcastInDim S1x138 ![1] bcast_S138_S1x138_1
      (cmpi .slt (iotaInDim S138 32 0) (broadcastInDim S138 ![] bcast_S_S138 (shapeCast _ nt shapeCasts_S1_S_)))))

theorem bcastRow_apply {α : Type} (v : S138.Idx → α) (e : Fin 8) (n : Fin 138) :
    broadcastInDim S8x138 ![0, 1] bcast_S1x138_S8x138_0_1 (broadcastInDim S1x138 ![1] bcast_S138_S1x138_1 v) (ix2 e n) = v (ix1 n) := by
  refine (broadcastInDim_apply _ _ _ _ (ix2 (n0 := 1) (n1 := 138) 0 n) (fun a => ?_)).trans ?_
  · match a with
    | ⟨0, _⟩ => rfl
    | ⟨1, _⟩ => rfl
  refine broadcastInDim_apply _ _ _ _ (ix1 (n := 138) n) (fun a => ?_)
  match a with
  | ⟨0, _⟩ => rfl

instance : Subsingleton S1.Idx := ⟨fun a b => funext fun k => match k with
  | ⟨0, _⟩ => Subsingleton.elim (α := Fin 1) _ _⟩

theorem picksTile_apply (te : S138.Idx → BitVec 32) (nt : S1.Idx → BitVec 32) (e : Fin 8) (n : Fin 138) :
    picksTile te nt (ix2 e n)
      = IntOp.andi (IntOp.cmpi .eq (BitVec.ofNat 32 e.val) (te (ix1 n))) (IntOp.cmpi .slt (BitVec.ofNat 32 n.val) (nt (ix1 0))) := by
  unfold picksTile
  refine congrArg₂ IntOp.andi (congrArg₂ (IntOp.cmpi .eq) ?_ ?_) ?_
  · refine (broadcastInDim_apply _ _ _ _ (ix2 (n0 := 8) (n1 := 1) e 0) (fun a => ?_)).trans ?_
    · match a with
      | ⟨0, _⟩ => rfl
      | ⟨1, _⟩ => rfl
    refine (broadcastInDim_apply _ _ _ _ (ix1 (n := 8) e) (fun a => ?_)).trans rfl
    match a with
    | ⟨0, _⟩ => rfl
  · exact bcastRow_apply te e n
  · refine (bcastRow_apply _ e n).trans (congrArg₂ (IntOp.cmpi .slt) rfl ?_)
    refine (broadcastInDim_apply _ _ _ _ (fun a => a.elim0) (fun a => a.elim0)).trans ?_
    exact congrArg nt (Subsingleton.elim (α := S1.Idx) _ _)

/-- Whether an expert does a row. -/
def picks (te : S138.Idx → BitVec 32) (nt : S1.Idx → BitVec 32) : S8x70656x1024.Idx → BitVec 1 :=
  broadcastInDim S8x70656x1024 ![0, 1, 2] bcast_S8x70656x1_S8x70656x1024_0_1_2 (broadcastInDim S8x70656x1 ![0, 1] bcast_S8x70656_S8x70656x1_0_1
    (shapeCast _ (broadcastInDim S8x138x512 ![0, 1, 2] bcast_S8x138x1_S8x138x512_0_1_2
      (broadcastInDim S8x138x1 ![0, 1] bcast_S8x138_S8x138x1_0_1 (picksTile te nt))) shapeCasts_S8x138x512_S8x70656))

theorem picks_apply (te : S138.Idx → BitVec 32) (nt : S1.Idx → BitVec 32) (e : Fin 8) (s : Fin 70656) (j : Fin 1024) :
    picks te nt (ix3 e s j) = picksTile te nt (ix2 e (tile s)) := by
  unfold picks
  refine (broadcastInDim_apply _ _ _ _ (ix3 (n0 := 8) (n1 := 70656) (n2 := 1) e s 0) (fun a => ?_)).trans ?_
  · match a with
    | ⟨0, _⟩ => rfl
    | ⟨1, _⟩ => rfl
    | ⟨2, _⟩ => rfl
  refine (broadcastInDim_apply _ _ _ _ (ix2 (n0 := 8) (n1 := 70656) e s) (fun a => ?_)).trans ?_
  · match a with
    | ⟨0, _⟩ => rfl
    | ⟨1, _⟩ => rfl
  refine (shapeCast_apply _ _ _ (ix3 (n0 := 8) (n1 := 138) (n2 := 512) e (tile s) ⟨s.val % 512, Nat.mod_lt _ (by decide)⟩) ?_).trans ?_
  · refine (Shape.rowMajor_val_three (d := ![8, 138, 512]) _).trans ((Eq.trans ?_ (Shape.rowMajor_val_two (d := ![8, 70656]) _).symm))
    show (e.val * 138 + s.val / 512) * 512 + s.val % 512 = e.val * 70656 + s.val
    omega
  refine (broadcastInDim_apply _ _ _ _ (ix3 (n0 := 8) (n1 := 138) (n2 := 1) e (tile s) 0) (fun a => ?_)).trans ?_
  · match a with
    | ⟨0, _⟩ => rfl
    | ⟨1, _⟩ => rfl
    | ⟨2, _⟩ => rfl
  refine broadcastInDim_apply _ _ _ _ (ix2 (n0 := 8) (n1 := 138) e (tile s)) (fun a => ?_)
  match a with
  | ⟨0, _⟩ => rfl
  | ⟨1, _⟩ => rfl

/-- What the reference leaves. -/
def result (te : S138.Idx → BitVec 32) (nt : S1.Idx → BitVec 32) (x : S70656x1024.Idx → EReal) (wg wu : S8x1024x3584.Idx → EReal)
    (wd : S8x3584x1024.Idx → EReal) : S70656x1024.Idx → EReal :=
  Host.reduceAdd (F := Ideal) (φ := .f32)
    (select (picks te nt)
      (Host.dotGeneral (F := Ideal) (φ₁ := .f32) (φ₂ := .f32) dot_S8x70656x3584_S8x3584x1024_S8x70656x1024_2_1_1_2_0_0 none
        (hidden (prods wg x) (prods wu x)) wd)
      (broadcastInDim S8x70656x1024 ![] bcast_S_S8x70656x1024 (id (constant (F := Ideal) S_ .f32 0x00000000#32))))
    (constant S_ .f32 0x00000000#32) reducesTo_S8x70656x1024_S70656x1024_d0 h_S_

theorem rows_apply (x : S70656x1024.Idx → EReal) (wg wu : S8x1024x3584.Idx → EReal)
    (wd : S8x3584x1024.Idx → EReal) (e : Fin 8) (s : Fin 70656) (j : Fin 1024) :
    Host.dotGeneral (F := Ideal) (φ₁ := .f32) (φ₂ := .f32) dot_S8x70656x3584_S8x3584x1024_S8x70656x1024_2_1_1_2_0_0 none
        (hidden (prods wg x) (prods wu x)) wd (ix3 e s j) = row x wg wu wd e s j := by
  refine (dotB_apply _ _ e s j).trans (Finset.sum_congr rfl fun f _ => ?_)
  rw [hidden_apply, prods_apply, prods_apply]

theorem pick_iff (t n : BitVec 32) (ht : t.toNat < 8) (hn : n.toNat < 2147483648) (e : Fin 8) (i : Fin 138) :
    IntOp.andi (IntOp.cmpi .eq (BitVec.ofNat 32 e.val) t) (IntOp.cmpi .slt (BitVec.ofNat 32 i.val) n) = 1#1
      ↔ e.val = t.toNat % 8 ∧ i.val < n.toNat := by
  have he := e.isLt
  have hi := i.isLt
  have heq : (BitVec.ofNat 32 e.val == t) = decide (e.val = t.toNat % 8) := by
    rw [Bool.eq_iff_iff, beq_iff_eq, decide_eq_true_iff]
    constructor
    · intro h
      rw [← h, BitVec.toNat_ofNat]
      omega
    · intro h
      refine BitVec.eq_of_toNat_eq ?_
      rw [BitVec.toNat_ofNat]
      omega
  have hlt : (BitVec.ofNat 32 i.val).slt n = decide (i.val < n.toNat) := by
    have k0 : (BitVec.ofNat 32 i.val).toInt = (i.val : ℤ) := by
      rw [BitVec.toInt_eq_toNat_cond, BitVec.toNat_ofNat]
      split <;> omega
    have k1 : n.toInt = (n.toNat : ℤ) := by
      rw [BitVec.toInt_eq_toNat_cond]
      split <;> omega
    rw [BitVec.slt, k0, k1, Bool.eq_iff_iff, decide_eq_true_iff, decide_eq_true_iff]
    omega
  show BitVec.ofBool (BitVec.ofNat 32 e.val == t) &&& BitVec.ofBool ((BitVec.ofNat 32 i.val).slt n) = 1#1 ↔ _
  rw [heq, hlt]
  by_cases h1 : e.val = t.toNat % 8 <;> by_cases h2 : i.val < n.toNat <;> simp [h1, h2]

theorem result_apply (te : S138.Idx → BitVec 32) (nt : S1.Idx → BitVec 32) (x : S70656x1024.Idx → EReal) (wg wu : S8x1024x3584.Idx → EReal)
    (wd : S8x3584x1024.Idx → EReal) (ht : ∀ z, (te z).toNat < 8) (hn : ∀ z, (nt z).toNat < 2147483648) (s : Fin 70656) (j : Fin 1024) :
    result te nt x wg wu wd (ix2 s j) = outAt te nt x wg wu wd s j := by
  have hz : ∀ z, broadcastInDim S8x70656x1024 ![] bcast_S_S8x70656x1024 (id (constant (F := Ideal) S_ .f32 0x00000000#32)) z = (0 : EReal) :=
    fun z => Ideal.ofBits_zero_f32
  have hterm : ∀ e : Fin 8, select (picks te nt)
      (Host.dotGeneral (F := Ideal) (φ₁ := .f32) (φ₂ := .f32) dot_S8x70656x3584_S8x3584x1024_S8x70656x1024_2_1_1_2_0_0 none
        (hidden (prods wg x) (prods wu x)) wd)
      (broadcastInDim S8x70656x1024 ![] bcast_S_S8x70656x1024 (id (constant (F := Ideal) S_ .f32 0x00000000#32))) (ix3 e s j)
      = if e = expert te (tile s) then (if (tile s).val < (nt (ix1 0)).toNat then row x wg wu wd e s j else 0) else 0 := by
    intro e
    show (if picks te nt (ix3 e s j) = 1#1 then _ else _) = _
    rw [rows_apply, hz, picks_apply, picksTile_apply]
    have := pick_iff (te (ix1 (tile s))) (nt (ix1 0)) (ht _) (hn _) e (tile s)
    by_cases h1 : e = expert te (tile s)
    · rw [if_pos h1]
      by_cases h2 : (tile s).val < (nt (ix1 0)).toNat
      · rw [if_pos (this.2 ⟨congrArg Fin.val h1, h2⟩), if_pos h2]
      · rw [if_neg (fun h => h2 (this.1 h).2), if_neg h2]
    · rw [if_neg (fun h => h1 (Fin.ext (this.1 h).1)), if_neg h1]
  unfold result
  refine (sum_apply _ s j).trans ((Finset.sum_congr rfl fun e _ => hterm e).trans ?_)
  rw [Finset.sum_ite_eq' Finset.univ, if_pos (Finset.mem_univ _)]
  rfl

theorem result_eq (te : S138.Idx → BitVec 32) (nt : S1.Idx → BitVec 32) (x : S70656x1024.Idx → EReal) (wg wu : S8x1024x3584.Idx → EReal)
    (wd : S8x3584x1024.Idx → EReal) (ht : ∀ z, (te z).toNat < 8) (hn : ∀ z, (nt z).toNat < 2147483648) :
    result te nt x wg wu wd = out te nt x wg wu wd := by
  funext z
  have hz : z = ix2 (z 0) (z 1) := funext fun a => match a with
    | ⟨0, _⟩ => rfl
    | ⟨1, _⟩ => rfl
  exact (congrArg (result te nt x wg wu wd) hz).trans (result_apply te nt x wg wu wd ht hn (z 0) (z 1))

end Cert.Reference2Ideal.Hand

end
-- ==== Proof.Claims2.lean ====
/- The claims about `_expert_ffn`: its frames, the frames of its reference, and that over the reals the two end with the
   same array. Untrusted. -/
module

public import proofs.«01_k».proof.Defs
public import proofs.«01_k».proof.Proof.Value2
public import proofs.«01_k».proof.Proof.Spec2
public import proofs.«01_k».proof.Proof.Gen.Kernel2
public import proofs.«01_k».proof.Proof.Gen.Pre_experts_in_range
public import Idealize.ShloMosaic.Lib.Quiescent

@[expose] public section

set_option maxRecDepth 16384

noncomputable section

namespace Cert.Kernel2Ideal.Hand

open Idealize.ShloMosaic Idealize.ShloMosaic.TcCoe Idealize.SL.Sem
open Cert.Kernel2Ideal.Gen

variable {F : FTy → Type} [FloatOps F]

theorem sge_one {a w : BitVec 32} (h : IntOp.cmpi .sge w a = 1#1) : a.toInt ≤ w.toInt := by
  have e : a.sle w = true := by
    cases hh : a.sle w with
    | true => rfl
    | false => exact absurd h (by
        show ¬ BitVec.ofBool (a.sle w) = 1#1
        rw [hh]; decide)
  simpa [BitVec.sle] using e

theorem slt_one {a w : BitVec 32} (h : IntOp.cmpi .slt w a = 1#1) : w.toInt < a.toInt := by
  have e : w.slt a = true := by
    cases hh : w.slt a with
    | true => rfl
    | false => exact absurd h (by
        show ¬ BitVec.ofBool (w.slt a) = 1#1
        rw [hh]; decide)
  simpa [BitVec.slt] using e

/-- The precondition, read at the tiles' experts. -/
theorem expert_lt {w : BitVec 32} (h0 : IntOp.cmpi .sge w 0#32 = 1#1) (h1 : IntOp.cmpi .slt w 8#32 = 1#1) : w.toNat < 8 := by
  have k0 := sge_one h0
  have k1 := slt_one h1
  have c0 : (0#32).toInt = 0 := by decide
  have c1 : (8#32).toInt = 8 := by decide
  rw [c0, BitVec.toInt_eq_toNat_cond] at k0
  rw [c1, BitVec.toInt_eq_toNat_cond] at k1
  have := w.isLt
  split at k0 <;> split at k1 <;> omega

/-- The precondition, read at the number of tiles in use. -/
theorem count_pos {w : BitVec 32} (h : IntOp.cmpi .sge w 1#32 = 1#1) : 1 ≤ w.toNat ∧ w.toNat < 2147483648 := by
  have k := sge_one h
  have c : (1#32).toInt = 1 := by decide
  rw [c, BitVec.toInt_eq_toNat_cond] at k
  have := w.isLt
  split at k <;> omega

/-- The precondition, of the two tables. -/
def Sound (t : S138.Idx → BitVec 32) (n : S1.Idx → BitVec 32) : Prop :=
  (∀ x, (t x).toNat < 8) ∧ ∀ x, 1 ≤ (n x).toNat ∧ (n x).toNat < 2147483648

theorem sound_of_fn (t : S138.Idx → BitVec 32) (n : S1.Idx → BitVec 32) (x : S70656x1024.Idx → Elt F .f32)
    (g u : S8x1024x3584.Idx → Elt F .f32) (d : S8x3584x1024.Idx → Elt F .f32)
    (hp : (Cert.Pre_experts_in_range.fn (F := F) t n x g u d).1 = (fun _ => 1#1)
      ∧ (Cert.Pre_experts_in_range.fn (F := F) t n x g u d).2.1 = (fun _ => 1#1)
      ∧ (Cert.Pre_experts_in_range.fn (F := F) t n x g u d).2.2 = (fun _ => 1#1)) : Sound t n :=
  ⟨fun z => expert_lt (congrFun hp.1 z) (congrFun hp.2.1 z), fun z => count_pos (congrFun hp.2.2 z)⟩

theorem frame_kernel2Ideal : Cert.quiescent_Kernel2Ideal := fun m ρ hp =>
  have hr : Good m := sound_of_fn _ _ _ _ _ _ (hp 0)
  (θ_run Cert.Kernel2Ideal.defs _ _).mono (fun _ h => ⟨fun c => (h.1 c).2, h.2⟩) (run_main (F := Ideal) m ρ hr)

/-- The program as printed for the device and as printed for the reals have the same bodies. -/
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl

theorem defs_eq : Cert.Kernel2.defs (F := Bits) = Cert.Kernel2Ideal.defs (F := Bits) :=
  congrArg (Pipeline.defs (Cert.Kernel2Ideal.pcfgs (F := Bits))) defs₀_eq

/-- The launch of the program printed for the device. -/
theorem run_bits (m : (ℓ : Loc nD τ sig) → Buf (Elt Bits) ℓ) (ρ : Dev nD → PrngReg) (h : Good m) :
    θ_run Cert.Kernel2.defs (onTc (τ := Cert.Kernel2.τ) (Cert.Kernel2.main (F := Bits))) ⟨m, fun _ => 0, ρ⟩ fun r =>
      (∀ c : Dev nD, r.2.mem (c.tc.loc main_v3) = outA m h c
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4)
        ∧ r.2.mem (c.tc.loc main_arg5) = m (c.tc.loc main_arg5)) ∧ r.2.sem = fun _ => 0 := by
  rw [defs_eq]
  exact run_main (F := Bits) m ρ h

theorem frame_kernel2 : Cert.quiescent_Kernel2 := fun m ρ hp =>
  have hr : Good m := sound_of_fn _ _ _ _ _ _ (hp 0)
  (θ_run Cert.Kernel2.defs _ _).mono (fun _ h => ⟨fun c => (h.1 c).2, h.2⟩) (run_bits m ρ hr)

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2Ideal_pre : Cert.quiescent_Reference2Ideal_pre_experts_in_range := fun m ρ _ =>
  (θ_run Cert.Reference2Ideal.defs _ _).mono (fun r h => ⟨fun c => (h c).2, sem_eq_zero_of_no_sems (by decide) r.2⟩)
    (Cert.Reference2Ideal.Value.run (F := Ideal) m ρ)

/-- The result of the launch, of its argument arrays. -/
theorem outA_args (m : (ℓ : Loc nD τ sig) → Buf (Elt Ideal) ℓ) (h : Good m) (c : Dev nD) :
    outA m h c = Cert.Swiglu.out (m (c.tc.loc main_arg0)) (m (c.tc.loc main_arg1)) (m (c.tc.loc main_arg2)) (m (c.tc.loc main_arg3))
      (m (c.tc.loc main_arg4)) (m (c.tc.loc main_arg5)) := by
  obtain rfl : c = 0 := Subsingleton.elim (α := Fin 1) _ _
  exact outA_eq m h 0

theorem value2_ideal : Cert.algebraic_Kernel2Ideal_Reference2Ideal := fun m ρ m' ρ' hp hm =>
  have hr : Good m := sound_of_fn _ _ _ _ _ _ (hp 0)
  ⟨fun c => outA m hr c,
    (θ_run Cert.Kernel2Ideal.defs _ _).mono (fun _ h => h.1) (run_main (F := Ideal) m ρ hr),
    (θ_run Cert.Reference2Ideal.defs _ _).mono (fun r h c => ⟨by
        refine (h c).1.trans ?_
        obtain rfl : c = 0 := Subsingleton.elim (α := Fin 1) _ _
        obtain ⟨a0, a1, a2, a3, a4, a5⟩ := hm 0
        rw [a0, a1, a2, a3, a4, a5]
        exact (Cert.Reference2Ideal.Hand.result_eq _ _ _ _ _ _ hr.1 (fun z => (hr.2 z).2)).trans (outA_args m hr 0).symm, (h c).2⟩)
      (Cert.Reference2Ideal.Value.run (F := Ideal) m' ρ')⟩

end Cert.Kernel2Ideal.Hand

end
-- ==== Proof.Dense.lean ====
/- The dense feed-forward: the array that the call leaves, what its reference computes, and the claims about the two.
   Untrusted. -/
module

public import proofs.«01_k».proof.Defs
public import proofs.«01_k».proof.Proof.Swiglu
public import proofs.«01_k».proof.Proof.Gen.Kernel3.Frame
public import proofs.«01_k».proof.Proof.Gen.Kernel3Ideal.Value
public import proofs.«01_k».proof.Proof.Gen.Reference3Ideal.Run
public import Idealize.ShloMosaic.Lib.MatmulPlain
public import Idealize.ShloMosaic.Lib.IdealHost
public import Idealize.ShloMosaic.Lib.Quiescent

@[expose] public section

set_option maxRecDepth 16384

noncomputable section

namespace Cert.Dense

open Idealize.ShloMosaic Idealize.ShloMosaic.TcCoe Idealize.ShloMosaic.ValueIdx Idealize.SL.Sem
open Cert.Swiglu

/-- A row's product with a column. -/
def proj (x : (Shape.mk 2 ![33280, 1024]).Idx → EReal) (w : (Shape.mk 2 ![1024, 2816]).Idx → EReal) (r : Fin 33280) (f : Fin 2816) : EReal :=
  ∑ k : Fin 1024, x (ix2 r k) * w (ix2 k f)

/-- An entry of the result: the residual and the row through the feed-forward. -/
def outAt (x h : (Shape.mk 2 ![33280, 1024]).Idx → EReal) (wg wu : (Shape.mk 2 ![1024, 2816]).Idx → EReal)
    (wd : (Shape.mk 2 ![2816, 1024]).Idx → EReal) (r : Fin 33280) (j : Fin 1024) : EReal :=
  h (ix2 r j) + ∑ f : Fin 2816, act (proj x wg r f) (proj x wu r f) * wd (ix2 f j)

/-- The result. -/
def out (x h : (Shape.mk 2 ![33280, 1024]).Idx → EReal) (wg wu : (Shape.mk 2 ![1024, 2816]).Idx → EReal)
    (wd : (Shape.mk 2 ![2816, 1024]).Idx → EReal) : (Shape.mk 2 ![33280, 1024]).Idx → EReal := fun z => outAt x h wg wu wd (z 0) (z 1)

theorem ix2_eta {a b : ℕ} (z : (Shape.mk 2 ![a, b]).Idx) : z = ix2 (n0 := a) (n1 := b) (z 0) (z 1) := funext fun k => match k with
  | ⟨0, _⟩ => rfl
  | ⟨1, _⟩ => rfl

section
open Cert.Kernel3Ideal Cert.Kernel3Ideal.Gen Cert.Kernel3Ideal.Value

/-- A point adds the products over its half of the hidden columns. -/
theorem pay_apply (X : S640x1024.Idx → EReal) (G U : S1024x1408.Idx → EReal) (A : S640x1024.Idx → EReal) (D : S1408x1024.Idx → EReal)
    (r : Fin 640) (j : Fin 1024) :
    k0_pay1 (F := Ideal) X G U A D (ix2 r j)
      = A (ix2 r j) + ∑ f : Fin 1408, act (∑ k : Fin 1024, X (ix2 r k) * G (ix2 k f)) (∑ k : Fin 1024, X (ix2 r k) * U (ix2 k f)) * D (ix2 f j) := by
  have hin : ∀ (W : S1024x1408.Idx → EReal) (f : Fin 1408),
      FloatOps.matmul (F := Ideal) (φ₁ := .bf16) (φ₂ := .bf16) dot_S640x1024_S1024x1408_S640x1408_1_0_0_1_n_n none X
        W (constant (F := Ideal) S640x1408 .f32 0x00000000#32) (ix2 r f) = ∑ k : Fin 1024, X (ix2 r k) * W (ix2 k f) := by
    intro W f
    rw [show dot_S640x1024_S1024x1408_S640x1408_1_0_0_1_n_n = DotDims.plain 640 1024 1408 from rfl, Ideal.matmul_plain_apply]
    rw [show (constant (F := Ideal) S640x1408 .f32 0x00000000#32) (ix2 r f) = (0 : EReal) from Ideal.ofBits_zero_f32, zero_add]
  unfold k0_pay1
  simp only [shapeCast_self]
  refine congrArg (A (ix2 r j) + ·) ?_
  rw [show dot_S640x1408_S1408x1024_S640x1024_1_0_0_1_n_n = DotDims.plain 640 1408 1024 from rfl]
  refine (Ideal.matmul_plain_apply (φ₁ := .bf16) (φ₂ := .bf16) none _ _ _ r j).trans ?_
  rw [show (constant (F := Ideal) S640x1024 .f32 0x00000000#32) (ix2 r j) = (0 : EReal) from Ideal.ofBits_zero_f32, zero_add]
  refine Finset.sum_congr rfl fun f _ => congrArg (· * D (ix2 f j)) ?_
  rw [← hin G f, ← hin U f]
  unfold act
  rw [← gate_eq]
  rfl

variable (m : (ℓ : Loc nD τ sig) → Buf (Elt Ideal) ℓ)

/-- Which block each window is at. -/
theorem idx : ∀ t : Fin cfg0.N, (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ (win0_4.index t (0 : Fin 2) = t.val % 2 ∧ win0_4.index t (1 : Fin 2) = 0) :=
  (by decide +kernel : ∀ t : Fin grid0.N, _)

theorem V_v0 (c : Dev nD) : V m c main_v0 = m ((c : Thread nD τ).loc main_arg2) := by
  show V m c main_v0 = truncf (F := Ideal) (φ := .f32) .bf16 (m ((c : Thread nD τ).loc main_arg2)) bitsLt_bf16_f32
  unfold V hostOps0
  after_results
theorem V_v1 (c : Dev nD) : V m c main_v1 = m ((c : Thread nD τ).loc main_arg3) := by
  show V m c main_v1 = truncf (F := Ideal) (φ := .f32) .bf16 (m ((c : Thread nD τ).loc main_arg3)) bitsLt_bf16_f32
  unfold V hostOps0
  after_results
theorem V_v2 (c : Dev nD) : V m c main_v2 = m ((c : Thread nD τ).loc main_arg4) := by
  show V m c main_v2 = truncf (F := Ideal) (φ := .f32) .bf16 (m ((c : Thread nD τ).loc main_arg4)) bitsLt_bf16_f32
  unfold V hostOps0
  after_results

/-- The row of the array that a row of a point's block is, and the hidden column that a column of its half is. -/
def rowOf (n : ℕ) (h : n < cfg0.N) (r : Fin 640) : Fin 33280 :=
  ⟨n / 2 * 640 + r.val, by have hN := lt_of_lt_of_eq h (show cfg0.N = 104 from N_0); have := r.isLt; omega⟩
def colOf (n : ℕ) (f : Fin 1408) : Fin 2816 := ⟨n % 2 * 1408 + f.val, by have := f.isLt; omega⟩

abbrev xs (c : Dev nD) : S33280x1024.Idx → EReal := m ((c : Thread nD τ).loc main_arg0)
abbrev hs (c : Dev nD) : S33280x1024.Idx → EReal := m ((c : Thread nD τ).loc main_arg1)
abbrev wgs (c : Dev nD) : S1024x2816.Idx → EReal := m ((c : Thread nD τ).loc main_arg2)
abbrev wus (c : Dev nD) : S1024x2816.Idx → EReal := m ((c : Thread nD τ).loc main_arg3)
abbrev wds (c : Dev nD) : S2816x1024.Idx → EReal := m ((c : Thread nD τ).loc main_arg4)

theorem blk0 (c : Dev nD) (n : ℕ) (h : n < cfg0.N) (r : Fin 640) (k : Fin 1024) :
    (iblk m c 0 ⟨n, h⟩ : S640x1024.Idx → EReal) (ix2 r k) = xs m c (ix2 (rowOf n h r) k) := by
  have e := idx ⟨n, h⟩
  dsimp only at e
  refine Eq.trans ?_ (congrFun (V_main_arg0 m c) (ix2 (rowOf n h r) k))
  refine congrArg (V m c main_arg0) (funext fun a => Fin.ext ?_)
  match a with
  | ⟨0, _⟩ => show win0_0.index ⟨n, h⟩ (0 : Fin 2) * 640 + 1 * r.val = n / 2 * 640 + r.val; rw [e.1.1]; omega
  | ⟨1, _⟩ => show win0_0.index ⟨n, h⟩ (1 : Fin 2) * 1024 + 1 * k.val = k.val; rw [e.1.2]; omega
theorem blk1 (c : Dev nD) (n : ℕ) (h : n < cfg0.N) (r : Fin 640) (k : Fin 1024) :
    (iblk m c 1 ⟨n, h⟩ : S640x1024.Idx → EReal) (ix2 r k) = hs m c (ix2 (rowOf n h r) k) := by
  have e := idx ⟨n, h⟩
  dsimp only at e
  refine Eq.trans ?_ (congrFun (V_main_arg1 m c) (ix2 (rowOf n h r) k))
  refine congrArg (V m c main_arg1) (funext fun a => Fin.ext ?_)
  match a with
  | ⟨0, _⟩ => show win0_1.index ⟨n, h⟩ (0 : Fin 2) * 640 + 1 * r.val = n / 2 * 640 + r.val; rw [e.2.1.1]; omega
  | ⟨1, _⟩ => show win0_1.index ⟨n, h⟩ (1 : Fin 2) * 1024 + 1 * k.val = k.val; rw [e.2.1.2]; omega
theorem blk2 (c : Dev nD) (n : ℕ) (h : n < cfg0.N) (k : Fin 1024) (f : Fin 1408) :
    (iblk m c 2 ⟨n, h⟩ : S1024x1408.Idx → EReal) (ix2 k f) = wgs m c (ix2 k (colOf n f)) := by
  have e := idx ⟨n, h⟩
  dsimp only at e
  refine Eq.trans ?_ (congrFun (V_v0 m c) (ix2 k (colOf n f)))
  refine congrArg (V m c main_v0) (funext fun a => Fin.ext ?_)
  match a with
  | ⟨0, _⟩ => show win0_2.index ⟨n, h⟩ (0 : Fin 2) * 1024 + 1 * k.val = k.val; rw [e.2.2.1.1]; omega
  | ⟨1, _⟩ => show win0_2.index ⟨n, h⟩ (1 : Fin 2) * 1408 + 1 * f.val = n % 2 * 1408 + f.val; rw [e.2.2.1.2]; omega
theorem blk3 (c : Dev nD) (n : ℕ) (h : n < cfg0.N) (k : Fin 1024) (f : Fin 1408) :
    (iblk m c 3 ⟨n, h⟩ : S1024x1408.Idx → EReal) (ix2 k f) = wus m c (ix2 k (colOf n f)) := by
  have e := idx ⟨n, h⟩
  dsimp only at e
  refine Eq.trans ?_ (congrFun (V_v1 m c) (ix2 k (colOf n f)))
  refine congrArg (V m c main_v1) (funext fun a => Fin.ext ?_)
  match a with
  | ⟨0, _⟩ => show win0_3.index ⟨n, h⟩ (0 : Fin 2) * 1024 + 1 * k.val = k.val; rw [e.2.2.2.1.1]; omega
  | ⟨1, _⟩ => show win0_3.index ⟨n, h⟩ (1 : Fin 2) * 1408 + 1 * f.val = n % 2 * 1408 + f.val; rw [e.2.2.2.1.2]; omega
theorem blk4 (c : Dev nD) (n : ℕ) (h : n < cfg0.N) (f : Fin 1408) (j : Fin 1024) :
    (iblk m c 4 ⟨n, h⟩ : S1408x1024.Idx → EReal) (ix2 f j) = wds m c (ix2 (colOf n f) j) := by
  have e := idx ⟨n, h⟩
  dsimp only at e
  refine Eq.trans ?_ (congrFun (V_v2 m c) (ix2 (colOf n f) j))
  refine congrArg (V m c main_v2) (funext fun a => Fin.ext ?_)
  match a with
  | ⟨0, _⟩ => show win0_4.index ⟨n, h⟩ (0 : Fin 2) * 1408 + 1 * f.val = n % 2 * 1408 + f.val; rw [e.2.2.2.2.1]; omega
  | ⟨1, _⟩ => show win0_4.index ⟨n, h⟩ (1 : Fin 2) * 1024 + 1 * j.val = j.val; rw [e.2.2.2.2.2]; omega

/-- What a point adds. -/
def half (c : Dev nD) (n : ℕ) (r : Fin 33280) (j : Fin 1024) : EReal :=
  ∑ f : Fin 1408, act (proj (xs m c) (wgs m c) r (colOf n f)) (proj (xs m c) (wus m c) r (colOf n f)) * wds m c (ix2 (colOf n f) j)

theorem step_apply (c : Dev nD) (n : ℕ) (h : n < cfg0.N) (A : S640x1024.Idx → EReal) (r : Fin 640) (j : Fin 1024) :
    k0_pay1 (F := Ideal) (iblk m c 0 ⟨n, h⟩) (iblk m c 2 ⟨n, h⟩) (iblk m c 3 ⟨n, h⟩) A (iblk m c 4 ⟨n, h⟩) (ix2 r j)
      = A (ix2 r j) + half m c n (rowOf n h r) j := by
  refine (pay_apply _ _ _ _ _ r j).trans (congrArg (A (ix2 r j) + ·) (Finset.sum_congr rfl fun f _ => ?_))
  unfold proj
  exact congrArg₂ (· * ·) (congrArg₂ act
    (Finset.sum_congr rfl fun k _ => congrArg₂ (· * ·) (blk0 m c n h r k) (blk2 m c n h k f))
    (Finset.sum_congr rfl fun k _ => congrArg₂ (· * ·) (blk0 m c n h r k) (blk3 m c n h k f))) (blk4 m c n h f j)

theorem halves (c : Dev nD) (n : ℕ) (hn : n % 2 = 0) (r : Fin 33280) (j : Fin 1024) :
    half m c n r j + half m c (n + 1) r j
      = ∑ f : Fin 2816, act (proj (xs m c) (wgs m c) r f) (proj (xs m c) (wus m c) r f) * wds m c (ix2 f j) := by
  refine Eq.trans ?_ (Fin.sum_univ_add (a := 1408) (b := 1408) fun f : Fin 2816 =>
    act (proj (xs m c) (wgs m c) r f) (proj (xs m c) (wus m c) r f) * wds m c (ix2 f j)).symm
  refine congrArg₂ (· + ·) (Finset.sum_congr rfl fun f _ => ?_) (Finset.sum_congr rfl fun f _ => ?_)
  · rw [show colOf n f = Fin.castAdd 1408 f from Fin.ext (by show n % 2 * 1408 + f.val = f.val; omega)]
  · rw [show colOf (n + 1) f = Fin.natAdd 1408 f from Fin.ext (by show (n + 1) % 2 * 1408 + f.val = 1408 + f.val; omega)]

/-- The array that the call leaves. -/
theorem left_apply (c : Dev nD) (r : Fin 33280) (j : Fin 1024) :
    G5 m c (ix2 r j) = outAt (xs m c) (hs m c) (wgs m c) (wus m c) (wds m c) r j := by
  have hr := r.isLt
  have hj := j.isLt
  have hrun : run5Of (ix2 r j) = r.val / 640 := by
    show 1 * (r.val / 640 - 0) + 1 * (j.val / 1024 - 0) = _
    omega
  have hN : cfg0.N = 104 := N_0
  have hlt : 2 * run5Of (ix2 r j) + 1 < cfg0.N := by rw [hrun, hN]; omega
  have h0 : 2 * run5Of (ix2 r j) < cfg0.N := by omega
  have hloc : loc5Of (ix2 r j) = ix2 (n0 := 640) (n1 := 1024) ⟨r.val % 640, Nat.mod_lt _ (by decide)⟩ j := by
    funext a
    match a with
    | ⟨0, _⟩ => rfl
    | ⟨1, _⟩ => exact Fin.ext (Nat.mod_eq_of_lt hj)
  unfold G5
  rw [dif_pos hlt, hloc]
  show step5 m c (2 * run5Of (ix2 r j) + 1) hlt (reset5 m c (2 * run5Of (ix2 r j)) h0) _ = _
  refine (step_apply m c _ hlt _ _ j).trans ?_
  have e0 := step_apply m c _ h0 (iblk m c 1 ⟨_, h0⟩) ⟨r.val % 640, Nat.mod_lt _ (by decide)⟩ j
  have er0 : rowOf (2 * run5Of (ix2 r j)) h0 ⟨r.val % 640, Nat.mod_lt _ (by decide)⟩ = r := Fin.ext (by
    show 2 * run5Of (ix2 r j) / 2 * 640 + r.val % 640 = r.val
    rw [hrun]; omega)
  have er1 : rowOf (2 * run5Of (ix2 r j) + 1) hlt ⟨r.val % 640, Nat.mod_lt _ (by decide)⟩ = r := Fin.ext (by
    show (2 * run5Of (ix2 r j) + 1) / 2 * 640 + r.val % 640 = r.val
    rw [hrun]; omega)
  rw [blk1 m c _ h0, er0] at e0
  rw [er1]
  refine (congrArg (· + half m c (2 * run5Of (ix2 r j) + 1) r j) e0).trans ?_
  rw [add_assoc, halves m c _ (by omega)]
  rfl

theorem left_eq (c : Dev nD) : G5 m c = out (xs m c) (hs m c) (wgs m c) (wus m c) (wds m c) := by
  funext z
  exact (congrArg (G5 m c) (ix2_eta z)).trans (left_apply m c (z 0) (z 1))

end

section
open Cert.Reference3Ideal Cert.Reference3Ideal.Gen

/-- The hidden activations of the reference. -/
def hidden (a b : S33280x2816.Idx → EReal) : S33280x2816.Idx → EReal :=
  mulf (F := Ideal) (φ := .f32) (mulf (F := Ideal) (φ := .f32) a
    (Host.divf (F := Ideal) (φ := .f32) (broadcastInDim S33280x2816 ![] bcast_S_S33280x2816 (constant S_ .f32 0x3F800000#32))
      (addf (F := Ideal) (φ := .f32) (broadcastInDim S33280x2816 ![] bcast_S_S33280x2816 (constant S_ .f32 0x3F800000#32))
        (Host.exp (F := Ideal) (φ := .f32) (Host.negf (F := Ideal) (φ := .f32) a))))) b

theorem hidden_apply (a b : S33280x2816.Idx → EReal) (z : S33280x2816.Idx) : hidden a b z = act (a z) (b z) := by
  show a z * Ideal.div (Ideal.ofBits .f32 0x3F800000#32) (Ideal.ofBits .f32 0x3F800000#32 + Ideal.exp (-(a z))) * b z = _
  rw [Ideal.ofBits_one_f32]
  rfl

/-- What the reference leaves. -/
def result (x h : S33280x1024.Idx → EReal) (wg wu : S1024x2816.Idx → EReal) (wd : S2816x1024.Idx → EReal) : S33280x1024.Idx → EReal :=
  addf (F := Ideal) (φ := .f32) h (Host.dotGeneral (F := Ideal) (φ₁ := .f32) (φ₂ := .f32) dot_S33280x2816_S2816x1024_S33280x1024_1_0_0_1_n_n none
    (hidden (Host.dotGeneral (F := Ideal) (φ₁ := .f32) (φ₂ := .f32) dot_S33280x1024_S1024x2816_S33280x2816_1_0_0_1_n_n none x wg)
      (Host.dotGeneral (F := Ideal) (φ₁ := .f32) (φ₂ := .f32) dot_S33280x1024_S1024x2816_S33280x2816_1_0_0_1_n_n none x wu)) wd)

theorem in_apply (x : S33280x1024.Idx → EReal) (w : S1024x2816.Idx → EReal) (r : Fin 33280) (f : Fin 2816) :
    Host.dotGeneral (F := Ideal) (φ₁ := .f32) (φ₂ := .f32) dot_S33280x1024_S1024x2816_S33280x2816_1_0_0_1_n_n none x w (ix2 r f) = proj x w r f := by
  rw [show dot_S33280x1024_S1024x2816_S33280x2816_1_0_0_1_n_n = DotDims.plain 33280 1024 2816 from rfl]
  refine (Ideal.matmul_plain_apply (φ₁ := .f32) (φ₂ := .f32) none _ _ _ r f).trans ?_
  exact zero_add _

theorem result_apply (x h : S33280x1024.Idx → EReal) (wg wu : S1024x2816.Idx → EReal) (wd : S2816x1024.Idx → EReal) (r : Fin 33280) (j : Fin 1024) :
    result x h wg wu wd (ix2 r j) = outAt x h wg wu wd r j := by
  refine congrArg (h (ix2 r j) + ·) ?_
  rw [show dot_S33280x2816_S2816x1024_S33280x1024_1_0_0_1_n_n = DotDims.plain 33280 2816 1024 from rfl]
  refine (Ideal.matmul_plain_apply (φ₁ := .f32) (φ₂ := .f32) none _ _ _ r j).trans ((zero_add _).trans ?_)
  refine Finset.sum_congr rfl fun f _ => congrArg (· * wd (ix2 f j)) ?_
  rw [hidden_apply, in_apply, in_apply]

theorem result_eq (x h : S33280x1024.Idx → EReal) (wg wu : S1024x2816.Idx → EReal) (wd : S2816x1024.Idx → EReal) :
    result x h wg wu wd = out x h wg wu wd := by
  funext z
  exact (congrArg (result x h wg wu wd) (ix2_eta z)).trans (result_apply x h wg wu wd (z 0) (z 1))

end

theorem frame_kernel : Cert.quiescent_Kernel3 := fun m ρ _ => Cert.Kernel3.Gen.frame m ρ
theorem frame_kernelIdeal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value : Cert.algebraic_Kernel3Ideal_Reference3Ideal := fun m ρ m' ρ' _ hm =>
  ⟨fun c => Cert.Kernel3Ideal.Value.G5 m c, Cert.Kernel3Ideal.Value.run (F := Ideal) m ρ,
    (θ_run Cert.Reference3Ideal.defs _ _).mono (fun r h c => ⟨by
        refine (h c).1.trans ?_
        obtain rfl : c = 0 := Subsingleton.elim (α := Fin 1) _ _
        obtain ⟨a0, a1, a2, a3, a4⟩ := hm 0
        rw [a0, a1, a2, a3, a4]
        exact (result_eq _ _ _ _ _).trans (left_eq m 0).symm, (h c).2⟩)
      (Cert.Reference3Ideal.Value.run (F := Ideal) m' ρ')⟩

end Cert.Dense

end
-- ==== Proof.Columns.lean ====
/- The input projection: which column of the weight each column of the four results is made of, in the weights that the
   kernel is given and in the reference's results. Untrusted. -/
module

public import proofs.«01_k».proof.Proof.Gen.Kernel4Ideal.Value
public import proofs.«01_k».proof.Proof.Gen.Reference4Ideal.Run
public import Idealize.ShloMosaic.Lib.Pointwise
public import Idealize.ShloMosaic.Lib.IdealHost

@[expose] public section

set_option maxRecDepth 16384

noncomputable section

namespace Cert.Inproj

open Idealize.ShloMosaic hiding ix1 ix2 ix3
open Idealize.ShloMosaic.TcCoe Idealize.ShloMosaic.ValueIdx Idealize.SL.Sem

/-- The function at a column, and zero at none. -/
def pick (o : Option (Fin 2660)) (f : Fin 2660 → EReal) : EReal := match o with
  | some c => f c
  | none => 0

/-- The columns of the four results. -/
def colL (j : Fin 512) : Option (Fin 2660) := some ⟨j.val, by omega⟩
def colH (j : Fin 1024) : Option (Fin 2660) := some ⟨512 + j.val, by omega⟩
def colM (j : Fin 512) : Option (Fin 2660) :=
  if h : j.val < 128 then some ⟨1728 + j.val, by omega⟩
  else if j.val < 192 then none
  else if h : j.val < 224 then some ⟨1856 + (j.val - 192), by omega⟩
  else if j.val < 256 then none
  else if h : j.val < 448 then some ⟨1536 + (j.val - 256), by omega⟩
  else none
def colF (j : Fin 896) : Option (Fin 2660) :=
  if h : j.val < 772 then some ⟨1888 + j.val, by omega⟩ else none

theorem colM_ckv (j : Fin 512) (h : j.val < 128) : colM j = some ⟨1728 + j.val, by omega⟩ := dif_pos h
theorem colM_gap (j : Fin 512) (h : ¬ j.val < 128) (h' : j.val < 192) : colM j = none := (dif_neg h).trans (if_pos h')
theorem colM_kr (j : Fin 512) (h : ¬ j.val < 192) (h' : j.val < 224) : colM j = some ⟨1856 + (j.val - 192), by omega⟩ :=
  (dif_neg (by omega)).trans ((if_neg h).trans (dif_pos h'))
theorem colM_gap' (j : Fin 512) (h : ¬ j.val < 224) (h' : j.val < 256) : colM j = none :=
  (dif_neg (by omega)).trans ((if_neg (by omega)).trans ((dif_neg h).trans (if_pos h')))
theorem colM_cq (j : Fin 512) (h : ¬ j.val < 256) (h' : j.val < 448) : colM j = some ⟨1536 + (j.val - 256), by omega⟩ :=
  (dif_neg (by omega)).trans ((if_neg (by omega)).trans ((dif_neg (by omega)).trans ((if_neg h).trans (dif_pos h'))))
theorem colM_rest (j : Fin 512) (h : ¬ j.val < 448) : colM j = none :=
  (dif_neg (by omega)).trans ((if_neg (by omega)).trans ((dif_neg (by omega)).trans ((if_neg (by omega)).trans (dif_neg h))))
theorem colF_in (j : Fin 896) (h : j.val < 772) : colF j = some ⟨1888 + j.val, by omega⟩ := dif_pos h
theorem colF_rest (j : Fin 896) (h : ¬ j.val < 772) : colF j = none := dif_neg h

section
open Cert.Kernel4Ideal Cert.Kernel4Ideal.Gen

/-- The four weights that the kernel is given. -/
def wl (W : S1024x2660.Idx → EReal) : S1024x512.Idx → EReal :=
  truncf (F := Ideal) (φ := .f32) .bf16 (extractStridedSlice S1024x512 ![0, 0] W slices_S1024x2660_S1024x512_0_0) bitsLt_bf16_f32
def wh (W : S1024x2660.Idx → EReal) : S1024x1024.Idx → EReal :=
  truncf (F := Ideal) (φ := .f32) .bf16 (extractStridedSlice S1024x1024 ![0, 512] W slices_S1024x2660_S1024x1024_0_512) bitsLt_bf16_f32
def wp (W : S1024x2660.Idx → EReal) : S1024x256.Idx → EReal :=
  pad S1024x256 ![0, 0] ![0, 64] ![0, 0]
    (truncf (F := Ideal) (φ := .f32) .bf16 (extractStridedSlice S1024x192 ![0, 1536] W slices_S1024x2660_S1024x192_0_1536) bitsLt_bf16_f32 : S1024x192.Idx → EReal)
    (sitofp (F := Ideal) .bf16 (constantI S_ 32 0#32)) pads_S1024x192_S1024x256_000_0640 h_S_
def wm (W : S1024x2660.Idx → EReal) : S1024x512.Idx → EReal :=
  concatenate S1024x512 1 [
    ⟨S1024x128, (truncf (F := Ideal) (φ := .f32) .bf16 (extractStridedSlice S1024x128 ![0, 1728] W slices_S1024x2660_S1024x128_0_1728) bitsLt_bf16_f32 : S1024x128.Idx → EReal)⟩,
    ⟨S1024x64, (broadcastInDim S1024x64 ![] bcast_S_S1024x64 (constant (F := Ideal) S_ .bf16 0x0000#16) : S1024x64.Idx → EReal)⟩,
    ⟨S1024x32, (truncf (F := Ideal) (φ := .f32) .bf16 (extractStridedSlice S1024x32 ![0, 1856] W slices_S1024x2660_S1024x32_0_1856) bitsLt_bf16_f32 : S1024x32.Idx → EReal)⟩,
    ⟨S1024x32, (broadcastInDim S1024x32 ![] bcast_S_S1024x32 (constant (F := Ideal) S_ .bf16 0x0000#16) : S1024x32.Idx → EReal)⟩,
    ⟨S1024x256, wp W⟩]
    concatenates_S1024x128_S1024x64_S1024x32_S1024x32_S1024x256_S1024x512_d1
def wf (W : S1024x2660.Idx → EReal) : S1024x896.Idx → EReal :=
  concatenate S1024x896 1 [
    ⟨S1024x768, (truncf (F := Ideal) (φ := .f32) .bf16 (extractStridedSlice S1024x768 ![0, 1888] W slices_S1024x2660_S1024x768_0_1888) bitsLt_bf16_f32 : S1024x768.Idx → EReal)⟩,
    ⟨S1024x128, (pad S1024x128 ![0, 0] ![0, 124] ![0, 0]
      (truncf (F := Ideal) (φ := .f32) .bf16 (extractStridedSlice S1024x4 ![0, 2656] W slices_S1024x2660_S1024x4_0_2656) bitsLt_bf16_f32 : S1024x4.Idx → EReal)
      (sitofp (F := Ideal) .bf16 (constantI S_ 32 0#32)) pads_S1024x4_S1024x128_000_01240 h_S_ : S1024x128.Idx → EReal)⟩]
    concatenates_S1024x768_S1024x128_S1024x896_d1

theorem ix2_val_ext {a b : ℕ} (f : (Shape.mk 2 ![a, b]).Idx → EReal) (r : Fin a) {c d : Fin b} (h : c.val = d.val) :
    f (Idealize.ShloMosaic.ix2 r c) = f (ix2 r d) := by
  obtain rfl : c = d := Fin.ext h
  refine congrArg f (funext fun k => ?_)
  match k with
  | ⟨0, _⟩ => rfl
  | ⟨1, _⟩ => rfl

theorem sitofp_zero : (FloatOps.sitofp (F := Ideal) FTy.bf16 (0#32) : EReal) = 0 := by
  show (((0#32 : BitVec 32).toInt : ℝ) : EReal) = 0
  simp

theorem wl_apply (W : S1024x2660.Idx → EReal) (z : S1024x512.Idx) : wl W z = pick (colL (z 1)) fun c => W (ix2 (z 0) c) := by
  unfold wl
  pointwise
  exact ix2_val_ext W _ rfl

theorem wh_apply (W : S1024x2660.Idx → EReal) (z : S1024x1024.Idx) : wh W z = pick (colH (z 1)) fun c => W (ix2 (z 0) c) := by
  unfold wh
  pointwise
  exact ix2_val_ext W _ rfl

theorem wp_apply (W : S1024x2660.Idx → EReal) (k : Fin 1024) (j : Fin 256) :
    wp W (Idealize.ShloMosaic.ix2 k j) = if h : j.val < 192 then W (ix2 k ⟨1536 + j.val, by omega⟩) else 0 := by
  unfold wp
  pointwise
  by_cases h : j.val < 192
  · rw [dif_pos h, dif_pos h]
    exact ix2_val_ext W _ rfl
  · rw [dif_neg h, dif_neg h]
    exact sitofp_zero

theorem wm_apply (W : S1024x2660.Idx → EReal) (z : S1024x512.Idx) : wm W z = pick (colM (z 1)) fun c => W (ix2 (z 0) c) := by
  unfold wm
  pointwise
  have hj : (z 1).val < 512 := (z 1).isLt
  by_cases h1 : (z 1).val < 128
  · rw [colM_ckv (z 1) h1]
    exact (dif_pos h1).trans (ix2_val_ext W _ rfl)
  by_cases h2 : (z 1).val < 192
  · rw [colM_gap (z 1) h1 h2]
    exact (dif_neg h1).trans (dif_pos (by omega))
  by_cases h3 : (z 1).val < 224
  · rw [colM_kr (z 1) h2 h3]
    exact (dif_neg h1).trans ((dif_neg (by omega)).trans ((dif_pos (by omega)).trans (ix2_val_ext W _ (by dsimp only <;> omega))))
  by_cases h4 : (z 1).val < 256
  · rw [colM_gap' (z 1) h3 h4]
    exact (dif_neg h1).trans ((dif_neg (by omega)).trans ((dif_neg (by omega)).trans (dif_pos (by omega))))
  by_cases h5 : (z 1).val < 448
  · rw [colM_cq (z 1) h4 h5]
    refine (dif_neg h1).trans ((dif_neg (by omega)).trans ((dif_neg (by omega)).trans ((dif_neg (by omega)).trans ?_)))
    refine (wp_apply W _ _).trans ((dif_pos (by dsimp only <;> omega)).trans (congrArg W ?_))
    exact congrArg (ix2 _) (Fin.ext (by dsimp only <;> omega))
  · rw [colM_rest (z 1) h5]
    refine (dif_neg h1).trans ((dif_neg (by omega)).trans ((dif_neg (by omega)).trans ((dif_neg (by omega)).trans ?_)))
    exact (wp_apply W _ _).trans (dif_neg (by dsimp only <;> omega))

theorem wf_apply (W : S1024x2660.Idx → EReal) (z : S1024x896.Idx) : wf W z = pick (colF (z 1)) fun c => W (ix2 (z 0) c) := by
  unfold wf
  pointwise
  have hj : (z 1).val < 896 := (z 1).isLt
  by_cases h1 : (z 1).val < 768
  · rw [colF_in (z 1) (by omega)]
    exact (dif_pos h1).trans (ix2_val_ext W _ rfl)
  by_cases h2 : (z 1).val < 772
  · rw [colF_in (z 1) h2]
    exact (dif_neg h1).trans ((dif_pos (by omega)).trans (ix2_val_ext W _ (by dsimp only <;> omega)))
  · rw [colF_rest (z 1) h2]
    exact (dif_neg h1).trans ((dif_neg (by omega)).trans sitofp_zero)

end

section
open Cert.Reference4Ideal Cert.Reference4Ideal.Gen

/-- The four results of the reference, from the projected rows. -/
def zl (Z : S33280x2660.Idx → EReal) : S33280x512.Idx → EReal := extractStridedSlice S33280x512 ![0, 0] Z slices_S33280x2660_S33280x512_0_0
def zh (Z : S33280x2660.Idx → EReal) : S33280x1024.Idx → EReal := extractStridedSlice S33280x1024 ![0, 512] Z slices_S33280x2660_S33280x1024_0_512
def zm (Z : S33280x2660.Idx → EReal) : S33280x512.Idx → EReal :=
  concatenate S33280x512 1 [
    ⟨S33280x128, (extractStridedSlice S33280x128 ![0, 1728] Z slices_S33280x2660_S33280x128_0_1728 : S33280x128.Idx → EReal)⟩,
    ⟨S33280x64, (broadcastInDim S33280x64 ![] bcast_S_S33280x64 (constant (F := Ideal) S_ .f32 0x00000000#32) : S33280x64.Idx → EReal)⟩,
    ⟨S33280x32, (extractStridedSlice S33280x32 ![0, 1856] Z slices_S33280x2660_S33280x32_0_1856 : S33280x32.Idx → EReal)⟩,
    ⟨S33280x32, (broadcastInDim S33280x32 ![] bcast_S_S33280x32 (constant (F := Ideal) S_ .f32 0x00000000#32) : S33280x32.Idx → EReal)⟩,
    ⟨S33280x192, (extractStridedSlice S33280x192 ![0, 1536] Z slices_S33280x2660_S33280x192_0_1536 : S33280x192.Idx → EReal)⟩,
    ⟨S33280x64, (broadcastInDim S33280x64 ![] bcast_S_S33280x64 (constant (F := Ideal) S_ .f32 0x00000000#32) : S33280x64.Idx → EReal)⟩]
    concatenates_S33280x128_S33280x64_S33280x32_S33280x32_S33280x192_S33280x64_S33280x512_d1
def zf (Z : S33280x2660.Idx → EReal) : S33280x896.Idx → EReal :=
  concatenate S33280x896 1 [
    ⟨S33280x768, (extractStridedSlice S33280x768 ![0, 1888] Z slices_S33280x2660_S33280x768_0_1888 : S33280x768.Idx → EReal)⟩,
    ⟨S33280x4, (extractStridedSlice S33280x4 ![0, 2656] Z slices_S33280x2660_S33280x4_0_2656 : S33280x4.Idx → EReal)⟩,
    ⟨S33280x124, (broadcastInDim S33280x124 ![] bcast_S_S33280x124 (constant (F := Ideal) S_ .f32 0x00000000#32) : S33280x124.Idx → EReal)⟩]
    concatenates_S33280x768_S33280x4_S33280x124_S33280x896_d1

theorem zl_apply (Z : S33280x2660.Idx → EReal) (z : S33280x512.Idx) : zl Z z = pick (colL (z 1)) fun c => Z (ix2 (z 0) c) := by
  unfold zl
  pointwise
  exact ix2_val_ext Z _ rfl

theorem zh_apply (Z : S33280x2660.Idx → EReal) (z : S33280x1024.Idx) : zh Z z = pick (colH (z 1)) fun c => Z (ix2 (z 0) c) := by
  unfold zh
  pointwise
  exact ix2_val_ext Z _ rfl

theorem zm_apply (Z : S33280x2660.Idx → EReal) (z : S33280x512.Idx) : zm Z z = pick (colM (z 1)) fun c => Z (ix2 (z 0) c) := by
  unfold zm
  pointwise
  have hj : (z 1).val < 512 := (z 1).isLt
  by_cases h1 : (z 1).val < 128
  · rw [colM_ckv (z 1) h1]
    exact (dif_pos h1).trans (ix2_val_ext Z _ rfl)
  by_cases h2 : (z 1).val < 192
  · rw [colM_gap (z 1) h1 h2]
    exact (dif_neg h1).trans (dif_pos (by omega))
  by_cases h3 : (z 1).val < 224
  · rw [colM_kr (z 1) h2 h3]
    exact (dif_neg h1).trans ((dif_neg (by omega)).trans ((dif_pos (by omega)).trans (ix2_val_ext Z _ (by dsimp only <;> omega))))
  by_cases h4 : (z 1).val < 256
  · rw [colM_gap' (z 1) h3 h4]
    exact (dif_neg h1).trans ((dif_neg (by omega)).trans ((dif_neg (by omega)).trans (dif_pos (by omega))))
  by_cases h5 : (z 1).val < 448
  · rw [colM_cq (z 1) h4 h5]
    exact (dif_neg h1).trans ((dif_neg (by omega)).trans ((dif_neg (by omega)).trans ((dif_neg (by omega)).trans
      ((dif_pos (by omega)).trans (ix2_val_ext Z _ (by dsimp only <;> omega))))))
  · rw [colM_rest (z 1) h5]
    exact (dif_neg h1).trans ((dif_neg (by omega)).trans ((dif_neg (by omega)).trans ((dif_neg (by omega)).trans (dif_neg (by omega)))))

theorem zf_apply (Z : S33280x2660.Idx → EReal) (z : S33280x896.Idx) : zf Z z = pick (colF (z 1)) fun c => Z (ix2 (z 0) c) := by
  unfold zf
  pointwise
  have hj : (z 1).val < 896 := (z 1).isLt
  by_cases h1 : (z 1).val < 768
  · rw [colF_in (z 1) (by omega)]
    exact (dif_pos h1).trans (ix2_val_ext Z _ rfl)
  by_cases h2 : (z 1).val < 772
  · rw [colF_in (z 1) h2]
    exact (dif_neg h1).trans ((dif_pos (by omega)).trans (ix2_val_ext Z _ (by dsimp only <;> omega)))
  · rw [colF_rest (z 1) h2]
    exact (dif_neg h1).trans (dif_neg (by omega))

end

end Cert.Inproj

end
-- ==== Proof.Inproj.lean ====
/- The input projection: the four arrays that the call leaves, what its reference computes, and the claims about the two.
   Untrusted. -/
module

public import proofs.«01_k».proof.Defs
public import proofs.«01_k».proof.Proof.Columns
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.MatmulPlain
public import Idealize.ShloMosaic.Lib.Pointwise
public import Idealize.ShloMosaic.Lib.IdealHost
public import Idealize.ShloMosaic.Lib.Quiescent

@[expose] public section

set_option maxRecDepth 16384

noncomputable section

namespace Cert.Inproj

open Idealize.ShloMosaic hiding ix1 ix2 ix3
open Idealize.ShloMosaic.TcCoe Idealize.ShloMosaic.ValueIdx Idealize.SL.Sem

/-- An entry of a row, normed and scaled. -/
def normed (x g : Fin 1024 → EReal) (k : Fin 1024) : EReal :=
  x k * Ideal.rsqrt ((∑ i : Fin 1024, x i * x i) * Ideal.ofBits .f32 0x3A800000#32 + Ideal.ofBits .f32 0x358637BD#32) * g k

/-- An entry of the projected rows. -/
def projAt (h : (Shape.mk 2 ![33280, 1024]).Idx → EReal) (g : (Shape.mk 1 ![1024]).Idx → EReal)
    (W : (Shape.mk 2 ![1024, 2660]).Idx → EReal) (r : Fin 33280) (c : Fin 2660) : EReal :=
  ∑ k : Fin 1024, normed (fun i => h (ix2 r i)) (fun i => g (ix1 i)) k * W (ix2 k c)

/-- A result made of the columns that `col` names. -/
def res {n : ℕ} (col : Fin n → Option (Fin 2660)) (h : (Shape.mk 2 ![33280, 1024]).Idx → EReal)
    (g : (Shape.mk 1 ![1024]).Idx → EReal) (W : (Shape.mk 2 ![1024, 2660]).Idx → EReal) : (Shape.mk 2 ![33280, n]).Idx → EReal :=
  fun z => pick (col (z 1)) (projAt h g W (z 0))

theorem pick_sum (o : Option (Fin 2660)) (u : Fin 1024 → EReal) (w : Fin 1024 → Fin 2660 → EReal) :
    ∑ k, u k * pick o (w k) = pick o fun c => ∑ k, u k * w k c := by
  cases o with
  | some c => rfl
  | none => exact (Finset.sum_congr rfl fun k _ => mul_zero (u k)).trans Finset.sum_const_zero

theorem ofBits_1024 : Ideal.ofBits .f32 0x44800000#32 = ((1024 : ℝ) : EReal) := by
  simp [Ideal.ofBits, Ideal.ieee, -EReal.coe_mul] <;> norm_num
theorem ofBits_inv_1024 : Ideal.ofBits .f32 0x3A800000#32 = ((1024⁻¹ : ℝ) : EReal) := by
  simp [Ideal.ofBits, Ideal.ieee, -EReal.coe_mul]; norm_num

theorem div_1024 (x : EReal) : Ideal.div x (Ideal.ofBits .f32 0x44800000#32) = x * Ideal.ofBits .f32 0x3A800000#32 := by
  rw [ofBits_1024, ofBits_inv_1024]
  unfold Ideal.div
  rw [if_neg (by norm_cast)]
  rfl

theorem ix2_same {a b : ℕ} (i : Fin a) (j : Fin b) : (Idealize.ShloMosaic.ix2 i j : (Shape.mk 2 ![a, b]).Idx) = ix2 i j :=
  funext fun k => match k with
  | ⟨0, _⟩ => rfl
  | ⟨1, _⟩ => rfl
theorem ix1_same {a : ℕ} (i : Fin a) : (Idealize.ShloMosaic.ix1 i : (Shape.mk 1 ![a]).Idx) = ix1 i :=
  funext fun k => match k with
  | ⟨0, _⟩ => rfl
theorem ix2_eta {a b : ℕ} (z : (Shape.mk 2 ![a, b]).Idx) : z = ix2 (n0 := a) (n1 := b) (z 0) (z 1) := funext fun k => match k with
  | ⟨0, _⟩ => rfl
  | ⟨1, _⟩ => rfl

section
open Cert.Kernel4Ideal Cert.Kernel4Ideal.Gen Cert.Kernel4Ideal.Value

theorem pay1_apply (X : S640x1024.Idx → EReal) (G : S1x1024.Idx → EReal) (r : Fin 640) (k : Fin 1024) :
    (k0_pay1 (F := Ideal) X G : S640x1024.Idx → EReal) (ix2 r k) = normed (fun i => X (ix2 r i)) (fun i => G (ix2 0 i)) k := by
  unfold k0_pay1
  pointwise
  unfold normed
  refine congrArg₂ (· * ·) (congrArg (X (ix2 r k) * ·) (congrArg Ideal.rsqrt (congrArg (· + _) (congrArg (· * _) ?_)))) (congrArg G (ix2_same _ _))
  exact Finset.sum_congr rfl fun i _ => congrArg₂ (· * ·) (congrArg X (ix2_same _ _)) (congrArg X (ix2_same _ _))

theorem pay2_apply (X : S640x1024.Idx → EReal) (G : S1x1024.Idx → EReal) (W : S1024x512.Idx → EReal) (r : Fin 640) (j : Fin 512) :
    (k0_pay2 (F := Ideal) X G W : S640x512.Idx → EReal) (ix2 r j)
      = ∑ k : Fin 1024, normed (fun i => X (ix2 r i)) (fun i => G (ix2 0 i)) k * W (ix2 k j) := by
  unfold k0_pay2
  simp only [shapeCast_self]
  rw [show dot_S640x1024_S1024x512_S640x512_1_0_0_1_n_n = DotDims.plain 640 1024 512 from rfl]
  refine (Ideal.matmul_plain_apply (φ₁ := .bf16) (φ₂ := .bf16) none _ _ _ r j).trans ?_
  rw [show (constant (F := Ideal) S640x512 .f32 0x00000000#32) (ix2 r j) = (0 : EReal) from Ideal.ofBits_zero_f32, zero_add]
  exact Finset.sum_congr rfl fun k _ => congrArg (· * W (ix2 k j)) (pay1_apply X G r k)
theorem pay3_apply (X : S640x1024.Idx → EReal) (G : S1x1024.Idx → EReal) (W : S1024x1024.Idx → EReal) (r : Fin 640) (j : Fin 1024) :
    (k0_pay3 (F := Ideal) X G W : S640x1024.Idx → EReal) (ix2 r j)
      = ∑ k : Fin 1024, normed (fun i => X (ix2 r i)) (fun i => G (ix2 0 i)) k * W (ix2 k j) := by
  unfold k0_pay3
  simp only [shapeCast_self]
  rw [show dot_S640x1024_S1024x1024_S640x1024_1_0_0_1_n_n = DotDims.plain 640 1024 1024 from rfl]
  refine (Ideal.matmul_plain_apply (φ₁ := .bf16) (φ₂ := .bf16) none _ _ _ r j).trans ?_
  rw [show (constant (F := Ideal) S640x1024 .f32 0x00000000#32) (ix2 r j) = (0 : EReal) from Ideal.ofBits_zero_f32, zero_add]
  exact Finset.sum_congr rfl fun k _ => congrArg (· * W (ix2 k j)) (pay1_apply X G r k)
theorem pay4_apply (X : S640x1024.Idx → EReal) (G : S1x1024.Idx → EReal) (W : S1024x512.Idx → EReal) (r : Fin 640) (j : Fin 512) :
    (k0_pay4 (F := Ideal) X G W : S640x512.Idx → EReal) (ix2 r j)
      = ∑ k : Fin 1024, normed (fun i => X (ix2 r i)) (fun i => G (ix2 0 i)) k * W (ix2 k j) := pay2_apply X G W r j
theorem pay5_apply (X : S640x1024.Idx → EReal) (G : S1x1024.Idx → EReal) (W : S1024x896.Idx → EReal) (r : Fin 640) (j : Fin 896) :
    (k0_pay5 (F := Ideal) X G W : S640x896.Idx → EReal) (ix2 r j)
      = ∑ k : Fin 1024, normed (fun i => X (ix2 r i)) (fun i => G (ix2 0 i)) k * W (ix2 k j) := by
  unfold k0_pay5
  simp only [shapeCast_self]
  rw [show dot_S640x1024_S1024x896_S640x896_1_0_0_1_n_n = DotDims.plain 640 1024 896 from rfl]
  refine (Ideal.matmul_plain_apply (φ₁ := .bf16) (φ₂ := .bf16) none _ _ _ r j).trans ?_
  rw [show (constant (F := Ideal) S640x896 .f32 0x00000000#32) (ix2 r j) = (0 : EReal) from Ideal.ofBits_zero_f32, zero_add]
  exact Finset.sum_congr rfl fun k _ => congrArg (· * W (ix2 k j)) (pay1_apply X G r k)

variable (m : (ℓ : Loc nD τ sig) → Buf (Elt Ideal) ℓ)

abbrev hs (c : Dev nD) : S33280x1024.Idx → EReal := m ((c : Thread nD τ).loc main_arg0)
abbrev gs (c : Dev nD) : S1024.Idx → EReal := m ((c : Thread nD τ).loc main_arg1)
abbrev ws (c : Dev nD) : S1024x2660.Idx → EReal := m ((c : Thread nD τ).loc main_arg2)

theorem V_v1 (c : Dev nD) : V m c main_v1 = wl (ws m c) := by
  unfold V hostOps0 hostOps0_1 hostOps0_2 hostOps0_3 hostOps0_4
  after_results_simp <;> (try dsimp only [Matrix.cons_val]) <;> (try after_results_simp) <;> rfl
theorem V_v3 (c : Dev nD) : V m c main_v3 = wh (ws m c) := by
  unfold V hostOps0 hostOps0_1 hostOps0_2 hostOps0_3 hostOps0_4
  after_results_simp <;> (try dsimp only [Matrix.cons_val]) <;> (try after_results_simp) <;> rfl
theorem V_v13 (c : Dev nD) : V m c main_v13 = wm (ws m c) := by
  unfold V hostOps0 hostOps0_1 hostOps0_2 hostOps0_3 hostOps0_4
  after_results_simp <;> (try dsimp only [Matrix.cons_val]) <;> (try after_results_simp) <;> rfl
theorem V_v19 (c : Dev nD) : V m c main_v19 = wf (ws m c) := by
  unfold V hostOps0 hostOps0_1 hostOps0_2 hostOps0_3 hostOps0_4
  after_results_simp <;> (try dsimp only [Matrix.cons_val]) <;> (try after_results_simp) <;> rfl
theorem V_v20 (c : Dev nD) : V m c main_v20 = shapeCast S1x1024 (gs m c) shapeCasts_S1024_S1x1024 := by
  unfold V hostOps0 hostOps0_1 hostOps0_2 hostOps0_3 hostOps0_4
  after_results_simp <;> (try dsimp only [Matrix.cons_val]) <;> (try after_results_simp) <;> rfl

/-- Which block each window is at. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The row of the array that a row of a point's block is. -/
def rowOf (t : Fin cfg0.N) (r : Fin 640) : Fin 33280 :=
  ⟨t.val * 640 + r.val, by have hN := lt_of_lt_of_eq t.isLt (show cfg0.N = 52 from N_0); have := r.isLt; omega⟩

theorem blk0 (c : Dev nD) (t : Fin cfg0.N) (r : Fin 640) (k : Fin 1024) :
    (iblk m c 0 t : S640x1024.Idx → EReal) (ix2 r k) = hs m c (ix2 (rowOf t r) k) := by
  have e := idx t
  refine Eq.trans ?_ (congrFun (V_main_arg0 m c) (ix2 (rowOf t r) k))
  refine congrArg (V m c main_arg0) (funext fun a => Fin.ext ?_)
  match a with
  | ⟨0, _⟩ => show win0_0.index t (0 : Fin 2) * 640 + 1 * r.val = t.val * 640 + r.val; rw [e.1.1]; omega
  | ⟨1, _⟩ => show win0_0.index t (1 : Fin 2) * 1024 + 1 * k.val = k.val; rw [e.1.2]; omega
theorem blk1 (c : Dev nD) (t : Fin cfg0.N) (k : Fin 1024) :
    (iblk m c 1 t : S1x1024.Idx → EReal) (ix2 0 k) = gs m c (ix1 k) := by
  have e := idx t
  refine Eq.trans ?_ ((congrFun (V_v20 m c) (ix2 0 k)).trans ?_)
  · refine congrArg (V m c main_v20) (funext fun a => Fin.ext ?_)
    match a with
    | ⟨0, _⟩ => show win0_1.index t (0 : Fin 2) * 1 + 1 * 0 = 0; rw [e.2.1.1]
    | ⟨1, _⟩ => show win0_1.index t (1 : Fin 2) * 1024 + 1 * k.val = k.val; rw [e.2.1.2]; omega
  · pointwise
    exact congrArg (gs m c) (ix1_same k)
theorem blk2 (c : Dev nD) (t : Fin cfg0.N) (k : Fin 1024) (j : Fin 512) :
    (iblk m c 2 t : S1024x512.Idx → EReal) (ix2 k j) = pick (colL j) fun q => ws m c (ix2 k q) := by
  have e := idx t
  refine Eq.trans ?_ ((congrFun (V_v1 m c) (ix2 k j)).trans (wl_apply (ws m c) (ix2 k j)))
  refine congrArg (V m c main_v1) (funext fun a => Fin.ext ?_)
  match a with
  | ⟨0, _⟩ => show win0_2.index t (0 : Fin 2) * 1024 + 1 * k.val = k.val; rw [e.2.2.1.1]; omega
  | ⟨1, _⟩ => show win0_2.index t (1 : Fin 2) * 512 + 1 * j.val = j.val; rw [e.2.2.1.2]; omega
theorem blk3 (c : Dev nD) (t : Fin cfg0.N) (k : Fin 1024) (j : Fin 1024) :
    (iblk m c 3 t : S1024x1024.Idx → EReal) (ix2 k j) = pick (colH j) fun q => ws m c (ix2 k q) := by
  have e := idx t
  refine Eq.trans ?_ ((congrFun (V_v3 m c) (ix2 k j)).trans (wh_apply (ws m c) (ix2 k j)))
  refine congrArg (V m c main_v3) (funext fun a => Fin.ext ?_)
  match a with
  | ⟨0, _⟩ => show win0_3.index t (0 : Fin 2) * 1024 + 1 * k.val = k.val; rw [e.2.2.2.1.1]; omega
  | ⟨1, _⟩ => show win0_3.index t (1 : Fin 2) * 1024 + 1 * j.val = j.val; rw [e.2.2.2.1.2]; omega
theorem blk4 (c : Dev nD) (t : Fin cfg0.N) (k : Fin 1024) (j : Fin 512) :
    (iblk m c 4 t : S1024x512.Idx → EReal) (ix2 k j) = pick (colM j) fun q => ws m c (ix2 k q) := by
  have e := idx t
  refine Eq.trans ?_ ((congrFun (V_v13 m c) (ix2 k j)).trans (wm_apply (ws m c) (ix2 k j)))
  refine congrArg (V m c main_v13) (funext fun a => Fin.ext ?_)
  match a with
  | ⟨0, _⟩ => show win0_4.index t (0 : Fin 2) * 1024 + 1 * k.val = k.val; rw [e.2.2.2.2.1.1]; omega
  | ⟨1, _⟩ => show win0_4.index t (1 : Fin 2) * 512 + 1 * j.val = j.val; rw [e.2.2.2.2.1.2]; omega
theorem blk5 (c : Dev nD) (t : Fin cfg0.N) (k : Fin 1024) (j : Fin 896) :
    (iblk m c 5 t : S1024x896.Idx → EReal) (ix2 k j) = pick (colF j) fun q => ws m c (ix2 k q) := by
  have e := idx t
  refine Eq.trans ?_ ((congrFun (V_v19 m c) (ix2 k j)).trans (wf_apply (ws m c) (ix2 k j)))
  refine congrArg (V m c main_v19) (funext fun a => Fin.ext ?_)
  match a with
  | ⟨0, _⟩ => show win0_5.index t (0 : Fin 2) * 1024 + 1 * k.val = k.val; rw [e.2.2.2.2.2.1.1]; omega
  | ⟨1, _⟩ => show win0_5.index t (1 : Fin 2) * 896 + 1 * j.val = j.val; rw [e.2.2.2.2.2.1.2]; omega

theorem hz2 : (![0, 0] : Fin 2 → ℕ) = fun _ => 0 := funext fun a => match a with
  | ⟨0, _⟩ => rfl
  | ⟨1, _⟩ => rfl

theorem left6 (c : Dev nD) (t : Fin cfg0.N) (r : Fin 640) (j : Fin 512) :
    (out0_6 (iblk m c 0 t) (iblk m c 1 t) (iblk m c 2 t) (iblk m c 3 t) (iblk m c 4 t) (iblk m c 5 t) : S640x512.Idx → EReal) (ix2 r j)
      = res colL (hs m c) (gs m c) (ws m c) (ix2 (rowOf t r) j) := by
  have e : out0_6 (iblk m c 0 t) (iblk m c 1 t) (iblk m c 2 t) (iblk m c 3 t) (iblk m c 4 t) (iblk m c 5 t)
      = k0_pay2 (iblk m c 0 t) (iblk m c 1 t) (iblk m c 2 t) := by
    unfold out0_6
    rw [View.canon_unit_zero hz2]
    simp only [View.ld_unit_zero (S := S640x1024) hz2, View.ld_unit_zero (S := S1x1024) hz2, View.ld_unit_zero (S := S1024x512) hz2]
  rw [e]
  refine (pay2_apply _ _ _ r j).trans (Eq.trans ?_ (pick_sum (colL j) _ _))
  refine Finset.sum_congr rfl fun k _ => congrArg₂ (· * ·) ?_ (blk2 m c t k j)
  exact congrFun (congrArg₂ normed (funext fun i => blk0 m c t r i) (funext fun i => blk1 m c t i)) k

theorem final6 (c : Dev nD) : (dats m 0 c).arrAt 6 cfg0.N = res colL (hs m c) (gs m c) (ws m c) := by
  refine (dats m 0 c).arrAt_eq_of_covers 6 _ (by decide +kernel) fun t hf y => ?_
  have e := idx t
  show (dats m 0 c).after 6 t y = _
  rw [after0_6]
  refine (congrArg _ (ix2_eta (a := 640) (b := 512) y)).trans ((left6 m c t (y 0) (y 1)).trans (congrArg _ (funext fun a => Fin.ext ?_)))
  match a with
  | ⟨0, _⟩ => show t.val * 640 + (y 0).val = win0_6.index t (0 : Fin 2) * 640 + 1 * (y 0).val; rw [e.2.2.2.2.2.2.1.1]; omega
  | ⟨1, _⟩ => show (y 1).val = win0_6.index t (1 : Fin 2) * 512 + 1 * (y 1).val; rw [e.2.2.2.2.2.2.1.2]; omega

theorem left7 (c : Dev nD) (t : Fin cfg0.N) (r : Fin 640) (j : Fin 1024) :
    (out0_7 (iblk m c 0 t) (iblk m c 1 t) (iblk m c 2 t) (iblk m c 3 t) (iblk m c 4 t) (iblk m c 5 t) : S640x1024.Idx → EReal) (ix2 r j)
      = res colH (hs m c) (gs m c) (ws m c) (ix2 (rowOf t r) j) := by
  have e : out0_7 (iblk m c 0 t) (iblk m c 1 t) (iblk m c 2 t) (iblk m c 3 t) (iblk m c 4 t) (iblk m c 5 t)
      = k0_pay3 (iblk m c 0 t) (iblk m c 1 t) (iblk m c 3 t) := by
    unfold out0_7
    rw [View.canon_unit_zero hz2]
    simp only [View.ld_unit_zero (S := S640x1024) hz2, View.ld_unit_zero (S := S1x1024) hz2, View.ld_unit_zero (S := S1024x1024) hz2]
  rw [e]
  refine (pay3_apply _ _ _ r j).trans (Eq.trans ?_ (pick_sum (colH j) _ _))
  refine Finset.sum_congr rfl fun k _ => congrArg₂ (· * ·) ?_ (blk3 m c t k j)
  exact congrFun (congrArg₂ normed (funext fun i => blk0 m c t r i) (funext fun i => blk1 m c t i)) k

theorem final7 (c : Dev nD) : (dats m 0 c).arrAt 7 cfg0.N = res colH (hs m c) (gs m c) (ws m c) := by
  refine (dats m 0 c).arrAt_eq_of_covers 7 _ (by decide +kernel) fun t hf y => ?_
  have e := idx t
  show (dats m 0 c).after 7 t y = _
  rw [after0_7]
  refine (congrArg _ (ix2_eta (a := 640) (b := 1024) y)).trans ((left7 m c t (y 0) (y 1)).trans (congrArg _ (funext fun a => Fin.ext ?_)))
  match a with
  | ⟨0, _⟩ => show t.val * 640 + (y 0).val = win0_7.index t (0 : Fin 2) * 640 + 1 * (y 0).val; rw [e.2.2.2.2.2.2.2.1.1]; omega
  | ⟨1, _⟩ => show (y 1).val = win0_7.index t (1 : Fin 2) * 1024 + 1 * (y 1).val; rw [e.2.2.2.2.2.2.2.1.2]; omega

theorem left8 (c : Dev nD) (t : Fin cfg0.N) (r : Fin 640) (j : Fin 512) :
    (out0_8 (iblk m c 0 t) (iblk m c 1 t) (iblk m c 2 t) (iblk m c 3 t) (iblk m c 4 t) (iblk m c 5 t) : S640x512.Idx → EReal) (ix2 r j)
      = res colM (hs m c) (gs m c) (ws m c) (ix2 (rowOf t r) j) := by
  have e : out0_8 (iblk m c 0 t) (iblk m c 1 t) (iblk m c 2 t) (iblk m c 3 t) (iblk m c 4 t) (iblk m c 5 t)
      = k0_pay4 (iblk m c 0 t) (iblk m c 1 t) (iblk m c 4 t) := by
    unfold out0_8
    rw [View.canon_unit_zero hz2]
    simp only [View.ld_unit_zero (S := S640x1024) hz2, View.ld_unit_zero (S := S1x1024) hz2, View.ld_unit_zero (S := S1024x512) hz2]
  rw [e]
  refine (pay4_apply _ _ _ r j).trans (Eq.trans ?_ (pick_sum (colM j) _ _))
  refine Finset.sum_congr rfl fun k _ => congrArg₂ (· * ·) ?_ (blk4 m c t k j)
  exact congrFun (congrArg₂ normed (funext fun i => blk0 m c t r i) (funext fun i => blk1 m c t i)) k

theorem final8 (c : Dev nD) : (dats m 0 c).arrAt 8 cfg0.N = res colM (hs m c) (gs m c) (ws m c) := by
  refine (dats m 0 c).arrAt_eq_of_covers 8 _ (by decide +kernel) fun t hf y => ?_
  have e := idx t
  show (dats m 0 c).after 8 t y = _
  rw [after0_8]
  refine (congrArg _ (ix2_eta (a := 640) (b := 512) y)).trans ((left8 m c t (y 0) (y 1)).trans (congrArg _ (funext fun a => Fin.ext ?_)))
  match a with
  | ⟨0, _⟩ => show t.val * 640 + (y 0).val = win0_8.index t (0 : Fin 2) * 640 + 1 * (y 0).val; rw [e.2.2.2.2.2.2.2.2.1.1]; omega
  | ⟨1, _⟩ => show (y 1).val = win0_8.index t (1 : Fin 2) * 512 + 1 * (y 1).val; rw [e.2.2.2.2.2.2.2.2.1.2]; omega

theorem left9 (c : Dev nD) (t : Fin cfg0.N) (r : Fin 640) (j : Fin 896) :
    (out0_9 (iblk m c 0 t) (iblk m c 1 t) (iblk m c 2 t) (iblk m c 3 t) (iblk m c 4 t) (iblk m c 5 t) : S640x896.Idx → EReal) (ix2 r j)
      = res colF (hs m c) (gs m c) (ws m c) (ix2 (rowOf t r) j) := by
  have e : out0_9 (iblk m c 0 t) (iblk m c 1 t) (iblk m c 2 t) (iblk m c 3 t) (iblk m c 4 t) (iblk m c 5 t)
      = k0_pay5 (iblk m c 0 t) (iblk m c 1 t) (iblk m c 5 t) := by
    unfold out0_9
    rw [View.canon_unit_zero hz2]
    simp only [View.ld_unit_zero (S := S640x1024) hz2, View.ld_unit_zero (S := S1x1024) hz2, View.ld_unit_zero (S := S1024x896) hz2]
  rw [e]
  refine (pay5_apply _ _ _ r j).trans (Eq.trans ?_ (pick_sum (colF j) _ _))
  refine Finset.sum_congr rfl fun k _ => congrArg₂ (· * ·) ?_ (blk5 m c t k j)
  exact congrFun (congrArg₂ normed (funext fun i => blk0 m c t r i) (funext fun i => blk1 m c t i)) k

theorem final9 (c : Dev nD) : (dats m 0 c).arrAt 9 cfg0.N = res colF (hs m c) (gs m c) (ws m c) := by
  refine (dats m 0 c).arrAt_eq_of_covers 9 _ (by decide +kernel) fun t hf y => ?_
  have e := idx t
  show (dats m 0 c).after 9 t y = _
  rw [after0_9]
  refine (congrArg _ (ix2_eta (a := 640) (b := 896) y)).trans ((left9 m c t (y 0) (y 1)).trans (congrArg _ (funext fun a => Fin.ext ?_)))
  match a with
  | ⟨0, _⟩ => show t.val * 640 + (y 0).val = win0_9.index t (0 : Fin 2) * 640 + 1 * (y 0).val; rw [e.2.2.2.2.2.2.2.2.2.1]; omega
  | ⟨1, _⟩ => show (y 1).val = win0_9.index t (1 : Fin 2) * 896 + 1 * (y 1).val; rw [e.2.2.2.2.2.2.2.2.2.2]; omega

end

section
open Cert.Reference4Ideal Cert.Reference4Ideal.Gen

/-- The normed rows of the reference, and its projected rows. -/
def rows (h : S33280x1024.Idx → EReal) (g : S1024.Idx → EReal) : S33280x1024.Idx → EReal :=
  mulf (F := Ideal) (φ := .f32) (mulf (F := Ideal) (φ := .f32) h (broadcastInDim S33280x1024 ![0, 1] bcast_S33280x1_S33280x1024_0_1
    (Host.rsqrt (F := Ideal) (φ := .f32) (addf (F := Ideal) (φ := .f32) (Host.divf (F := Ideal) (φ := .f32)
      (broadcastInDim S33280x1 ![0] bcast_S33280_S33280x1_0 (Host.reduceAdd (F := Ideal) (φ := .f32) (mulf (F := Ideal) (φ := .f32) h h) (constant S_ .f32 0x00000000#32) reducesTo_S33280x1024_S33280_d1 h_S_))
      (broadcastInDim S33280x1 ![] bcast_S_S33280x1 (constant S_ .f32 0x44800000#32)))
      (broadcastInDim S33280x1 ![] bcast_S_S33280x1 (constant S_ .f32 0x358637BD#32))))))
    (broadcastInDim S33280x1024 ![0, 1] bcast_S1x1024_S33280x1024_0_1 (broadcastInDim S1x1024 ![1] bcast_S1024_S1x1024_1 g))
def projected (h : S33280x1024.Idx → EReal) (g : S1024.Idx → EReal) (W : S1024x2660.Idx → EReal) : S33280x2660.Idx → EReal :=
  Host.dotGeneral (F := Ideal) (φ₁ := .f32) (φ₂ := .f32) dot_S33280x1024_S1024x2660_S33280x2660_1_0_0_1_n_n none (rows h g) W

theorem rows_apply (h : S33280x1024.Idx → EReal) (g : S1024.Idx → EReal) (r : Fin 33280) (k : Fin 1024) :
    rows h g (ix2 r k) = normed (fun i => h (ix2 r i)) (fun i => g (ix1 i)) k := by
  unfold rows
  pointwise
  unfold normed
  rw [div_1024]
  refine congrArg₂ (· * ·) (congrArg (h (ix2 r k) * ·) (congrArg Ideal.rsqrt (congrArg (· + _) (congrArg (· * _) ?_)))) (congrArg g (ix1_same _))
  exact Finset.sum_congr rfl fun i _ => congrArg₂ (· * ·) (congrArg h (ix2_same _ _)) (congrArg h (ix2_same _ _))

theorem projected_apply (h : S33280x1024.Idx → EReal) (g : S1024.Idx → EReal) (W : S1024x2660.Idx → EReal) (r : Fin 33280) (c : Fin 2660) :
    projected h g W (ix2 r c) = projAt h g W r c := by
  unfold projected projAt
  rw [show dot_S33280x1024_S1024x2660_S33280x2660_1_0_0_1_n_n = DotDims.plain 33280 1024 2660 from rfl]
  refine (Ideal.matmul_plain_apply (φ₁ := .f32) (φ₂ := .f32) none _ _ _ r c).trans ((zero_add _).trans ?_)
  exact Finset.sum_congr rfl fun k _ => congrArg (· * W (ix2 k c)) (rows_apply h g r k)

theorem projected_row (h : S33280x1024.Idx → EReal) (g : S1024.Idx → EReal) (W : S1024x2660.Idx → EReal) (r : Fin 33280) :
    (fun c => projected h g W (ix2 r c)) = projAt h g W r := funext fun c => projected_apply h g W r c

theorem zl_eq (h : S33280x1024.Idx → EReal) (g : S1024.Idx → EReal) (W : S1024x2660.Idx → EReal) : zl (projected h g W) = res colL h g W :=
  funext fun z => (zl_apply _ z).trans (congrArg (pick (colL (z 1))) (projected_row h g W (z 0)))
theorem zh_eq (h : S33280x1024.Idx → EReal) (g : S1024.Idx → EReal) (W : S1024x2660.Idx → EReal) : zh (projected h g W) = res colH h g W :=
  funext fun z => (zh_apply _ z).trans (congrArg (pick (colH (z 1))) (projected_row h g W (z 0)))
theorem zm_eq (h : S33280x1024.Idx → EReal) (g : S1024.Idx → EReal) (W : S1024x2660.Idx → EReal) : zm (projected h g W) = res colM h g W :=
  funext fun z => (zm_apply _ z).trans (congrArg (pick (colM (z 1))) (projected_row h g W (z 0)))
theorem zf_eq (h : S33280x1024.Idx → EReal) (g : S1024.Idx → EReal) (W : S1024x2660.Idx → EReal) : zf (projected h g W) = res colF h g W :=
  funext fun z => (zf_apply _ z).trans (congrArg (pick (colF (z 1))) (projected_row h g W (z 0)))

end

theorem frame_kernel : Cert.quiescent_Kernel4 := fun m ρ _ => Cert.Kernel4.Gen.frame m ρ
theorem frame_kernelIdeal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem value : Cert.algebraic_Kernel4Ideal_Reference4Ideal := fun m ρ m' ρ' _ hm =>
  ⟨fun c => res colL (hs m c) (gs m c) (ws m c), fun c => res colH (hs m c) (gs m c) (ws m c),
    fun c => res colM (hs m c) (gs m c) (ws m c), fun c => res colF (hs m c) (gs m c) (ws m c),
    (θ_run Cert.Kernel4Ideal.defs _ _).mono (fun r h c => ⟨(h c).1.trans (final6 m c), (h c).2.1.trans (final7 m c),
        (h c).2.2.1.trans (final8 m c), (h c).2.2.2.1.trans (final9 m c), (h c).2.2.2.2⟩)
      (Cert.Kernel4Ideal.Value.run_blocks (F := Ideal) m ρ),
    (θ_run Cert.Reference4Ideal.defs _ _).mono (fun r h c => by
        obtain ⟨h0, h1, h2, h3, hk⟩ := h c
        obtain rfl : c = 0 := Subsingleton.elim (α := Fin 1) _ _
        obtain ⟨a0, a1, a2⟩ := hm 0
        rw [a0, a1, a2] at h0 h1 h2 h3
        exact ⟨h0.trans (zl_eq _ _ _), h1.trans (zh_eq _ _ _), h2.trans (zm_eq _ _ _), h3.trans (zf_eq _ _ _), hk⟩)
      (Cert.Reference4Ideal.Value.run (F := Ideal) m' ρ')⟩

end Cert.Inproj

end
-- ==== Proof.Outproj.lean ====
/- The output projection without the router: the two arrays that the call leaves, what its reference computes, and the
   claims about the two. Untrusted. -/
module

public import proofs.«01_k».proof.Defs
public import proofs.«01_k».proof.Proof.Inproj
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.Outproj

open Idealize.ShloMosaic hiding ix1 ix2 ix3
open Idealize.ShloMosaic.TcCoe Idealize.ShloMosaic.ValueIdx Idealize.SL.Sem
open Cert.Inproj (normed ix2_same ix1_same hz2)

/-- Four rows of 256 entries, one after the other. -/
def cat (a b c d : Fin 256 → EReal) (k : Fin 1024) : EReal :=
  if _h : k.val < 256 then a ⟨k.val, by omega⟩
  else if _h : k.val - 256 < 256 then b ⟨k.val - 256, by omega⟩
  else if _h : k.val - 256 - 256 < 256 then c ⟨k.val - 256 - 256, by omega⟩
  else d ⟨k.val - 256 - 256 - 256, by omega⟩

/-- A row of the mixers' results. -/
def mixed (a c d : (Shape.mk 2 ![33280, 256]).Idx → EReal) (b : (Shape.mk 3 ![4, 8320, 256]).Idx → EReal) (r : Fin 33280) : Fin 1024 → EReal :=
  cat (fun k => a (ix2 r k)) (fun k => b (ix3 ⟨r.val / 8320, by omega⟩ ⟨r.val % 8320, by omega⟩ k)) (fun k => c (ix2 r k)) (fun k => d (ix2 r k))

/-- The residual rows after the mixers. -/
def summed (h : (Shape.mk 2 ![33280, 1024]).Idx → EReal) (a c d : (Shape.mk 2 ![33280, 256]).Idx → EReal)
    (b : (Shape.mk 3 ![4, 8320, 256]).Idx → EReal) (W : (Shape.mk 2 ![1024, 1024]).Idx → EReal) : (Shape.mk 2 ![33280, 1024]).Idx → EReal :=
  fun z => h (ix2 (z 0) (z 1)) + ∑ k : Fin 1024, mixed a c d b (z 0) k * W (ix2 k (z 1))

/-- The same, normed and scaled. -/
def scaled (h : (Shape.mk 2 ![33280, 1024]).Idx → EReal) (a c d : (Shape.mk 2 ![33280, 256]).Idx → EReal)
    (b : (Shape.mk 3 ![4, 8320, 256]).Idx → EReal) (W : (Shape.mk 2 ![1024, 1024]).Idx → EReal) (g : (Shape.mk 1 ![1024]).Idx → EReal) :
    (Shape.mk 2 ![33280, 1024]).Idx → EReal :=
  fun z => normed (fun i => summed h a c d b W (ix2 (z 0) i)) (fun i => g (ix1 i)) (z 1)

section
open Cert.Kernel5Ideal Cert.Kernel5Ideal.Gen Cert.Kernel5Ideal.Value

theorem cat_apply (a b c d : S640x256.Idx → EReal) (r : Fin 640) (k : Fin 1024) :
    (concatenate (α := EReal) S640x1024 1 [⟨S640x256, a⟩, ⟨S640x256, b⟩, ⟨S640x256, c⟩, ⟨S640x256, d⟩]
      concatenates_S640x256_S640x256_S640x256_S640x256_S640x1024_d1) (ix2 r k)
      = cat (fun k => a (ix2 r k)) (fun k => b (ix2 r k)) (fun k => c (ix2 r k)) (fun k => d (ix2 r k)) k := by
  pointwise
  simp only [ix2_same]
  rfl

theorem flat_apply (b : S1x640x256.Idx → EReal) (r : Fin 640) (k : Fin 256) :
    (shapeCast S640x256 b shapeCasts_S1x640x256_S640x256) (ix2 r k) = b (ix3 0 r k) := by
  pointwise
  refine congrArg b (funext fun a => Fin.ext ?_)
  match a with
  | ⟨0, _⟩ => rfl
  | ⟨1, _⟩ => rfl
  | ⟨2, _⟩ => rfl

theorem pay1_apply (A C D : S640x256.Idx → EReal) (B : S1x640x256.Idx → EReal) (X : S640x1024.Idx → EReal) (W : S1024x1024.Idx → EReal)
    (r : Fin 640) (j : Fin 1024) :
    (k0_pay1 (F := Ideal) A B C D X W : S640x1024.Idx → EReal) (ix2 r j)
      = X (ix2 r j) + ∑ k : Fin 1024, cat (fun k => A (ix2 r k)) (fun k => B (ix3 0 r k)) (fun k => C (ix2 r k)) (fun k => D (ix2 r k)) k * W (ix2 k j) := by
  unfold k0_pay1
  simp only [shapeCast_self]
  rw [show dot_S640x1024_S1024x1024_S640x1024_1_0_0_1_n_n = DotDims.plain 640 1024 1024 from rfl]
  refine congrArg (X (ix2 r j) + ·) ((Ideal.matmul_plain_apply (φ₁ := .bf16) (φ₂ := .bf16) none _ _ _ r j).trans ?_)
  rw [show (constant (F := Ideal) S640x1024 .f32 0x00000000#32) (ix2 r j) = (0 : EReal) from Ideal.ofBits_zero_f32, zero_add]
  refine Finset.sum_congr rfl fun k _ => congrArg (· * W (ix2 k j)) ((cat_apply A _ C D r k).trans ?_)
  exact congrArg (fun b => cat _ b _ _ k) (funext fun k => flat_apply B r k)

theorem pay2_apply (A C D : S640x256.Idx → EReal) (B : S1x640x256.Idx → EReal) (X : S640x1024.Idx → EReal) (W : S1024x1024.Idx → EReal)
    (G : S1x1024.Idx → EReal) (r : Fin 640) (j : Fin 1024) :
    (k0_pay2 (F := Ideal) A B C D X W G : S640x1024.Idx → EReal) (ix2 r j)
      = normed (fun i => (k0_pay1 (F := Ideal) A B C D X W : S640x1024.Idx → EReal) (ix2 r i)) (fun i => G (ix2 0 i)) j := by
  unfold k0_pay2
  generalize (k0_pay1 (F := Ideal) A B C D X W : S640x1024.Idx → EReal) = Y
  pointwise
  unfold normed
  refine congrArg₂ (· * ·) (congrArg (Y (ix2 r j) * ·) (congrArg Ideal.rsqrt (congrArg (· + _) (congrArg (· * _) ?_)))) (congrArg G (ix2_same _ _))
  exact Finset.sum_congr rfl fun i _ => congrArg₂ (· * ·) (congrArg Y (ix2_same _ _)) (congrArg Y (ix2_same _ _))

variable (m : (ℓ : Loc nD τ sig) → Buf (Elt Ideal) ℓ)

abbrev hs (c : Dev nD) : S33280x1024.Idx → EReal := m ((c : Thread nD τ).loc main_arg0)
abbrev ya (c : Dev nD) : S33280x256.Idx → EReal := m ((c : Thread nD τ).loc main_arg1)
abbrev yb (c : Dev nD) : S4x8320x256.Idx → EReal := m ((c : Thread nD τ).loc main_arg2)
abbrev yc (c : Dev nD) : S33280x256.Idx → EReal := m ((c : Thread nD τ).loc main_arg3)
abbrev yd (c : Dev nD) : S33280x256.Idx → EReal := m ((c : Thread nD τ).loc main_arg4)
abbrev ws (c : Dev nD) : S1024x1024.Idx → EReal := m ((c : Thread nD τ).loc main_arg5)
abbrev gs (c : Dev nD) : S1024.Idx → EReal := m ((c : Thread nD τ).loc main_arg6)

theorem V_v0 (c : Dev nD) : V m c main_v0 = ws m c := by
  unfold V hostOps0
  after_results_simp <;> rfl
theorem V_v1 (c : Dev nD) : V m c main_v1 = shapeCast S1x1024 (gs m c) shapeCasts_S1024_S1x1024 := by
  unfold V hostOps0
  after_results_simp <;> rfl

/-- Which block each window is at. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val / 13 ∧ win0_2.index t (1 : Fin 3) = t.val % 13 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The row of the array that a row of a point's block is. -/
def rowOf (t : Fin cfg0.N) (r : Fin 640) : Fin 33280 :=
  ⟨t.val * 640 + r.val, by have hN := lt_of_lt_of_eq t.isLt (show cfg0.N = 52 from N_0); have := r.isLt; omega⟩

theorem blk0 (c : Dev nD) (t : Fin cfg0.N) (r : Fin 640) (k : Fin 1024) :
    (iblk m c 0 t : S640x1024.Idx → EReal) (ix2 r k) = hs m c (ix2 (rowOf t r) k) := by
  have e := (idx t).1
  refine Eq.trans ?_ (congrFun (V_main_arg0 m c) (ix2 (rowOf t r) k))
  refine congrArg (V m c main_arg0) (funext fun a => Fin.ext ?_)
  match a with
  | ⟨0, _⟩ => show win0_0.index t (0 : Fin 2) * 640 + 1 * r.val = t.val * 640 + r.val; rw [e.1]; omega
  | ⟨1, _⟩ => show win0_0.index t (1 : Fin 2) * 1024 + 1 * k.val = k.val; rw [e.2]; omega
theorem blk1 (c : Dev nD) (t : Fin cfg0.N) (r : Fin 640) (k : Fin 256) :
    (iblk m c 1 t : S640x256.Idx → EReal) (ix2 r k) = ya m c (ix2 (rowOf t r) k) := by
  have e := (idx t).2.1
  refine Eq.trans ?_ (congrFun (V_main_arg1 m c) (ix2 (rowOf t r) k))
  refine congrArg (V m c main_arg1) (funext fun a => Fin.ext ?_)
  match a with
  | ⟨0, _⟩ => show win0_1.index t (0 : Fin 2) * 640 + 1 * r.val = t.val * 640 + r.val; rw [e.1]; omega
  | ⟨1, _⟩ => show win0_1.index t (1 : Fin 2) * 256 + 1 * k.val = k.val; rw [e.2]; omega
theorem blk2 (c : Dev nD) (t : Fin cfg0.N) (r : Fin 640) (k : Fin 256) :
    (iblk m c 2 t : S1x640x256.Idx → EReal) (ix3 0 r k)
      = yb m c (ix3 ⟨(rowOf t r).val / 8320, by omega⟩ ⟨(rowOf t r).val % 8320, by omega⟩ k) := by
  have e := (idx t).2.2.1
  have hr := r.isLt
  refine Eq.trans ?_ (congrFun (V_main_arg2 m c) (ix3 ⟨(rowOf t r).val / 8320, by omega⟩ ⟨(rowOf t r).val % 8320, by omega⟩ k))
  refine congrArg (V m c main_arg2) (funext fun a => Fin.ext ?_)
  match a with
  | ⟨0, _⟩ => show win0_2.index t (0 : Fin 3) * 1 + 1 * 0 = (t.val * 640 + r.val) / 8320; rw [e.1]; omega
  | ⟨1, _⟩ => show win0_2.index t (1 : Fin 3) * 640 + 1 * r.val = (t.val * 640 + r.val) % 8320; rw [e.2.1]; omega
  | ⟨2, _⟩ => show win0_2.index t (2 : Fin 3) * 256 + 1 * k.val = k.val; rw [e.2.2]; omega
theorem blk3 (c : Dev nD) (t : Fin cfg0.N) (r : Fin 640) (k : Fin 256) :
    (iblk m c 3 t : S640x256.Idx → EReal) (ix2 r k) = yc m c (ix2 (rowOf t r) k) := by
  have e := (idx t).2.2.2.1
  refine Eq.trans ?_ (congrFun (V_main_arg3 m c) (ix2 (rowOf t r) k))
  refine congrArg (V m c main_arg3) (funext fun a => Fin.ext ?_)
  match a with
  | ⟨0, _⟩ => show win0_3.index t (0 : Fin 2) * 640 + 1 * r.val = t.val * 640 + r.val; rw [e.1]; omega
  | ⟨1, _⟩ => show win0_3.index t (1 : Fin 2) * 256 + 1 * k.val = k.val; rw [e.2]; omega
theorem blk4 (c : Dev nD) (t : Fin cfg0.N) (r : Fin 640) (k : Fin 256) :
    (iblk m c 4 t : S640x256.Idx → EReal) (ix2 r k) = yd m c (ix2 (rowOf t r) k) := by
  have e := (idx t).2.2.2.2.1
  refine Eq.trans ?_ (congrFun (V_main_arg4 m c) (ix2 (rowOf t r) k))
  refine congrArg (V m c main_arg4) (funext fun a => Fin.ext ?_)
  match a with
  | ⟨0, _⟩ => show win0_4.index t (0 : Fin 2) * 640 + 1 * r.val = t.val * 640 + r.val; rw [e.1]; omega
  | ⟨1, _⟩ => show win0_4.index t (1 : Fin 2) * 256 + 1 * k.val = k.val; rw [e.2]; omega
theorem blk5 (c : Dev nD) (t : Fin cfg0.N) (k j : Fin 1024) :
    (iblk m c 5 t : S1024x1024.Idx → EReal) (ix2 k j) = ws m c (ix2 k j) := by
  have e := (idx t).2.2.2.2.2.1
  refine Eq.trans ?_ (congrFun (V_v0 m c) (ix2 k j))
  refine congrArg (V m c main_v0) (funext fun a => Fin.ext ?_)
  match a with
  | ⟨0, _⟩ => show win0_5.index t (0 : Fin 2) * 1024 + 1 * k.val = k.val; rw [e.1]; omega
  | ⟨1, _⟩ => show win0_5.index t (1 : Fin 2) * 1024 + 1 * j.val = j.val; rw [e.2]; omega
theorem blk6 (c : Dev nD) (t : Fin cfg0.N) (k : Fin 1024) :
    (iblk m c 6 t : S1x1024.Idx → EReal) (ix2 0 k) = gs m c (ix1 k) := by
  have e := (idx t).2.2.2.2.2.2.1
  refine Eq.trans ?_ ((congrFun (V_v1 m c) (ix2 0 k)).trans ?_)
  · refine congrArg (V m c main_v1) (funext fun a => Fin.ext ?_)
    match a with
    | ⟨0, _⟩ => show win0_6.index t (0 : Fin 2) * 1 + 1 * 0 = 0; rw [e.1]
    | ⟨1, _⟩ => show win0_6.index t (1 : Fin 2) * 1024 + 1 * k.val = k.val; rw [e.2]; omega
  · pointwise
    exact congrArg (gs m c) (ix1_same k)

theorem hz3 : (![0, 0, 0] : Fin 3 → ℕ) = fun _ => 0 := funext fun a => match a with
  | ⟨0, _⟩ => rfl
  | ⟨1, _⟩ => rfl
  | ⟨2, _⟩ => rfl

theorem sum_left (c : Dev nD) (t : Fin cfg0.N) (r : Fin 640) (j : Fin 1024) :
    (k0_pay1 (F := Ideal) (iblk m c 1 t) (iblk m c 2 t) (iblk m c 3 t) (iblk m c 4 t) (iblk m c 0 t) (iblk m c 5 t) : S640x1024.Idx → EReal) (ix2 r j)
      = summed (hs m c) (ya m c) (yc m c) (yd m c) (yb m c) (ws m c) (ix2 (rowOf t r) j) := by
  refine (pay1_apply (iblk m c 1 t) (iblk m c 3 t) (iblk m c 4 t) (iblk m c 2 t) (iblk m c 0 t) (iblk m c 5 t) r j).trans ?_
  refine congrArg₂ (· + ·) (blk0 m c t r j) (Finset.sum_congr rfl fun k _ => congrArg₂ (· * ·) ?_ (blk5 m c t k j))
  show cat _ _ _ _ k = cat _ _ _ _ k
  rw [show (fun k => (iblk m c 1 t : S640x256.Idx → EReal) (ix2 r k)) = _ from funext fun k => blk1 m c t r k,
    show (fun k => (iblk m c 2 t : S1x640x256.Idx → EReal) (ix3 0 r k)) = _ from funext fun k => blk2 m c t r k,
    show (fun k => (iblk m c 3 t : S640x256.Idx → EReal) (ix2 r k)) = _ from funext fun k => blk3 m c t r k,
    show (fun k => (iblk m c 4 t : S640x256.Idx → EReal) (ix2 r k)) = _ from funext fun k => blk4 m c t r k]

theorem left7 (c : Dev nD) (t : Fin cfg0.N) (r : Fin 640) (j : Fin 1024) :
    (out0_7 (iblk m c 0 t) (iblk m c 1 t) (iblk m c 2 t) (iblk m c 3 t) (iblk m c 4 t) (iblk m c 5 t) (iblk m c 6 t) : S640x1024.Idx → EReal) (ix2 r j)
      = summed (hs m c) (ya m c) (yc m c) (yd m c) (yb m c) (ws m c) (ix2 (rowOf t r) j) := by
  have e : out0_7 (iblk m c 0 t) (iblk m c 1 t) (iblk m c 2 t) (iblk m c 3 t) (iblk m c 4 t) (iblk m c 5 t) (iblk m c 6 t)
      = k0_pay1 (iblk m c 1 t) (iblk m c 2 t) (iblk m c 3 t) (iblk m c 4 t) (iblk m c 0 t) (iblk m c 5 t) := by
    unfold out0_7
    rw [View.canon_unit_zero hz2]
    simp only [View.ld_unit_zero (S := S640x1024) hz2, View.ld_unit_zero (S := S640x256) hz2, View.ld_unit_zero (S := S1024x1024) hz2,
      View.ld_unit_zero (S := S1x640x256) hz3]
  rw [e]
  exact sum_left m c t r j

theorem left8 (c : Dev nD) (t : Fin cfg0.N) (r : Fin 640) (j : Fin 1024) :
    (out0_8 (iblk m c 0 t) (iblk m c 1 t) (iblk m c 2 t) (iblk m c 3 t) (iblk m c 4 t) (iblk m c 5 t) (iblk m c 6 t) : S640x1024.Idx → EReal) (ix2 r j)
      = scaled (hs m c) (ya m c) (yc m c) (yd m c) (yb m c) (ws m c) (gs m c) (ix2 (rowOf t r) j) := by
  have e : out0_8 (iblk m c 0 t) (iblk m c 1 t) (iblk m c 2 t) (iblk m c 3 t) (iblk m c 4 t) (iblk m c 5 t) (iblk m c 6 t)
      = k0_pay2 (iblk m c 1 t) (iblk m c 2 t) (iblk m c 3 t) (iblk m c 4 t) (iblk m c 0 t) (iblk m c 5 t) (iblk m c 6 t) := by
    unfold out0_8
    rw [View.canon_unit_zero hz2]
    simp only [View.ld_unit_zero (S := S640x1024) hz2, View.ld_unit_zero (S := S640x256) hz2, View.ld_unit_zero (S := S1024x1024) hz2,
      View.ld_unit_zero (S := S1x640x256) hz3, View.ld_unit_zero (S := S1x1024) hz2]
  rw [e]
  refine (pay2_apply (iblk m c 1 t) (iblk m c 3 t) (iblk m c 4 t) (iblk m c 2 t) (iblk m c 0 t) (iblk m c 5 t) (iblk m c 6 t) r j).trans ?_
  exact congrFun (congrArg₂ normed (funext fun i => sum_left m c t r i) (funext fun i => blk6 m c t i)) j

theorem final7 (c : Dev nD) : (dats m 0 c).arrAt 7 cfg0.N = summed (hs m c) (ya m c) (yc m c) (yd m c) (yb m c) (ws m c) := by
  refine (dats m 0 c).arrAt_eq_of_covers 7 _ (by decide +kernel) fun t hf y => ?_
  have e := (idx t).2.2.2.2.2.2.2.1
  show (dats m 0 c).after 7 t y = _
  rw [after0_7]
  refine (congrArg _ (Cert.Inproj.ix2_eta (a := 640) (b := 1024) y)).trans ((left7 m c t (y 0) (y 1)).trans (congrArg _ (funext fun a => Fin.ext ?_)))
  match a with
  | ⟨0, _⟩ => show t.val * 640 + (y 0).val = win0_7.index t (0 : Fin 2) * 640 + 1 * (y 0).val; rw [e.1]; omega
  | ⟨1, _⟩ => show (y 1).val = win0_7.index t (1 : Fin 2) * 1024 + 1 * (y 1).val; rw [e.2]; omega

theorem final8 (c : Dev nD) :
    (dats m 0 c).arrAt 8 cfg0.N = scaled (hs m c) (ya m c) (yc m c) (yd m c) (yb m c) (ws m c) (gs m c) := by
  refine (dats m 0 c).arrAt_eq_of_covers 8 _ (by decide +kernel) fun t hf y => ?_
  have e := (idx t).2.2.2.2.2.2.2.2
  show (dats m 0 c).after 8 t y = _
  rw [after0_8]
  refine (congrArg _ (Cert.Inproj.ix2_eta (a := 640) (b := 1024) y)).trans ((left8 m c t (y 0) (y 1)).trans (congrArg _ (funext fun a => Fin.ext ?_)))
  match a with
  | ⟨0, _⟩ => show t.val * 640 + (y 0).val = win0_8.index t (0 : Fin 2) * 640 + 1 * (y 0).val; rw [e.1]; omega
  | ⟨1, _⟩ => show (y 1).val = win0_8.index t (1 : Fin 2) * 1024 + 1 * (y 1).val; rw [e.2]; omega

end

section
open Cert.Reference5Ideal Cert.Reference5Ideal.Gen

/-- The mixers' results of the reference, side by side, and its residual rows. -/
def side (a c d : S33280x256.Idx → EReal) (b : S4x8320x256.Idx → EReal) : S33280x1024.Idx → EReal :=
  concatenate (α := EReal) S33280x1024 1 [⟨S33280x256, a⟩, ⟨S33280x256, shapeCast S33280x256 b shapeCasts_S4x8320x256_S33280x256⟩, ⟨S33280x256, c⟩, ⟨S33280x256, d⟩]
    concatenates_S33280x256_S33280x256_S33280x256_S33280x256_S33280x1024_d1
def residual (h : S33280x1024.Idx → EReal) (a c d : S33280x256.Idx → EReal) (b : S4x8320x256.Idx → EReal) (W : S1024x1024.Idx → EReal) :
    S33280x1024.Idx → EReal :=
  addf (F := Ideal) (φ := .f32) h
    (Host.dotGeneral (F := Ideal) (φ₁ := .f32) (φ₂ := .f32) dot_S33280x1024_S1024x1024_S33280x1024_1_0_0_1_n_n none (side a c d b) W)

theorem reshape_apply (b : S4x8320x256.Idx → EReal) (r : Fin 33280) (k : Fin 256) :
    (shapeCast S33280x256 b shapeCasts_S4x8320x256_S33280x256) (ix2 r k) = b (ix3 ⟨r.val / 8320, by omega⟩ ⟨r.val % 8320, by omega⟩ k) := by
  pointwise
  refine congrArg b (funext fun a => Fin.ext ?_)
  match a with
  | ⟨0, _⟩ => rfl
  | ⟨1, _⟩ => rfl
  | ⟨2, _⟩ => rfl

theorem cat_apply' (a b c d : S33280x256.Idx → EReal) (r : Fin 33280) (k : Fin 1024) :
    (concatenate (α := EReal) S33280x1024 1 [⟨S33280x256, a⟩, ⟨S33280x256, b⟩, ⟨S33280x256, c⟩, ⟨S33280x256, d⟩]
      concatenates_S33280x256_S33280x256_S33280x256_S33280x256_S33280x1024_d1) (ix2 r k)
      = cat (fun k => a (ix2 r k)) (fun k => b (ix2 r k)) (fun k => c (ix2 r k)) (fun k => d (ix2 r k)) k := by
  pointwise
  simp only [ix2_same]
  rfl

theorem side_apply (a c d : S33280x256.Idx → EReal) (b : S4x8320x256.Idx → EReal) (r : Fin 33280) (k : Fin 1024) :
    side a c d b (ix2 r k) = mixed a c d b r k :=
  (cat_apply' a _ c d r k).trans (congrArg (fun b => cat _ b _ _ k) (funext fun k => reshape_apply b r k))

theorem residual_apply (h : S33280x1024.Idx → EReal) (a c d : S33280x256.Idx → EReal) (b : S4x8320x256.Idx → EReal) (W : S1024x1024.Idx → EReal)
    (r : Fin 33280) (j : Fin 1024) : residual h a c d b W (ix2 r j) = summed h a c d b W (ix2 r j) := by
  unfold residual
  rw [show dot_S33280x1024_S1024x1024_S33280x1024_1_0_0_1_n_n = DotDims.plain 33280 1024 1024 from rfl]
  refine congrArg (h (ix2 r j) + ·) ((Ideal.matmul_plain_apply (φ₁ := .f32) (φ₂ := .f32) none _ _ _ r j).trans ((zero_add _).trans ?_))
  exact Finset.sum_congr rfl fun k _ => congrArg (· * W (ix2 k j)) (side_apply a c d b r k)

theorem residual_eq (h : S33280x1024.Idx → EReal) (a c d : S33280x256.Idx → EReal) (b : S4x8320x256.Idx → EReal) (W : S1024x1024.Idx → EReal) :
    residual h a c d b W = summed h a c d b W :=
  funext fun z => (congrArg _ (Cert.Inproj.ix2_eta z)).trans ((residual_apply h a c d b W (z 0) (z 1)).trans (congrArg _ (Cert.Inproj.ix2_eta z).symm))

theorem rows_eq (h : S33280x1024.Idx → EReal) (a c d : S33280x256.Idx → EReal) (b : S4x8320x256.Idx → EReal) (W : S1024x1024.Idx → EReal)
    (g : S1024.Idx → EReal) : Cert.Inproj.rows (residual h a c d b W) g = scaled h a c d b W g := by
  rw [residual_eq]
  exact funext fun z => (congrArg _ (Cert.Inproj.ix2_eta z)).trans (Cert.Inproj.rows_apply _ g (z 0) (z 1))

end

theorem frame_kernel : Cert.quiescent_Kernel5 := fun m ρ _ => Cert.Kernel5.Gen.frame m ρ
theorem frame_kernelIdeal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem value : Cert.algebraic_Kernel5Ideal_Reference5Ideal := fun m ρ m' ρ' _ hm =>
  ⟨fun c => summed (hs m c) (ya m c) (yc m c) (yd m c) (yb m c) (ws m c),
    fun c => scaled (hs m c) (ya m c) (yc m c) (yd m c) (yb m c) (ws m c) (gs m c),
    (θ_run Cert.Kernel5Ideal.defs _ _).mono (fun r h c => ⟨(h c).1.trans (final7 m c), (h c).2.1.trans (final8 m c), (h c).2.2⟩)
      (Cert.Kernel5Ideal.Value.run_blocks (F := Ideal) m ρ),
    (θ_run Cert.Reference5Ideal.defs _ _).mono (fun r h c => by
        obtain ⟨h0, h1, hk⟩ := h c
        obtain rfl : c = 0 := Subsingleton.elim (α := Fin 1) _ _
        obtain ⟨a0, a1, a2, a3, a4, a5, a6⟩ := hm 0
        rw [a0, a1, a2, a3, a4, a5] at h0
        rw [a0, a1, a2, a3, a4, a5, a6] at h1
        exact ⟨h0.trans (residual_eq _ _ _ _ _ _), h1.trans (rows_eq _ _ _ _ _ _ _), hk⟩)
      (Cert.Reference5Ideal.Value.run (F := Ideal) m' ρ')⟩

end Cert.Outproj

end
-- ==== Proof.Attn.lean ====
/- The latent attention: what one step of its loop adds, entry by entry. Untrusted. -/
module

public import proofs.«01_k».proof.Defs
public import proofs.«01_k».proof.Proof.Inproj
public import proofs.«01_k».proof.Proof.Gen.Kernel6.Frame
public import proofs.«01_k».proof.Proof.Gen.Kernel6Ideal.Frame
public import proofs.«01_k».proof.Proof.Gen.Reference6Ideal.Run

@[expose] public section

set_option maxRecDepth 16384

noncomputable section

namespace Cert.Attn

open Idealize.ShloMosaic hiding ix1 ix2 ix3
open Idealize.ShloMosaic.TcCoe Idealize.ShloMosaic.ValueIdx Idealize.SL.Sem
open Cert.Inproj (ix2_same ix1_same hz2)

theorem ix3_same {a b c : ℕ} (i : Fin a) (j : Fin b) (k : Fin c) : (Idealize.ShloMosaic.ix3 i j k : (Shape.mk 3 ![a, b, c]).Idx) = ix3 i j k :=
  funext fun x => match x with | ⟨0, _⟩ => rfl | ⟨1, _⟩ => rfl | ⟨2, _⟩ => rfl

/-- The weight of one key: two to the power of the product of the query's row with the key's. -/
def wt (q k : Fin 128 → EReal) : EReal := Ideal.exp2 (∑ l : Fin 128, q l * k l)

section
open Cert.Kernel6Ideal Cert.Kernel6Ideal.Gen

theorem up_apply {e : Type} (a : S640x128.Idx → e) (r : Fin 640) (d : Fin 128) :
    (shapeCast S1x640x128 a shapeCasts_S640x128_S1x640x128) (ix3 0 r d) = a (ix2 r d) := by
  pointwise
  exact congrArg a (funext fun x => match x with | ⟨0, _⟩ => rfl | ⟨1, _⟩ => rfl)

theorem down_apply {e : Type} (a : S1x640x128.Idx → e) (r : Fin 640) (d : Fin 128) :
    (shapeCast S640x128 a shapeCasts_S1x640x128_S640x128) (ix2 r d) = a (ix3 0 r d) := by
  pointwise
  exact congrArg a (funext fun x => match x with | ⟨0, _⟩ => rfl | ⟨1, _⟩ => rfl | ⟨2, _⟩ => rfl)

/-- A step over 640 keys, nothing hidden. -/
theorem pay2_apply (q : S1x640x128.Idx → EReal) (k v : S640x128.Idx → EReal) (acc : S1x640x128.Idx → EReal) (r : Fin 640) (d : Fin 128) :
    (k0_pay2 (F := Ideal) q k acc v) (ix3 0 r d)
      = acc (ix3 0 r d) + ∑ x : Fin 640, wt (fun l => q (ix3 0 r l)) (fun l => k (ix2 x l)) * v (ix2 x d) := by
  unfold k0_pay2
  rw [show dot_S640x640_S640x128_S640x128_1_0_0_1_n_n = DotDims.plain 640 640 128 from rfl,
    show dot_S640x128_S640x128_S640x640_1_1_0_0_n_n = DotDims.transposedRhs 640 128 640 from rfl]
  refine (up_apply _ r d).trans (congrArg₂ (· + ·) (down_apply acc r d) ?_)
  refine (Ideal.matmul_plain_apply (φ₁ := .bf16) (φ₂ := .bf16) none _ _ _ r d).trans ?_
  rw [show (constant (F := Ideal) S640x128 .f32 0x00000000#32) (ix2 r d) = (0 : EReal) from Ideal.ofBits_zero_f32, zero_add]
  refine Finset.sum_congr rfl fun x _ => congrArg (· * v (ix2 x d)) (congrArg Ideal.exp2 ?_)
  refine (Ideal.matmul_transposedRhs_apply (φ₁ := .bf16) (φ₂ := .bf16) none _ _ _ r x).trans ?_
  rw [show (constant (F := Ideal) S640x640 .f32 0x00000000#32) (ix2 r x) = (0 : EReal) from Ideal.ofBits_zero_f32, zero_add]
  exact Finset.sum_congr rfl fun l _ => congrArg (· * k (ix2 x l)) (down_apply q r l)

theorem pay4_eq (q : S1x640x128.Idx → EReal) (k v : S640x128.Idx → EReal) (acc : S1x640x128.Idx → EReal) :
    k0_pay4 (F := Ideal) (k0_pay3 q k acc v) = k0_pay2 (F := Ideal) q k acc v := rfl
theorem pay5_eq (q : S1x640x128.Idx → EReal) (k v : S640x128.Idx → EReal) (acc : S1x640x128.Idx → EReal) :
    k0_pay5 (F := Ideal) q k acc v = k0_pay2 (F := Ideal) q k acc v := rfl
theorem pay36_eq (q : S1x640x128.Idx → EReal) (k v : S640x128.Idx → EReal) (acc : S1x640x128.Idx → EReal) :
    k0_pay36 (F := Ideal) (k0_pay6 q k acc v) = k0_pay2 (F := Ideal) q k acc v := rfl

/-- The weight of a key that may be hidden. -/
def wtIf (b : BitVec 1) (q k : Fin 128 → EReal) : EReal := if b = 1#1 then wt q k else 0

theorem exp2_pick (b : BitVec 1) (x : EReal) :
    Ideal.exp2 (Scalar.select b x (Ideal.ofBits .f32 0xFF800000#32)) = if b = 1#1 then Ideal.exp2 x else 0 := by
  have h : Ideal.exp2 (Ideal.ofBits .f32 0xFF800000#32) = 0 := by
    rw [show Ideal.ofBits .f32 0xFF800000#32 = (⊥ : EReal) from by simp [Ideal.ofBits, Ideal.ieee]]; rfl
  unfold Scalar.select
  split <;> simp_all

/-- A step over 768 keys, some of them hidden. -/
theorem pay17_apply (b : S640x768.Idx → BitVec 1) (q : S1x640x128.Idx → EReal) (k v : S768x128.Idx → EReal) (acc : S1x640x128.Idx → EReal)
    (r : Fin 640) (d : Fin 128) :
    (k0_pay17 (F := Ideal) b q k acc v) (ix3 0 r d)
      = acc (ix3 0 r d) + ∑ x : Fin 768, wtIf (b (ix2 r x)) (fun l => q (ix3 0 r l)) (fun l => k (ix2 x l)) * v (ix2 x d) := by
  unfold k0_pay17
  rw [show dot_S640x768_S768x128_S640x128_1_0_0_1_n_n = DotDims.plain 640 768 128 from rfl,
    show dot_S640x128_S768x128_S640x768_1_1_0_0_n_n = DotDims.transposedRhs 640 128 768 from rfl]
  refine (up_apply _ r d).trans (congrArg₂ (· + ·) (down_apply acc r d) ?_)
  refine (Ideal.matmul_plain_apply (φ₁ := .bf16) (φ₂ := .bf16) none _ _ _ r d).trans ?_
  rw [show (constant (F := Ideal) S640x128 .f32 0x00000000#32) (ix2 r d) = (0 : EReal) from Ideal.ofBits_zero_f32, zero_add]
  refine Finset.sum_congr rfl fun x _ => congrArg (· * v (ix2 x d)) ((exp2_pick (b (ix2 r x)) _).trans ?_)
  unfold wtIf wt
  refine congrArg (fun y => if b (ix2 r x) = 1#1 then Ideal.exp2 y else 0) ?_
  refine (Ideal.matmul_transposedRhs_apply (φ₁ := .bf16) (φ₂ := .bf16) none _ _ _ r x).trans ?_
  rw [show (constant (F := Ideal) S640x768 .f32 0x00000000#32) (ix2 r x) = (0 : EReal) from Ideal.ofBits_zero_f32, zero_add]
  exact Finset.sum_congr rfl fun l _ => congrArg (· * k (ix2 x l)) (down_apply q r l)

theorem pay13_eq (w : BitVec 32) (y : S640x1.Idx → BitVec 32) (q : S1x640x128.Idx → EReal) (k v : S768x128.Idx → EReal)
    (acc : S1x640x128.Idx → EReal) : k0_pay13 (F := Ideal) w y q k acc v = k0_pay17 (F := Ideal) (k0_pay12 w y) q k acc v := rfl
theorem pay16_eq (w : BitVec 32) (y : S640x1.Idx → BitVec 32) (q : S1x640x128.Idx → EReal) (k v : S768x128.Idx → EReal)
    (acc : S1x640x128.Idx → EReal) :
    k0_pay16 (F := Ideal) (k0_pay14 acc) (k0_pay15 w y q k) v = k0_pay17 (F := Ideal) (k0_pay12 w y) q k acc v := rfl
theorem pay38_eq (b : S640x768.Idx → BitVec 1) (q : S1x640x128.Idx → EReal) (k v : S768x128.Idx → EReal)
    (acc : S1x640x128.Idx → EReal) :
    k0_pay38 (F := Ideal) (k0_pay18 b q k) acc v = k0_pay17 (F := Ideal) b q k acc v := rfl

/-- A step over 640 keys, some of them hidden. -/
theorem pay24_apply (b : S640x640.Idx → BitVec 1) (q : S1x640x128.Idx → EReal) (k v : S640x128.Idx → EReal) (acc : S1x640x128.Idx → EReal)
    (r : Fin 640) (d : Fin 128) :
    (k0_pay24 (F := Ideal) b q k acc v) (ix3 0 r d)
      = acc (ix3 0 r d) + ∑ x : Fin 640, wtIf (b (ix2 r x)) (fun l => q (ix3 0 r l)) (fun l => k (ix2 x l)) * v (ix2 x d) := by
  unfold k0_pay24
  rw [show dot_S640x640_S640x128_S640x128_1_0_0_1_n_n = DotDims.plain 640 640 128 from rfl,
    show dot_S640x128_S640x128_S640x640_1_1_0_0_n_n = DotDims.transposedRhs 640 128 640 from rfl]
  refine (up_apply _ r d).trans (congrArg₂ (· + ·) (down_apply acc r d) ?_)
  refine (Ideal.matmul_plain_apply (φ₁ := .bf16) (φ₂ := .bf16) none _ _ _ r d).trans ?_
  rw [show (constant (F := Ideal) S640x128 .f32 0x00000000#32) (ix2 r d) = (0 : EReal) from Ideal.ofBits_zero_f32, zero_add]
  refine Finset.sum_congr rfl fun x _ => congrArg (· * v (ix2 x d)) ((exp2_pick (b (ix2 r x)) _).trans ?_)
  unfold wtIf wt
  refine congrArg (fun y => if b (ix2 r x) = 1#1 then Ideal.exp2 y else 0) ?_
  refine (Ideal.matmul_transposedRhs_apply (φ₁ := .bf16) (φ₂ := .bf16) none _ _ _ r x).trans ?_
  rw [show (constant (F := Ideal) S640x640 .f32 0x00000000#32) (ix2 r x) = (0 : EReal) from Ideal.ofBits_zero_f32, zero_add]
  exact Finset.sum_congr rfl fun l _ => congrArg (· * k (ix2 x l)) (down_apply q r l)

theorem pay20_eq (w : BitVec 32) (y : S640x1.Idx → BitVec 32) (q : S1x640x128.Idx → EReal) (k v : S640x128.Idx → EReal)
    (acc : S1x640x128.Idx → EReal) : k0_pay20 (F := Ideal) w y q k acc v = k0_pay24 (F := Ideal) (k0_pay19 w y) q k acc v := rfl
theorem pay23_eq (w : BitVec 32) (y : S640x1.Idx → BitVec 32) (q : S1x640x128.Idx → EReal) (k v : S640x128.Idx → EReal)
    (acc : S1x640x128.Idx → EReal) :
    k0_pay23 (F := Ideal) (k0_pay21 acc) (k0_pay22 w y q k) v = k0_pay24 (F := Ideal) (k0_pay19 w y) q k acc v := rfl
theorem pay39_eq (b : S640x640.Idx → BitVec 1) (q : S1x640x128.Idx → EReal) (k v : S640x128.Idx → EReal)
    (acc : S1x640x128.Idx → EReal) :
    k0_pay39 (F := Ideal) (k0_pay25 b q k) acc v = k0_pay24 (F := Ideal) b q k acc v := rfl

/-- A query's row with the bound in its lane 100. -/
def bent (s : EReal) (q : Fin 128 → EReal) (l : Fin 128) : EReal := if l.val = 100 then 0 - s else q l

theorem lane_pick (x y : EReal) (l : Fin 128) :
    Scalar.select (IntOp.cmpi .eq (BitVec.ofNat 32 l.val) 100#32) x y = if l.val = 100 then x else y := by
  have h : ∀ l : Fin 128, IntOp.cmpi .eq (BitVec.ofNat 32 l.val) 100#32 = if l.val = 100 then 1#1 else 0#1 := by decide +kernel
  rw [h l]
  unfold Scalar.select
  split <;> simp_all

theorem pay27_apply (s : EReal) (q : S640x128.Idx → EReal) (r : Fin 640) (l : Fin 128) :
    (k0_pay27 (F := Ideal) s q) (ix3 0 r l) = bent s (fun l => q (ix2 r l)) l := by
  unfold k0_pay27
  refine (up_apply _ r l).trans ?_
  pointwise
  exact lane_pick _ _ l

theorem pay30_eq (s : EReal) (q : S640x128.Idx → EReal) : k0_pay30 (F := Ideal) (k0_pay28 s) k0_pay29 q = k0_pay27 (F := Ideal) s q := rfl
theorem pay31_eq (s : EReal) (q : S640x128.Idx → EReal) :
    k0_pay31 (F := Ideal) (iota .tc S1x128 32 [1] iota_S1x128_d1_w32) s q = k0_pay27 (F := Ideal) s q := rfl
theorem pay34_eq (s : EReal) (q : S640x128.Idx → EReal) :
    k0_pay34 (F := Ideal) q (k0_pay32 (iota .tc S1x128 32 [1] iota_S1x128_d1_w32)) (k0_pay33 s) = k0_pay27 (F := Ideal) s q := rfl

/-- The head's quotient. -/
theorem pay42_apply (a : S1x640x128.Idx → EReal) (r : Fin 640) (d : Fin 64) :
    (k0_pay42 (F := Ideal) a) (ix2 r d) = Ideal.div (a (ix3 0 r ⟨d.val, by omega⟩)) (a (ix3 0 r ⟨64, by omega⟩)) := by
  unfold k0_pay42
  simp only [shapeCast_self]
  pointwise
  exact congrArg₂ Ideal.div (congrArg a (ix3_same _ _ _)) (congrArg a (ix3_same _ _ _))
theorem pay41_eq (a : S1x640x128.Idx → EReal) : k0_pay41 (F := Ideal) (k0_pay40 a) = k0_pay42 (F := Ideal) a := rfl
theorem pay43_eq (a : S1x640x128.Idx → EReal) : k0_pay43 (F := Ideal) a = k0_pay42 (F := Ideal) a := rfl
theorem pay44_eq (a : S1x640x128.Idx → EReal) : k0_pay44 (F := Ideal) a = k0_pay42 (F := Ideal) a := rfl

theorem pay35_apply (z : S4x640x128.Idx) : (k0_pay35 (F := Ideal)) z = 0 := by
  unfold k0_pay35
  simp only [shapeCast_self]
  exact Ideal.ofBits_zero_f32

/-- A row of 256 entries, normed and scaled. -/
def normed (x g : Fin 256 → EReal) (k : Fin 256) : EReal :=
  x k * Ideal.rsqrt ((∑ i : Fin 256, x i * x i) * Ideal.ofBits .f32 0x3B800000#32 + Ideal.ofBits .f32 0x358637BD#32) * g k

theorem pay1_apply (a : S640x256.Idx → EReal) (g : S1x256.Idx → EReal) (r : Fin 640) (k : Fin 256) :
    (k0_pay1 (F := Ideal) a (k0_pay45 a) k0_pay46 g) (ix2 r k) = normed (fun i => a (ix2 r i)) (fun i => g (ix2 0 i)) k := by
  unfold k0_pay1 k0_pay45 k0_pay46
  simp only [shapeCast_self]
  pointwise
  unfold normed
  refine congrArg₂ (· * ·) (congrArg (a (ix2 r k) * ·) (congrArg Ideal.rsqrt (congrArg (· + _) (congrArg (· * _) ?_)))) (congrArg g (ix2_same _ _))
  exact Finset.sum_congr rfl fun i _ => congrArg₂ (· * ·) (congrArg a (ix2_same _ _)) (congrArg a (ix2_same _ _))

/-- The first key that the query at position `p` doesn't see. -/
def lim (p : ℕ) : ℕ := 16 + 64 * ((p + 48) / 64)

/-- The same bound as the body's words compute it. -/
def limWord (y : BitVec 32) : BitVec 32 :=
  IntOp.addi 16#32 (IntOp.muli 64#32 (Scalar.select
    (IntOp.andi
      (IntOp.cmpi .ne (IntOp.subi (BitVec.setWidth 32 (IntOp.cmpi .sgt y 0#32)) (BitVec.setWidth 32 (IntOp.cmpi .slt y 0#32)))
        (Scalar.subi (Scalar.extui (Scalar.cmpi .sgt 64#32 0#32)) (Scalar.extui (Scalar.cmpi .slt 64#32 0#32))))
      (IntOp.cmpi .ne (IntOp.remsi ArithUnit.vector y 64#32) 0#32))
    (IntOp.subi (IntOp.divsi ArithUnit.vector y 64#32) 1#32) (IntOp.divsi ArithUnit.vector y 64#32)))

theorem limWord_eq : ∀ p : Fin 8320, limWord (BitVec.ofNat 32 (p.val + 48)) = BitVec.ofNat 32 (lim p.val) := by
  decide +kernel

theorem pos_word (a r : ℕ) : IntOp.addi (Scalar.muli (BitVec.ofNat 32 a) 640#32) (BitVec.ofNat 32 r) = BitVec.ofNat 32 (a * 640 + r) := by
  rw [BitVec.ofNat_add, BitVec.ofNat_mul]; rfl

theorem pay26_apply (i : grid0.Coords) (r : Fin 640) (hp : (i 1).val * 640 + r.val < 8320) :
    (k0_pay26 i) (ix2 r 0) = BitVec.ofNat 32 (lim ((i 1).val * 640 + r.val)) := by
  refine Eq.trans ?_ (limWord_eq ⟨_, hp⟩)
  unfold k0_pay26
  pointwise
  refine congrArg limWord ?_
  refine (congrArg (IntOp.addi · 48#32) (pos_word (i 1).val r.val)).trans ?_
  exact (BitVec.ofNat_add ((i 1).val * 640 + r.val) 48).symm

theorem less_word (w : ℕ) (y : ℕ) (x : ℕ) (hy : y < 9000) (h : w + x < 9000) :
    IntOp.cmpi .slt (BitVec.ofNat 32 w + BitVec.ofNat 32 x) (BitVec.ofNat 32 y) = 1#1 ↔ w + x < y := by
  rw [← BitVec.ofNat_add]
  exact WordCmp.cmpi_slt_ofNat_eq_one_iff (by omega) (by omega)

theorem pay12_apply (w : BitVec 32) (y : S640x1.Idx → BitVec 32) (r : Fin 640) (x : Fin 768) :
    (k0_pay12 w y) (ix2 r x) = IntOp.cmpi .slt (w + BitVec.ofNat 32 x.val) (y (ix2 r 0)) := by
  unfold k0_pay12
  pointwise
  exact congrArg (IntOp.cmpi .slt _) (congrArg y (ix2_same _ _))

theorem pay19_apply (w : BitVec 32) (y : S640x1.Idx → BitVec 32) (r : Fin 640) (x : Fin 640) :
    (k0_pay19 w y) (ix2 r x) = IntOp.cmpi .slt (w + BitVec.ofNat 32 x.val) (y (ix2 r 0)) := by
  unfold k0_pay19
  pointwise
  exact congrArg (IntOp.cmpi .slt _) (congrArg y (ix2_same _ _))

end
end Cert.Attn
-- ==== Proof.AttnRun.lean ====
/- The latent attention's loop: what a trip leaves in the accumulators, and all the trips. Untrusted. -/
module

import all proofs.«01_k».proof.Proof.Gen.Kernel6Ideal.Frame
public import proofs.«01_k».proof.Proof.Attn

@[expose] public section

set_option maxRecDepth 16384

noncomputable section

namespace Cert.Attn

open Idealize.ShloMosaic hiding ix1 ix2 ix3
open Idealize.ShloMosaic.TcCoe Idealize.ShloMosaic.ValueIdx Idealize.SL.Sem
open Cert.Inproj (ix2_same ix1_same hz2)

/-- An entry of an array of 8320 rows by its two numbers. -/
def at2 (A : (Shape.mk 2 ![8320, 512]).Idx → EReal) (n j : ℕ) : EReal :=
  if h : n < 8320 ∧ j < 512 then A (ix2 ⟨n, h.1⟩ ⟨j, h.2⟩) else 0

/-- What the key in row `n` adds to entry `d` of a query's accumulator for head `h`. -/
def term (q : Fin 128 → EReal) (K V : (Shape.mk 2 ![8320, 512]).Idx → EReal) (h : Fin 4) (d : Fin 128) (n : ℕ) : EReal :=
  wt q (fun l => at2 K n (h.val * 128 + l.val)) * at2 V n (h.val * 128 + d.val)

section
open Cert.Kernel6Ideal Cert.Kernel6Ideal.Gen

theorem read_tile {N : ℕ} {sp : Space} (v : View sig .tc sp S8320x512 .bf16) (f : v.ty.Contents (Elt Ideal)) (off : Fin 2 → ℕ)
    (inb : ∀ a, off a + (Shape.mk 2 ![N, 128]).size a ≤ S8320x512.size a) (x : Fin N) (l : Fin 128) :
    v.readAt (Elt Ideal) (Rect.unit (s := S8320x512) off (Shape.mk 2 ![N, 128]).size inb).toLoadRect f (ix2 x l)
      = at2 (v.read (Elt Ideal) f) (off 0 + x.val) (off 1 + l.val) := by
  have h0 : off 0 + N ≤ 8320 := inb 0
  have h1 : off 1 + 128 ≤ 512 := inb 1
  unfold at2
  rw [dif_pos ⟨by omega, by omega⟩, View.readAt_apply]
  refine congrArg (v.read (Elt Ideal) f) (funext fun a => Fin.ext ?_)
  match a with
  | ⟨0, _⟩ => show off 0 + 1 * x.val = off 0 + x.val; omega
  | ⟨1, _⟩ => show off 1 + 1 * l.val = off 1 + l.val; omega

theorem read_slab {e : EltTy} {sp : Space} (v : View sig .tc sp S4x640x128 e) (f : v.ty.Contents (Elt Ideal)) (h : Fin 4)
    (inb : ∀ a, (![h.val, 0, 0] : Fin 3 → ℕ) a + S1x640x128.size a ≤ S4x640x128.size a) (r : Fin 640) (l : Fin 128) :
    v.readAt (Elt Ideal) (Rect.unit (s := S4x640x128) ![h.val, 0, 0] S1x640x128.size inb).toLoadRect f (ix3 0 r l)
      = v.read (Elt Ideal) f (ix3 h r l) := by
  rw [View.readAt_apply]
  refine congrArg (v.read (Elt Ideal) f) (funext fun a => Fin.ext ?_)
  match a with
  | ⟨0, _⟩ => show h.val + 0 * 1 = h.val; omega
  | ⟨1, _⟩ => show 0 + 1 * r.val = r.val; omega
  | ⟨2, _⟩ => show 0 + 1 * l.val = l.val; omega

theorem slab_hit {e : EltTy} {sp : Space} (v : View sig .tc sp S4x640x128 e) (f : v.ty.Contents (Elt Ideal)) (h : Fin 4)
    (inb : ∀ a, (![h.val, 0, 0] : Fin 3 → ℕ) a + S1x640x128.size a ≤ S4x640x128.size a) (w : S1x640x128.Idx → Elt Ideal e)
    (L : List (View.Piece (Elt Ideal) S4x640x128 e)) (r : Fin 640) (l : Fin 128) :
    v.read (Elt Ideal) (v.writes (Elt Ideal) f (⟨Rect.unit (s := S4x640x128) ![h.val, 0, 0] S1x640x128.size inb, w⟩ :: L)) (ix3 h r l)
      = w (ix3 0 r l) := by
  refine Eq.trans (congrArg _ ?_) (View.read_writes_cons_emb v f (Rect.unit (s := S4x640x128) ![h.val, 0, 0] S1x640x128.size inb) w L (ix3 0 r l))
  refine funext fun a => Fin.ext ?_
  match a with
  | ⟨0, _⟩ => show h.val = h.val + 0 * 1; omega
  | ⟨1, _⟩ => show r.val = 0 + 1 * r.val; omega
  | ⟨2, _⟩ => show l.val = 0 + 1 * l.val; omega

theorem slab_skip {e : EltTy} {sp : Space} (v : View sig .tc sp S4x640x128 e) (f : v.ty.Contents (Elt Ideal)) (h' h : Fin 4) (hne : h.val ≠ h'.val)
    (inb : ∀ a, (![h'.val, 0, 0] : Fin 3 → ℕ) a + S1x640x128.size a ≤ S4x640x128.size a) (w : S1x640x128.Idx → Elt Ideal e)
    (L : List (View.Piece (Elt Ideal) S4x640x128 e)) (r : Fin 640) (l : Fin 128) :
    v.read (Elt Ideal) (v.writes (Elt Ideal) f (⟨Rect.unit (s := S4x640x128) ![h'.val, 0, 0] S1x640x128.size inb, w⟩ :: L)) (ix3 h r l)
      = v.read (Elt Ideal) (v.writes (Elt Ideal) f L) (ix3 h r l) := by
  refine View.read_slice_write_of_not_mem (Rect.unit (s := S4x640x128) ![h'.val, 0, 0] S1x640x128.size inb) _ _ _ ?_
  rw [Rect.map_emb_univ]
  intro hm
  obtain ⟨x, hx⟩ := (Rect.unit (s := S4x640x128) ![h'.val, 0, 0] S1x640x128.size inb).exists_idx_of_mem hm
  have e0 : h'.val + 1 * (x 0).val = h.val := congrArg (fun z : S4x640x128.Idx => (z 0).val) hx
  have e1 : (x 0).val < 1 := (x 0).isLt
  omega

/-- One step's effect on one accumulator, by the four numbers of its tile. -/
theorem step_eq {sp5 sp6 sp12 sp10 : Space} (v5 : View sig .tc sp5 S8320x512 .bf16) (X5 : v5.ty.Contents (Elt Ideal))
    (v6 : View sig .tc sp6 S8320x512 .bf16) (X6 : v6.ty.Contents (Elt Ideal))
    (v12 : View sig .tc sp12 S4x640x128 .bf16) (X12 : v12.ty.Contents (Elt Ideal))
    (v10 : View sig .tc sp10 S4x640x128 .f32) (f : v10.ty.Contents (Elt Ideal)) (h : Fin 4) (b : ℕ)
    (inb : ∀ a, (![h.val, 0, 0] : Fin 3 → ℕ) a + S1x640x128.size a ≤ S4x640x128.size a)
    (off : Fin 2 → ℕ) (ho : off 0 = b ∧ off 1 = h.val * 128) (inb' : ∀ a, off a + S640x128.size a ≤ S8320x512.size a) (r : Fin 640) (d : Fin 128) :
    k0_pay2 (F := Ideal) (v12.readAt (Elt Ideal) (Rect.unit (s := S4x640x128) ![h.val, 0, 0] S1x640x128.size inb).toLoadRect X12)
        (v5.readAt (Elt Ideal) (Rect.unit (s := S8320x512) off S640x128.size inb').toLoadRect X5)
        (v10.readAt (Elt Ideal) (Rect.unit (s := S4x640x128) ![h.val, 0, 0] S1x640x128.size inb).toLoadRect f)
        (v6.readAt (Elt Ideal) (Rect.unit (s := S8320x512) off S640x128.size inb').toLoadRect X6) (ix3 0 r d)
      = v10.read (Elt Ideal) f (ix3 h r d)
        + ∑ x : Fin 640, term (fun l => v12.read (Elt Ideal) X12 (ix3 h r l)) (v5.read (Elt Ideal) X5) (v6.read (Elt Ideal) X6) h d (b + x.val) := by
  refine (pay2_apply _ _ _ _ r d).trans (congrArg₂ (· + ·) (read_slab v10 f h inb r d) (Finset.sum_congr rfl fun x _ => ?_))
  unfold term
  refine congrArg₂ (· * ·) (congrArg₂ wt (funext fun l => read_slab v12 X12 h inb r l) (funext fun l => ?_)) ?_
  · refine (read_tile (N := 640) v5 X5 off inb' x l).trans ?_
    rw [ho.1, ho.2]
  · refine (read_tile (N := 640) v6 X6 off inb' x d).trans ?_
    rw [ho.1, ho.2]

section
variable (𝒱 : Variants) (c : Dev nD) (bd : Option 𝒱.V) (i : grid0.Coords) (arg2 : Memref sig .tc .smem S52 .i32) (harg2 : arg2.IsWhole) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (v1 : BitVec 32) (v2 : BitVec 32) (v35 : IVec S640x1 32) (v53 : BitVec 32) (v118 : Vec Ideal S640x128 .bf16) (v120 : IVec S640x128 1) (v121 : FVec Ideal S1x128 .bf16) (v132 : Elt Ideal .i32) (k0_hw1 : k0_chk1 i v132) (X_arg5 : BufTy.Contents (Elt Ideal) arg5.view.ty) (X_arg6 : BufTy.Contents (Elt Ideal) arg6.view.ty) (X_arg12 : BufTy.Contents (Elt Ideal) arg12.view.ty) (G_arg10 : BufTy.Contents (Elt Ideal) arg10.view.ty)

theorem trip_read (h0 : ∀ k, k0_off3 i v132 k 0 = 640 * k.val ∧ k0_off3 i v132 k 1 = 0) (h1 : ∀ k, k0_off4 i v132 k 0 = 640 * k.val ∧ k0_off4 i v132 k 1 = 128)
    (h2 : ∀ k, k0_off5 i v132 k 0 = 640 * k.val ∧ k0_off5 i v132 k 1 = 256) (h3 : ∀ k, k0_off6 i v132 k 0 = 640 * k.val ∧ k0_off6 i v132 k 1 = 384)
    (k : Fin (k0_t1_loop i v132).trips) (f : BufTy.Contents (Elt Ideal) arg10.view.ty) (h : Fin 4) (r : Fin 640) (d : Fin 128) :
    arg10.view.read (Elt Ideal) (arg10.view.writes (Elt Ideal) f (tripL_k0_t1 (F := Ideal) 𝒱 c bd i arg2 harg2 arg3 harg3 arg4 harg4 arg5 harg5 arg6 harg6 arg7 harg7 arg8 harg8 arg9 harg9 arg10 harg10 arg11 harg11 arg12 harg12 v1 v2 v35 v53 v118 v120 v121 v132 k0_hw1 X_arg5 X_arg6 X_arg12 k f)) (ix3 h r d)
      = arg10.view.read (Elt Ideal) f (ix3 h r d)
        + ∑ x : Fin 640, term (fun l => arg12.view.read (Elt Ideal) X_arg12 (ix3 h r l)) (arg5.view.read (Elt Ideal) X_arg5)
            (arg6.view.read (Elt Ideal) X_arg6) h d (640 * k.val + x.val) := by
  unfold tripL_k0_t1 trip_k0_t1
  match h with
  | ⟨0, _⟩ =>
    refine (slab_skip arg10.view f 3 0 (by decide) _ _ _ r d).trans ((slab_skip arg10.view f 2 0 (by decide) _ _ _ r d).trans
      ((slab_skip arg10.view f 1 0 (by decide) _ _ _ r d).trans ((slab_hit arg10.view f 0 _ _ _ r d).trans ?_)))
    exact step_eq arg5.view X_arg5 arg6.view X_arg6 arg12.view X_arg12 arg10.view f 0 (640 * k.val) _ _ (h0 k) _ r d
  | ⟨1, _⟩ =>
    refine (slab_skip arg10.view f 3 1 (by decide) _ _ _ r d).trans ((slab_skip arg10.view f 2 1 (by decide) _ _ _ r d).trans
      ((slab_hit arg10.view f 1 _ _ _ r d).trans ?_))
    exact step_eq arg5.view X_arg5 arg6.view X_arg6 arg12.view X_arg12 arg10.view f 1 (640 * k.val) _ _ (h1 k) _ r d
  | ⟨2, _⟩ =>
    refine (slab_skip arg10.view f 3 2 (by decide) _ _ _ r d).trans ((slab_hit arg10.view f 2 _ _ _ r d).trans ?_)
    exact step_eq arg5.view X_arg5 arg6.view X_arg6 arg12.view X_arg12 arg10.view f 2 (640 * k.val) _ _ (h2 k) _ r d
  | ⟨3, _⟩ =>
    refine (slab_hit arg10.view f 3 _ _ _ r d).trans ?_
    exact step_eq arg5.view X_arg5 arg6.view X_arg6 arg12.view X_arg12 arg10.view f 3 (640 * k.val) _ _ (h3 k) _ r d

theorem trips_read (h0 : ∀ k, k0_off3 i v132 k 0 = 640 * k.val ∧ k0_off3 i v132 k 1 = 0) (h1 : ∀ k, k0_off4 i v132 k 0 = 640 * k.val ∧ k0_off4 i v132 k 1 = 128)
    (h2 : ∀ k, k0_off5 i v132 k 0 = 640 * k.val ∧ k0_off5 i v132 k 1 = 256) (h3 : ∀ k, k0_off6 i v132 k 0 = 640 * k.val ∧ k0_off6 i v132 k 1 = 384)
    (k : ℕ) (hk : k ≤ (k0_t1_loop i v132).trips) (h : Fin 4) (r : Fin 640) (d : Fin 128) :
    arg10.view.read (Elt Ideal) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 arg12 harg12 v1 v2 v35 v53 v118 v120 v121 v132 k0_hw1 X_arg5 X_arg6 X_arg12 G_arg10 k)) (ix3 h r d)
      = arg10.view.read (Elt Ideal) G_arg10 (ix3 h r d)
        + ∑ n ∈ Finset.range (640 * k), term (fun l => arg12.view.read (Elt Ideal) X_arg12 (ix3 h r l)) (arg5.view.read (Elt Ideal) X_arg5)
            (arg6.view.read (Elt Ideal) X_arg6) h d n := by
  induction k with
  | zero => exact (add_zero _).symm
  | succ k ih =>
    rw [show k + 1 = (⟨k, hk⟩ : Fin (k0_t1_loop i v132).trips).val + 1 from rfl, pb_k0_t1_succ, View.writes_append]
    refine (trip_read 𝒱 c bd i arg2 harg2 arg3 harg3 arg4 harg4 arg5 harg5 arg6 harg6 arg7 harg7 arg8 harg8 arg9 harg9 arg10 harg10 arg11 harg11 arg12 harg12 v1 v2 v35 v53 v118 v120 v121 v132 k0_hw1 X_arg5 X_arg6 X_arg12 h0 h1 h2 h3 ⟨k, hk⟩ _ h r d).trans ?_
    rw [ih (by omega), add_assoc, show 640 * (k + 1) = 640 * k + 640 from by omega, Finset.sum_range_add,
      ← Finset.sum_range (f := fun x => term (fun l => arg12.view.read (Elt Ideal) X_arg12 (ix3 h r l)) (arg5.view.read (Elt Ideal) X_arg5)
            (arg6.view.read (Elt Ideal) X_arg6) h d (640 * k + x))]

end
end
end Cert.Attn
-- ==== Proof.AttnAcc.lean ====
/- The latent attention's accumulators after a tile of queries has met all the keys it sees. Untrusted. -/
module

import all proofs.«01_k».proof.Proof.Gen.Kernel6Ideal.Frame
public import proofs.«01_k».proof.Proof.AttnRun

@[expose] public section

set_option maxRecDepth 16384

noncomputable section

namespace Cert.Attn

open Idealize.ShloMosaic hiding ix1 ix2 ix3
open Idealize.ShloMosaic.TcCoe Idealize.ShloMosaic.ValueIdx Idealize.SL.Sem
open Cert.Inproj (ix2_same ix1_same hz2)

/-- What the keys that the query at position `p` sees add up to. -/
def total (f : ℕ → EReal) (p : ℕ) : EReal := ∑ n ∈ Finset.range 8320, if n < lim p then f n else 0

theorem total_split (f : ℕ → EReal) (a N r : ℕ) (hN : a * 640 + N ≤ 8320) (hr : r < 640) (hl : lim (a * 640 + r) ≤ a * 640 + N ∨ a * 640 + N = 8320) :
    ∑ n ∈ Finset.range (640 * a), f n + ∑ x : Fin N, (if a * 640 + x.val < lim (a * 640 + r) then f (a * 640 + x.val) else 0)
      = total f (a * 640 + r) := by
  unfold total
  rw [show 8320 = a * 640 + (N + (8320 - a * 640 - N)) from by omega, Finset.sum_range_add, Finset.sum_range_add, mul_comm 640 a,
    ← Finset.sum_range (f := fun x => if a * 640 + x < lim (a * 640 + r) then f (a * 640 + x) else 0)]
  refine congrArg₂ (· + ·) (Finset.sum_congr rfl fun n hn => (if_pos ?_).symm) ((add_zero _).symm.trans (congrArg (_ + ·) ?_))
  · have := Finset.mem_range.mp hn
    unfold lim; omega
  · refine (Finset.sum_eq_zero fun n hn => if_neg ?_).symm
    have := Finset.mem_range.mp hn
    omega

section
open Cert.Kernel6Ideal Cert.Kernel6Ideal.Gen

theorem wtIf_mul (b : BitVec 1) (q k : Fin 128 → EReal) (v : EReal) (p : Prop) [Decidable p] (hb : b = 1#1 ↔ p) :
    wtIf b q k * v = if p then wt q k * v else 0 := by
  unfold wtIf
  by_cases hp : p
  · rw [if_pos (hb.mpr hp), if_pos hp]
  · rw [if_neg (fun e => hp (hb.mp e)), if_neg hp, zero_mul]

/-- Whether key `x` of the tile that starts at `w` comes before the bound. -/
def less (i : grid0.Coords) (r x : ℕ) : Prop := (i 1).val * 640 + x < lim ((i 1).val * 640 + r)

theorem mask768 (i : grid0.Coords) (r : Fin 640) (x : Fin 768) :
    (k0_pay12 (Scalar.muli (BitVec.ofNat 32 (i 1).val) 640#32) (k0_pay26 i)) (ix2 r x) = 1#1
      ↔ (i 1).val * 640 + x.val < lim ((i 1).val * 640 + r.val) := by
  have hi : (i 1).val < 13 := (i 1).isLt
  rw [pay12_apply, pay26_apply i r (by omega), show Scalar.muli (BitVec.ofNat 32 (i 1).val) 640#32 = BitVec.ofNat 32 ((i 1).val * 640) from (BitVec.ofNat_mul _ _).symm]
  exact less_word _ _ _ (by unfold lim; omega) (by omega)

theorem mask640 (i : grid0.Coords) (r : Fin 640) (x : Fin 640) :
    (k0_pay19 (Scalar.muli (BitVec.ofNat 32 (i 1).val) 640#32) (k0_pay26 i)) (ix2 r x) = 1#1
      ↔ (i 1).val * 640 + x.val < lim ((i 1).val * 640 + r.val) := by
  have hi : (i 1).val < 13 := (i 1).isLt
  rw [pay19_apply, pay26_apply i r (by omega), show Scalar.muli (BitVec.ofNat 32 (i 1).val) 640#32 = BitVec.ofNat 32 ((i 1).val * 640) from (BitVec.ofNat_mul _ _).symm]
  exact less_word _ _ _ (by unfold lim; omega) (by omega)

theorem hide768 {sp5 sp6 sp12 sp10 : Space} (v5 : View sig .tc sp5 S8320x512 .bf16) (X5 : v5.ty.Contents (Elt Ideal))
    (v6 : View sig .tc sp6 S8320x512 .bf16) (X6 : v6.ty.Contents (Elt Ideal))
    (v12 : View sig .tc sp12 S4x640x128 .bf16) (X12 : v12.ty.Contents (Elt Ideal))
    (v10 : View sig .tc sp10 S4x640x128 .f32) (f : v10.ty.Contents (Elt Ideal)) (h : Fin 4) (i : grid0.Coords)
    (inb : ∀ a, (![h.val, 0, 0] : Fin 3 → ℕ) a + S1x640x128.size a ≤ S4x640x128.size a)
    (off : Fin 2 → ℕ) (ho : off 0 = (i 1).val * 640 ∧ off 1 = h.val * 128) (inb' : ∀ a, off a + S768x128.size a ≤ S8320x512.size a) (r : Fin 640) (d : Fin 128) :
    k0_pay17 (F := Ideal) (k0_pay12 (Scalar.muli (BitVec.ofNat 32 (i 1).val) 640#32) (k0_pay26 i))
        (v12.readAt (Elt Ideal) (Rect.unit (s := S4x640x128) ![h.val, 0, 0] S1x640x128.size inb).toLoadRect X12)
        (v5.readAt (Elt Ideal) (Rect.unit (s := S8320x512) off S768x128.size inb').toLoadRect X5)
        (v10.readAt (Elt Ideal) (Rect.unit (s := S4x640x128) ![h.val, 0, 0] S1x640x128.size inb).toLoadRect f)
        (v6.readAt (Elt Ideal) (Rect.unit (s := S8320x512) off S768x128.size inb').toLoadRect X6) (ix3 0 r d)
      = v10.read (Elt Ideal) f (ix3 h r d)
        + ∑ x : Fin 768, if (i 1).val * 640 + x.val < lim ((i 1).val * 640 + r.val) then
            term (fun l => v12.read (Elt Ideal) X12 (ix3 h r l)) (v5.read (Elt Ideal) X5) (v6.read (Elt Ideal) X6) h d ((i 1).val * 640 + x.val) else 0 := by
  refine (pay17_apply _ _ _ _ _ r d).trans (congrArg₂ (· + ·) (read_slab v10 f h inb r d) (Finset.sum_congr rfl fun x _ => ?_))
  refine (wtIf_mul _ _ _ _ _ (mask768 i r x)).trans (congrArg (fun y => if (i 1).val * 640 + x.val < lim ((i 1).val * 640 + r.val) then y else 0) ?_)
  unfold term
  refine congrArg₂ (· * ·) (congrArg₂ wt (funext fun l => read_slab v12 X12 h inb r l) (funext fun l => ?_)) ?_
  · refine (read_tile (N := 768) v5 X5 off inb' x l).trans ?_
    rw [ho.1, ho.2]
  · refine (read_tile (N := 768) v6 X6 off inb' x d).trans ?_
    rw [ho.1, ho.2]

theorem hide640 {sp5 sp6 sp12 sp10 : Space} (v5 : View sig .tc sp5 S8320x512 .bf16) (X5 : v5.ty.Contents (Elt Ideal))
    (v6 : View sig .tc sp6 S8320x512 .bf16) (X6 : v6.ty.Contents (Elt Ideal))
    (v12 : View sig .tc sp12 S4x640x128 .bf16) (X12 : v12.ty.Contents (Elt Ideal))
    (v10 : View sig .tc sp10 S4x640x128 .f32) (f : v10.ty.Contents (Elt Ideal)) (h : Fin 4) (i : grid0.Coords)
    (inb : ∀ a, (![h.val, 0, 0] : Fin 3 → ℕ) a + S1x640x128.size a ≤ S4x640x128.size a)
    (off : Fin 2 → ℕ) (ho : off 0 = (i 1).val * 640 ∧ off 1 = h.val * 128) (inb' : ∀ a, off a + S640x128.size a ≤ S8320x512.size a) (r : Fin 640) (d : Fin 128) :
    k0_pay24 (F := Ideal) (k0_pay19 (Scalar.muli (BitVec.ofNat 32 (i 1).val) 640#32) (k0_pay26 i))
        (v12.readAt (Elt Ideal) (Rect.unit (s := S4x640x128) ![h.val, 0, 0] S1x640x128.size inb).toLoadRect X12)
        (v5.readAt (Elt Ideal) (Rect.unit (s := S8320x512) off S640x128.size inb').toLoadRect X5)
        (v10.readAt (Elt Ideal) (Rect.unit (s := S4x640x128) ![h.val, 0, 0] S1x640x128.size inb).toLoadRect f)
        (v6.readAt (Elt Ideal) (Rect.unit (s := S8320x512) off S640x128.size inb').toLoadRect X6) (ix3 0 r d)
      = v10.read (Elt Ideal) f (ix3 h r d)
        + ∑ x : Fin 640, if (i 1).val * 640 + x.val < lim ((i 1).val * 640 + r.val) then
            term (fun l => v12.read (Elt Ideal) X12 (ix3 h r l)) (v5.read (Elt Ideal) X5) (v6.read (Elt Ideal) X6) h d ((i 1).val * 640 + x.val) else 0 := by
  refine (pay24_apply _ _ _ _ _ r d).trans (congrArg₂ (· + ·) (read_slab v10 f h inb r d) (Finset.sum_congr rfl fun x _ => ?_))
  refine (wtIf_mul _ _ _ _ _ (mask640 i r x)).trans (congrArg (fun y => if (i 1).val * 640 + x.val < lim ((i 1).val * 640 + r.val) then y else 0) ?_)
  unfold term
  refine congrArg₂ (· * ·) (congrArg₂ wt (funext fun l => read_slab v12 X12 h inb r l) (funext fun l => ?_)) ?_
  · refine (read_tile (N := 640) v5 X5 off inb' x l).trans ?_
    rw [ho.1, ho.2]
  · refine (read_tile (N := 640) v6 X6 off inb' x d).trans ?_
    rw [ho.1, ho.2]

/-- What the two loops leave, where the second makes no trips. -/
theorem after_loops {s : Shape} {e : EltTy} {sp : Space} (v : View sig .tc sp s e) (f : v.ty.Contents (Elt Ideal)) (P2 P1 L : List (View.Piece (Elt Ideal) s e))
    (z : s.Idx) (y : Elt Ideal e) (e2 : P2 = []) (e1 : v.read (Elt Ideal) (v.writes (Elt Ideal) (v.writes (Elt Ideal) f L) P1) z = y) :
    v.read (Elt Ideal) (v.writes (Elt Ideal) f (P2 ++ (P1 ++ L))) z = y := by
  subst e2
  rw [List.nil_append, View.writes_append]
  exact e1

/-- The numbers of the points of the grid. -/
structure Nums (i : grid0.Coords) : Prop where
  first : (k0_t1_loop i 0#32).trips = (i 1).val
  second : (k0_t2_loop i 0#32).trips = 0
  o3 : ∀ k, k0_off3 i 0#32 k 0 = 640 * k.val ∧ k0_off3 i 0#32 k 1 = 0
  o4 : ∀ k, k0_off4 i 0#32 k 0 = 640 * k.val ∧ k0_off4 i 0#32 k 1 = 128
  o5 : ∀ k, k0_off5 i 0#32 k 0 = 640 * k.val ∧ k0_off5 i 0#32 k 1 = 256
  o6 : ∀ k, k0_off6 i 0#32 k 0 = 640 * k.val ∧ k0_off6 i 0#32 k 1 = 384
  o11 : k0_off11 i 0 = (i 1).val * 640 ∧ k0_off11 i 1 = 0
  o12 : k0_off12 i 0 = (i 1).val * 640 ∧ k0_off12 i 1 = 128
  o13 : k0_off13 i 0 = (i 1).val * 640 ∧ k0_off13 i 1 = 256
  o14 : k0_off14 i 0 = (i 1).val * 640 ∧ k0_off14 i 1 = 384
  o15 : k0_off15 i 0 = (i 1).val * 640 ∧ k0_off15 i 1 = 0
  o16 : k0_off16 i 0 = (i 1).val * 640 ∧ k0_off16 i 1 = 128
  o17 : k0_off17 i 0 = (i 1).val * 640 ∧ k0_off17 i 1 = 256
  o18 : k0_off18 i 0 = (i 1).val * 640 ∧ k0_off18 i 1 = 384
  o1 : k0_off1 i 0#32 0 = (i 0).val * 4 + 0 ∧ k0_off1 i 1#32 0 = (i 0).val * 4 + 1 ∧ k0_off1 i 2#32 0 = (i 0).val * 4 + 2 ∧ k0_off1 i 3#32 0 = (i 0).val * 4 + 3

theorem Nums.off3 {i : grid0.Coords} (hn : Nums i) (v : BitVec 32) (hv : v = 0#32) :
    ∀ k, k0_off3 i v k 0 = 640 * k.val ∧ k0_off3 i v k 1 = 0 := by subst hv; exact hn.o3
theorem Nums.off4 {i : grid0.Coords} (hn : Nums i) (v : BitVec 32) (hv : v = 0#32) :
    ∀ k, k0_off4 i v k 0 = 640 * k.val ∧ k0_off4 i v k 1 = 128 := by subst hv; exact hn.o4
theorem Nums.off5 {i : grid0.Coords} (hn : Nums i) (v : BitVec 32) (hv : v = 0#32) :
    ∀ k, k0_off5 i v k 0 = 640 * k.val ∧ k0_off5 i v k 1 = 256 := by subst hv; exact hn.o5
theorem Nums.off6 {i : grid0.Coords} (hn : Nums i) (v : BitVec 32) (hv : v = 0#32) :
    ∀ k, k0_off6 i v k 0 = 640 * k.val ∧ k0_off6 i v k 1 = 384 := by subst hv; exact hn.o6
theorem Nums.trips1 {i : grid0.Coords} (hn : Nums i) (v : BitVec 32) (hv : v = 0#32) :
    Scf.trips (k0_t1_loop i v).lb (k0_t1_loop i v).ub (k0_t1_loop i v).st = (i 1).val := by subst hv; exact hn.first
theorem Nums.trips2 {i : grid0.Coords} (hn : Nums i) (v : BitVec 32) (hv : v = 0#32) :
    Scf.trips (k0_t2_loop i v).lb (k0_t2_loop i v).ub (k0_t2_loop i v).st = 0 := by subst hv; exact hn.second

theorem zeros_read {sp : Space} (v : View sig .tc sp S4x640x128 .f32) (f : v.ty.Contents (Elt Ideal))
    (inb : ∀ a, (![0, 0, 0] : Fin 3 → ℕ) a + S4x640x128.size a ≤ S4x640x128.size a) (z : S4x640x128.Idx) :
    v.read (Elt Ideal) (v.writes (Elt Ideal) f [⟨Rect.unit (s := S4x640x128) ![0, 0, 0] S4x640x128.size inb, k0_pay35 (F := Ideal)⟩]) z = 0 := by
  refine Eq.trans (congrArg _ ?_) ((View.read_writes_cons_emb v f (Rect.unit (s := S4x640x128) ![0, 0, 0] S4x640x128.size inb) (k0_pay35 (F := Ideal)) [] z).trans (pay35_apply z))
  refine funext fun a => Fin.ext ?_
  match a with
  | ⟨0, _⟩ => show (z 0).val = 0 + 1 * (z 0).val; omega
  | ⟨1, _⟩ => show (z 1).val = 0 + 1 * (z 1).val; omega
  | ⟨2, _⟩ => show (z 2).val = 0 + 1 * (z 2).val; omega

section
variable (c : Dev nD) (i : grid0.Coords) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (hc0 : cond0_0 i)
    (x0 : Vec Ideal S16 .f32) (x1 : Vec Ideal S640x512 .bf16) (x2 : Vec Ideal S8320x512 .bf16) (x3 : Vec Ideal S8320x512 .bf16) (xt0 : TbBuf0 (F := Ideal) c tbM0_0) (k0_hw1 : k0_chk1 i (tbM0_0.view.readAt (Elt Ideal) (Rect.unit (s := S52) (k0_off2 i) S1.size (k0_off2_inb i)).toLoadRect xt0 (Shape.Idx.first (numel1_S1.symm ▸ Nat.one_pos))))

theorem sumA (hn : Nums i) (hv : kernelRun0_A.sl.r_7 (F := Ideal) c i xt0 = 0#32) (h : Fin 4) (r : Fin 640) (d : Fin 128) :
    arg10.view.read (Elt Ideal) (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 arg12 harg12 hc0 x0 x1 x2 x3 xt0 k0_hw1)) (ix3 h r d)
      = ∑ n ∈ Finset.range (640 * (i 1).val), term (fun l => arg12.view.read (Elt Ideal) (arg12.view.writes (Elt Ideal) arg12.view.junk (kernelRun0_A.sl.HS3_4 (F := Ideal) c i arg3 harg3 arg4 harg4 x0 x1)) (ix3 h r l)) x2 x3 h d n
        + ∑ x : Fin 768, if (i 1).val * 640 + x.val < lim ((i 1).val * 640 + r.val) then term (fun l => arg12.view.read (Elt Ideal) (arg12.view.writes (Elt Ideal) arg12.view.junk (kernelRun0_A.sl.HS3_4 (F := Ideal) c i arg3 harg3 arg4 harg4 x0 x1)) (ix3 h r l)) x2 x3 h d ((i 1).val * 640 + x.val) else 0 := by
  have k2 : arg5.view.read (Elt Ideal) (harg5.unread x2) = x2 := harg5.read_unread _
  have k3 : arg6.view.read (Elt Ideal) (harg6.unread x3) = x3 := harg6.read_unread _
  have base : arg10.view.read (Elt Ideal) (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 arg12 harg12 hc0 x0 x1 x2 x3 xt0 k0_hw1).tail) (ix3 h r d)
      = ∑ n ∈ Finset.range (640 * (i 1).val), term (fun l => arg12.view.read (Elt Ideal) (arg12.view.writes (Elt Ideal) arg12.view.junk (kernelRun0_A.sl.HS3_4 (F := Ideal) c i arg3 harg3 arg4 harg4 x0 x1)) (ix3 h r l)) x2 x3 h d n := by
    refine after_loops arg10.view _ _ _ _ _ _ ?_ ?_
    · rw [hn.trips2 _ hv]; rfl
    · refine (trips_read (h0 := hn.off3 _ hv) (h1 := hn.off4 _ hv) (h2 := hn.off5 _ hv) (h3 := hn.off6 _ hv) (hk := le_refl _) (h := h) (r := r) (d := d) ..).trans ?_
      refine (congrArg₂ (· + ·) (zeros_read arg10.view _ _ _) ?_).trans (zero_add _)
      rw [k2, k3]
      exact congrArg (fun n => ∑ n ∈ Finset.range (640 * n), term (fun l => arg12.view.read (Elt Ideal) (arg12.view.writes (Elt Ideal) arg12.view.junk (kernelRun0_A.sl.HS3_4 (F := Ideal) c i arg3 harg3 arg4 harg4 x0 x1)) (ix3 h r l)) x2 x3 h d n) (hn.trips1 _ hv)
  match h with
  | ⟨0, _⟩ =>
    refine (slab_skip arg10.view _ 3 0 (by decide) _ _ _ r d).trans ((slab_skip arg10.view _ 2 0 (by decide) _ _ _ r d).trans ((slab_skip arg10.view _ 1 0 (by decide) _ _ _ r d).trans ((slab_hit arg10.view _ 0 _ _ _ r d).trans ?_)))
    refine (hide768 arg5.view (harg5.unread x2) arg6.view (harg6.unread x3) arg12.view
      (arg12.view.writes (Elt Ideal) arg12.view.junk (kernelRun0_A.sl.HS3_4 (F := Ideal) c i arg3 harg3 arg4 harg4 x0 x1)) arg10.view
      (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 arg12 harg12 hc0 x0 x1 x2 x3 xt0 k0_hw1).tail) 0 i _ _ hn.o11 _ r d).trans ?_
    rw [k2, k3]
    exact congrArg (· + _) (base)
  | ⟨1, _⟩ =>
    refine (slab_skip arg10.view _ 3 1 (by decide) _ _ _ r d).trans ((slab_skip arg10.view _ 2 1 (by decide) _ _ _ r d).trans ((slab_hit arg10.view _ 1 _ _ _ r d).trans ?_))
    refine (hide768 arg5.view (harg5.unread x2) arg6.view (harg6.unread x3) arg12.view
      (arg12.view.writes (Elt Ideal) arg12.view.junk (kernelRun0_A.sl.HS3_4 (F := Ideal) c i arg3 harg3 arg4 harg4 x0 x1)) arg10.view
      (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 arg12 harg12 hc0 x0 x1 x2 x3 xt0 k0_hw1)) 1 i _ _ hn.o12 _ r d).trans ?_
    rw [k2, k3]
    exact congrArg (· + _) (((slab_skip arg10.view _ 0 1 (by decide) _ _ _ r d).trans base))
  | ⟨2, _⟩ =>
    refine (slab_skip arg10.view _ 3 2 (by decide) _ _ _ r d).trans ((slab_hit arg10.view _ 2 _ _ _ r d).trans ?_)
    refine (hide768 arg5.view (harg5.unread x2) arg6.view (harg6.unread x3) arg12.view
      (arg12.view.writes (Elt Ideal) arg12.view.junk (kernelRun0_A.sl.HS3_4 (F := Ideal) c i arg3 harg3 arg4 harg4 x0 x1)) arg10.view
      (arg10.view.writes (Elt Ideal) arg10.view.junk (kernelRun0_A.sl.HS1_2 (F := Ideal) c i arg3 harg3 arg4 harg4 arg5 harg5 arg6 harg6 arg7 harg7 arg8 harg8 arg9 harg9 arg10 harg10 arg11 harg11 arg12 harg12 hc0 x0 x1 x2 x3 xt0 k0_hw1)) 2 i _ _ hn.o13 _ r d).trans ?_
    rw [k2, k3]
    exact congrArg (· + _) (((slab_skip arg10.view _ 1 2 (by decide) _ _ _ r d).trans ((slab_skip arg10.view _ 0 2 (by decide) _ _ _ r d).trans base)))
  | ⟨3, _⟩ =>
    refine (slab_hit arg10.view _ 3 _ _ _ r d).trans ?_
    refine (hide768 arg5.view (harg5.unread x2) arg6.view (harg6.unread x3) arg12.view
      (arg12.view.writes (Elt Ideal) arg12.view.junk (kernelRun0_A.sl.HS3_4 (F := Ideal) c i arg3 harg3 arg4 harg4 x0 x1)) arg10.view
      (arg10.view.writes (Elt Ideal) arg10.view.junk (kernelRun0_A.sl.HS1_3 (F := Ideal) c i arg3 harg3 arg4 harg4 arg5 harg5 arg6 harg6 arg7 harg7 arg8 harg8 arg9 harg9 arg10 harg10 arg11 harg11 arg12 harg12 hc0 x0 x1 x2 x3 xt0 k0_hw1)) 3 i _ _ hn.o14 _ r d).trans ?_
    rw [k2, k3]
    exact congrArg (· + _) (((slab_skip arg10.view _ 2 3 (by decide) _ _ _ r d).trans ((slab_skip arg10.view _ 1 3 (by decide) _ _ _ r d).trans ((slab_skip arg10.view _ 0 3 (by decide) _ _ _ r d).trans base))))

theorem accA (hn : Nums i) (hv : kernelRun0_A.sl.r_7 (F := Ideal) c i xt0 = 0#32) (hi : (i 1).val * 640 + 768 ≤ 8320) (h : Fin 4) (r : Fin 640) (d : Fin 128) :
    arg10.view.read (Elt Ideal) (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 arg12 harg12 hc0 x0 x1 x2 x3 xt0 k0_hw1)) (ix3 h r d)
      = total (term (fun l => arg12.view.read (Elt Ideal) (arg12.view.writes (Elt Ideal) arg12.view.junk (kernelRun0_A.sl.HS3_4 (F := Ideal) c i arg3 harg3 arg4 harg4 x0 x1)) (ix3 h r l)) x2 x3 h d) ((i 1).val * 640 + r.val) :=
  (sumA c i arg3 harg3 arg4 harg4 arg5 harg5 arg6 harg6 arg7 harg7 arg8 harg8 arg9 harg9 arg10 harg10 arg11 harg11 arg12 harg12 hc0 x0 x1 x2 x3 xt0 k0_hw1 hn hv h r d).trans (total_split _ _ _ _ hi r.isLt (.inl (by unfold lim; omega)))

end
section
variable (c : Dev nD) (i : grid0.Coords) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (hc1 : cond0_1 i)
    (x0 : Vec Ideal S16 .f32) (x1 : Vec Ideal S640x512 .bf16) (x2 : Vec Ideal S8320x512 .bf16) (x3 : Vec Ideal S8320x512 .bf16) (xt0 : TbBuf0 (F := Ideal) c tbM0_0) (k0_hw1 : k0_chk1 i (tbM0_0.view.readAt (Elt Ideal) (Rect.unit (s := S52) (k0_off2 i) S1.size (k0_off2_inb i)).toLoadRect xt0 (Shape.Idx.first (numel1_S1.symm ▸ Nat.one_pos))))

theorem sumB (hn : Nums i) (hv : kernelRun0_B.sl.r_7 (F := Ideal) c i xt0 = 0#32) (h : Fin 4) (r : Fin 640) (d : Fin 128) :
    arg10.view.read (Elt Ideal) (arg10.view.writes (Elt Ideal) arg10.view.junk (kernelRun0_B.sl.HS1_4 (F := Ideal) c i arg3 harg3 arg4 harg4 arg5 harg5 arg6 harg6 arg7 harg7 arg8 harg8 arg9 harg9 arg10 harg10 arg11 harg11 arg12 harg12 hc1 x0 x1 x2 x3 xt0 k0_hw1)) (ix3 h r d)
      = ∑ n ∈ Finset.range (640 * (i 1).val), term (fun l => arg12.view.read (Elt Ideal) (arg12.view.writes (Elt Ideal) arg12.view.junk (kernelRun0_B.sl.HS3_4 (F := Ideal) c i arg3 harg3 arg4 harg4 x0 x1)) (ix3 h r l)) x2 x3 h d n
        + ∑ x : Fin 640, if (i 1).val * 640 + x.val < lim ((i 1).val * 640 + r.val) then term (fun l => arg12.view.read (Elt Ideal) (arg12.view.writes (Elt Ideal) arg12.view.junk (kernelRun0_B.sl.HS3_4 (F := Ideal) c i arg3 harg3 arg4 harg4 x0 x1)) (ix3 h r l)) x2 x3 h d ((i 1).val * 640 + x.val) else 0 := by
  have k2 : arg5.view.read (Elt Ideal) (harg5.unread x2) = x2 := harg5.read_unread _
  have k3 : arg6.view.read (Elt Ideal) (harg6.unread x3) = x3 := harg6.read_unread _
  have base : arg10.view.read (Elt Ideal) (arg10.view.writes (Elt Ideal) arg10.view.junk (kernelRun0_B.sl.HS1_1_1 (F := Ideal) c i arg3 harg3 arg4 harg4 arg5 harg5 arg6 harg6 arg7 harg7 arg8 harg8 arg9 harg9 arg10 harg10 arg11 harg11 arg12 harg12 hc1 x0 x1 x2 x3 xt0 k0_hw1).tail) (ix3 h r d)
      = ∑ n ∈ Finset.range (640 * (i 1).val), term (fun l => arg12.view.read (Elt Ideal) (arg12.view.writes (Elt Ideal) arg12.view.junk (kernelRun0_B.sl.HS3_4 (F := Ideal) c i arg3 harg3 arg4 harg4 x0 x1)) (ix3 h r l)) x2 x3 h d n := by
    refine after_loops arg10.view _ _ _ _ _ _ ?_ ?_
    · rw [hn.trips2 _ hv]; rfl
    · refine (trips_read (h0 := hn.off3 _ hv) (h1 := hn.off4 _ hv) (h2 := hn.off5 _ hv) (h3 := hn.off6 _ hv) (hk := le_refl _) (h := h) (r := r) (d := d) ..).trans ?_
      refine (congrArg₂ (· + ·) (zeros_read arg10.view _ _ _) ?_).trans (zero_add _)
      rw [k2, k3]
      exact congrArg (fun n => ∑ n ∈ Finset.range (640 * n), term (fun l => arg12.view.read (Elt Ideal) (arg12.view.writes (Elt Ideal) arg12.view.junk (kernelRun0_B.sl.HS3_4 (F := Ideal) c i arg3 harg3 arg4 harg4 x0 x1)) (ix3 h r l)) x2 x3 h d n) (hn.trips1 _ hv)
  match h with
  | ⟨0, _⟩ =>
    refine (slab_skip arg10.view _ 3 0 (by decide) _ _ _ r d).trans ((slab_skip arg10.view _ 2 0 (by decide) _ _ _ r d).trans ((slab_skip arg10.view _ 1 0 (by decide) _ _ _ r d).trans ((slab_hit arg10.view _ 0 _ _ _ r d).trans ?_)))
    refine (hide640 arg5.view (harg5.unread x2) arg6.view (harg6.unread x3) arg12.view
      (arg12.view.writes (Elt Ideal) arg12.view.junk (kernelRun0_B.sl.HS3_4 (F := Ideal) c i arg3 harg3 arg4 harg4 x0 x1)) arg10.view
      (arg10.view.writes (Elt Ideal) arg10.view.junk (kernelRun0_B.sl.HS1_1_1 (F := Ideal) c i arg3 harg3 arg4 harg4 arg5 harg5 arg6 harg6 arg7 harg7 arg8 harg8 arg9 harg9 arg10 harg10 arg11 harg11 arg12 harg12 hc1 x0 x1 x2 x3 xt0 k0_hw1).tail) 0 i _ _ hn.o15 _ r d).trans ?_
    rw [k2, k3]
    exact congrArg (· + _) (base)
  | ⟨1, _⟩ =>
    refine (slab_skip arg10.view _ 3 1 (by decide) _ _ _ r d).trans ((slab_skip arg10.view _ 2 1 (by decide) _ _ _ r d).trans ((slab_hit arg10.view _ 1 _ _ _ r d).trans ?_))
    refine (hide640 arg5.view (harg5.unread x2) arg6.view (harg6.unread x3) arg12.view
      (arg12.view.writes (Elt Ideal) arg12.view.junk (kernelRun0_B.sl.HS3_4 (F := Ideal) c i arg3 harg3 arg4 harg4 x0 x1)) arg10.view
      (arg10.view.writes (Elt Ideal) arg10.view.junk (kernelRun0_B.sl.HS1_1_1 (F := Ideal) c i arg3 harg3 arg4 harg4 arg5 harg5 arg6 harg6 arg7 harg7 arg8 harg8 arg9 harg9 arg10 harg10 arg11 harg11 arg12 harg12 hc1 x0 x1 x2 x3 xt0 k0_hw1)) 1 i _ _ hn.o16 _ r d).trans ?_
    rw [k2, k3]
    exact congrArg (· + _) (((slab_skip arg10.view _ 0 1 (by decide) _ _ _ r d).trans base))
  | ⟨2, _⟩ =>
    refine (slab_skip arg10.view _ 3 2 (by decide) _ _ _ r d).trans ((slab_hit arg10.view _ 2 _ _ _ r d).trans ?_)
    refine (hide640 arg5.view (harg5.unread x2) arg6.view (harg6.unread x3) arg12.view
      (arg12.view.writes (Elt Ideal) arg12.view.junk (kernelRun0_B.sl.HS3_4 (F := Ideal) c i arg3 harg3 arg4 harg4 x0 x1)) arg10.view
      (arg10.view.writes (Elt Ideal) arg10.view.junk (kernelRun0_B.sl.HS1_2 (F := Ideal) c i arg3 harg3 arg4 harg4 arg5 harg5 arg6 harg6 arg7 harg7 arg8 harg8 arg9 harg9 arg10 harg10 arg11 harg11 arg12 harg12 hc1 x0 x1 x2 x3 xt0 k0_hw1)) 2 i _ _ hn.o17 _ r d).trans ?_
    rw [k2, k3]
    exact congrArg (· + _) (((slab_skip arg10.view _ 1 2 (by decide) _ _ _ r d).trans ((slab_skip arg10.view _ 0 2 (by decide) _ _ _ r d).trans base)))
  | ⟨3, _⟩ =>
    refine (slab_hit arg10.view _ 3 _ _ _ r d).trans ?_
    refine (hide640 arg5.view (harg5.unread x2) arg6.view (harg6.unread x3) arg12.view
      (arg12.view.writes (Elt Ideal) arg12.view.junk (kernelRun0_B.sl.HS3_4 (F := Ideal) c i arg3 harg3 arg4 harg4 x0 x1)) arg10.view
      (arg10.view.writes (Elt Ideal) arg10.view.junk (kernelRun0_B.sl.HS1_3 (F := Ideal) c i arg3 harg3 arg4 harg4 arg5 harg5 arg6 harg6 arg7 harg7 arg8 harg8 arg9 harg9 arg10 harg10 arg11 harg11 arg12 harg12 hc1 x0 x1 x2 x3 xt0 k0_hw1)) 3 i _ _ hn.o18 _ r d).trans ?_
    rw [k2, k3]
    exact congrArg (· + _) (((slab_skip arg10.view _ 2 3 (by decide) _ _ _ r d).trans ((slab_skip arg10.view _ 1 3 (by decide) _ _ _ r d).trans ((slab_skip arg10.view _ 0 3 (by decide) _ _ _ r d).trans base))))

theorem accB (hn : Nums i) (hv : kernelRun0_B.sl.r_7 (F := Ideal) c i xt0 = 0#32) (hi : (i 1).val * 640 + 640 = 8320) (h : Fin 4) (r : Fin 640) (d : Fin 128) :
    arg10.view.read (Elt Ideal) (arg10.view.writes (Elt Ideal) arg10.view.junk (kernelRun0_B.sl.HS1_4 (F := Ideal) c i arg3 harg3 arg4 harg4 arg5 harg5 arg6 harg6 arg7 harg7 arg8 harg8 arg9 harg9 arg10 harg10 arg11 harg11 arg12 harg12 hc1 x0 x1 x2 x3 xt0 k0_hw1)) (ix3 h r d)
      = total (term (fun l => arg12.view.read (Elt Ideal) (arg12.view.writes (Elt Ideal) arg12.view.junk (kernelRun0_B.sl.HS3_4 (F := Ideal) c i arg3 harg3 arg4 harg4 x0 x1)) (ix3 h r l)) x2 x3 h d) ((i 1).val * 640 + r.val) :=
  (sumB c i arg3 harg3 arg4 harg4 arg5 harg5 arg6 harg6 arg7 harg7 arg8 harg8 arg9 harg9 arg10 harg10 arg11 harg11 arg12 harg12 hc1 x0 x1 x2 x3 xt0 k0_hw1 hn hv h r d).trans (total_split _ _ _ _ (le_of_eq hi) r.isLt (.inr hi))

end

end
end Cert.Attn
-- ==== Proof.AttnOut.lean ====
/- What the latent attention leaves of a tile of queries: the heads' quotients side by side, normed. Untrusted. -/
module

import all proofs.«01_k».proof.Proof.Gen.Kernel6Ideal.Frame
public import proofs.«01_k».proof.Proof.AttnAcc

@[expose] public section

set_option maxRecDepth 16384

noncomputable section

namespace Cert.Attn

open Idealize.ShloMosaic hiding ix1 ix2 ix3
open Idealize.ShloMosaic.TcCoe Idealize.ShloMosaic.ValueIdx Idealize.SL.Sem
open Cert.Inproj (ix2_same ix1_same hz2)

/-- The entry with this number, and zero past the end. -/
def at1 (s : (Shape.mk 1 ![16]).Idx → EReal) (n : ℕ) : EReal := if h : n < 16 then s (ix1 ⟨n, h⟩) else 0

/-- A query of batch `b`, its shift in place. -/
def qrow (s : (Shape.mk 1 ![16]).Idx → EReal) (q : (Shape.mk 2 ![640, 512]).Idx → EReal) (b : ℕ) (h : Fin 4) (r : Fin 640) : Fin 128 → EReal :=
  bent (at1 s (b * 4 + h.val)) fun l => q (ix2 r ⟨h.val * 128 + l.val, by omega⟩)

/-- The heads' quotients of the query at position `p`, side by side. -/
def quot (s : (Shape.mk 1 ![16]).Idx → EReal) (q : (Shape.mk 2 ![640, 512]).Idx → EReal) (K V : (Shape.mk 2 ![8320, 512]).Idx → EReal)
    (b p : ℕ) (r : Fin 640) (k : Fin 256) : EReal :=
  Ideal.div (total (term (qrow s q b ⟨k.val / 64, by omega⟩ r) K V ⟨k.val / 64, by omega⟩ ⟨k.val % 64, by omega⟩) p)
    (total (term (qrow s q b ⟨k.val / 64, by omega⟩ r) K V ⟨k.val / 64, by omega⟩ ⟨64, by omega⟩) p)

theorem quot_at (s : (Shape.mk 1 ![16]).Idx → EReal) (q : (Shape.mk 2 ![640, 512]).Idx → EReal) (K V : (Shape.mk 2 ![8320, 512]).Idx → EReal)
    (b p : ℕ) (r : Fin 640) (h : Fin 4) (d : Fin 64) (k : Fin 256) (hk : k.val = h.val * 64 + d.val) :
    Ideal.div (total (term (qrow s q b h r) K V h ⟨d.val, by omega⟩) p) (total (term (qrow s q b h r) K V h ⟨64, by omega⟩) p) = quot s q K V b p r k := by
  unfold quot
  have e1 : (⟨k.val / 64, by omega⟩ : Fin 4) = h := Fin.ext (by show k.val / 64 = h.val; omega)
  have e2 : (⟨k.val % 64, by omega⟩ : Fin 128) = ⟨d.val, by omega⟩ := Fin.ext (by show k.val % 64 = d.val; omega)
  rw [e1, e2]

section
open Cert.Kernel6Ideal Cert.Kernel6Ideal.Gen

theorem read_one {sp : Space} (v : View sig .tc sp S16 .f32) (f : v.ty.Contents (Elt Ideal)) (off : Fin 1 → ℕ)
    (inb : ∀ a, off a + S1.size a ≤ S16.size a) (z : S1.Idx) :
    v.readAt (Elt Ideal) (Rect.unit (s := S16) off S1.size inb).toLoadRect f z = at1 (v.read (Elt Ideal) f) (off 0) := by
  have h0 : off 0 + 1 ≤ 16 := inb 0
  have hz : (z 0).val < 1 := (z 0).isLt
  unfold at1
  rw [dif_pos (by omega), View.readAt_apply]
  refine congrArg (v.read (Elt Ideal) f) (funext fun a => Fin.ext ?_)
  match a with
  | ⟨0, _⟩ => show off 0 + 1 * (z 0).val = off 0; omega

theorem read_lanes {sp : Space} (v : View sig .tc sp S640x512 .bf16) (f : v.ty.Contents (Elt Ideal)) (h : Fin 4)
    (o : ℕ) (ho : o = h.val * 128) (inb : ∀ a, (![0, o] : Fin 2 → ℕ) a + S640x128.size a ≤ S640x512.size a) (r : Fin 640) (l : Fin 128) :
    v.readAt (Elt Ideal) (Rect.unit (s := S640x512) ![0, o] S640x128.size inb).toLoadRect f (ix2 r l)
      = v.read (Elt Ideal) f (ix2 r ⟨h.val * 128 + l.val, by omega⟩) := by
  subst ho
  rw [View.readAt_apply]
  refine congrArg (v.read (Elt Ideal) f) (funext fun a => Fin.ext ?_)
  match a with
  | ⟨0, _⟩ => show 0 + 1 * r.val = r.val; omega
  | ⟨1, _⟩ => show h.val * 128 + 1 * l.val = h.val * 128 + l.val; omega

theorem read_all {n m : ℕ} {e : EltTy} {sp : Space} (v : View sig .tc sp (Shape.mk 2 ![n, m]) e) (f : v.ty.Contents (Elt Ideal))
    (inb : ∀ a, (![0, 0] : Fin 2 → ℕ) a + (Shape.mk 2 ![n, m]).size a ≤ (Shape.mk 2 ![n, m]).size a) (r : Fin n) (k : Fin m) :
    v.readAt (Elt Ideal) (Rect.unit (s := Shape.mk 2 ![n, m]) ![0, 0] (Shape.mk 2 ![n, m]).size inb).toLoadRect f (ix2 r k)
      = v.read (Elt Ideal) f (ix2 r k) := by
  rw [View.readAt_apply]
  refine congrArg (v.read (Elt Ideal) f) (funext fun a => Fin.ext ?_)
  match a with
  | ⟨0, _⟩ => show 0 + 1 * r.val = r.val; omega
  | ⟨1, _⟩ => show 0 + 1 * k.val = k.val; omega

theorem write_all {n m : ℕ} {e : EltTy} {sp : Space} (v : View sig .tc sp (Shape.mk 2 ![n, m]) e) (f : v.ty.Contents (Elt Ideal))
    (inb : ∀ a, (![0, 0] : Fin 2 → ℕ) a + (Shape.mk 2 ![n, m]).size a ≤ (Shape.mk 2 ![n, m]).size a) (w : (Shape.mk 2 ![n, m]).Idx → Elt Ideal e)
    (r : Fin n) (k : Fin m) :
    v.read (Elt Ideal) (v.writes (Elt Ideal) f [⟨Rect.unit (s := Shape.mk 2 ![n, m]) ![0, 0] (Shape.mk 2 ![n, m]).size inb, w⟩]) (ix2 r k) = w (ix2 r k) := by
  refine Eq.trans (congrArg _ ?_) (View.read_writes_cons_emb v f (Rect.unit (s := Shape.mk 2 ![n, m]) ![0, 0] (Shape.mk 2 ![n, m]).size inb) w [] (ix2 r k))
  refine funext fun a => Fin.ext ?_
  match a with
  | ⟨0, _⟩ => show r.val = 0 + 1 * r.val; omega
  | ⟨1, _⟩ => show k.val = 0 + 1 * k.val; omega

theorem col_hit {sp : Space} (v : View sig .tc sp S640x256 .f32) (f : v.ty.Contents (Elt Ideal)) (o : ℕ)
    (inb : ∀ a, (![0, o] : Fin 2 → ℕ) a + S640x64.size a ≤ S640x256.size a) (w : S640x64.Idx → EReal)
    (L : List (View.Piece (Elt Ideal) S640x256 .f32)) (r : Fin 640) (d : Fin 64) (k : Fin 256) (hk : k.val = o + d.val) :
    v.read (Elt Ideal) (v.writes (Elt Ideal) f (⟨Rect.unit (s := S640x256) ![0, o] S640x64.size inb, w⟩ :: L)) (ix2 r k) = w (ix2 r d) := by
  refine Eq.trans (congrArg _ ?_) (View.read_writes_cons_emb v f (Rect.unit (s := S640x256) ![0, o] S640x64.size inb) w L (ix2 r d))
  refine funext fun a => Fin.ext ?_
  match a with
  | ⟨0, _⟩ => show r.val = 0 + 1 * r.val; omega
  | ⟨1, _⟩ => show k.val = o + 1 * d.val; omega

theorem col_skip {sp : Space} (v : View sig .tc sp S640x256 .f32) (f : v.ty.Contents (Elt Ideal)) (o : ℕ)
    (inb : ∀ a, (![0, o] : Fin 2 → ℕ) a + S640x64.size a ≤ S640x256.size a) (w : S640x64.Idx → EReal)
    (L : List (View.Piece (Elt Ideal) S640x256 .f32)) (r : Fin 640) (k : Fin 256) (hk : k.val < o) :
    v.read (Elt Ideal) (v.writes (Elt Ideal) f (⟨Rect.unit (s := S640x256) ![0, o] S640x64.size inb, w⟩ :: L)) (ix2 r k)
      = v.read (Elt Ideal) (v.writes (Elt Ideal) f L) (ix2 r k) := by
  refine View.read_slice_write_of_not_mem (Rect.unit (s := S640x256) ![0, o] S640x64.size inb) _ _ _ ?_
  rw [Rect.map_emb_univ]
  intro hm
  obtain ⟨x, hx⟩ := (Rect.unit (s := S640x256) ![0, o] S640x64.size inb).exists_idx_of_mem hm
  have e : o + 1 * (x 1).val = k.val := congrArg (fun z : S640x256.Idx => (z 1).val) hx
  omega

/-- The quotient of a head's accumulator. -/
theorem head_quot {sp : Space} (v10 : View sig .tc sp S4x640x128 .f32) (f : v10.ty.Contents (Elt Ideal)) (h : Fin 4)
    (inb : ∀ a, (![h.val, 0, 0] : Fin 3 → ℕ) a + S1x640x128.size a ≤ S4x640x128.size a)
    (s : S16.Idx → EReal) (q : S640x512.Idx → EReal) (K V : S8320x512.Idx → EReal) (b p : ℕ) (r : Fin 640)
    (ha : ∀ d : Fin 128, v10.read (Elt Ideal) f (ix3 h r d) = total (term (qrow s q b h r) K V h d) p)
    (d : Fin 64) (k : Fin 256) (hk : k.val = h.val * 64 + d.val) :
    (k0_pay42 (F := Ideal) (v10.readAt (Elt Ideal) (Rect.unit (s := S4x640x128) ![h.val, 0, 0] S1x640x128.size inb).toLoadRect f)) (ix2 r d)
      = quot s q K V b p r k :=
  (pay42_apply _ r d).trans ((congrArg₂ Ideal.div ((read_slab v10 f h inb r _).trans (ha _)) ((read_slab v10 f h inb r _).trans (ha _))).trans
    (quot_at s q K V b p r h d k hk))

section
variable (c : Dev nD) (i : grid0.Coords) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (hc0 : cond0_0 i) (hc1 : ¬cond0_1 i)
    (x0 : Vec Ideal S16 .f32) (x1 : Vec Ideal S640x512 .bf16) (x2 : Vec Ideal S8320x512 .bf16) (x3 : Vec Ideal S8320x512 .bf16) (x4 : Vec Ideal S1x256 .f32) (xt0 : TbBuf0 (F := Ideal) c tbM0_0) (k0_hw1 : k0_chk1 i (tbM0_0.view.readAt (Elt Ideal) (Rect.unit (s := S52) (k0_off2 i) S1.size (k0_off2_inb i)).toLoadRect xt0 (Shape.Idx.first (numel1_S1.symm ▸ Nat.one_pos))))

include c i arg3 harg3 arg4 harg4 x0 x1 in
theorem qA (hn : Nums i) (h : Fin 4) (r : Fin 640) :
    (fun l => arg12.view.read (Elt Ideal) (arg12.view.writes (Elt Ideal) arg12.view.junk (kernelRun0_A.sl.HS3_4 (F := Ideal) c i arg3 harg3 arg4 harg4 x0 x1)) (ix3 h r l))
      = qrow x0 x1 (i 0).val h r := by
  have k0 : arg3.view.read (Elt Ideal) (harg3.unread x0) = x0 := harg3.read_unread _
  have k1 : arg4.view.read (Elt Ideal) (harg4.unread x1) = x1 := harg4.read_unread _
  have step : ∀ (h : Fin 4) (w : BitVec 32) (hw : k0_off1 i w 0 = (i 0).val * 4 + h.val) (inb : ∀ a, k0_off1 i w a + S1.size a ≤ S16.size a) (z : S1.Idx)
      (o : ℕ) (ho : o = h.val * 128) (inb' : ∀ a, (![0, o] : Fin 2 → ℕ) a + S640x128.size a ≤ S640x512.size a) (l : Fin 128),
      (k0_pay27 (F := Ideal) (arg3.view.readAt (Elt Ideal) (Rect.unit (s := S16) (k0_off1 i w) S1.size inb).toLoadRect (harg3.unread x0) z)
        (arg4.view.readAt (Elt Ideal) (Rect.unit (s := S640x512) ![0, o] S640x128.size inb').toLoadRect (harg4.unread x1))) (ix3 0 r l)
        = qrow x0 x1 (i 0).val h r l := by
    intro h w hw inb z o ho inb' l
    refine (pay27_apply _ _ r l).trans (congrFun (congrArg₂ bent ?_ (funext fun l => ?_)) l)
    · refine (read_one arg3.view _ _ inb z).trans ?_
      rw [k0, hw]
    · refine (read_lanes arg4.view _ h o ho inb' r l).trans ?_
      rw [k1]
  funext l
  match h with
  | ⟨0, _⟩ => exact (slab_skip arg12.view _ 3 0 (by decide) _ _ _ r l).trans ((slab_skip arg12.view _ 2 0 (by decide) _ _ _ r l).trans ((slab_skip arg12.view _ 1 0 (by decide) _ _ _ r l).trans ((slab_hit arg12.view _ 0 _ _ _ r l).trans (step 0 0#32 hn.o1.1 _ _ 0 (by decide) _ l))))
  | ⟨1, _⟩ => exact (slab_skip arg12.view _ 3 1 (by decide) _ _ _ r l).trans ((slab_skip arg12.view _ 2 1 (by decide) _ _ _ r l).trans ((slab_hit arg12.view _ 1 _ _ _ r l).trans (step 1 1#32 hn.o1.2.1 _ _ 128 (by decide) _ l)))
  | ⟨2, _⟩ => exact (slab_skip arg12.view _ 3 2 (by decide) _ _ _ r l).trans ((slab_hit arg12.view _ 2 _ _ _ r l).trans (step 2 2#32 hn.o1.2.2.1 _ _ 256 (by decide) _ l))
  | ⟨3, _⟩ => exact (slab_hit arg12.view _ 3 _ _ _ r l).trans (step 3 3#32 hn.o1.2.2.2 _ _ 384 (by decide) _ l)

theorem headsA (hn : Nums i) (hv : kernelRun0_A.sl.r_7 (F := Ideal) c i xt0 = 0#32) (hi : (i 1).val * 640 + 768 ≤ 8320) (h : Fin 4) (r : Fin 640) (d : Fin 128) :
    arg10.view.read (Elt Ideal) (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 arg12 harg12 hc0 x0 x1 x2 x3 xt0 k0_hw1)) (ix3 h r d)
      = total (term (qrow x0 x1 (i 0).val h r) x2 x3 h d) ((i 1).val * 640 + r.val) := by
  refine (accA c i arg3 harg3 arg4 harg4 arg5 harg5 arg6 harg6 arg7 harg7 arg8 harg8 arg9 harg9 arg10 harg10 arg11 harg11 arg12 harg12 hc0 x0 x1 x2 x3 xt0 k0_hw1 hn hv hi h r d).trans ?_
  rw [qA c i arg3 harg3 arg4 harg4 arg12 x0 x1 hn h r]

theorem sideA (hn : Nums i) (hv : kernelRun0_A.sl.r_7 (F := Ideal) c i xt0 = 0#32) (hi : (i 1).val * 640 + 768 ≤ 8320) (r : Fin 640) (k : Fin 256) :
    (kernelRun0_A.sl.v182 (F := Ideal) c i arg3 harg3 arg4 harg4 arg5 harg5 arg6 harg6 arg7 harg7 arg8 harg8 arg9 harg9 arg10 harg10 arg11 harg11 arg12 harg12 hc0 x0 x1 x2 x3 xt0 k0_hw1) (ix2 r k) = quot x0 x1 x2 x3 (i 0).val ((i 1).val * 640 + r.val) r k := by
  refine (read_all arg11.view _ _ r k).trans ?_
  have hh := fun h d => headsA c i arg3 harg3 arg4 harg4 arg5 harg5 arg6 harg6 arg7 harg7 arg8 harg8 arg9 harg9 arg10 harg10 arg11 harg11 arg12 harg12 hc0 x0 x1 x2 x3 xt0 k0_hw1 hn hv hi h r d
  obtain ⟨h, d, hk⟩ : ∃ (h : Fin 4) (d : Fin 64), k.val = h.val * 64 + d.val := ⟨⟨k.val / 64, by omega⟩, ⟨k.val % 64, by omega⟩, by show k.val = k.val / 64 * 64 + k.val % 64; omega⟩
  have hd := d.isLt
  match h, hk with
  | ⟨0, _⟩, hk =>
    exact (col_skip arg11.view _ 192 _ _ _ r k (by have hk : k.val = 0 * 64 + d.val := hk; omega)).trans ((col_skip arg11.view _ 128 _ _ _ r k (by have hk : k.val = 0 * 64 + d.val := hk; omega)).trans ((col_skip arg11.view _ 64 _ _ _ r k (by have hk : k.val = 0 * 64 + d.val := hk; omega)).trans ((col_hit arg11.view _ 0 _ _ _ r d k (by have hk : k.val = 0 * 64 + d.val := hk; omega)).trans
      (head_quot arg10.view _ 0 _ x0 x1 x2 x3 _ _ r (hh 0) d k hk))))
  | ⟨1, _⟩, hk =>
    exact (col_skip arg11.view _ 192 _ _ _ r k (by have hk : k.val = 1 * 64 + d.val := hk; omega)).trans ((col_skip arg11.view _ 128 _ _ _ r k (by have hk : k.val = 1 * 64 + d.val := hk; omega)).trans ((col_hit arg11.view _ 64 _ _ _ r d k (by have hk : k.val = 1 * 64 + d.val := hk; omega)).trans
      (head_quot arg10.view _ 1 _ x0 x1 x2 x3 _ _ r (hh 1) d k hk)))
  | ⟨2, _⟩, hk =>
    exact (col_skip arg11.view _ 192 _ _ _ r k (by have hk : k.val = 2 * 64 + d.val := hk; omega)).trans ((col_hit arg11.view _ 128 _ _ _ r d k (by have hk : k.val = 2 * 64 + d.val := hk; omega)).trans
      (head_quot arg10.view _ 2 _ x0 x1 x2 x3 _ _ r (hh 2) d k hk))
  | ⟨3, _⟩, hk =>
    exact (col_hit arg11.view _ 192 _ _ _ r d k (by have hk : k.val = 3 * 64 + d.val := hk; omega)).trans
      (head_quot arg10.view _ 3 _ x0 x1 x2 x3 _ _ r (hh 3) d k hk)

theorem leftA (hn : Nums i) (hv : kernelRun0_A.sl.r_7 (F := Ideal) c i xt0 = 0#32) (hi : (i 1).val * 640 + 768 ≤ 8320) (r : Fin 640) (k : Fin 256) :
    (out0_A_5 (F := Ideal) c i arg3 harg3 arg4 harg4 arg5 harg5 arg6 harg6 arg7 harg7 arg8 harg8 arg9 harg9 arg10 harg10 arg11 harg11 arg12 harg12 hc0 hc1 x0 x1 x2 x3 x4 xt0 k0_hw1) (ix2 r k)
      = normed (quot x0 x1 x2 x3 (i 0).val ((i 1).val * 640 + r.val) r) (fun j => x4 (ix2 0 j)) k := by
  have k4 : arg7.view.read (Elt Ideal) (harg7.unread x4) = x4 := harg7.read_unread _
  refine (write_all VO0_5 _ _ _ r k).trans ((pay1_apply _ _ r k).trans ?_)
  refine congrFun (congrArg₂ normed (funext fun j => sideA c i arg3 harg3 arg4 harg4 arg5 harg5 arg6 harg6 arg7 harg7 arg8 harg8 arg9 harg9 arg10 harg10 arg11 harg11 arg12 harg12 hc0 x0 x1 x2 x3 xt0 k0_hw1 hn hv hi r j) (funext fun j => ?_)) k
  refine (read_all arg7.view _ _ 0 j).trans ?_
  rw [k4]

end
section
variable (c : Dev nD) (i : grid0.Coords) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (hc0 : ¬cond0_0 i) (hc1 : cond0_1 i)
    (x0 : Vec Ideal S16 .f32) (x1 : Vec Ideal S640x512 .bf16) (x2 : Vec Ideal S8320x512 .bf16) (x3 : Vec Ideal S8320x512 .bf16) (x4 : Vec Ideal S1x256 .f32) (xt0 : TbBuf0 (F := Ideal) c tbM0_0) (k0_hw1 : k0_chk1 i (tbM0_0.view.readAt (Elt Ideal) (Rect.unit (s := S52) (k0_off2 i) S1.size (k0_off2_inb i)).toLoadRect xt0 (Shape.Idx.first (numel1_S1.symm ▸ Nat.one_pos))))

include c i arg3 harg3 arg4 harg4 x0 x1 in
theorem qB (hn : Nums i) (h : Fin 4) (r : Fin 640) :
    (fun l => arg12.view.read (Elt Ideal) (arg12.view.writes (Elt Ideal) arg12.view.junk (kernelRun0_B.sl.HS3_4 (F := Ideal) c i arg3 harg3 arg4 harg4 x0 x1)) (ix3 h r l))
      = qrow x0 x1 (i 0).val h r := by
  have k0 : arg3.view.read (Elt Ideal) (harg3.unread x0) = x0 := harg3.read_unread _
  have k1 : arg4.view.read (Elt Ideal) (harg4.unread x1) = x1 := harg4.read_unread _
  have step : ∀ (h : Fin 4) (w : BitVec 32) (hw : k0_off1 i w 0 = (i 0).val * 4 + h.val) (inb : ∀ a, k0_off1 i w a + S1.size a ≤ S16.size a) (z : S1.Idx)
      (o : ℕ) (ho : o = h.val * 128) (inb' : ∀ a, (![0, o] : Fin 2 → ℕ) a + S640x128.size a ≤ S640x512.size a) (l : Fin 128),
      (k0_pay27 (F := Ideal) (arg3.view.readAt (Elt Ideal) (Rect.unit (s := S16) (k0_off1 i w) S1.size inb).toLoadRect (harg3.unread x0) z)
        (arg4.view.readAt (Elt Ideal) (Rect.unit (s := S640x512) ![0, o] S640x128.size inb').toLoadRect (harg4.unread x1))) (ix3 0 r l)
        = qrow x0 x1 (i 0).val h r l := by
    intro h w hw inb z o ho inb' l
    refine (pay27_apply _ _ r l).trans (congrFun (congrArg₂ bent ?_ (funext fun l => ?_)) l)
    · refine (read_one arg3.view _ _ inb z).trans ?_
      rw [k0, hw]
    · refine (read_lanes arg4.view _ h o ho inb' r l).trans ?_
      rw [k1]
  funext l
  match h with
  | ⟨0, _⟩ => exact (slab_skip arg12.view _ 3 0 (by decide) _ _ _ r l).trans ((slab_skip arg12.view _ 2 0 (by decide) _ _ _ r l).trans ((slab_skip arg12.view _ 1 0 (by decide) _ _ _ r l).trans ((slab_hit arg12.view _ 0 _ _ _ r l).trans (step 0 0#32 hn.o1.1 _ _ 0 (by decide) _ l))))
  | ⟨1, _⟩ => exact (slab_skip arg12.view _ 3 1 (by decide) _ _ _ r l).trans ((slab_skip arg12.view _ 2 1 (by decide) _ _ _ r l).trans ((slab_hit arg12.view _ 1 _ _ _ r l).trans (step 1 1#32 hn.o1.2.1 _ _ 128 (by decide) _ l)))
  | ⟨2, _⟩ => exact (slab_skip arg12.view _ 3 2 (by decide) _ _ _ r l).trans ((slab_hit arg12.view _ 2 _ _ _ r l).trans (step 2 2#32 hn.o1.2.2.1 _ _ 256 (by decide) _ l))
  | ⟨3, _⟩ => exact (slab_hit arg12.view _ 3 _ _ _ r l).trans (step 3 3#32 hn.o1.2.2.2 _ _ 384 (by decide) _ l)

theorem headsB (hn : Nums i) (hv : kernelRun0_B.sl.r_7 (F := Ideal) c i xt0 = 0#32) (hi : (i 1).val * 640 + 640 = 8320) (h : Fin 4) (r : Fin 640) (d : Fin 128) :
    arg10.view.read (Elt Ideal) (arg10.view.writes (Elt Ideal) arg10.view.junk (kernelRun0_B.sl.HS1_4 (F := Ideal) c i arg3 harg3 arg4 harg4 arg5 harg5 arg6 harg6 arg7 harg7 arg8 harg8 arg9 harg9 arg10 harg10 arg11 harg11 arg12 harg12 hc1 x0 x1 x2 x3 xt0 k0_hw1)) (ix3 h r d)
      = total (term (qrow x0 x1 (i 0).val h r) x2 x3 h d) ((i 1).val * 640 + r.val) := by
  refine (accB c i arg3 harg3 arg4 harg4 arg5 harg5 arg6 harg6 arg7 harg7 arg8 harg8 arg9 harg9 arg10 harg10 arg11 harg11 arg12 harg12 hc1 x0 x1 x2 x3 xt0 k0_hw1 hn hv hi h r d).trans ?_
  rw [qB c i arg3 harg3 arg4 harg4 arg12 x0 x1 hn h r]

theorem sideB (hn : Nums i) (hv : kernelRun0_B.sl.r_7 (F := Ideal) c i xt0 = 0#32) (hi : (i 1).val * 640 + 640 = 8320) (r : Fin 640) (k : Fin 256) :
    (kernelRun0_B.sl.v182 (F := Ideal) c i arg3 harg3 arg4 harg4 arg5 harg5 arg6 harg6 arg7 harg7 arg8 harg8 arg9 harg9 arg10 harg10 arg11 harg11 arg12 harg12 hc1 x0 x1 x2 x3 xt0 k0_hw1) (ix2 r k) = quot x0 x1 x2 x3 (i 0).val ((i 1).val * 640 + r.val) r k := by
  refine (read_all arg11.view _ _ r k).trans ?_
  have hh := fun h d => headsB c i arg3 harg3 arg4 harg4 arg5 harg5 arg6 harg6 arg7 harg7 arg8 harg8 arg9 harg9 arg10 harg10 arg11 harg11 arg12 harg12 hc1 x0 x1 x2 x3 xt0 k0_hw1 hn hv hi h r d
  obtain ⟨h, d, hk⟩ : ∃ (h : Fin 4) (d : Fin 64), k.val = h.val * 64 + d.val := ⟨⟨k.val / 64, by omega⟩, ⟨k.val % 64, by omega⟩, by show k.val = k.val / 64 * 64 + k.val % 64; omega⟩
  have hd := d.isLt
  match h, hk with
  | ⟨0, _⟩, hk =>
    exact (col_skip arg11.view _ 192 _ _ _ r k (by have hk : k.val = 0 * 64 + d.val := hk; omega)).trans ((col_skip arg11.view _ 128 _ _ _ r k (by have hk : k.val = 0 * 64 + d.val := hk; omega)).trans ((col_skip arg11.view _ 64 _ _ _ r k (by have hk : k.val = 0 * 64 + d.val := hk; omega)).trans ((col_hit arg11.view _ 0 _ _ _ r d k (by have hk : k.val = 0 * 64 + d.val := hk; omega)).trans
      (head_quot arg10.view _ 0 _ x0 x1 x2 x3 _ _ r (hh 0) d k hk))))
  | ⟨1, _⟩, hk =>
    exact (col_skip arg11.view _ 192 _ _ _ r k (by have hk : k.val = 1 * 64 + d.val := hk; omega)).trans ((col_skip arg11.view _ 128 _ _ _ r k (by have hk : k.val = 1 * 64 + d.val := hk; omega)).trans ((col_hit arg11.view _ 64 _ _ _ r d k (by have hk : k.val = 1 * 64 + d.val := hk; omega)).trans
      (head_quot arg10.view _ 1 _ x0 x1 x2 x3 _ _ r (hh 1) d k hk)))
  | ⟨2, _⟩, hk =>
    exact (col_skip arg11.view _ 192 _ _ _ r k (by have hk : k.val = 2 * 64 + d.val := hk; omega)).trans ((col_hit arg11.view _ 128 _ _ _ r d k (by have hk : k.val = 2 * 64 + d.val := hk; omega)).trans
      (head_quot arg10.view _ 2 _ x0 x1 x2 x3 _ _ r (hh 2) d k hk))
  | ⟨3, _⟩, hk =>
    exact (col_hit arg11.view _ 192 _ _ _ r d k (by have hk : k.val = 3 * 64 + d.val := hk; omega)).trans
      (head_quot arg10.view _ 3 _ x0 x1 x2 x3 _ _ r (hh 3) d k hk)

theorem leftB (hn : Nums i) (hv : kernelRun0_B.sl.r_7 (F := Ideal) c i xt0 = 0#32) (hi : (i 1).val * 640 + 640 = 8320) (r : Fin 640) (k : Fin 256) :
    (out0_B_5 (F := Ideal) c i arg3 harg3 arg4 harg4 arg5 harg5 arg6 harg6 arg7 harg7 arg8 harg8 arg9 harg9 arg10 harg10 arg11 harg11 arg12 harg12 hc0 hc1 x0 x1 x2 x3 x4 xt0 k0_hw1) (ix2 r k)
      = normed (quot x0 x1 x2 x3 (i 0).val ((i 1).val * 640 + r.val) r) (fun j => x4 (ix2 0 j)) k := by
  have k4 : arg7.view.read (Elt Ideal) (harg7.unread x4) = x4 := harg7.read_unread _
  refine (write_all VO0_5 _ _ _ r k).trans ((pay1_apply _ _ r k).trans ?_)
  refine congrFun (congrArg₂ normed (funext fun j => sideB c i arg3 harg3 arg4 harg4 arg5 harg5 arg6 harg6 arg7 harg7 arg8 harg8 arg9 harg9 arg10 harg10 arg11 harg11 arg12 harg12 hc1 x0 x1 x2 x3 xt0 k0_hw1 hn hv hi r j) (funext fun j => ?_)) k
  refine (read_all arg7.view _ _ 0 j).trans ?_
  rw [k4]

end

end
end Cert.Attn
-- ==== Proof.AttnKer.lean ====
/- The latent attention: the array that the call leaves, and what the call's frame asks of its table of zeros. Untrusted. -/
module

import all proofs.«01_k».proof.Proof.Gen.Kernel6Ideal.Frame
public import proofs.«01_k».proof.Proof.AttnOut
public import proofs.«01_k».proof.Proof.Gen.Kernel6.Frame

@[expose] public section

set_option maxRecDepth 16384

noncomputable section

namespace Cert.Attn

open Idealize.ShloMosaic hiding ix1 ix2 ix3
open Idealize.ShloMosaic.TcCoe Idealize.ShloMosaic.ValueIdx Idealize.SL.Sem
open Cert.Inproj (ix2_same ix1_same hz2)

section
open Cert.Kernel6 Cert.Kernel6.Gen
variable {F : FTy → Type} [FloatOps F] (m : (ℓ : Loc nD τ sig) → Buf (Elt F) ℓ)

theorem V_table_Kernel6 (c : Dev nD) : V m c main_v0 = broadcastInDim S52 ![] bcast_S_S52 (constantI S_ 32 0#32) := by
  unfold V hostOps0
  after_results_simp <;> rfl

theorem word_Kernel6 (i : grid0.Coords) :
    tbM0_0.view.readAt (Elt F) (Rect.unit (s := S52) (k0_off2 i) S1.size (k0_off2_inb i)).toLoadRect (tbl m 0) (Shape.Idx.first (numel1_S1.symm ▸ Nat.one_pos))
      = 0#32 := by
  rw [show tbl m 0 = (fun _ => 0#32) from V_table_Kernel6 m 0]
  rfl

theorem fits_Kernel6 : ∀ t : Fin grid0.N, k0_chk1 (grid0.coords t) 0#32 := by decide +kernel

theorem hyps_Kernel6 : Hyps m trivial := fun _ t => by
  rw [word_Kernel6 m (grid0.coords t)]
  exact fits_Kernel6 t

end

section
open Cert.Kernel6Ideal Cert.Kernel6Ideal.Gen
variable {F : FTy → Type} [FloatOps F] (m : (ℓ : Loc nD τ sig) → Buf (Elt F) ℓ)

theorem V_table_Kernel6Ideal (c : Dev nD) : V m c main_v0 = broadcastInDim S52 ![] bcast_S_S52 (constantI S_ 32 0#32) := by
  unfold V hostOps0
  after_results_simp <;> rfl

theorem word_Kernel6Ideal (i : grid0.Coords) :
    tbM0_0.view.readAt (Elt F) (Rect.unit (s := S52) (k0_off2 i) S1.size (k0_off2_inb i)).toLoadRect (tbl m 0) (Shape.Idx.first (numel1_S1.symm ▸ Nat.one_pos))
      = 0#32 := by
  rw [show tbl m 0 = (fun _ => 0#32) from V_table_Kernel6Ideal m 0]
  rfl

theorem fits_Kernel6Ideal : ∀ t : Fin grid0.N, k0_chk1 (grid0.coords t) 0#32 := by decide +kernel

theorem hyps_Kernel6Ideal : Hyps m trivial := fun _ t => by
  rw [word_Kernel6Ideal m (grid0.coords t)]
  exact fits_Kernel6Ideal t

end

theorem frame_kernel : Cert.quiescent_Kernel6 := fun m ρ _ => Cert.Kernel6.Gen.frame m ρ trivial (hyps_Kernel6 m)
theorem frame_kernelIdeal : Cert.quiescent_Kernel6Ideal := fun m ρ _ => Cert.Kernel6Ideal.Gen.frame m ρ trivial (hyps_Kernel6Ideal m)

/-- Entry `d` of head `h`'s weighted sum for the query in row `R`. -/
def head (s : (Shape.mk 1 ![16]).Idx → EReal) (q K V : (Shape.mk 2 ![33280, 512]).Idx → EReal) (R : Fin 33280) (h : Fin 4) (d : Fin 128) : EReal :=
  ∑ n : Fin 8320, if n.val < lim (R.val % 8320) then
    wt (bent (s (ix1 ⟨R.val / 8320 * 4 + h.val, by omega⟩)) fun l => q (ix2 R ⟨h.val * 128 + l.val, by omega⟩))
      (fun l => K (ix2 ⟨R.val / 8320 * 8320 + n.val, by omega⟩ ⟨h.val * 128 + l.val, by omega⟩))
      * V (ix2 ⟨R.val / 8320 * 8320 + n.val, by omega⟩ ⟨h.val * 128 + d.val, by omega⟩) else 0

/-- The heads' quotients, side by side. -/
def mixed (s : (Shape.mk 1 ![16]).Idx → EReal) (q K V : (Shape.mk 2 ![33280, 512]).Idx → EReal) (R : Fin 33280) (k : Fin 256) : EReal :=
  Ideal.div (head s q K V R ⟨k.val / 64, by omega⟩ ⟨k.val % 64, by omega⟩) (head s q K V R ⟨k.val / 64, by omega⟩ ⟨64, by omega⟩)

/-- The attention's rows, normed. -/
def attended (s : (Shape.mk 1 ![16]).Idx → EReal) (q K V : (Shape.mk 2 ![33280, 512]).Idx → EReal) (g : (Shape.mk 1 ![256]).Idx → EReal) :
    (Shape.mk 2 ![33280, 256]).Idx → EReal :=
  fun z => normed (mixed s q K V (z 0)) (fun j => g (ix1 j)) (z 1)

/-- The row of the array that a row of a point's tile is. -/
def rowOf (t : Fin 52) (r : Fin 640) : Fin 33280 := ⟨t.val * 640 + r.val, by omega⟩

section
open Cert.Kernel6Ideal Cert.Kernel6Ideal.Gen

theorem head_total (s : (Shape.mk 1 ![16]).Idx → EReal) (q K V : (Shape.mk 2 ![33280, 512]).Idx → EReal) (t : Fin 52) (r : Fin 640) (h : Fin 4) (d : Fin 128) :
    total (term (qrow s (fun z => q (ix2 (rowOf t (z 0)) (z 1))) (t.val / 13) h r)
        (fun z => K (ix2 ⟨t.val / 13 * 8320 + (z 0).val, by have h0 : (z 0).val < 8320 := (z 0).isLt; omega⟩ (z 1)))
        (fun z => V (ix2 ⟨t.val / 13 * 8320 + (z 0).val, by have h0 : (z 0).val < 8320 := (z 0).isLt; omega⟩ (z 1))) h d) (t.val % 13 * 640 + r.val)
      = head s q K V (rowOf t r) h d := by
  unfold total head
  have e1 : (rowOf t r).val % 8320 = t.val % 13 * 640 + r.val := by show (t.val * 640 + r.val) % 8320 = _; omega
  have e2 : (rowOf t r).val / 8320 = t.val / 13 := by show (t.val * 640 + r.val) / 8320 = _; omega
  refine (Finset.sum_range _).trans (Finset.sum_congr rfl fun n _ => ?_)
  rw [e1]
  refine congrArg (fun x => if n.val < lim (t.val % 13 * 640 + r.val) then x else 0) ?_
  unfold term qrow
  refine congrArg₂ (· * ·) (congrArg₂ wt (congrArg₂ bent ?_ rfl) (funext fun l => ?_)) ?_
  · unfold at1
    rw [dif_pos (by omega)]
    exact congrArg s (congrArg ix1 (Fin.ext (by show t.val / 13 * 4 + h.val = (rowOf t r).val / 8320 * 4 + h.val; rw [e2])))
  · unfold at2
    rw [dif_pos ⟨n.isLt, by omega⟩]
    exact congrArg K (congrArg₂ ix2 (Fin.ext (by show t.val / 13 * 8320 + n.val = (rowOf t r).val / 8320 * 8320 + n.val; rw [e2])) rfl)
  · unfold at2
    rw [dif_pos ⟨n.isLt, by omega⟩]
    exact congrArg V (congrArg₂ ix2 (Fin.ext (by show t.val / 13 * 8320 + n.val = (rowOf t r).val / 8320 * 8320 + n.val; rw [e2])) rfl)

theorem nums (t : Fin grid0.N) : Nums (grid0.coords t) where
  first := (by decide +kernel : ∀ t : Fin grid0.N, (k0_t1_loop (grid0.coords t) 0#32).trips = (grid0.coords t 1).val) t
  second := (by decide +kernel : ∀ t : Fin grid0.N, (k0_t2_loop (grid0.coords t) 0#32).trips = 0) t
  o3 := (by decide +kernel : ∀ t : Fin grid0.N, ∀ k, k0_off3 (grid0.coords t) 0#32 k 0 = 640 * k.val ∧ k0_off3 (grid0.coords t) 0#32 k 1 = 0) t
  o4 := (by decide +kernel : ∀ t : Fin grid0.N, ∀ k, k0_off4 (grid0.coords t) 0#32 k 0 = 640 * k.val ∧ k0_off4 (grid0.coords t) 0#32 k 1 = 128) t
  o5 := (by decide +kernel : ∀ t : Fin grid0.N, ∀ k, k0_off5 (grid0.coords t) 0#32 k 0 = 640 * k.val ∧ k0_off5 (grid0.coords t) 0#32 k 1 = 256) t
  o6 := (by decide +kernel : ∀ t : Fin grid0.N, ∀ k, k0_off6 (grid0.coords t) 0#32 k 0 = 640 * k.val ∧ k0_off6 (grid0.coords t) 0#32 k 1 = 384) t
  o11 := (by decide +kernel : ∀ t : Fin grid0.N, k0_off11 (grid0.coords t) 0 = (grid0.coords t 1).val * 640 ∧ k0_off11 (grid0.coords t) 1 = 0) t
  o12 := (by decide +kernel : ∀ t : Fin grid0.N, k0_off12 (grid0.coords t) 0 = (grid0.coords t 1).val * 640 ∧ k0_off12 (grid0.coords t) 1 = 128) t
  o13 := (by decide +kernel : ∀ t : Fin grid0.N, k0_off13 (grid0.coords t) 0 = (grid0.coords t 1).val * 640 ∧ k0_off13 (grid0.coords t) 1 = 256) t
  o14 := (by decide +kernel : ∀ t : Fin grid0.N, k0_off14 (grid0.coords t) 0 = (grid0.coords t 1).val * 640 ∧ k0_off14 (grid0.coords t) 1 = 384) t
  o15 := (by decide +kernel : ∀ t : Fin grid0.N, k0_off15 (grid0.coords t) 0 = (grid0.coords t 1).val * 640 ∧ k0_off15 (grid0.coords t) 1 = 0) t
  o16 := (by decide +kernel : ∀ t : Fin grid0.N, k0_off16 (grid0.coords t) 0 = (grid0.coords t 1).val * 640 ∧ k0_off16 (grid0.coords t) 1 = 128) t
  o17 := (by decide +kernel : ∀ t : Fin grid0.N, k0_off17 (grid0.coords t) 0 = (grid0.coords t 1).val * 640 ∧ k0_off17 (grid0.coords t) 1 = 256) t
  o18 := (by decide +kernel : ∀ t : Fin grid0.N, k0_off18 (grid0.coords t) 0 = (grid0.coords t 1).val * 640 ∧ k0_off18 (grid0.coords t) 1 = 384) t
  o1 := (by decide +kernel : ∀ t : Fin grid0.N, k0_off1 (grid0.coords t) 0#32 0 = (grid0.coords t 0).val * 4 + 0 ∧ k0_off1 (grid0.coords t) 1#32 0 = (grid0.coords t 0).val * 4 + 1
    ∧ k0_off1 (grid0.coords t) 2#32 0 = (grid0.coords t 0).val * 4 + 2 ∧ k0_off1 (grid0.coords t) 3#32 0 = (grid0.coords t 0).val * 4 + 3) t

theorem idx : ∀ t : Fin grid0.N, cc0_transform_0 (grid0.coords t) 0 = 0
    ∧ (cc0_transform_1 (grid0.coords t) 0 = t.val ∧ cc0_transform_1 (grid0.coords t) 1 = 0)
    ∧ (cc0_transform_2 (grid0.coords t) 0 = t.val / 13 ∧ cc0_transform_2 (grid0.coords t) 1 = 0)
    ∧ (cc0_transform_3 (grid0.coords t) 0 = t.val / 13 ∧ cc0_transform_3 (grid0.coords t) 1 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0)
    ∧ ((grid0.coords t 0).val = t.val / 13 ∧ (grid0.coords t 1).val = t.val % 13) := by decide +kernel

variable (m : (ℓ : Loc nD τ sig) → Buf (Elt Ideal) ℓ)

abbrev ss (c : Dev nD) : S16.Idx → EReal := m ((c : Thread nD τ).loc main_arg0)
abbrev qs (c : Dev nD) : S33280x512.Idx → EReal := m ((c : Thread nD τ).loc main_arg1)
abbrev ks (c : Dev nD) : S33280x512.Idx → EReal := m ((c : Thread nD τ).loc main_arg2)
abbrev vs (c : Dev nD) : S33280x512.Idx → EReal := m ((c : Thread nD τ).loc main_arg3)
abbrev gs (c : Dev nD) : S256.Idx → EReal := m ((c : Thread nD τ).loc main_arg4)

theorem V_v1 (c : Dev nD) : V m c main_v1 = shapeCast S1x256 (gs m c) shapeCasts_S256_S1x256 := by
  unfold V hostOps0
  after_results_simp <;> rfl

abbrev pt (hO : Ok m) (t : Fin (cfgM m hO).N) : Fin 52 := ⟨t.val, lt_of_lt_of_eq t.isLt (show (cfgM m hO).N = 52 from N_0)⟩

theorem blk0 (hO : Ok m) (c : Dev nD) (t : Fin (cfgM m hO).N) : (iblk m hO c 0 t : S16.Idx → EReal) = ss m c := by
  have e := (idx t).1
  refine funext fun (z : S16.Idx) => ?_
  refine Eq.trans ?_ (congrFun (V_main_arg0 m c) z)
  refine congrArg (V m c main_arg0) (funext fun a => Fin.ext ?_)
  match a with
  | ⟨0, _⟩ => show cc0_transform_0 (grid0.coords t) 0 * 16 + 1 * (z 0).val = (z 0).val; rw [e]; omega
theorem blk1 (hO : Ok m) (c : Dev nD) (t : Fin (cfgM m hO).N) :
    (iblk m hO c 1 t : S640x512.Idx → EReal) = fun z : S640x512.Idx => qs m c (ix2 (rowOf (pt m hO t) (z 0)) (z 1)) := by
  have e := (idx t).2.1
  refine funext fun (z : S640x512.Idx) => ?_
  refine Eq.trans ?_ (congrFun (V_main_arg1 m c) (ix2 (rowOf (pt m hO t) (z 0)) (z 1)))
  refine congrArg (V m c main_arg1) (funext fun a => Fin.ext ?_)
  match a with
  | ⟨0, _⟩ => show cc0_transform_1 (grid0.coords t) 0 * 640 + 1 * (z 0).val = t.val * 640 + (z 0).val; rw [e.1]; omega
  | ⟨1, _⟩ => show cc0_transform_1 (grid0.coords t) 1 * 512 + 1 * (z 1).val = (z 1).val; rw [e.2]; omega
theorem blk2 (hO : Ok m) (c : Dev nD) (t : Fin (cfgM m hO).N) : (iblk m hO c 2 t : S8320x512.Idx → EReal)
    = fun z : S8320x512.Idx => ks m c (ix2 ⟨(pt m hO t).val / 13 * 8320 + (z 0).val, by have h0 : (z 0).val < 8320 := (z 0).isLt; have := (pt m hO t).isLt; omega⟩ (z 1)) := by
  have e := (idx t).2.2.1
  refine funext fun (z : S8320x512.Idx) => ?_
  refine Eq.trans ?_ (congrFun (V_main_arg2 m c) _)
  refine congrArg (V m c main_arg2) (funext fun a => Fin.ext ?_)
  match a with
  | ⟨0, _⟩ => show cc0_transform_2 (grid0.coords t) 0 * 8320 + 1 * (z 0).val = t.val / 13 * 8320 + (z 0).val; rw [e.1]; omega
  | ⟨1, _⟩ => show cc0_transform_2 (grid0.coords t) 1 * 512 + 1 * (z 1).val = (z 1).val; rw [e.2]; omega
theorem blk3 (hO : Ok m) (c : Dev nD) (t : Fin (cfgM m hO).N) : (iblk m hO c 3 t : S8320x512.Idx → EReal)
    = fun z : S8320x512.Idx => vs m c (ix2 ⟨(pt m hO t).val / 13 * 8320 + (z 0).val, by have h0 : (z 0).val < 8320 := (z 0).isLt; have := (pt m hO t).isLt; omega⟩ (z 1)) := by
  have e := (idx t).2.2.2.1
  refine funext fun (z : S8320x512.Idx) => ?_
  refine Eq.trans ?_ (congrFun (V_main_arg3 m c) _)
  refine congrArg (V m c main_arg3) (funext fun a => Fin.ext ?_)
  match a with
  | ⟨0, _⟩ => show cc0_transform_3 (grid0.coords t) 0 * 8320 + 1 * (z 0).val = t.val / 13 * 8320 + (z 0).val; rw [e.1]; omega
  | ⟨1, _⟩ => show cc0_transform_3 (grid0.coords t) 1 * 512 + 1 * (z 1).val = (z 1).val; rw [e.2]; omega
theorem blk4 (hO : Ok m) (c : Dev nD) (t : Fin (cfgM m hO).N) (j : Fin 256) : (iblk m hO c 4 t : S1x256.Idx → EReal) (ix2 0 j) = gs m c (ix1 j) := by
  have e := (idx t).2.2.2.2.1
  refine Eq.trans ?_ ((congrFun (V_v1 m c) (ix2 0 j)).trans ?_)
  · refine congrArg (V m c main_v1) (funext fun a => Fin.ext ?_)
    match a with
    | ⟨0, _⟩ => show cc0_transform_4 (grid0.coords t) 0 * 1 + 1 * 0 = 0; rw [e.1]
    | ⟨1, _⟩ => show cc0_transform_4 (grid0.coords t) 1 * 256 + 1 * j.val = j.val; rw [e.2]; omega
  · pointwise
    exact congrArg (gs m c) (ix1_same j)

theorem tile_eq (hO : Ok m) (c : Dev nD) (t : Fin (cfgM m hO).N) (r : Fin 640) (k : Fin 256) :
    normed (quot (iblk m hO c 0 t) (iblk m hO c 1 t) (iblk m hO c 2 t) (iblk m hO c 3 t) (grid0.coords t 0).val ((grid0.coords t 1).val * 640 + r.val) r)
        (fun j => (iblk m hO c 4 t : S1x256.Idx → EReal) (ix2 0 j)) k
      = attended (ss m c) (qs m c) (ks m c) (vs m c) (gs m c) (ix2 (rowOf (pt m hO t) r) k) := by
  have e := (idx t).2.2.2.2.2.2
  rw [blk0, blk1, blk2, blk3, e.1, e.2]
  refine congrFun (congrArg₂ normed (funext fun j => ?_) (funext fun j => blk4 m hO c t j)) k
  exact congrArg₂ Ideal.div (head_total _ _ _ _ (pt m hO t) r _ _) (head_total _ _ _ _ (pt m hO t) r _ _)

theorem left (hO : Ok m) (hH : Hyps m hO) (c : Dev nD) (t : Fin (cfgM m hO).N) (r : Fin 640) (k : Fin 256) :
    (outsAt0 m hO hH c t.val t.isLt : S640x256.Idx → EReal) (ix2 r k)
      = attended (ss m c) (qs m c) (ks m c) (vs m c) (gs m c) (ix2 (rowOf (pt m hO t) r) k) := by
  have e := (idx t).2.2.2.2.2.2
  have hN := (pt m hO t).isLt
  by_cases h : t.val % 13 = 12
  · rw [outsAt0_B m hO hH c t (by omega) h]
    exact (leftB (hn := nums t) (hv := word_Kernel6Ideal m (grid0.coords t)) (hi := by rw [e.2]; omega) (r := r) (k := k) ..).trans (tile_eq m hO c t r k)
  · rw [outsAt0_A m hO hH c t (by omega) h]
    exact (leftA (hn := nums t) (hv := word_Kernel6Ideal m (grid0.coords t)) (hi := by rw [e.2]; omega) (r := r) (k := k) ..).trans (tile_eq m hO c t r k)

theorem covers (hO : Ok m) : ((cfgM m hO).win 5).Covers :=
  ⟨fun a => (by decide : ∀ a : Fin 2, 0 < S640x256.size a) a, fun β =>
    have h0 : (β (0 : Fin 2)).val < 52 := lt_of_lt_of_eq (β (0 : Fin 2)).isLt ((show ((cfgM m hO).win 5).nblk (0 : Fin 2) = (33280 + 640 - 1) / 640 from rfl).trans (by decide))
    have h1 : (β (1 : Fin 2)).val < 1 := lt_of_lt_of_eq (β (1 : Fin 2)).isLt ((show ((cfgM m hO).win 5).nblk (1 : Fin 2) = (256 + 256 - 1) / 256 from rfl).trans (by decide))
    have e := (idx ⟨(β (0 : Fin 2)).val, h0.trans_eq N_0.symm⟩).2.2.2.2.2.1
    ⟨⟨(β (0 : Fin 2)).val, h0.trans_eq (show 52 = (cfgM m hO).N from N_0.symm)⟩, flush0_5 _ _, fun a => ⟨match a with
      | ⟨0, _⟩ => e.1
      | ⟨1, _⟩ => e.2.trans (by have : (β (1 : Fin 2)).val = 0 := by omega
                                exact this.symm), Or.inl rfl⟩⟩⟩

theorem final (hO : Ok m) (hH : Hyps m hO) (c : Dev nD) :
    (dats m hO hH 0 c).arrAt 5 (cfgM m hO).N = attended (ss m c) (qs m c) (ks m c) (vs m c) (gs m c) := by
  refine (dats m hO hH 0 c).arrAt_eq_of_covers 5 _ ?_ fun t hf (y : S640x256.Idx) => ?_
  · exact covers m hO
  have e := (idx t).2.2.2.2.2.1
  show (dats m hO hH 0 c).after 5 t y = _
  rw [after0_5]
  refine (congrArg _ (Cert.Inproj.ix2_eta (a := 640) (b := 256) y)).trans ((left m hO hH c t (y 0) (y 1)).trans (congrArg _ (funext fun a => Fin.ext ?_)))
  match a with
  | ⟨0, _⟩ => show t.val * 640 + (y 0).val = cc0_transform_5 (grid0.coords t) 0 * 640 + 1 * (y 0).val; rw [e.1]; omega
  | ⟨1, _⟩ => show (y 1).val = cc0_transform_5 (grid0.coords t) 1 * 256 + 1 * (y 1).val; rw [e.2]; omega

theorem run (ρ : Dev nD → PrngReg) : θ_run defs (onTc (τ := τ) (main (F := Ideal))) ⟨m, fun _ => 0, ρ⟩ fun r => ∀ c : Dev nD,
      r.2.mem ((c.tc : Thread nD τ).loc main_v2) = attended (ss m c) (qs m c) (ks m c) (vs m c) (gs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c |>.1 5).trans (final m trivial (hyps_Kernel6Ideal m) c), h.2 c⟩)
    (θ_run_and (run_main m ρ trivial (hyps_Kernel6Ideal m)) (unchanged m ρ trivial (hyps_Kernel6Ideal m)))

end
end Cert.Attn
-- ==== Proof.AttnRef.lean ====
/- The latent attention: the reference's operations, its chunks and the lanes that the precondition sets. Untrusted. -/
module

public import proofs.«01_k».proof.Proof.Attn
public import proofs.«01_k».proof.Proof.Gen.Reference6Ideal.Run

@[expose] public section

set_option maxRecDepth 16384

noncomputable section

namespace Cert.Attn

open Idealize.ShloMosaic hiding ix1 ix2 ix3 ix4
open Idealize.ShloMosaic.TcCoe Idealize.ShloMosaic.ValueIdx Idealize.SL.Sem
open Cert.Inproj (ix2_same ix1_same hz2)

theorem ix4_same {a b c d : ℕ} (i : Fin a) (j : Fin b) (k : Fin c) (l : Fin d) :
    (Idealize.ShloMosaic.ix4 i j k l : (Shape.mk 4 ![a, b, c, d]).Idx) = ix4 i j k l :=
  funext fun x => match x with
  | ⟨0, _⟩ => rfl
  | ⟨1, _⟩ => rfl
  | ⟨2, _⟩ => rfl
  | ⟨3, _⟩ => rfl

/-- Two to a power, as the reference says it and as the kernel says it. -/
theorem pow_two (x : EReal) : Ideal.pow (Ideal.ofBits .f32 0x40000000#32) x = Ideal.exp2 x := by
  rw [show Ideal.ofBits .f32 0x40000000#32 = ((2 : ℝ) : EReal) from by simp [Ideal.ofBits, Ideal.ieee, -EReal.coe_mul] <;> norm_num]
  cases x with
  | bot => rw [Ideal.pow_coe_bot, if_neg (by norm_num), if_pos (by norm_num)]; rfl
  | top => rw [Ideal.pow_coe_top, if_neg (by norm_num), if_pos (by norm_num)]; rfl
  | coe r => rfl

theorem ofBits_256 : Ideal.ofBits .f32 0x43800000#32 = ((256 : ℝ) : EReal) := by
  simp [Ideal.ofBits, Ideal.ieee, -EReal.coe_mul] <;> norm_num
theorem ofBits_inv_256 : Ideal.ofBits .f32 0x3B800000#32 = ((256⁻¹ : ℝ) : EReal) := by
  simp [Ideal.ofBits, Ideal.ieee, -EReal.coe_mul]; norm_num
theorem div_256 (x : EReal) : Ideal.div x (Ideal.ofBits .f32 0x43800000#32) = x * Ideal.ofBits .f32 0x3B800000#32 := by
  rw [ofBits_256, ofBits_inv_256]
  unfold Ideal.div
  rw [if_neg (by norm_cast)]
  rfl

section
open Cert.Reference6Ideal Cert.Reference6Ideal.Gen

/-- A position's number of positions after the meta tokens. -/
def past : S8320.Idx → BitVec 32 := subi (iotaInDim S8320 32 0) (broadcastInDim S8320 ![] bcast_S_S8320 (constantI S_ 32 16#32))
/-- The chunks' numbers. -/
def cid : S8320.Idx → BitVec 32 :=
  select (cmpi .slt (iotaInDim S8320 32 0) (broadcastInDim S8320 ![] bcast_S_S8320 (constantI S_ 32 16#32)))
    (broadcastInDim S8320 ![] bcast_S_S8320 (id (constantI S_ 32 0#32)))
    (addi (broadcastInDim S8320 ![] bcast_S_S8320 (constantI S_ 32 1#32))
      (select (andi (cmpi .ne (signi past) (broadcastInDim S8320 ![] bcast_S_S8320 (signi (id (constantI S_ 32 64#32)))))
          (cmpi .ne (Host.remsi past (broadcastInDim S8320 ![] bcast_S_S8320 (id (constantI S_ 32 64#32)))) (broadcastInDim S8320 ![] bcast_S_S8320 (constantI S_ 32 0#32))))
        (subi (Host.divsi past (broadcastInDim S8320 ![] bcast_S_S8320 (id (constantI S_ 32 64#32)))) (broadcastInDim S8320 ![] bcast_S_S8320 (constantI S_ 32 1#32)))
        (Host.divsi past (broadcastInDim S8320 ![] bcast_S_S8320 (id (constantI S_ 32 64#32))))))
def seen : S4x4x8320x8320.Idx → BitVec 1 :=
  broadcastInDim S4x4x8320x8320 ![2, 3] bcast_S8320x8320_S4x4x8320x8320_2_3 (cmpi .sle
    (broadcastInDim S8320x8320 ![0, 1] bcast_S1x8320_S8320x8320_0_1 (broadcastInDim S1x8320 ![1] bcast_S8320_S1x8320_1 cid))
    (broadcastInDim S8320x8320 ![0, 1] bcast_S8320x1_S8320x8320_0_1 (broadcastInDim S8320x1 ![0] bcast_S8320_S8320x1_0 cid)))
/-- The heads of an argument. -/
def heads (a : S33280x512.Idx → EReal) : S4x4x8320x128.Idx → EReal :=
  transpose S4x4x8320x128 [0, 2, 1, 3] (shapeCast S4x8320x4x128 (extf (F := Ideal) (φ := .bf16) .f32 a bitsLt_bf16_f32) shapeCasts_S33280x512_S4x8320x4x128)
    transposes_S4x8320x4x128_S4x4x8320x128_0_2_1_3
def scores (s : S16.Idx → EReal) (q k : S33280x512.Idx → EReal) : S4x4x8320x8320.Idx → EReal :=
  subf (F := Ideal) (φ := .f32) (Host.dotGeneral (F := Ideal) (φ₁ := .f32) (φ₂ := .f32) dot_S4x4x8320x128_S4x4x8320x128_S4x4x8320x8320_3_3_2_2_01_01 none (heads q) (heads k))
    (broadcastInDim S4x4x8320x8320 ![0, 1, 2, 3] bcast_S4x4x1x1_S4x4x8320x8320_0_1_2_3 (broadcastInDim S4x4x1x1 ![0, 1] bcast_S4x4_S4x4x1x1_0_1
      (shapeCast S4x4 s shapeCasts_S16_S4x4)))
def weights (s : S16.Idx → EReal) (q k : S33280x512.Idx → EReal) : S4x4x8320x8320.Idx → EReal :=
  select seen (Host.powf (F := Ideal) (φ := .f32) (broadcastInDim S4x4x8320x8320 ![] bcast_S_S4x4x8320x8320 (constant S_ .f32 0x40000000#32)) (scores s q k))
    (broadcastInDim S4x4x8320x8320 ![] bcast_S_S4x4x8320x8320 (id (constant (F := Ideal) S_ .f32 0x00000000#32)))
def ratio (P : S4x4x8320x8320.Idx → EReal) (v : S33280x512.Idx → EReal) : S4x4x8320x64.Idx → EReal :=
  Host.divf (F := Ideal) (φ := .f32) (Host.dotGeneral (F := Ideal) (φ₁ := .f32) (φ₂ := .f32) dot_S4x4x8320x8320_S4x4x8320x64_S4x4x8320x64_3_2_2_3_01_01 none P
      (extractStridedSlice S4x4x8320x64 ![0, 0, 0, 0] (heads v) slices_S4x4x8320x128_S4x4x8320x64_0_0_0_0))
    (broadcastInDim S4x4x8320x64 ![0, 1, 2, 3] bcast_S4x4x8320x1_S4x4x8320x64_0_1_2_3 (broadcastInDim S4x4x8320x1 ![0, 1, 2] bcast_S4x4x8320_S4x4x8320x1_0_1_2
      (Host.reduceAdd (F := Ideal) (φ := .f32) P (constant S_ .f32 0x00000000#32) reducesTo_S4x4x8320x8320_S4x4x8320_d3 h_S_)))
def aligned (o : S4x4x8320x64.Idx → EReal) : S33280x256.Idx → EReal :=
  shapeCast S33280x256 (transpose S4x8320x4x64 [0, 2, 1, 3] o transposes_S4x4x8320x64_S4x8320x4x64_0_2_1_3) shapeCasts_S4x8320x4x64_S33280x256
def rows (h : S33280x256.Idx → EReal) (g : S256.Idx → EReal) : S33280x256.Idx → EReal :=
  mulf (F := Ideal) (φ := .f32) (mulf (F := Ideal) (φ := .f32) h (broadcastInDim S33280x256 ![0, 1] bcast_S33280x1_S33280x256_0_1
    (Host.rsqrt (F := Ideal) (φ := .f32) (addf (F := Ideal) (φ := .f32) (Host.divf (F := Ideal) (φ := .f32)
      (broadcastInDim S33280x1 ![0] bcast_S33280_S33280x1_0 (Host.reduceAdd (F := Ideal) (φ := .f32) (mulf (F := Ideal) (φ := .f32) h h) (constant S_ .f32 0x00000000#32) reducesTo_S33280x256_S33280_d1 h_S_))
      (broadcastInDim S33280x1 ![] bcast_S_S33280x1 (constant S_ .f32 0x43800000#32)))
      (broadcastInDim S33280x1 ![] bcast_S_S33280x1 (constant S_ .f32 0x358637BD#32))))))
    (broadcastInDim S33280x256 ![0, 1] bcast_S1x256_S33280x256_0_1 (broadcastInDim S1x256 ![1] bcast_S256_S1x256_1 g))

theorem result_eq (m : (ℓ : Loc nD τ sig) → Buf (Elt Ideal) ℓ) (c : Dev nD) :
    (Value.res_main_v52 (F := Ideal) m c : S33280x256.Idx → EReal)
      = rows (aligned (ratio (weights (m ((c : Thread nD τ).loc main_arg0)) (m ((c : Thread nD τ).loc main_arg1)) (m ((c : Thread nD τ).loc main_arg2)))
          (m ((c : Thread nD τ).loc main_arg3)))) (m ((c : Thread nD τ).loc main_arg4)) := by
  unfold Value.res_main_v52
  rfl

theorem rows_apply (h : S33280x256.Idx → EReal) (g : S256.Idx → EReal) (r : Fin 33280) (k : Fin 256) :
    rows h g (ix2 r k) = normed (fun i => h (ix2 r i)) (fun i => g (ix1 i)) k := by
  unfold rows
  pointwise
  unfold normed
  rw [div_256]
  refine congrArg₂ (· * ·) (congrArg (h (ix2 r k) * ·) (congrArg Ideal.rsqrt (congrArg (· + _) (congrArg (· * _) ?_)))) (congrArg g (ix1_same _))
  exact Finset.sum_congr rfl fun i _ => congrArg₂ (· * ·) (congrArg h (ix2_same _ _)) (congrArg h (ix2_same _ _))

theorem aligned_apply (o : S4x4x8320x64.Idx → EReal) (r : Fin 33280) (k : Fin 256) :
    aligned o (ix2 r k) = o (ix4 ⟨r.val / 8320, by omega⟩ ⟨k.val / 64, by omega⟩ ⟨r.val % 8320, by omega⟩ ⟨k.val % 64, by omega⟩) := by
  unfold aligned
  pointwise
  exact congrArg o (ix4_same _ _ _ _)

theorem heads_apply (a : S33280x512.Idx → EReal) (b h : Fin 4) (p : Fin 8320) (l : Fin 128) :
    heads a (ix4 b h p l) = a (ix2 ⟨b.val * 8320 + p.val, by omega⟩ ⟨h.val * 128 + l.val, by omega⟩) := by
  unfold heads
  pointwise
  exact congrArg a (ix2_same _ _)

theorem scores_apply (s : S16.Idx → EReal) (q k : S33280x512.Idx → EReal) (b h : Fin 4) (p n : Fin 8320) :
    scores s q k (ix4 b h p n) = (∑ l : Fin 128, heads q (ix4 b h p l) * heads k (ix4 b h n l)) - s (ix1 ⟨b.val * 4 + h.val, by omega⟩) := by
  unfold scores
  pointwise
  exact congrArg₂ (· - ·) (Finset.sum_congr rfl fun l _ => congrArg₂ (· * ·) (congrArg (heads q) (ix4_same _ _ _ _)) (congrArg (heads k) (ix4_same _ _ _ _)))
    (congrArg s (ix1_same _))

/-- A chunk's number as the reference's words compute it. -/
def cidWord (x : BitVec 32) : BitVec 32 :=
  Scalar.select (IntOp.cmpi .slt x 16#32) 0#32 (IntOp.addi 1#32 (Scalar.select
    (IntOp.andi (IntOp.cmpi .ne (if IntOp.subi x 16#32 = 0 then (0 : BitVec 32) else if (IntOp.subi x 16#32).msb = true then -1 else 1)
        (if 64#32 = 0 then (0 : BitVec 32) else if (64#32).msb = true then -1 else 1))
      (IntOp.cmpi .ne (IntOp.remsi ArithUnit.host (IntOp.subi x 16#32) 64#32) 0#32))
    (IntOp.subi (IntOp.divsi ArithUnit.host (IntOp.subi x 16#32) 64#32) 1#32)
    (IntOp.divsi ArithUnit.host (IntOp.subi x 16#32) 64#32)))

theorem cid_word : ∀ n : Fin 8320, cidWord (BitVec.ofNat 32 n.val) = BitVec.ofNat 32 (if n.val < 16 then 0 else 1 + (n.val - 16) / 64) := by decide +kernel

theorem cid_apply (n : Fin 8320) : cid (ix1 n) = BitVec.ofNat 32 (if n.val < 16 then 0 else 1 + (n.val - 16) / 64) := by
  unfold cid past
  pointwise
  exact cid_word n

theorem seen_apply (b h : Fin 4) (p n : Fin 8320) : seen (ix4 b h p n) = IntOp.cmpi .sle (cid (ix1 n)) (cid (ix1 p)) := by
  unfold seen
  pointwise
  exact congrArg₂ (IntOp.cmpi .sle) (congrArg cid (ix1_same _)) (congrArg cid (ix1_same _))

theorem sle_small : ∀ a b : Fin 131, IntOp.cmpi .sle (BitVec.ofNat 32 a.val) (BitVec.ofNat 32 b.val) = if a.val ≤ b.val then 1#1 else 0#1 := by decide +kernel

theorem seen_iff (b h : Fin 4) (p n : Fin 8320) : seen (ix4 b h p n) = 1#1 ↔ n.val < lim p.val := by
  rw [seen_apply, cid_apply, cid_apply]
  have e : ∀ x : Fin 8320, (if x.val < 16 then 0 else 1 + (x.val - 16) / 64) < 131 := fun x => by split <;> omega
  rw [sle_small ⟨_, e n⟩ ⟨_, e p⟩]
  unfold lim
  dsimp only
  by_cases hn : n.val < 16 <;> by_cases hp : p.val < 16
  all_goals simp only [hn, hp, if_true, if_false]
  all_goals split <;> simp <;> omega

theorem weights_apply (s : S16.Idx → EReal) (q k : S33280x512.Idx → EReal) (b h : Fin 4) (p n : Fin 8320) :
    weights s q k (ix4 b h p n) = if seen (ix4 b h p n) = 1#1 then Ideal.exp2 (scores s q k (ix4 b h p n)) else 0 := by
  unfold weights
  rw [← pow_two]
  pointwise
  show Scalar.select _ _ (Ideal.ofBits .f32 0x00000000#32) = _
  rw [show Ideal.ofBits .f32 0x00000000#32 = 0 from by simp [Ideal.ofBits, Ideal.ieee]]
  rfl

theorem ratio_apply (P : S4x4x8320x8320.Idx → EReal) (v : S33280x512.Idx → EReal) (b h : Fin 4) (p : Fin 8320) (d : Fin 64) :
    ratio P v (ix4 b h p d) = Ideal.div (∑ n : Fin 8320, P (ix4 b h p n) * heads v (ix4 b h n ⟨d.val, by omega⟩)) (∑ n : Fin 8320, P (ix4 b h p n)) := by
  unfold ratio
  pointwise
  exact congrArg₂ Ideal.div (Finset.sum_congr rfl fun l _ => congrArg₂ (· * ·) (congrArg P (ix4_same _ _ _ _)) (congrArg (heads v) (ix4_same _ _ _ _)))
    (Finset.sum_congr rfl fun l _ => congrArg P (ix4_same _ _ _ _))

end
end Cert.Attn
-- ==== Proof.Attend.lean ====
/- The latent attention: with the lanes that the precondition sets, the kernel's sums are the reference's. Untrusted. -/
module

public import proofs.«01_k».proof.Proof.AttnKer
public import proofs.«01_k».proof.Proof.AttnRef
public import proofs.«01_k».proof.Proof.Gen.Pre_lanes_set

@[expose] public section

set_option maxRecDepth 16384

noncomputable section

namespace Cert.Attn

open Idealize.ShloMosaic hiding ix1 ix2 ix3 ix4
open Idealize.ShloMosaic.TcCoe Idealize.ShloMosaic.ValueIdx Idealize.SL.Sem
open Cert.Inproj (ix2_same ix1_same hz2)

/-- What the precondition says of the lanes: a query's lane of the shift is 0, a key's is 1, a value's lane of ones is 1. -/
structure Lanes (q K V : (Shape.mk 2 ![33280, 512]).Idx → EReal) : Prop where
  q0 : ∀ (R : Fin 33280) (h : Fin 4), q (ix2 R ⟨h.val * 128 + 100, by omega⟩) = 0
  k1 : ∀ (R : Fin 33280) (h : Fin 4), K (ix2 R ⟨h.val * 128 + 100, by omega⟩) = 1
  v1 : ∀ (R : Fin 33280) (h : Fin 4), V (ix2 R ⟨h.val * 128 + 64, by omega⟩) = 1

theorem eq_of_bit {x y : EReal} (h : BitVec.ofBool (decide (x = y)) = 1#1) : x = y := by
  by_contra hn
  rw [decide_eq_false hn] at h
  exact absurd h (by decide)

theorem one_bf16 : Ideal.ofBits .bf16 0x3F80#16 = 1 := by
  simp [Ideal.ofBits, Ideal.ieee, -EReal.coe_mul] <;> norm_num
theorem zero_bf16 : Ideal.ofBits .bf16 0x0000#16 = 0 := by simp [Ideal.ofBits, Ideal.ieee]

section
open Cert.Pre_lanes_set Cert.Pre_lanes_set.Gen

theorem lane100 (a : S33280x512.Idx → EReal) (w : BitVec 16) (R : Fin 33280) (h : Fin 4)
    (e : cmpf (F := Ideal) (φ := .bf16) .oeq (shapeCast S33280x4 (extractStridedSlice S33280x4x1 ![0, 0, 100]
        (shapeCast S33280x4x128 a shapeCasts_S33280x512_S33280x4x128) slices_S33280x4x128_S33280x4x1_0_0_100) shapeCasts_S33280x4x1_S33280x4)
      (broadcastInDim S33280x4 ![] bcast_S_S33280x4 (constant S_ .bf16 w)) = fun _ => 1#1) :
    a (ix2 R ⟨h.val * 128 + 100, by omega⟩) = Ideal.ofBits .bf16 w := by
  have e' := congrFun e (ix2 R h)
  revert e'
  pointwise
  exact fun e' => (congrArg a (ix2_same _ _).symm).trans (eq_of_bit e')

theorem lane64 (a : S33280x512.Idx → EReal) (w : BitVec 16) (R : Fin 33280) (h : Fin 4)
    (e : cmpf (F := Ideal) (φ := .bf16) .oeq (shapeCast S33280x4 (extractStridedSlice S33280x4x1 ![0, 0, 64]
        (shapeCast S33280x4x128 a shapeCasts_S33280x512_S33280x4x128) slices_S33280x4x128_S33280x4x1_0_0_64) shapeCasts_S33280x4x1_S33280x4)
      (broadcastInDim S33280x4 ![] bcast_S_S33280x4 (constant S_ .bf16 w)) = fun _ => 1#1) :
    a (ix2 R ⟨h.val * 128 + 64, by omega⟩) = Ideal.ofBits .bf16 w := by
  have e' := congrFun e (ix2 R h)
  revert e'
  pointwise
  exact fun e' => (congrArg a (ix2_same _ _).symm).trans (eq_of_bit e')

theorem lanes_of_fn (s : S16.Idx → EReal) (q k v : S33280x512.Idx → EReal) (g : S256.Idx → EReal)
    (hp : (Cert.Pre_lanes_set.fn (F := Ideal) s q k v g).1 = (fun _ => 1#1) ∧ (Cert.Pre_lanes_set.fn (F := Ideal) s q k v g).2.1 = (fun _ => 1#1)
      ∧ (Cert.Pre_lanes_set.fn (F := Ideal) s q k v g).2.2 = (fun _ => 1#1)) : Lanes q k v :=
  ⟨fun R h => (lane100 q _ R h hp.1).trans zero_bf16, fun R h => (lane100 k _ R h hp.2.1).trans one_bf16, fun R h => (lane64 v _ R h hp.2.2).trans one_bf16⟩

end

theorem bent_sum (s : EReal) (q k : Fin 128 → EReal) (hq : q 100 = 0) (hk : k 100 = 1) :
    (∑ l : Fin 128, bent s q l * k l) = (∑ l : Fin 128, q l * k l) - s := by
  have e : ∀ l : Fin 128, bent s q l * k l = q l * k l + if l = 100 then 0 - s else 0 := fun l => by
    unfold bent
    by_cases h : l = 100
    · subst h
      rw [if_pos (by decide), if_pos rfl, hk, hq, mul_one, mul_one, zero_add]
    · rw [if_neg (show ¬l.val = 100 from fun h' => h (Fin.ext h')), if_neg h, add_zero]
  rw [Finset.sum_congr rfl fun l _ => e l, Finset.sum_add_distrib, Finset.sum_ite_eq' Finset.univ (100 : Fin 128), if_pos (Finset.mem_univ _), sub_eq_add_neg, zero_add,
    ← sub_eq_add_neg]

section
open Cert.Reference6Ideal Cert.Reference6Ideal.Gen

theorem weight_eq (s : S16.Idx → EReal) (q K V : S33280x512.Idx → EReal) (hl : Lanes q K V) (R : Fin 33280) (h : Fin 4) (n : Fin 8320) :
    weights s q K (ix4 ⟨R.val / 8320, by omega⟩ h ⟨R.val % 8320, by omega⟩ n)
      = if n.val < lim (R.val % 8320) then
          wt (bent (s (ix1 ⟨R.val / 8320 * 4 + h.val, by omega⟩)) fun l => q (ix2 R ⟨h.val * 128 + l.val, by omega⟩))
            (fun l => K (ix2 ⟨R.val / 8320 * 8320 + n.val, by omega⟩ ⟨h.val * 128 + l.val, by omega⟩)) else 0 := by
  rw [weights_apply]
  refine if_congr (seen_iff _ _ _ _) ?_ rfl
  unfold wt
  rw [bent_sum _ _ _ (hl.q0 R h) (hl.k1 _ h), scores_apply]
  refine congrArg Ideal.exp2 (congrArg (· - _) (Finset.sum_congr rfl fun l _ => ?_))
  rw [heads_apply, heads_apply]
  refine congrArg (· * _) (congrArg q (congrArg₂ ix2 (Fin.ext ?_) rfl))
  show R.val / 8320 * 8320 + R.val % 8320 = R.val
  omega

theorem head_eq (s : S16.Idx → EReal) (q K V : S33280x512.Idx → EReal) (hl : Lanes q K V) (R : Fin 33280) (h : Fin 4) (d : Fin 128) :
    head s q K V R h d = ∑ n : Fin 8320, weights s q K (ix4 ⟨R.val / 8320, by omega⟩ h ⟨R.val % 8320, by omega⟩ n) * heads V (ix4 ⟨R.val / 8320, by omega⟩ h n d) := by
  unfold head
  refine Finset.sum_congr rfl fun n _ => ?_
  rw [weight_eq s q K V hl R h n, heads_apply]
  split
  · rfl
  · exact (zero_mul _).symm

theorem head_ones (s : S16.Idx → EReal) (q K V : S33280x512.Idx → EReal) (hl : Lanes q K V) (R : Fin 33280) (h : Fin 4) :
    head s q K V R h ⟨64, by omega⟩ = ∑ n : Fin 8320, weights s q K (ix4 ⟨R.val / 8320, by omega⟩ h ⟨R.val % 8320, by omega⟩ n) := by
  rw [head_eq s q K V hl]
  refine Finset.sum_congr rfl fun n _ => ?_
  rw [heads_apply]
  exact (congrArg _ (hl.v1 _ h)).trans (mul_one _)

theorem attended_eq (s : S16.Idx → EReal) (q K V : S33280x512.Idx → EReal) (g : S256.Idx → EReal) (hl : Lanes q K V) :
    rows (aligned (ratio (weights s q K) V)) g = attended s q K V g := by
  funext z
  refine (congrArg _ (Cert.Inproj.ix2_eta z)).trans ((rows_apply _ g (z 0) (z 1)).trans ?_)
  refine congrFun (congrArg (fun x => normed x _) (funext fun k => ?_)) (z 1)
  refine (aligned_apply _ (z 0) k).trans ((ratio_apply _ V _ _ _ _).trans ?_)
  exact congrArg₂ Ideal.div (head_eq s q K V hl (z 0) _ ⟨k.val % 64, by omega⟩).symm (head_ones s q K V hl (z 0) _).symm

end

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_kernelIdeal_pre : Cert.quiescent_Kernel6Ideal_pre_lanes_set := fun m ρ _ => frame_kernelIdeal m ρ trivial
theorem frame_reference_pre : Cert.quiescent_Reference6Ideal_pre_lanes_set := fun m ρ _ => frame_reference m ρ trivial

theorem value : Cert.algebraic_Kernel6Ideal_Reference6Ideal_pre_lanes_set := fun m ρ m' ρ' hp hm =>
  ⟨fun c => attended (ss m c) (qs m c) (ks m c) (vs m c) (gs m c), run m ρ,
    (θ_run Cert.Reference6Ideal.defs _ _).mono (fun r h c => by
        obtain ⟨h0, hk⟩ := h c
        obtain rfl : c = 0 := Subsingleton.elim (α := Fin 1) _ _
        obtain ⟨a0, a1, a2, a3, a4⟩ := hm 0
        rw [result_eq, a0, a1, a2, a3, a4] at h0
        exact ⟨h0.trans (attended_eq _ _ _ _ _ (lanes_of_fn _ _ _ _ _ (hp 0))), hk⟩)
      (Cert.Reference6Ideal.Value.run (F := Ideal) m' ρ')⟩

end Cert.Attn
-- ==== Proof.Fox.lean ====
/- The forgetting attention's kernel: what each payload holds at an entry, and what its loops leave in the accumulators. Untrusted. -/
module

import all proofs.«01_k».proof.Proof.Gen.Kernel7Ideal.Frame
public import proofs.«01_k».proof.Proof.Gen.Kernel7Ideal.Frame
public import proofs.«01_k».proof.Proof.AttnAcc

@[expose] public section

set_option maxRecDepth 16384

noncomputable section

namespace Cert.Fox

open Idealize.ShloMosaic hiding ix1 ix2 ix3
open Idealize.ShloMosaic.TcCoe Idealize.ShloMosaic.ValueIdx Idealize.SL.Sem
open Cert.Inproj (ix2_same ix1_same hz2)
open Cert.Attn (ix3_same wt wtIf wtIf_mul bent at2 term normed pos_word less_word)

section
open Cert.Kernel7Ideal Cert.Kernel7Ideal.Gen

/-- A step over 640 keys, nothing hidden. -/
theorem pay2_apply (q : S1x640x128.Idx → EReal) (k v : S640x128.Idx → EReal) (acc : S1x640x128.Idx → EReal) (r : Fin 640) (d : Fin 128) :
    (k0_pay2 (F := Ideal) q k acc v) (ix3 0 r d)
      = acc (ix3 0 r d) + ∑ x : Fin 640, wt (fun l => q (ix3 0 r l)) (fun l => k (ix2 x l)) * v (ix2 x d) :=
  Cert.Attn.pay2_apply q k v acc r d

/-- A step over 640 keys, some of them hidden. -/
theorem pay16_apply (b : S640x640.Idx → BitVec 1) (q : S1x640x128.Idx → EReal) (k v : S640x128.Idx → EReal) (acc : S1x640x128.Idx → EReal)
    (r : Fin 640) (d : Fin 128) :
    (k0_pay16 (F := Ideal) b q k acc v) (ix3 0 r d)
      = acc (ix3 0 r d) + ∑ x : Fin 640, wtIf (b (ix2 r x)) (fun l => q (ix3 0 r l)) (fun l => k (ix2 x l)) * v (ix2 x d) :=
  Cert.Attn.pay24_apply b q k v acc r d

theorem pay25_apply (s : EReal) (q : S640x128.Idx → EReal) (r : Fin 640) (l : Fin 128) :
    (k0_pay25 (F := Ideal) s q) (ix3 0 r l) = bent s (fun l => q (ix2 r l)) l := Cert.Attn.pay27_apply s q r l

theorem pay32_apply (z : S4x640x128.Idx) : (k0_pay32 (F := Ideal)) z = 0 := Cert.Attn.pay35_apply z

/-- The head's quotient. -/
theorem pay42_apply (a : S1x640x128.Idx → EReal) (r : Fin 640) (d : Fin 64) :
    (k0_pay42 (F := Ideal) a) (ix2 r d) = Ideal.div (a (ix3 0 r ⟨d.val, by omega⟩)) (a (ix3 0 r ⟨64, by omega⟩)) := Cert.Attn.pay42_apply a r d

theorem pay1_apply (a : S640x256.Idx → EReal) (g : S1x256.Idx → EReal) (r : Fin 640) (k : Fin 256) :
    (k0_pay1 (F := Ideal) (k0_pay44 a g)) (ix2 r k) = normed (fun i => a (ix2 r i)) (fun i => g (ix2 0 i)) k := Cert.Attn.pay1_apply a g r k

/-- The position after the query's own, as a word. -/
theorem pay24_apply (i : grid0.Coords) (r : Fin 640) :
    (k0_pay24 i) (ix2 r 0) = BitVec.ofNat 32 ((i 1).val * 640 + r.val + 1) := by
  unfold k0_pay24
  pointwise
  refine (congrArg (IntOp.addi · 1#32) (pos_word (i 1).val r.val)).trans ?_
  exact (BitVec.ofNat_add ((i 1).val * 640 + r.val) 1).symm

theorem pay12_apply (i : grid0.Coords) (y : S640x1.Idx → BitVec 32) (w : BitVec 32) (k : Fin (k0_t3_loop i).trips) (r x : Fin 640) :
    (k0_pay12 i y w 1#32 k) (ix2 r x) = IntOp.cmpi .slt (Scalar.muli (Scf.iv w 1#32 k) 640#32 + BitVec.ofNat 32 x.val) (y (ix2 r 0)) := by
  unfold k0_pay12
  pointwise
  exact congrArg (IntOp.cmpi .slt _) (congrArg y (ix2_same _ _))

theorem read_tile {N : ℕ} {sp : Space} (v : View sig .tc sp S8320x512 .bf16) (f : v.ty.Contents (Elt Ideal)) (off : Fin 2 → ℕ)
    (inb : ∀ a, off a + (Shape.mk 2 ![N, 128]).size a ≤ S8320x512.size a) (x : Fin N) (l : Fin 128) :
    v.readAt (Elt Ideal) (Rect.unit (s := S8320x512) off (Shape.mk 2 ![N, 128]).size inb).toLoadRect f (ix2 x l)
      = at2 (v.read (Elt Ideal) f) (off 0 + x.val) (off 1 + l.val) := by
  have h0 : off 0 + N ≤ 8320 := inb 0
  have h1 : off 1 + 128 ≤ 512 := inb 1
  unfold at2
  rw [dif_pos ⟨by omega, by omega⟩, View.readAt_apply]
  refine congrArg (v.read (Elt Ideal) f) (funext fun a => Fin.ext ?_)
  match a with
  | ⟨0, _⟩ => show off 0 + 1 * x.val = off 0 + x.val; omega
  | ⟨1, _⟩ => show off 1 + 1 * l.val = off 1 + l.val; omega

theorem read_slab {e : EltTy} {sp : Space} (v : View sig .tc sp S4x640x128 e) (f : v.ty.Contents (Elt Ideal)) (h : Fin 4)
    (inb : ∀ a, (![h.val, 0, 0] : Fin 3 → ℕ) a + S1x640x128.size a ≤ S4x640x128.size a) (r : Fin 640) (l : Fin 128) :
    v.readAt (Elt Ideal) (Rect.unit (s := S4x640x128) ![h.val, 0, 0] S1x640x128.size inb).toLoadRect f (ix3 0 r l)
      = v.read (Elt Ideal) f (ix3 h r l) := by
  rw [View.readAt_apply]
  refine congrArg (v.read (Elt Ideal) f) (funext fun a => Fin.ext ?_)
  match a with
  | ⟨0, _⟩ => show h.val + 0 * 1 = h.val; omega
  | ⟨1, _⟩ => show 0 + 1 * r.val = r.val; omega
  | ⟨2, _⟩ => show 0 + 1 * l.val = l.val; omega

theorem slab_hit {e : EltTy} {sp : Space} (v : View sig .tc sp S4x640x128 e) (f : v.ty.Contents (Elt Ideal)) (h : Fin 4)
    (inb : ∀ a, (![h.val, 0, 0] : Fin 3 → ℕ) a + S1x640x128.size a ≤ S4x640x128.size a) (w : S1x640x128.Idx → Elt Ideal e)
    (L : List (View.Piece (Elt Ideal) S4x640x128 e)) (r : Fin 640) (l : Fin 128) :
    v.read (Elt Ideal) (v.writes (Elt Ideal) f (⟨Rect.unit (s := S4x640x128) ![h.val, 0, 0] S1x640x128.size inb, w⟩ :: L)) (ix3 h r l)
      = w (ix3 0 r l) := by
  refine Eq.trans (congrArg _ ?_) (View.read_writes_cons_emb v f (Rect.unit (s := S4x640x128) ![h.val, 0, 0] S1x640x128.size inb) w L (ix3 0 r l))
  refine funext fun a => Fin.ext ?_
  match a with
  | ⟨0, _⟩ => show h.val = h.val + 0 * 1; omega
  | ⟨1, _⟩ => show r.val = 0 + 1 * r.val; omega
  | ⟨2, _⟩ => show l.val = 0 + 1 * l.val; omega

theorem slab_skip {e : EltTy} {sp : Space} (v : View sig .tc sp S4x640x128 e) (f : v.ty.Contents (Elt Ideal)) (h' h : Fin 4) (hne : h.val ≠ h'.val)
    (inb : ∀ a, (![h'.val, 0, 0] : Fin 3 → ℕ) a + S1x640x128.size a ≤ S4x640x128.size a) (w : S1x640x128.Idx → Elt Ideal e)
    (L : List (View.Piece (Elt Ideal) S4x640x128 e)) (r : Fin 640) (l : Fin 128) :
    v.read (Elt Ideal) (v.writes (Elt Ideal) f (⟨Rect.unit (s := S4x640x128) ![h'.val, 0, 0] S1x640x128.size inb, w⟩ :: L)) (ix3 h r l)
      = v.read (Elt Ideal) (v.writes (Elt Ideal) f L) (ix3 h r l) := by
  refine View.read_slice_write_of_not_mem (Rect.unit (s := S4x640x128) ![h'.val, 0, 0] S1x640x128.size inb) _ _ _ ?_
  rw [Rect.map_emb_univ]
  intro hm
  obtain ⟨x, hx⟩ := (Rect.unit (s := S4x640x128) ![h'.val, 0, 0] S1x640x128.size inb).exists_idx_of_mem hm
  have e0 : h'.val + 1 * (x 0).val = h.val := congrArg (fun z : S4x640x128.Idx => (z 0).val) hx
  have e1 : (x 0).val < 1 := (x 0).isLt
  omega

/-- One step's effect on one accumulator, by the four numbers of its tile. -/
theorem step_eq {sp5 sp6 sp12 sp10 : Space} (v5 : View sig .tc sp5 S8320x512 .bf16) (X5 : v5.ty.Contents (Elt Ideal))
    (v6 : View sig .tc sp6 S8320x512 .bf16) (X6 : v6.ty.Contents (Elt Ideal))
    (v12 : View sig .tc sp12 S4x640x128 .bf16) (X12 : v12.ty.Contents (Elt Ideal))
    (v10 : View sig .tc sp10 S4x640x128 .f32) (f : v10.ty.Contents (Elt Ideal)) (h : Fin 4) (b : ℕ)
    (inb : ∀ a, (![h.val, 0, 0] : Fin 3 → ℕ) a + S1x640x128.size a ≤ S4x640x128.size a)
    (off : Fin 2 → ℕ) (ho : off 0 = b ∧ off 1 = h.val * 128) (inb' : ∀ a, off a + S640x128.size a ≤ S8320x512.size a) (r : Fin 640) (d : Fin 128) :
    k0_pay2 (F := Ideal) (v12.readAt (Elt Ideal) (Rect.unit (s := S4x640x128) ![h.val, 0, 0] S1x640x128.size inb).toLoadRect X12)
        (v5.readAt (Elt Ideal) (Rect.unit (s := S8320x512) off S640x128.size inb').toLoadRect X5)
        (v10.readAt (Elt Ideal) (Rect.unit (s := S4x640x128) ![h.val, 0, 0] S1x640x128.size inb).toLoadRect f)
        (v6.readAt (Elt Ideal) (Rect.unit (s := S8320x512) off S640x128.size inb').toLoadRect X6) (ix3 0 r d)
      = v10.read (Elt Ideal) f (ix3 h r d)
        + ∑ x : Fin 640, term (fun l => v12.read (Elt Ideal) X12 (ix3 h r l)) (v5.read (Elt Ideal) X5) (v6.read (Elt Ideal) X6) h d (b + x.val) := by
  refine (pay2_apply _ _ _ _ r d).trans (congrArg₂ (· + ·) (read_slab v10 f h inb r d) (Finset.sum_congr rfl fun x _ => ?_))
  unfold term
  refine congrArg₂ (· * ·) (congrArg₂ wt (funext fun l => read_slab v12 X12 h inb r l) (funext fun l => ?_)) ?_
  · refine (read_tile (N := 640) v5 X5 off inb' x l).trans ?_
    rw [ho.1, ho.2]
  · refine (read_tile (N := 640) v6 X6 off inb' x d).trans ?_
    rw [ho.1, ho.2]

/-- The same with some of the keys hidden. -/
theorem hide_eq {sp5 sp6 sp12 sp10 : Space} (v5 : View sig .tc sp5 S8320x512 .bf16) (X5 : v5.ty.Contents (Elt Ideal))
    (v6 : View sig .tc sp6 S8320x512 .bf16) (X6 : v6.ty.Contents (Elt Ideal))
    (v12 : View sig .tc sp12 S4x640x128 .bf16) (X12 : v12.ty.Contents (Elt Ideal))
    (v10 : View sig .tc sp10 S4x640x128 .f32) (f : v10.ty.Contents (Elt Ideal)) (h : Fin 4) (b : ℕ)
    (m : S640x640.Idx → BitVec 1) (hm : ∀ r x : Fin 640, m (ix2 r x) = 1#1 ↔ x.val ≤ r.val)
    (inb : ∀ a, (![h.val, 0, 0] : Fin 3 → ℕ) a + S1x640x128.size a ≤ S4x640x128.size a)
    (off : Fin 2 → ℕ) (ho : off 0 = b ∧ off 1 = h.val * 128) (inb' : ∀ a, off a + S640x128.size a ≤ S8320x512.size a) (r : Fin 640) (d : Fin 128) :
    k0_pay16 (F := Ideal) m (v12.readAt (Elt Ideal) (Rect.unit (s := S4x640x128) ![h.val, 0, 0] S1x640x128.size inb).toLoadRect X12)
        (v5.readAt (Elt Ideal) (Rect.unit (s := S8320x512) off S640x128.size inb').toLoadRect X5)
        (v10.readAt (Elt Ideal) (Rect.unit (s := S4x640x128) ![h.val, 0, 0] S1x640x128.size inb).toLoadRect f)
        (v6.readAt (Elt Ideal) (Rect.unit (s := S8320x512) off S640x128.size inb').toLoadRect X6) (ix3 0 r d)
      = v10.read (Elt Ideal) f (ix3 h r d)
        + ∑ x : Fin 640, if x.val ≤ r.val then
            term (fun l => v12.read (Elt Ideal) X12 (ix3 h r l)) (v5.read (Elt Ideal) X5) (v6.read (Elt Ideal) X6) h d (b + x.val) else 0 := by
  refine (pay16_apply _ _ _ _ _ r d).trans (congrArg₂ (· + ·) (read_slab v10 f h inb r d) (Finset.sum_congr rfl fun x _ => ?_))
  refine (wtIf_mul _ _ _ _ _ (hm r x)).trans (congrArg (fun y => if x.val ≤ r.val then y else 0) ?_)
  unfold term
  refine congrArg₂ (· * ·) (congrArg₂ wt (funext fun l => read_slab v12 X12 h inb r l) (funext fun l => ?_)) ?_
  · refine (read_tile (N := 640) v5 X5 off inb' x l).trans ?_
    rw [ho.1, ho.2]
  · refine (read_tile (N := 640) v6 X6 off inb' x d).trans ?_
    rw [ho.1, ho.2]

section
variable (𝒱 : Variants) (c : Dev nD) (bd : Option 𝒱.V) (i : grid0.Coords) (arg2 : Memref sig .tc .smem S52 .i32) (harg2 : arg2.IsWhole) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (v1 : BitVec 32) (v7 : IVec S640x1 32) (v25 : BitVec 32) (v46 : BitVec 32) (v116 : FVec Ideal S640x128 .bf16) (v125 : Elt Ideal .i32) (k0_hw1 : k0_chk1 i v125) (X_arg5 : BufTy.Contents (Elt Ideal) arg5.view.ty) (X_arg6 : BufTy.Contents (Elt Ideal) arg6.view.ty) (X_arg12 : BufTy.Contents (Elt Ideal) arg12.view.ty) (G_arg10 : BufTy.Contents (Elt Ideal) arg10.view.ty) (a : ℕ)

theorem trip_read (h0 : ∀ k, k0_off3 i v125 k 0 = 640 * (a + k.val) ∧ k0_off3 i v125 k 1 = 0) (h1 : ∀ k, k0_off4 i v125 k 0 = 640 * (a + k.val) ∧ k0_off4 i v125 k 1 = 128) (h2 : ∀ k, k0_off5 i v125 k 0 = 640 * (a + k.val) ∧ k0_off5 i v125 k 1 = 256) (h3 : ∀ k, k0_off6 i v125 k 0 = 640 * (a + k.val) ∧ k0_off6 i v125 k 1 = 384)
    (k : Fin (k0_t1_loop i v125).trips) (f : BufTy.Contents (Elt Ideal) arg10.view.ty) (h : Fin 4) (r : Fin 640) (d : Fin 128) :
    arg10.view.read (Elt Ideal) (arg10.view.writes (Elt Ideal) f (tripL_k0_t1 (F := Ideal) 𝒱 c bd i arg2 harg2 arg3 harg3 arg4 harg4 arg5 harg5 arg6 harg6 arg7 harg7 arg8 harg8 arg9 harg9 arg10 harg10 arg11 harg11 arg12 harg12 v1 v7 v25 v46 v116 v125 k0_hw1 X_arg5 X_arg6 X_arg12 k f)) (ix3 h r d)
      = arg10.view.read (Elt Ideal) f (ix3 h r d)
        + ∑ x : Fin 640, term (fun l => arg12.view.read (Elt Ideal) X_arg12 (ix3 h r l)) (arg5.view.read (Elt Ideal) X_arg5)
            (arg6.view.read (Elt Ideal) X_arg6) h d (640 * (a + k.val) + x.val) := by
  unfold tripL_k0_t1 trip_k0_t1
  match h with
  | ⟨0, _⟩ =>
    refine (slab_skip arg10.view f 3 0 (by decide) _ _ _ r d).trans ((slab_skip arg10.view f 2 0 (by decide) _ _ _ r d).trans ((slab_skip arg10.view f 1 0 (by decide) _ _ _ r d).trans ((slab_hit arg10.view f 0 _ _ _ r d).trans ?_)))
    exact step_eq arg5.view X_arg5 arg6.view X_arg6 arg12.view X_arg12 arg10.view f 0 (640 * (a + k.val)) _ _ (h0 k) _ r d
  | ⟨1, _⟩ =>
    refine (slab_skip arg10.view f 3 1 (by decide) _ _ _ r d).trans ((slab_skip arg10.view f 2 1 (by decide) _ _ _ r d).trans ((slab_hit arg10.view f 1 _ _ _ r d).trans ?_))
    exact step_eq arg5.view X_arg5 arg6.view X_arg6 arg12.view X_arg12 arg10.view f 1 (640 * (a + k.val)) _ _ (h1 k) _ r d
  | ⟨2, _⟩ =>
    refine (slab_skip arg10.view f 3 2 (by decide) _ _ _ r d).trans ((slab_hit arg10.view f 2 _ _ _ r d).trans ?_)
    exact step_eq arg5.view X_arg5 arg6.view X_arg6 arg12.view X_arg12 arg10.view f 2 (640 * (a + k.val)) _ _ (h2 k) _ r d
  | ⟨3, _⟩ =>
    refine (slab_hit arg10.view f 3 _ _ _ r d).trans ?_
    exact step_eq arg5.view X_arg5 arg6.view X_arg6 arg12.view X_arg12 arg10.view f 3 (640 * (a + k.val)) _ _ (h3 k) _ r d

theorem trips_read (h0 : ∀ k, k0_off3 i v125 k 0 = 640 * (a + k.val) ∧ k0_off3 i v125 k 1 = 0) (h1 : ∀ k, k0_off4 i v125 k 0 = 640 * (a + k.val) ∧ k0_off4 i v125 k 1 = 128) (h2 : ∀ k, k0_off5 i v125 k 0 = 640 * (a + k.val) ∧ k0_off5 i v125 k 1 = 256) (h3 : ∀ k, k0_off6 i v125 k 0 = 640 * (a + k.val) ∧ k0_off6 i v125 k 1 = 384)
    (k : ℕ) (hk : k ≤ (k0_t1_loop i v125).trips) (h : Fin 4) (r : Fin 640) (d : Fin 128) :
    arg10.view.read (Elt Ideal) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 arg12 harg12 v1 v7 v25 v46 v116 v125 k0_hw1 X_arg5 X_arg6 X_arg12 G_arg10 k)) (ix3 h r d)
      = arg10.view.read (Elt Ideal) G_arg10 (ix3 h r d)
        + ∑ n ∈ Finset.range (640 * k), term (fun l => arg12.view.read (Elt Ideal) X_arg12 (ix3 h r l)) (arg5.view.read (Elt Ideal) X_arg5)
            (arg6.view.read (Elt Ideal) X_arg6) h d (640 * a + n) := by
  induction k with
  | zero => exact (add_zero _).symm
  | succ k ih =>
    rw [show k + 1 = (⟨k, hk⟩ : Fin (k0_t1_loop i v125).trips).val + 1 from rfl, pb_k0_t1_succ, View.writes_append]
    refine (trip_read 𝒱 c bd i arg2 harg2 arg3 harg3 arg4 harg4 arg5 harg5 arg6 harg6 arg7 harg7 arg8 harg8 arg9 harg9 arg10 harg10 arg11 harg11 arg12 harg12 v1 v7 v25 v46 v116 v125 k0_hw1 X_arg5 X_arg6 X_arg12 a h0 h1 h2 h3 ⟨k, hk⟩ _ h r d).trans ?_
    rw [ih (by omega), add_assoc, show 640 * (k + 1) = 640 * k + 640 from by omega, Finset.sum_range_add,
      ← Finset.sum_range (f := fun x => term (fun l => arg12.view.read (Elt Ideal) X_arg12 (ix3 h r l)) (arg5.view.read (Elt Ideal) X_arg5)
            (arg6.view.read (Elt Ideal) X_arg6) h d (640 * (a + k) + x))]
    simp only [mul_add, add_assoc]

end

section
variable (𝒱 : Variants) (c : Dev nD) (bd : Option 𝒱.V) (i : grid0.Coords) (arg2 : Memref sig .tc .smem S52 .i32) (harg2 : arg2.IsWhole) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole) (v1 : BitVec 32) (v7 : IVec S640x1 32) (v25 : BitVec 32) (v46 : BitVec 32) (v116 : FVec Ideal S640x128 .bf16) (X_arg5 : BufTy.Contents (Elt Ideal) arg5.view.ty) (X_arg6 : BufTy.Contents (Elt Ideal) arg6.view.ty) (X_arg12 : BufTy.Contents (Elt Ideal) arg12.view.ty) (G_arg10 : BufTy.Contents (Elt Ideal) arg10.view.ty)

theorem last_read (b : ℕ) (h0 : ∀ k, k0_off11 i k 0 = b ∧ k0_off11 i k 1 = 0) (h1 : ∀ k, k0_off12 i k 0 = b ∧ k0_off12 i k 1 = 128) (h2 : ∀ k, k0_off13 i k 0 = b ∧ k0_off13 i k 1 = 256) (h3 : ∀ k, k0_off14 i k 0 = b ∧ k0_off14 i k 1 = 384)
    (hm : ∀ k, ∀ r x : Fin 640, k0_pay12 i v7 v25 1#32 k (ix2 r x) = 1#1 ↔ x.val ≤ r.val)
    (k : Fin (k0_t3_loop i).trips) (f : BufTy.Contents (Elt Ideal) arg10.view.ty) (h : Fin 4) (r : Fin 640) (d : Fin 128) :
    arg10.view.read (Elt Ideal) (arg10.view.writes (Elt Ideal) f (tripL_k0_t3 (F := Ideal) 𝒱 c bd i arg2 harg2 arg3 harg3 arg4 harg4 arg5 harg5 arg6 harg6 arg7 harg7 arg8 harg8 arg9 harg9 arg10 harg10 arg11 harg11 arg12 harg12 v1 v7 v25 v46 v116 X_arg5 X_arg6 X_arg12 k f)) (ix3 h r d)
      = arg10.view.read (Elt Ideal) f (ix3 h r d)
        + ∑ x : Fin 640, if x.val ≤ r.val then term (fun l => arg12.view.read (Elt Ideal) X_arg12 (ix3 h r l)) (arg5.view.read (Elt Ideal) X_arg5)
            (arg6.view.read (Elt Ideal) X_arg6) h d (b + x.val) else 0 := by
  unfold tripL_k0_t3 trip_k0_t3
  match h with
  | ⟨0, _⟩ =>
    refine (slab_skip arg10.view f 3 0 (by decide) _ _ _ r d).trans ((slab_skip arg10.view f 2 0 (by decide) _ _ _ r d).trans ((slab_skip arg10.view f 1 0 (by decide) _ _ _ r d).trans ((slab_hit arg10.view f 0 _ _ _ r d).trans ?_)))
    exact hide_eq arg5.view X_arg5 arg6.view X_arg6 arg12.view X_arg12 arg10.view f 0 b _ (hm k) _ _ (h0 k) _ r d
  | ⟨1, _⟩ =>
    refine (slab_skip arg10.view f 3 1 (by decide) _ _ _ r d).trans ((slab_skip arg10.view f 2 1 (by decide) _ _ _ r d).trans ((slab_hit arg10.view f 1 _ _ _ r d).trans ?_))
    exact hide_eq arg5.view X_arg5 arg6.view X_arg6 arg12.view X_arg12 arg10.view f 1 b _ (hm k) _ _ (h1 k) _ r d
  | ⟨2, _⟩ =>
    refine (slab_skip arg10.view f 3 2 (by decide) _ _ _ r d).trans ((slab_hit arg10.view f 2 _ _ _ r d).trans ?_)
    exact hide_eq arg5.view X_arg5 arg6.view X_arg6 arg12.view X_arg12 arg10.view f 2 b _ (hm k) _ _ (h2 k) _ r d
  | ⟨3, _⟩ =>
    refine (slab_hit arg10.view f 3 _ _ _ r d).trans ?_
    exact hide_eq arg5.view X_arg5 arg6.view X_arg6 arg12.view X_arg12 arg10.view f 3 b _ (hm k) _ _ (h3 k) _ r d

theorem diag_read (b : ℕ) (h0 : ∀ k, k0_off11 i k 0 = b ∧ k0_off11 i k 1 = 0) (h1 : ∀ k, k0_off12 i k 0 = b ∧ k0_off12 i k 1 = 128) (h2 : ∀ k, k0_off13 i k 0 = b ∧ k0_off13 i k 1 = 256) (h3 : ∀ k, k0_off14 i k 0 = b ∧ k0_off14 i k 1 = 384)
    (hm : ∀ k, ∀ r x : Fin 640, k0_pay12 i v7 v25 1#32 k (ix2 r x) = 1#1 ↔ x.val ≤ r.val)
    (n : ℕ) (hn : n = 1) (ht : (k0_t3_loop i).trips = 1) (h : Fin 4) (r : Fin 640) (d : Fin 128) :
    arg10.view.read (Elt Ideal) (arg10.view.writes (Elt Ideal) G_arg10 (pb_k0_t3 (F := Ideal) 𝒱 c bd i arg2 harg2 arg3 harg3 arg4 harg4 arg5 harg5 arg6 harg6 arg7 harg7 arg8 harg8 arg9 harg9 arg10 harg10 arg11 harg11 arg12 harg12 v1 v7 v25 v46 v116 X_arg5 X_arg6 X_arg12 G_arg10 n)) (ix3 h r d)
      = arg10.view.read (Elt Ideal) G_arg10 (ix3 h r d)
        + ∑ x : Fin 640, if x.val ≤ r.val then term (fun l => arg12.view.read (Elt Ideal) X_arg12 (ix3 h r l)) (arg5.view.read (Elt Ideal) X_arg5)
            (arg6.view.read (Elt Ideal) X_arg6) h d (b + x.val) else 0 := by
  subst hn
  rw [show 1 = (⟨0, ht ▸ Nat.one_pos⟩ : Fin (k0_t3_loop i).trips).val + 1 from rfl, pb_k0_t3_succ, View.writes_append]
  exact last_read 𝒱 c bd i arg2 harg2 arg3 harg3 arg4 harg4 arg5 harg5 arg6 harg6 arg7 harg7 arg8 harg8 arg9 harg9 arg10 harg10 arg11 harg11 arg12 harg12 v1 v7 v25 v46 v116 X_arg5 X_arg6 X_arg12 b h0 h1 h2 h3 hm ⟨0, ht ▸ Nat.one_pos⟩ _ h r d

end
end
end Cert.Fox
-- ==== Proof.FoxOut.lean ====
/- What the forgetting attention leaves of a tile of queries: the heads' quotients side by side, normed. Untrusted. -/
module

import all proofs.«01_k».proof.Proof.Gen.Kernel7Ideal.Frame
public import proofs.«01_k».proof.Proof.AttnOut
public import proofs.«01_k».proof.Proof.Fox

@[expose] public section

set_option maxRecDepth 16384

noncomputable section

namespace Cert.Fox

open Idealize.ShloMosaic hiding ix1 ix2 ix3
open Idealize.ShloMosaic.TcCoe Idealize.ShloMosaic.ValueIdx Idealize.SL.Sem
open Cert.Inproj (ix2_same ix1_same hz2)
open Cert.Attn (ix3_same wt bent at1 at2 term normed qrow less_word)

/-- What the keys from block `a` up to the query's own position `p` add up to. -/
def total (f : ℕ → EReal) (a p : ℕ) : EReal := ∑ n ∈ Finset.range 8320, if 640 * a ≤ n ∧ n ≤ p then f n else 0

theorem total_split (f : ℕ → EReal) (a b r : ℕ) (ha : a ≤ b) (hb : b < 13) (hr : r < 640) :
    ∑ n ∈ Finset.range (640 * (b - a)), f (640 * a + n) + ∑ x : Fin 640, (if x.val ≤ r then f (640 * b + x.val) else 0)
      = total f a (b * 640 + r) := by
  unfold total
  rw [show 8320 = 640 * a + (640 * (b - a) + (640 + (8320 - 640 * b - 640))) from by omega, Finset.sum_range_add, Finset.sum_range_add, Finset.sum_range_add,
    ← Finset.sum_range (f := fun x => if x ≤ r then f (640 * b + x) else 0)]
  refine Eq.trans ?_ ((zero_add _).symm.trans (congrArg (· + _) (Finset.sum_eq_zero fun n hn => if_neg ?_).symm))
  · refine congrArg₂ (· + ·) (Finset.sum_congr rfl fun n hn => (if_pos ?_).symm) ((Finset.sum_congr rfl fun n hn => ?_).trans ((add_zero _).symm.trans (congrArg (_ + ·) ?_)))
    · have := Finset.mem_range.mp hn
      omega
    · have := Finset.mem_range.mp hn
      rw [show 640 * a + (640 * (b - a) + n) = 640 * b + n from by omega]
      exact if_congr (by omega) rfl rfl
    · refine (Finset.sum_eq_zero fun n hn => if_neg ?_).symm
      omega
  · have := Finset.mem_range.mp hn
    omega

/-- The heads' quotients of the query at position `p`, side by side. -/
def quot (s : (Shape.mk 1 ![16]).Idx → EReal) (q : (Shape.mk 2 ![640, 512]).Idx → EReal) (K V : (Shape.mk 2 ![8320, 512]).Idx → EReal)
    (b a p : ℕ) (r : Fin 640) (k : Fin 256) : EReal :=
  Ideal.div (total (term (qrow s q b ⟨k.val / 64, by omega⟩ r) K V ⟨k.val / 64, by omega⟩ ⟨k.val % 64, by omega⟩) a p)
    (total (term (qrow s q b ⟨k.val / 64, by omega⟩ r) K V ⟨k.val / 64, by omega⟩ ⟨64, by omega⟩) a p)

theorem quot_at (s : (Shape.mk 1 ![16]).Idx → EReal) (q : (Shape.mk 2 ![640, 512]).Idx → EReal) (K V : (Shape.mk 2 ![8320, 512]).Idx → EReal)
    (b a p : ℕ) (r : Fin 640) (h : Fin 4) (d : Fin 64) (k : Fin 256) (hk : k.val = h.val * 64 + d.val) :
    Ideal.div (total (term (qrow s q b h r) K V h ⟨d.val, by omega⟩) a p) (total (term (qrow s q b h r) K V h ⟨64, by omega⟩) a p) = quot s q K V b a p r k := by
  unfold quot
  have e1 : (⟨k.val / 64, by omega⟩ : Fin 4) = h := Fin.ext (by show k.val / 64 = h.val; omega)
  have e2 : (⟨k.val % 64, by omega⟩ : Fin 128) = ⟨d.val, by omega⟩ := Fin.ext (by show k.val % 64 = d.val; omega)
  rw [e1, e2]

section
open Cert.Kernel7Ideal Cert.Kernel7Ideal.Gen

theorem read_one {sp : Space} (v : View sig .tc sp S16 .f32) (f : v.ty.Contents (Elt Ideal)) (off : Fin 1 → ℕ)
    (inb : ∀ a, off a + S1.size a ≤ S16.size a) (z : S1.Idx) :
    v.readAt (Elt Ideal) (Rect.unit (s := S16) off S1.size inb).toLoadRect f z = at1 (v.read (Elt Ideal) f) (off 0) := by
  have h0 : off 0 + 1 ≤ 16 := inb 0
  have hz : (z 0).val < 1 := (z 0).isLt
  unfold at1
  rw [dif_pos (by omega), View.readAt_apply]
  refine congrArg (v.read (Elt Ideal) f) (funext fun a => Fin.ext ?_)
  match a with
  | ⟨0, _⟩ => show off 0 + 1 * (z 0).val = off 0; omega

theorem read_lanes {sp : Space} (v : View sig .tc sp S640x512 .bf16) (f : v.ty.Contents (Elt Ideal)) (h : Fin 4)
    (o : ℕ) (ho : o = h.val * 128) (inb : ∀ a, (![0, o] : Fin 2 → ℕ) a + S640x128.size a ≤ S640x512.size a) (r : Fin 640) (l : Fin 128) :
    v.readAt (Elt Ideal) (Rect.unit (s := S640x512) ![0, o] S640x128.size inb).toLoadRect f (ix2 r l)
      = v.read (Elt Ideal) f (ix2 r ⟨h.val * 128 + l.val, by omega⟩) := by
  subst ho
  rw [View.readAt_apply]
  refine congrArg (v.read (Elt Ideal) f) (funext fun a => Fin.ext ?_)
  match a with
  | ⟨0, _⟩ => show 0 + 1 * r.val = r.val; omega
  | ⟨1, _⟩ => show h.val * 128 + 1 * l.val = h.val * 128 + l.val; omega

theorem read_all {n m : ℕ} {e : EltTy} {sp : Space} (v : View sig .tc sp (Shape.mk 2 ![n, m]) e) (f : v.ty.Contents (Elt Ideal))
    (inb : ∀ a, (![0, 0] : Fin 2 → ℕ) a + (Shape.mk 2 ![n, m]).size a ≤ (Shape.mk 2 ![n, m]).size a) (r : Fin n) (k : Fin m) :
    v.readAt (Elt Ideal) (Rect.unit (s := Shape.mk 2 ![n, m]) ![0, 0] (Shape.mk 2 ![n, m]).size inb).toLoadRect f (ix2 r k)
      = v.read (Elt Ideal) f (ix2 r k) := by
  rw [View.readAt_apply]
  refine congrArg (v.read (Elt Ideal) f) (funext fun a => Fin.ext ?_)
  match a with
  | ⟨0, _⟩ => show 0 + 1 * r.val = r.val; omega
  | ⟨1, _⟩ => show 0 + 1 * k.val = k.val; omega

theorem write_all {n m : ℕ} {e : EltTy} {sp : Space} (v : View sig .tc sp (Shape.mk 2 ![n, m]) e) (f : v.ty.Contents (Elt Ideal))
    (inb : ∀ a, (![0, 0] : Fin 2 → ℕ) a + (Shape.mk 2 ![n, m]).size a ≤ (Shape.mk 2 ![n, m]).size a) (w : (Shape.mk 2 ![n, m]).Idx → Elt Ideal e)
    (r : Fin n) (k : Fin m) :
    v.read (Elt Ideal) (v.writes (Elt Ideal) f [⟨Rect.unit (s := Shape.mk 2 ![n, m]) ![0, 0] (Shape.mk 2 ![n, m]).size inb, w⟩]) (ix2 r k) = w (ix2 r k) := by
  refine Eq.trans (congrArg _ ?_) (View.read_writes_cons_emb v f (Rect.unit (s := Shape.mk 2 ![n, m]) ![0, 0] (Shape.mk 2 ![n, m]).size inb) w [] (ix2 r k))
  refine funext fun a => Fin.ext ?_
  match a with
  | ⟨0, _⟩ => show r.val = 0 + 1 * r.val; omega
  | ⟨1, _⟩ => show k.val = 0 + 1 * k.val; omega

theorem col_hit {sp : Space} (v : View sig .tc sp S640x256 .f32) (f : v.ty.Contents (Elt Ideal)) (o : ℕ)
    (inb : ∀ a, (![0, o] : Fin 2 → ℕ) a + S640x64.size a ≤ S640x256.size a) (w : S640x64.Idx → EReal)
    (L : List (View.Piece (Elt Ideal) S640x256 .f32)) (r : Fin 640) (d : Fin 64) (k : Fin 256) (hk : k.val = o + d.val) :
    v.read (Elt Ideal) (v.writes (Elt Ideal) f (⟨Rect.unit (s := S640x256) ![0, o] S640x64.size inb, w⟩ :: L)) (ix2 r k) = w (ix2 r d) := by
  refine Eq.trans (congrArg _ ?_) (View.read_writes_cons_emb v f (Rect.unit (s := S640x256) ![0, o] S640x64.size inb) w L (ix2 r d))
  refine funext fun a => Fin.ext ?_
  match a with
  | ⟨0, _⟩ => show r.val = 0 + 1 * r.val; omega
  | ⟨1, _⟩ => show k.val = o + 1 * d.val; omega

theorem col_skip {sp : Space} (v : View sig .tc sp S640x256 .f32) (f : v.ty.Contents (Elt Ideal)) (o : ℕ)
    (inb : ∀ a, (![0, o] : Fin 2 → ℕ) a + S640x64.size a ≤ S640x256.size a) (w : S640x64.Idx → EReal)
    (L : List (View.Piece (Elt Ideal) S640x256 .f32)) (r : Fin 640) (k : Fin 256) (hk : k.val < o) :
    v.read (Elt Ideal) (v.writes (Elt Ideal) f (⟨Rect.unit (s := S640x256) ![0, o] S640x64.size inb, w⟩ :: L)) (ix2 r k)
      = v.read (Elt Ideal) (v.writes (Elt Ideal) f L) (ix2 r k) := by
  refine View.read_slice_write_of_not_mem (Rect.unit (s := S640x256) ![0, o] S640x64.size inb) _ _ _ ?_
  rw [Rect.map_emb_univ]
  intro hm
  obtain ⟨x, hx⟩ := (Rect.unit (s := S640x256) ![0, o] S640x64.size inb).exists_idx_of_mem hm
  have e : o + 1 * (x 1).val = k.val := congrArg (fun z : S640x256.Idx => (z 1).val) hx
  omega

/-- The quotient of a head's accumulator. -/
theorem head_quot {sp : Space} (v10 : View sig .tc sp S4x640x128 .f32) (f : v10.ty.Contents (Elt Ideal)) (h : Fin 4)
    (inb : ∀ a, (![h.val, 0, 0] : Fin 3 → ℕ) a + S1x640x128.size a ≤ S4x640x128.size a)
    (s : S16.Idx → EReal) (q : S640x512.Idx → EReal) (K V : S8320x512.Idx → EReal) (b a p : ℕ) (r : Fin 640)
    (ha : ∀ d : Fin 128, v10.read (Elt Ideal) f (ix3 h r d) = total (term (qrow s q b h r) K V h d) a p)
    (d : Fin 64) (k : Fin 256) (hk : k.val = h.val * 64 + d.val) :
    (k0_pay42 (F := Ideal) (v10.readAt (Elt Ideal) (Rect.unit (s := S4x640x128) ![h.val, 0, 0] S1x640x128.size inb).toLoadRect f)) (ix2 r d)
      = quot s q K V b a p r k :=
  (pay42_apply _ r d).trans ((congrArg₂ Ideal.div ((read_slab v10 f h inb r _).trans (ha _)) ((read_slab v10 f h inb r _).trans (ha _))).trans
    (quot_at s q K V b a p r h d k hk))

/-- What the four loops leave, where the second and the fourth make no trips. -/
theorem after_loops {s : Shape} {e : EltTy} {sp : Space} (v : View sig .tc sp s e) (f : v.ty.Contents (Elt Ideal)) (P4 P3 P2 P1 L : List (View.Piece (Elt Ideal) s e))
    (z : s.Idx) (y : Elt Ideal e) (e4 : P4 = [])
    (e3 : v.read (Elt Ideal) (v.writes (Elt Ideal) (v.writes (Elt Ideal) f (P2 ++ (P1 ++ L))) P3) z = y) :
    v.read (Elt Ideal) (v.writes (Elt Ideal) f (P4 ++ (P3 ++ (P2 ++ (P1 ++ L))))) z = y := by
  subst e4
  rw [List.nil_append, View.writes_append]
  exact e3

theorem after_two {s : Shape} {e : EltTy} {sp : Space} (v : View sig .tc sp s e) (f : v.ty.Contents (Elt Ideal)) (P2 P1 L : List (View.Piece (Elt Ideal) s e))
    (z : s.Idx) (y : Elt Ideal e) (e2 : P2 = []) (e1 : v.read (Elt Ideal) (v.writes (Elt Ideal) (v.writes (Elt Ideal) f L) P1) z = y) :
    v.read (Elt Ideal) (v.writes (Elt Ideal) f (P2 ++ (P1 ++ L))) z = y := by
  subst e2
  rw [List.nil_append, View.writes_append]
  exact e1

/-- The numbers of a point of the grid whose first block is number `a`. -/
structure Nums (i : grid0.Coords) (a : ℕ) : Prop where
  le : a ≤ (i 1).val
  first : (k0_t1_loop i (BitVec.ofNat 32 a)).trips = (i 1).val - a
  second : (k0_t2_loop i (BitVec.ofNat 32 a)).trips = 0
  third : (k0_t3_loop i).trips = 1
  fourth : (k0_t4_loop i).trips = 0
  iv : ∀ k, Scalar.muli (Scf.iv (kernelRun0_A.sl.v25 i) 1#32 (k : Fin (k0_t3_loop i).trips)) 640#32 = BitVec.ofNat 32 (640 * (i 1).val)
  o3 : ∀ k, k0_off3 i (BitVec.ofNat 32 a) k 0 = 640 * (a + k.val) ∧ k0_off3 i (BitVec.ofNat 32 a) k 1 = 0
  o4 : ∀ k, k0_off4 i (BitVec.ofNat 32 a) k 0 = 640 * (a + k.val) ∧ k0_off4 i (BitVec.ofNat 32 a) k 1 = 128
  o5 : ∀ k, k0_off5 i (BitVec.ofNat 32 a) k 0 = 640 * (a + k.val) ∧ k0_off5 i (BitVec.ofNat 32 a) k 1 = 256
  o6 : ∀ k, k0_off6 i (BitVec.ofNat 32 a) k 0 = 640 * (a + k.val) ∧ k0_off6 i (BitVec.ofNat 32 a) k 1 = 384
  o11 : ∀ k, k0_off11 i k 0 = 640 * (i 1).val ∧ k0_off11 i k 1 = 0
  o12 : ∀ k, k0_off12 i k 0 = 640 * (i 1).val ∧ k0_off12 i k 1 = 128
  o13 : ∀ k, k0_off13 i k 0 = 640 * (i 1).val ∧ k0_off13 i k 1 = 256
  o14 : ∀ k, k0_off14 i k 0 = 640 * (i 1).val ∧ k0_off14 i k 1 = 384
  o1 : k0_off1 i 0#32 0 = (i 0).val * 4 + 0 ∧ k0_off1 i 1#32 0 = (i 0).val * 4 + 1 ∧ k0_off1 i 2#32 0 = (i 0).val * 4 + 2 ∧ k0_off1 i 3#32 0 = (i 0).val * 4 + 3

theorem Nums.off3 {i : grid0.Coords} {a : ℕ} (hn : Nums i a) (v : BitVec 32) (hv : v = BitVec.ofNat 32 a) :
    ∀ k, k0_off3 i v k 0 = 640 * (a + k.val) ∧ k0_off3 i v k 1 = 0 := by subst hv; exact hn.o3
theorem Nums.off4 {i : grid0.Coords} {a : ℕ} (hn : Nums i a) (v : BitVec 32) (hv : v = BitVec.ofNat 32 a) :
    ∀ k, k0_off4 i v k 0 = 640 * (a + k.val) ∧ k0_off4 i v k 1 = 128 := by subst hv; exact hn.o4
theorem Nums.off5 {i : grid0.Coords} {a : ℕ} (hn : Nums i a) (v : BitVec 32) (hv : v = BitVec.ofNat 32 a) :
    ∀ k, k0_off5 i v k 0 = 640 * (a + k.val) ∧ k0_off5 i v k 1 = 256 := by subst hv; exact hn.o5
theorem Nums.off6 {i : grid0.Coords} {a : ℕ} (hn : Nums i a) (v : BitVec 32) (hv : v = BitVec.ofNat 32 a) :
    ∀ k, k0_off6 i v k 0 = 640 * (a + k.val) ∧ k0_off6 i v k 1 = 384 := by subst hv; exact hn.o6
theorem Nums.trips1 {i : grid0.Coords} {a : ℕ} (hn : Nums i a) (v : BitVec 32) (hv : v = BitVec.ofNat 32 a) :
    (k0_t1_loop i v).trips = (i 1).val - a := by subst hv; exact hn.first
theorem Nums.trips2 {i : grid0.Coords} {a : ℕ} (hn : Nums i a) (v : BitVec 32) (hv : v = BitVec.ofNat 32 a) :
    Scf.trips (k0_t2_loop i v).lb (k0_t2_loop i v).ub (k0_t2_loop i v).st = 0 := by subst hv; exact hn.second
theorem Nums.trips3 {i : grid0.Coords} {a : ℕ} (hn : Nums i a) : Scf.trips (k0_t3_loop i).lb (k0_t3_loop i).ub (k0_t3_loop i).st = 1 := hn.third
theorem Nums.trips4 {i : grid0.Coords} {a : ℕ} (hn : Nums i a) : Scf.trips (k0_t4_loop i).lb (k0_t4_loop i).ub (k0_t4_loop i).st = 0 := hn.fourth

theorem Nums.mask {i : grid0.Coords} {a : ℕ} (hn : Nums i a) (k : Fin (k0_t3_loop i).trips) (r x : Fin 640) :
    k0_pay12 i (k0_pay24 i) (kernelRun0_A.sl.v25 i) 1#32 k (ix2 r x) = 1#1 ↔ x.val ≤ r.val := by
  have hi : (i 1).val < 13 := (i 1).isLt
  rw [pay12_apply, pay24_apply i r, hn.iv k]
  exact (less_word _ _ _ (by omega) (by omega)).trans (by omega)

theorem zeros_read {sp : Space} (v : View sig .tc sp S4x640x128 .f32) (f : v.ty.Contents (Elt Ideal))
    (inb : ∀ a, (![0, 0, 0] : Fin 3 → ℕ) a + S4x640x128.size a ≤ S4x640x128.size a) (z : S4x640x128.Idx) :
    v.read (Elt Ideal) (v.writes (Elt Ideal) f [⟨Rect.unit (s := S4x640x128) ![0, 0, 0] S4x640x128.size inb, k0_pay32 (F := Ideal)⟩]) z = 0 := by
  refine Eq.trans (congrArg _ ?_) ((View.read_writes_cons_emb v f (Rect.unit (s := S4x640x128) ![0, 0, 0] S4x640x128.size inb) (k0_pay32 (F := Ideal)) [] z).trans (pay32_apply z))
  refine funext fun a => Fin.ext ?_
  match a with
  | ⟨0, _⟩ => show (z 0).val = 0 + 1 * (z 0).val; omega
  | ⟨1, _⟩ => show (z 1).val = 0 + 1 * (z 1).val; omega
  | ⟨2, _⟩ => show (z 2).val = 0 + 1 * (z 2).val; omega

section
variable (c : Dev nD) (i : grid0.Coords) (arg3 : Memref sig .tc .smem S16 .f32) (harg3 : arg3.IsWhole) (arg4 : Memref sig .tc .vmem S640x512 .bf16) (harg4 : arg4.IsWhole) (arg5 : Memref sig .tc .vmem S8320x512 .bf16) (harg5 : arg5.IsWhole) (arg6 : Memref sig .tc .vmem S8320x512 .bf16) (harg6 : arg6.IsWhole) (arg7 : Memref sig .tc .vmem S1x256 .f32) (harg7 : arg7.IsWhole) (arg8 : Memref sig .tc .vmem S640x256 .bf16) (harg8 : arg8.IsWhole) (arg9 : Memref sig .tc .vmem S4x640x128 .f32) (harg9 : arg9.IsWhole) (arg10 : Memref sig .tc .vmem S4x640x128 .f32) (harg10 : arg10.IsWhole) (arg11 : Memref sig .tc .vmem S640x256 .f32) (harg11 : arg11.IsWhole) (arg12 : Memref sig .tc .vmem S4x640x128 .bf16) (harg12 : arg12.IsWhole)
    (x0 : Vec Ideal S16 .f32) (x1 : Vec Ideal S640x512 .bf16) (x2 : Vec Ideal S8320x512 .bf16) (x3 : Vec Ideal S8320x512 .bf16) (x4 : Vec Ideal S1x256 .f32) (xt0 : TbBuf0 (F := Ideal) c tbM0_0) (k0_hw1 : k0_chk1 i (tbM0_0.view.readAt (Elt Ideal) (Rect.unit (s := S52) (k0_off2 i) S1.size (k0_off2_inb i)).toLoadRect xt0 (Shape.Idx.first (numel1_S1.symm ▸ Nat.one_pos)))) (a : ℕ)

theorem qs_read (hn : Nums i a) (h : Fin 4) (r : Fin 640) :
    (fun l => arg12.view.read (Elt Ideal) (arg12.view.writes (Elt Ideal) arg12.view.junk (kernelRun0_A.sl.HS3_4 (F := Ideal) c i arg3 harg3 arg4 harg4 x0 x1)) (ix3 h r l)) = qrow x0 x1 (i 0).val h r := by
  have k0 : arg3.view.read (Elt Ideal) (harg3.unread x0) = x0 := harg3.read_unread _
  have k1 : arg4.view.read (Elt Ideal) (harg4.unread x1) = x1 := harg4.read_unread _
  have step : ∀ (h : Fin 4) (w : BitVec 32) (hw : k0_off1 i w 0 = (i 0).val * 4 + h.val) (inb : ∀ a, k0_off1 i w a + S1.size a ≤ S16.size a) (z : S1.Idx)
      (o : ℕ) (ho : o = h.val * 128) (inb' : ∀ a, (![0, o] : Fin 2 → ℕ) a + S640x128.size a ≤ S640x512.size a) (l : Fin 128),
      (k0_pay25 (F := Ideal) (arg3.view.readAt (Elt Ideal) (Rect.unit (s := S16) (k0_off1 i w) S1.size inb).toLoadRect (harg3.unread x0) z)
        (arg4.view.readAt (Elt Ideal) (Rect.unit (s := S640x512) ![0, o] S640x128.size inb').toLoadRect (harg4.unread x1))) (ix3 0 r l)
        = qrow x0 x1 (i 0).val h r l := by
    intro h w hw inb z o ho inb' l
    refine (pay25_apply _ _ r l).trans (congrFun (congrArg₂ bent ?_ (funext fun l => ?_)) l)
    · refine (read_one arg3.view _ _ inb z).trans ?_
      rw [k0, hw]
    · refine (read_lanes arg4.view _ h o ho inb' r l).trans ?_
      rw [k1]
  funext l
  match h with
  | ⟨0, _⟩ => exact (slab_skip arg12.view _ 3 0 (by decide) _ _ _ r l).trans ((slab_skip arg12.view _ 2 0 (by decide) _ _ _ r l).trans ((slab_skip arg12.view _ 1 0 (by decide) _ _ _ r l).trans ((slab_hit arg12.view _ 0 _ _ _ r l).trans (step 0 0#32 hn.o1.1 _ _ 0 (by decide) _ l))))
  | ⟨1, _⟩ => exact (slab_skip arg12.view _ 3 1 (by decide) _ _ _ r l).trans ((slab_skip arg12.view _ 2 1 (by decide) _ _ _ r l).trans ((slab_hit arg12.view _ 1 _ _ _ r l).trans (step 1 1#32 hn.o1.2.1 _ _ 128 (by decide) _ l)))
  | ⟨2, _⟩ => exact (slab_skip arg12.view _ 3 2 (by decide) _ _ _ r l).trans ((slab_hit arg12.view _ 2 _ _ _ r l).trans (step 2 2#32 hn.o1.2.2.1 _ _ 256 (by decide) _ l))
  | ⟨3, _⟩ => exact (slab_hit arg12.view _ 3 _ _ _ r l).trans (step 3 3#32 hn.o1.2.2.2 _ _ 384 (by decide) _ l)

theorem side (hn : Nums i a) (hv : kernelRun0_A.sl.r_7 (F := Ideal) c i xt0 = BitVec.ofNat 32 a) (r : Fin 640) (k : Fin 256) :
    (kernelRun0_A.sl.v172 (F := Ideal) c i arg3 harg3 arg4 harg4 arg5 harg5 arg6 harg6 arg7 harg7 arg8 harg8 arg9 harg9 arg10 harg10 arg11 harg11 arg12 harg12 x0 x1 x2 x3 xt0 k0_hw1) (ix2 r k) = quot x0 x1 x2 x3 (i 0).val a ((i 1).val * 640 + r.val) r k := by
  have k2 : arg5.view.read (Elt Ideal) (harg5.unread x2) = x2 := harg5.read_unread _
  have k3 : arg6.view.read (Elt Ideal) (harg6.unread x3) = x3 := harg6.read_unread _
  have hi : (i 1).val < 13 := (i 1).isLt
  refine (read_all arg11.view _ _ r k).trans ?_
  obtain ⟨h, d, hk⟩ : ∃ (h : Fin 4) (d : Fin 64), k.val = h.val * 64 + d.val := ⟨⟨k.val / 64, by omega⟩, ⟨k.val % 64, by omega⟩, by show k.val = k.val / 64 * 64 + k.val % 64; omega⟩
  have hd := d.isLt
  match h, hk with
  | ⟨0, _⟩, hk =>
    refine (col_skip arg11.view _ 192 _ _ _ r k (by have hk : k.val = 0 * 64 + d.val := hk; omega)).trans ((col_skip arg11.view _ 128 _ _ _ r k (by have hk : k.val = 0 * 64 + d.val := hk; omega)).trans ((col_skip arg11.view _ 64 _ _ _ r k (by have hk : k.val = 0 * 64 + d.val := hk; omega)).trans ((col_hit arg11.view _ 0 _ _ _ r d k (by have hk : k.val = 0 * 64 + d.val := hk; omega)).trans
      (head_quot arg10.view _ 0 _ x0 x1 x2 x3 _ a _ r (fun d => ?_) d k hk))))
    refine after_loops arg10.view _ _ _ _ _ _ _ _ (by rw [hn.trips4]; rfl) ?_
    refine (diag_read (h0 := hn.o11) (h1 := hn.o12) (h2 := hn.o13) (h3 := hn.o14) (hm := hn.mask) (hn := hn.trips3) (ht := hn.third) (h := 0) (r := r) (d := d) ..).trans ?_
    rw [k2, k3, qs_read (c := c) (i := i) (arg3 := arg3) (harg3 := harg3) (arg4 := arg4) (harg4 := harg4) (arg12 := arg12) (x0 := x0) (x1 := x1) (hn := hn) (h := 0) (r := r)]
    refine Eq.trans (congrArg (· + _) (after_two arg10.view _ _ _ _ _ _ (by rw [hn.trips2 _ hv]; rfl)
      ((trips_read (h0 := hn.off3 _ hv) (h1 := hn.off4 _ hv) (h2 := hn.off5 _ hv) (h3 := hn.off6 _ hv) (hk := le_refl _) (h := 0) (r := r) (d := d) ..).trans
        ((congrArg (· + _) (zeros_read arg10.view _ _ _)).trans (zero_add _))))) ?_
    rw [k2, k3, qs_read (c := c) (i := i) (arg3 := arg3) (harg3 := harg3) (arg4 := arg4) (harg4 := harg4) (arg12 := arg12) (x0 := x0) (x1 := x1) (hn := hn) (h := 0) (r := r), hn.trips1 _ hv]
    exact total_split _ _ _ _ hn.le hi r.isLt
  | ⟨1, _⟩, hk =>
    refine (col_skip arg11.view _ 192 _ _ _ r k (by have hk : k.val = 1 * 64 + d.val := hk; omega)).trans ((col_skip arg11.view _ 128 _ _ _ r k (by have hk : k.val = 1 * 64 + d.val := hk; omega)).trans ((col_hit arg11.view _ 64 _ _ _ r d k (by have hk : k.val = 1 * 64 + d.val := hk; omega)).trans
      (head_quot arg10.view _ 1 _ x0 x1 x2 x3 _ a _ r (fun d => ?_) d k hk)))
    refine after_loops arg10.view _ _ _ _ _ _ _ _ (by rw [hn.trips4]; rfl) ?_
    refine (diag_read (h0 := hn.o11) (h1 := hn.o12) (h2 := hn.o13) (h3 := hn.o14) (hm := hn.mask) (hn := hn.trips3) (ht := hn.third) (h := 1) (r := r) (d := d) ..).trans ?_
    rw [k2, k3, qs_read (c := c) (i := i) (arg3 := arg3) (harg3 := harg3) (arg4 := arg4) (harg4 := harg4) (arg12 := arg12) (x0 := x0) (x1 := x1) (hn := hn) (h := 1) (r := r)]
    refine Eq.trans (congrArg (· + _) (after_two arg10.view _ _ _ _ _ _ (by rw [hn.trips2 _ hv]; rfl)
      ((trips_read (h0 := hn.off3 _ hv) (h1 := hn.off4 _ hv) (h2 := hn.off5 _ hv) (h3 := hn.off6 _ hv) (hk := le_refl _) (h := 1) (r := r) (d := d) ..).trans
        ((congrArg (· + _) (zeros_read arg10.view _ _ _)).trans (zero_add _))))) ?_
    rw [k2, k3, qs_read (c := c) (i := i) (arg3 := arg3) (harg3 := harg3) (arg4 := arg4) (harg4 := harg4) (arg12 := arg12) (x0 := x0) (x1 := x1) (hn := hn) (h := 1) (r := r), hn.trips1 _ hv]
    exact total_split _ _ _ _ hn.le hi r.isLt
  | ⟨2, _⟩, hk =>
    refine (col_skip arg11.view _ 192 _ _ _ r k (by have hk : k.val = 2 * 64 + d.val := hk; omega)).trans ((col_hit arg11.view _ 128 _ _ _ r d k (by have hk : k.val = 2 * 64 + d.val := hk; omega)).trans
      (head_quot arg10.view _ 2 _ x0 x1 x2 x3 _ a _ r (fun d => ?_) d k hk))
    refine after_loops arg10.view _ _ _ _ _ _ _ _ (by rw [hn.trips4]; rfl) ?_
    refine (diag_read (h0 := hn.o11) (h1 := hn.o12) (h2 := hn.o13) (h3 := hn.o14) (hm := hn.mask) (hn := hn.trips3) (ht := hn.third) (h := 2) (r := r) (d := d) ..).trans ?_
    rw [k2, k3, qs_read (c := c) (i := i) (arg3 := arg3) (harg3 := harg3) (arg4 := arg4) (harg4 := harg4) (arg12 := arg12) (x0 := x0) (x1 := x1) (hn := hn) (h := 2) (r := r)]
    refine Eq.trans (congrArg (· + _) (after_two arg10.view _ _ _ _ _ _ (by rw [hn.trips2 _ hv]; rfl)
      ((trips_read (h0 := hn.off3 _ hv) (h1 := hn.off4 _ hv) (h2 := hn.off5 _ hv) (h3 := hn.off6 _ hv) (hk := le_refl _) (h := 2) (r := r) (d := d) ..).trans
        ((congrArg (· + _) (zeros_read arg10.view _ _ _)).trans (zero_add _))))) ?_
    rw [k2, k3, qs_read (c := c) (i := i) (arg3 := arg3) (harg3 := harg3) (arg4 := arg4) (harg4 := harg4) (arg12 := arg12) (x0 := x0) (x1 := x1) (hn := hn) (h := 2) (r := r), hn.trips1 _ hv]
    exact total_split _ _ _ _ hn.le hi r.isLt
  | ⟨3, _⟩, hk =>
    refine (col_hit arg11.view _ 192 _ _ _ r d k (by have hk : k.val = 3 * 64 + d.val := hk; omega)).trans
      (head_quot arg10.view _ 3 _ x0 x1 x2 x3 _ a _ r (fun d => ?_) d k hk)
    refine after_loops arg10.view _ _ _ _ _ _ _ _ (by rw [hn.trips4]; rfl) ?_
    refine (diag_read (h0 := hn.o11) (h1 := hn.o12) (h2 := hn.o13) (h3 := hn.o14) (hm := hn.mask) (hn := hn.trips3) (ht := hn.third) (h := 3) (r := r) (d := d) ..).trans ?_
    rw [k2, k3, qs_read (c := c) (i := i) (arg3 := arg3) (harg3 := harg3) (arg4 := arg4) (harg4 := harg4) (arg12 := arg12) (x0 := x0) (x1 := x1) (hn := hn) (h := 3) (r := r)]
    refine Eq.trans (congrArg (· + _) (after_two arg10.view _ _ _ _ _ _ (by rw [hn.trips2 _ hv]; rfl)
      ((trips_read (h0 := hn.off3 _ hv) (h1 := hn.off4 _ hv) (h2 := hn.off5 _ hv) (h3 := hn.off6 _ hv) (hk := le_refl _) (h := 3) (r := r) (d := d) ..).trans
        ((congrArg (· + _) (zeros_read arg10.view _ _ _)).trans (zero_add _))))) ?_
    rw [k2, k3, qs_read (c := c) (i := i) (arg3 := arg3) (harg3 := harg3) (arg4 := arg4) (harg4 := harg4) (arg12 := arg12) (x0 := x0) (x1 := x1) (hn := hn) (h := 3) (r := r), hn.trips1 _ hv]
    exact total_split _ _ _ _ hn.le hi r.isLt

theorem left (hn : Nums i a) (hv : kernelRun0_A.sl.r_7 (F := Ideal) c i xt0 = BitVec.ofNat 32 a) (r : Fin 640) (k : Fin 256) :
    (out0_A_5 (F := Ideal) c i arg3 harg3 arg4 harg4 arg5 harg5 arg6 harg6 arg7 harg7 arg8 harg8 arg9 harg9 arg10 harg10 arg11 harg11 arg12 harg12 x0 x1 x2 x3 x4 xt0 k0_hw1) (ix2 r k)
      = normed (quot x0 x1 x2 x3 (i 0).val a ((i 1).val * 640 + r.val) r) (fun j => x4 (ix2 0 j)) k := by
  have k4 : arg7.view.read (Elt Ideal) (harg7.unread x4) = x4 := harg7.read_unread _
  refine (write_all VO0_5 _ _ _ r k).trans ((pay1_apply _ _ r k).trans ?_)
  refine congrFun (congrArg₂ normed (funext fun j => side c i arg3 harg3 arg4 harg4 arg5 harg5 arg6 harg6 arg7 harg7 arg8 harg8 arg9 harg9 arg10 harg10 arg11 harg11 arg12 harg12 x0 x1 x2 x3 xt0 k0_hw1 a hn hv r j) (funext fun j => ?_)) k
  refine (read_all arg7.view _ _ 0 j).trans ?_
  rw [k4]

end
end
end Cert.Fox
-- ==== Proof.FoxKer.lean ====
/- The forgetting attention: the array that the call leaves, and what the call's frame asks of its table of first blocks. Untrusted. -/
module

import all proofs.«01_k».proof.Proof.Gen.Kernel7Ideal.Frame
public import proofs.«01_k».proof.Proof.AttnKer
public import proofs.«01_k».proof.Proof.FoxOut
public import proofs.«01_k».proof.Proof.Gen.Kernel7.Frame
public import proofs.«01_k».proof.Proof.Gen.Pre_first_in_range
public import proofs.«01_k».proof.Proof.Gen.Pre_first_and_lanes

@[expose] public section

set_option maxRecDepth 16384

noncomputable section

namespace Cert.Fox

open Idealize.ShloMosaic hiding ix1 ix2 ix3
open Idealize.ShloMosaic.TcCoe Idealize.ShloMosaic.ValueIdx Idealize.SL.Sem
open Cert.Inproj (ix2_same ix1_same hz2)
open Cert.Attn (wt bent at1 at2 term normed qrow rowOf)

/-- What the precondition says of the table: no tile of queries starts after its own block. -/
def Firsts (w : (Shape.mk 1 ![52]).Idx → BitVec 32) : Prop := ∀ t : Fin 52, (w (ix1 t)).toNat ≤ t.val % 13

theorem small {x : BitVec 32} {j : ℕ} (hj : j < 13) (h0 : IntOp.cmpi .sge x 0#32 = 1#1) (h1 : IntOp.cmpi .sle x (BitVec.ofNat 32 j) = 1#1) : x.toNat ≤ j := by
  have k0 : (0#32).toInt ≤ x.toInt := by
    by_contra hn
    rw [WordCmp.cmpi_sge_eq, decide_eq_false hn] at h0
    exact absurd h0 (by decide)
  have k1 : x.toInt ≤ (BitVec.ofNat 32 j).toInt := by
    by_contra hn
    rw [WordCmp.cmpi_sle_eq, decide_eq_false hn] at h1
    exact absurd h1 (by decide)
  have c0 : (0#32).toInt = 0 := by decide
  have c1 : (BitVec.ofNat 32 j).toInt = j := by
    rw [BitVec.toInt_eq_toNat_cond, BitVec.toNat_ofNat, Nat.mod_eq_of_lt (by omega), if_pos (by omega)]
  rw [c0, BitVec.toInt_eq_toNat_cond] at k0
  rw [c1, BitVec.toInt_eq_toNat_cond] at k1
  have := x.isLt
  split at k0 <;> split at k1 <;> omega

section
open Cert.Pre_first_in_range Cert.Pre_first_in_range.Gen

theorem firsts_of (w : S52.Idx → BitVec 32)
    (e0 : cmpi .sge (shapeCast S4x13 w shapeCasts_S52_S4x13) (broadcastInDim S4x13 ![] bcast_S_S4x13 (constantI S_ 32 0#32)) = fun _ => 1#1)
    (e1 : cmpi .sle (shapeCast S4x13 w shapeCasts_S52_S4x13)
      (broadcastInDim S4x13 ![0, 1] bcast_S1x13_S4x13_0_1 (broadcastInDim S1x13 ![1] bcast_S13_S1x13_1 (iotaInDim S13 32 0))) = fun _ => 1#1) : Firsts w := by
  intro t
  have ht := t.isLt
  have a0 := congrFun e0 (ix2 ⟨t.val / 13, by omega⟩ ⟨t.val % 13, by omega⟩)
  have a1 := congrFun e1 (ix2 ⟨t.val / 13, by omega⟩ ⟨t.val % 13, by omega⟩)
  have ew : shapeCast S4x13 w shapeCasts_S52_S4x13 (ix2 ⟨t.val / 13, by omega⟩ ⟨t.val % 13, by omega⟩) = w (ix1 t) := by
    pointwise
    exact congrArg w ((ix1_same _).trans (congrArg ix1 (Fin.ext (by show t.val / 13 * 13 + t.val % 13 = t.val; omega))))
  have ej : broadcastInDim S4x13 ![0, 1] bcast_S1x13_S4x13_0_1 (broadcastInDim S1x13 ![1] bcast_S13_S1x13_1 (iotaInDim S13 32 0))
      (ix2 ⟨t.val / 13, by omega⟩ ⟨t.val % 13, by omega⟩) = BitVec.ofNat 32 (t.val % 13) := by
    pointwise
  rw [← ew]
  exact small (by omega) a0 ((congrArg (IntOp.cmpi .sle _) ej).symm.trans a1)

end

theorem word_self (x : BitVec 32) : BitVec.ofNat 32 x.toNat = x := BitVec.eq_of_toNat_eq (by rw [BitVec.toNat_ofNat]; exact Nat.mod_eq_of_lt x.isLt)

section
open Cert.Kernel7 Cert.Kernel7.Gen
variable {F : FTy → Type} [FloatOps F] (m : (ℓ : Loc nD τ sig) → Buf (Elt F) ℓ)

/-- The table of first blocks. -/
abbrev first_Kernel7 : S52.Idx → BitVec 32 := m (((0 : Dev nD) : Thread nD τ).loc main_arg0)

theorem place_Kernel7 : ∀ t : Fin grid0.N, k0_off2 (grid0.coords t) 0 = t.val := by decide +kernel

theorem word_Kernel7 (t : Fin grid0.N) :
    tbM0_0.view.readAt (Elt F) (Rect.unit (s := S52) (k0_off2 (grid0.coords t)) S1.size (k0_off2_inb (grid0.coords t))).toLoadRect (tbl m 0)
        (Shape.Idx.first (numel1_S1.symm ▸ Nat.one_pos))
      = first_Kernel7 m (ix1 ⟨t.val, lt_of_lt_of_eq t.isLt N_0⟩) := by
  rw [show tbl m 0 = first_Kernel7 m from V_main_arg0 m 0]
  refine congrArg (first_Kernel7 m) (funext fun a => Fin.ext ?_)
  match a with
  | ⟨0, _⟩ => show k0_off2 (grid0.coords t) 0 + 1 * 0 = t.val; rw [place_Kernel7 t]; omega

theorem fits_Kernel7 : ∀ t : Fin grid0.N, ∀ a : Fin 13, a.val ≤ t.val % 13 → k0_chk1 (grid0.coords t) (BitVec.ofNat 32 a.val) := by decide +kernel

theorem hyps_Kernel7 (hf : Firsts (first_Kernel7 m)) : Hyps m trivial := fun _ t => by
  have e := hf ⟨t.val, lt_of_lt_of_eq t.isLt N_0⟩
  rw [word_Kernel7 m t, ← word_self (first_Kernel7 m (ix1 ⟨t.val, lt_of_lt_of_eq t.isLt N_0⟩))]
  exact fits_Kernel7 t ⟨(first_Kernel7 m (ix1 ⟨t.val, lt_of_lt_of_eq t.isLt N_0⟩)).toNat, lt_of_le_of_lt e (Nat.mod_lt _ (by decide))⟩ e

end

section
open Cert.Kernel7Ideal Cert.Kernel7Ideal.Gen
variable {F : FTy → Type} [FloatOps F] (m : (ℓ : Loc nD τ sig) → Buf (Elt F) ℓ)

/-- The table of first blocks. -/
abbrev first_Kernel7Ideal : S52.Idx → BitVec 32 := m (((0 : Dev nD) : Thread nD τ).loc main_arg0)

theorem place_Kernel7Ideal : ∀ t : Fin grid0.N, k0_off2 (grid0.coords t) 0 = t.val := by decide +kernel

theorem word_Kernel7Ideal (t : Fin grid0.N) :
    tbM0_0.view.readAt (Elt F) (Rect.unit (s := S52) (k0_off2 (grid0.coords t)) S1.size (k0_off2_inb (grid0.coords t))).toLoadRect (tbl m 0)
        (Shape.Idx.first (numel1_S1.symm ▸ Nat.one_pos))
      = first_Kernel7Ideal m (ix1 ⟨t.val, lt_of_lt_of_eq t.isLt N_0⟩) := by
  rw [show tbl m 0 = first_Kernel7Ideal m from V_main_arg0 m 0]
  refine congrArg (first_Kernel7Ideal m) (funext fun a => Fin.ext ?_)
  match a with
  | ⟨0, _⟩ => show k0_off2 (grid0.coords t) 0 + 1 * 0 = t.val; rw [place_Kernel7Ideal t]; omega

theorem fits_Kernel7Ideal : ∀ t : Fin grid0.N, ∀ a : Fin 13, a.val ≤ t.val % 13 → k0_chk1 (grid0.coords t) (BitVec.ofNat 32 a.val) := by decide +kernel

theorem hyps_Kernel7Ideal (hf : Firsts (first_Kernel7Ideal m)) : Hyps m trivial := fun _ t => by
  have e := hf ⟨t.val, lt_of_lt_of_eq t.isLt N_0⟩
  rw [word_Kernel7Ideal m t, ← word_self (first_Kernel7Ideal m (ix1 ⟨t.val, lt_of_lt_of_eq t.isLt N_0⟩))]
  exact fits_Kernel7Ideal t ⟨(first_Kernel7Ideal m (ix1 ⟨t.val, lt_of_lt_of_eq t.isLt N_0⟩)).toNat, lt_of_le_of_lt e (Nat.mod_lt _ (by decide))⟩ e

end

theorem frame_kernel : Cert.quiescent_Kernel7 := fun m ρ hp => Cert.Kernel7.Gen.frame m ρ trivial (hyps_Kernel7 m (firsts_of _ (hp 0).1 (hp 0).2))
theorem frame_kernelIdeal : Cert.quiescent_Kernel7Ideal := fun m ρ hp =>
  Cert.Kernel7Ideal.Gen.frame m ρ trivial (hyps_Kernel7Ideal m (firsts_of _ (hp 0).1 (hp 0).2))

/-- Entry `d` of head `h`'s weighted sum for the query in row `R`. -/
def head (w : (Shape.mk 1 ![52]).Idx → BitVec 32) (s : (Shape.mk 1 ![16]).Idx → EReal) (q K V : (Shape.mk 2 ![33280, 512]).Idx → EReal)
    (R : Fin 33280) (h : Fin 4) (d : Fin 128) : EReal :=
  ∑ n : Fin 8320, if 640 * (w (ix1 ⟨R.val / 640, by omega⟩)).toNat ≤ n.val ∧ n.val ≤ R.val % 8320 then
    wt (bent (s (ix1 ⟨R.val / 8320 * 4 + h.val, by omega⟩)) fun l => q (ix2 R ⟨h.val * 128 + l.val, by omega⟩))
      (fun l => K (ix2 ⟨R.val / 8320 * 8320 + n.val, by omega⟩ ⟨h.val * 128 + l.val, by omega⟩))
      * V (ix2 ⟨R.val / 8320 * 8320 + n.val, by omega⟩ ⟨h.val * 128 + d.val, by omega⟩) else 0

/-- The heads' quotients, side by side. -/
def mixed (w : (Shape.mk 1 ![52]).Idx → BitVec 32) (s : (Shape.mk 1 ![16]).Idx → EReal) (q K V : (Shape.mk 2 ![33280, 512]).Idx → EReal)
    (R : Fin 33280) (k : Fin 256) : EReal :=
  Ideal.div (head w s q K V R ⟨k.val / 64, by omega⟩ ⟨k.val % 64, by omega⟩) (head w s q K V R ⟨k.val / 64, by omega⟩ ⟨64, by omega⟩)

/-- The attention's rows, normed. -/
def attended (w : (Shape.mk 1 ![52]).Idx → BitVec 32) (s : (Shape.mk 1 ![16]).Idx → EReal) (q K V : (Shape.mk 2 ![33280, 512]).Idx → EReal)
    (g : (Shape.mk 1 ![256]).Idx → EReal) : (Shape.mk 2 ![33280, 256]).Idx → EReal :=
  fun z => normed (mixed w s q K V (z 0)) (fun j => g (ix1 j)) (z 1)

section
open Cert.Kernel7Ideal Cert.Kernel7Ideal.Gen

theorem head_total (w : (Shape.mk 1 ![52]).Idx → BitVec 32) (s : (Shape.mk 1 ![16]).Idx → EReal) (q K V : (Shape.mk 2 ![33280, 512]).Idx → EReal)
    (t : Fin 52) (r : Fin 640) (h : Fin 4) (d : Fin 128) :
    total (term (qrow s (fun z => q (ix2 (rowOf t (z 0)) (z 1))) (t.val / 13) h r)
        (fun z => K (ix2 ⟨t.val / 13 * 8320 + (z 0).val, by have h0 : (z 0).val < 8320 := (z 0).isLt; omega⟩ (z 1)))
        (fun z => V (ix2 ⟨t.val / 13 * 8320 + (z 0).val, by have h0 : (z 0).val < 8320 := (z 0).isLt; omega⟩ (z 1))) h d) (w (ix1 t)).toNat (t.val % 13 * 640 + r.val)
      = head w s q K V (rowOf t r) h d := by
  unfold total head
  have e1 : (rowOf t r).val % 8320 = t.val % 13 * 640 + r.val := by show (t.val * 640 + r.val) % 8320 = _; omega
  have e2 : (rowOf t r).val / 8320 = t.val / 13 := by show (t.val * 640 + r.val) / 8320 = _; omega
  have e3 : (⟨(rowOf t r).val / 640, by omega⟩ : Fin 52) = t := Fin.ext (by show (t.val * 640 + r.val) / 640 = t.val; omega)
  refine (Finset.sum_range _).trans (Finset.sum_congr rfl fun n _ => ?_)
  rw [e1, e3]
  refine congrArg (fun x => if 640 * (w (ix1 t)).toNat ≤ n.val ∧ n.val ≤ t.val % 13 * 640 + r.val then x else 0) ?_
  unfold term qrow
  refine congrArg₂ (· * ·) (congrArg₂ wt (congrArg₂ bent ?_ rfl) (funext fun l => ?_)) ?_
  · unfold at1
    rw [dif_pos (by omega)]
    exact congrArg s (congrArg ix1 (Fin.ext (by show t.val / 13 * 4 + h.val = (rowOf t r).val / 8320 * 4 + h.val; rw [e2])))
  · unfold at2
    rw [dif_pos ⟨n.isLt, by omega⟩]
    exact congrArg K (congrArg₂ ix2 (Fin.ext (by show t.val / 13 * 8320 + n.val = (rowOf t r).val / 8320 * 8320 + n.val; rw [e2])) rfl)
  · unfold at2
    rw [dif_pos ⟨n.isLt, by omega⟩]
    exact congrArg V (congrArg₂ ix2 (Fin.ext (by show t.val / 13 * 8320 + n.val = (rowOf t r).val / 8320 * 8320 + n.val; rw [e2])) rfl)

theorem nums (t : Fin grid0.N) (a : Fin 13) (ha : a.val ≤ t.val % 13) : Nums (grid0.coords t) a.val where
  le := (by decide +kernel : ∀ t : Fin grid0.N, ∀ a : Fin 13, a.val ≤ t.val % 13 → a.val ≤ (grid0.coords t 1).val) t a ha
  first := (by decide +kernel : ∀ t : Fin grid0.N, ∀ a : Fin 13, a.val ≤ t.val % 13 →
    (k0_t1_loop (grid0.coords t) (BitVec.ofNat 32 a.val)).trips = (grid0.coords t 1).val - a.val) t a ha
  second := (by decide +kernel : ∀ t : Fin grid0.N, ∀ a : Fin 13, a.val ≤ t.val % 13 → (k0_t2_loop (grid0.coords t) (BitVec.ofNat 32 a.val)).trips = 0) t a ha
  third := (by decide +kernel : ∀ t : Fin grid0.N, (k0_t3_loop (grid0.coords t)).trips = 1) t
  fourth := (by decide +kernel : ∀ t : Fin grid0.N, (k0_t4_loop (grid0.coords t)).trips = 0) t
  iv := (by decide +kernel : ∀ t : Fin grid0.N, ∀ k, Scalar.muli (Scf.iv (kernelRun0_A.sl.v25 (grid0.coords t)) 1#32 (k : Fin (k0_t3_loop (grid0.coords t)).trips)) 640#32
    = BitVec.ofNat 32 (640 * (grid0.coords t 1).val)) t
  o3 := (by decide +kernel : ∀ t : Fin grid0.N, ∀ a : Fin 13, a.val ≤ t.val % 13 → ∀ k,
    k0_off3 (grid0.coords t) (BitVec.ofNat 32 a.val) k 0 = 640 * (a.val + k.val) ∧ k0_off3 (grid0.coords t) (BitVec.ofNat 32 a.val) k 1 = 0) t a ha
  o4 := (by decide +kernel : ∀ t : Fin grid0.N, ∀ a : Fin 13, a.val ≤ t.val % 13 → ∀ k,
    k0_off4 (grid0.coords t) (BitVec.ofNat 32 a.val) k 0 = 640 * (a.val + k.val) ∧ k0_off4 (grid0.coords t) (BitVec.ofNat 32 a.val) k 1 = 128) t a ha
  o5 := (by decide +kernel : ∀ t : Fin grid0.N, ∀ a : Fin 13, a.val ≤ t.val % 13 → ∀ k,
    k0_off5 (grid0.coords t) (BitVec.ofNat 32 a.val) k 0 = 640 * (a.val + k.val) ∧ k0_off5 (grid0.coords t) (BitVec.ofNat 32 a.val) k 1 = 256) t a ha
  o6 := (by decide +kernel : ∀ t : Fin grid0.N, ∀ a : Fin 13, a.val ≤ t.val % 13 → ∀ k,
    k0_off6 (grid0.coords t) (BitVec.ofNat 32 a.val) k 0 = 640 * (a.val + k.val) ∧ k0_off6 (grid0.coords t) (BitVec.ofNat 32 a.val) k 1 = 384) t a ha
  o11 := (by decide +kernel : ∀ t : Fin grid0.N, ∀ k, k0_off11 (grid0.coords t) k 0 = 640 * (grid0.coords t 1).val ∧ k0_off11 (grid0.coords t) k 1 = 0) t
  o12 := (by decide +kernel : ∀ t : Fin grid0.N, ∀ k, k0_off12 (grid0.coords t) k 0 = 640 * (grid0.coords t 1).val ∧ k0_off12 (grid0.coords t) k 1 = 128) t
  o13 := (by decide +kernel : ∀ t : Fin grid0.N, ∀ k, k0_off13 (grid0.coords t) k 0 = 640 * (grid0.coords t 1).val ∧ k0_off13 (grid0.coords t) k 1 = 256) t
  o14 := (by decide +kernel : ∀ t : Fin grid0.N, ∀ k, k0_off14 (grid0.coords t) k 0 = 640 * (grid0.coords t 1).val ∧ k0_off14 (grid0.coords t) k 1 = 384) t
  o1 := (by decide +kernel : ∀ t : Fin grid0.N, k0_off1 (grid0.coords t) 0#32 0 = (grid0.coords t 0).val * 4 + 0 ∧ k0_off1 (grid0.coords t) 1#32 0 = (grid0.coords t 0).val * 4 + 1
    ∧ k0_off1 (grid0.coords t) 2#32 0 = (grid0.coords t 0).val * 4 + 2 ∧ k0_off1 (grid0.coords t) 3#32 0 = (grid0.coords t 0).val * 4 + 3) t

theorem idx : ∀ t : Fin grid0.N, cc0_transform_0 (grid0.coords t) 0 = 0
    ∧ (cc0_transform_1 (grid0.coords t) 0 = t.val ∧ cc0_transform_1 (grid0.coords t) 1 = 0)
    ∧ (cc0_transform_2 (grid0.coords t) 0 = t.val / 13 ∧ cc0_transform_2 (grid0.coords t) 1 = 0)
    ∧ (cc0_transform_3 (grid0.coords t) 0 = t.val / 13 ∧ cc0_transform_3 (grid0.coords t) 1 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0)
    ∧ ((grid0.coords t 0).val = t.val / 13 ∧ (grid0.coords t 1).val = t.val % 13) := by decide +kernel

variable (m : (ℓ : Loc nD τ sig) → Buf (Elt Ideal) ℓ)

abbrev ws (c : Dev nD) : S52.Idx → BitVec 32 := m ((c : Thread nD τ).loc main_arg0)
abbrev ss (c : Dev nD) : S16.Idx → EReal := m ((c : Thread nD τ).loc main_arg1)
abbrev qs (c : Dev nD) : S33280x512.Idx → EReal := m ((c : Thread nD τ).loc main_arg2)
abbrev ks (c : Dev nD) : S33280x512.Idx → EReal := m ((c : Thread nD τ).loc main_arg3)
abbrev vs (c : Dev nD) : S33280x512.Idx → EReal := m ((c : Thread nD τ).loc main_arg4)
abbrev gs (c : Dev nD) : S256.Idx → EReal := m ((c : Thread nD τ).loc main_arg5)

theorem V_v0 (c : Dev nD) : V m c main_v0 = shapeCast S1x256 (gs m c) shapeCasts_S256_S1x256 := by
  unfold V hostOps0
  after_results_simp <;> rfl

abbrev pt (hO : Ok m) (t : Fin (cfgM m hO).N) : Fin 52 := ⟨t.val, lt_of_lt_of_eq t.isLt (show (cfgM m hO).N = 52 from N_0)⟩

theorem blk0 (hO : Ok m) (c : Dev nD) (t : Fin (cfgM m hO).N) : (iblk m hO c 0 t : S16.Idx → EReal) = ss m c := by
  have e := (idx t).1
  refine funext fun (z : S16.Idx) => ?_
  refine Eq.trans ?_ (congrFun (V_main_arg1 m c) z)
  refine congrArg (V m c main_arg1) (funext fun a => Fin.ext ?_)
  match a with
  | ⟨0, _⟩ => show cc0_transform_0 (grid0.coords t) 0 * 16 + 1 * (z 0).val = (z 0).val; rw [e]; omega
theorem blk1 (hO : Ok m) (c : Dev nD) (t : Fin (cfgM m hO).N) :
    (iblk m hO c 1 t : S640x512.Idx → EReal) = fun z : S640x512.Idx => qs m c (ix2 (rowOf (pt m hO t) (z 0)) (z 1)) := by
  have e := (idx t).2.1
  refine funext fun (z : S640x512.Idx) => ?_
  refine Eq.trans ?_ (congrFun (V_main_arg2 m c) (ix2 (rowOf (pt m hO t) (z 0)) (z 1)))
  refine congrArg (V m c main_arg2) (funext fun a => Fin.ext ?_)
  match a with
  | ⟨0, _⟩ => show cc0_transform_1 (grid0.coords t) 0 * 640 + 1 * (z 0).val = t.val * 640 + (z 0).val; rw [e.1]; omega
  | ⟨1, _⟩ => show cc0_transform_1 (grid0.coords t) 1 * 512 + 1 * (z 1).val = (z 1).val; rw [e.2]; omega
theorem blk2 (hO : Ok m) (c : Dev nD) (t : Fin (cfgM m hO).N) : (iblk m hO c 2 t : S8320x512.Idx → EReal)
    = fun z : S8320x512.Idx => ks m c (ix2 ⟨(pt m hO t).val / 13 * 8320 + (z 0).val, by have h0 : (z 0).val < 8320 := (z 0).isLt; have := (pt m hO t).isLt; omega⟩ (z 1)) := by
  have e := (idx t).2.2.1
  refine funext fun (z : S8320x512.Idx) => ?_
  refine Eq.trans ?_ (congrFun (V_main_arg3 m c) _)
  refine congrArg (V m c main_arg3) (funext fun a => Fin.ext ?_)
  match a with
  | ⟨0, _⟩ => show cc0_transform_2 (grid0.coords t) 0 * 8320 + 1 * (z 0).val = t.val / 13 * 8320 + (z 0).val; rw [e.1]; omega
  | ⟨1, _⟩ => show cc0_transform_2 (grid0.coords t) 1 * 512 + 1 * (z 1).val = (z 1).val; rw [e.2]; omega
theorem blk3 (hO : Ok m) (c : Dev nD) (t : Fin (cfgM m hO).N) : (iblk m hO c 3 t : S8320x512.Idx → EReal)
    = fun z : S8320x512.Idx => vs m c (ix2 ⟨(pt m hO t).val / 13 * 8320 + (z 0).val, by have h0 : (z 0).val < 8320 := (z 0).isLt; have := (pt m hO t).isLt; omega⟩ (z 1)) := by
  have e := (idx t).2.2.2.1
  refine funext fun (z : S8320x512.Idx) => ?_
  refine Eq.trans ?_ (congrFun (V_main_arg4 m c) _)
  refine congrArg (V m c main_arg4) (funext fun a => Fin.ext ?_)
  match a with
  | ⟨0, _⟩ => show cc0_transform_3 (grid0.coords t) 0 * 8320 + 1 * (z 0).val = t.val / 13 * 8320 + (z 0).val; rw [e.1]; omega
  | ⟨1, _⟩ => show cc0_transform_3 (grid0.coords t) 1 * 512 + 1 * (z 1).val = (z 1).val; rw [e.2]; omega
theorem blk4 (hO : Ok m) (c : Dev nD) (t : Fin (cfgM m hO).N) (j : Fin 256) : (iblk m hO c 4 t : S1x256.Idx → EReal) (ix2 0 j) = gs m c (ix1 j) := by
  have e := (idx t).2.2.2.2.1
  refine Eq.trans ?_ ((congrFun (V_v0 m c) (ix2 0 j)).trans ?_)
  · refine congrArg (V m c main_v0) (funext fun a => Fin.ext ?_)
    match a with
    | ⟨0, _⟩ => show cc0_transform_4 (grid0.coords t) 0 * 1 + 1 * 0 = 0; rw [e.1]
    | ⟨1, _⟩ => show cc0_transform_4 (grid0.coords t) 1 * 256 + 1 * j.val = j.val; rw [e.2]; omega
  · pointwise
    exact congrArg (gs m c) (ix1_same j)

theorem tile_eq (hO : Ok m) (c : Dev nD) (t : Fin (cfgM m hO).N) (r : Fin 640) (k : Fin 256) :
    normed (quot (iblk m hO c 0 t) (iblk m hO c 1 t) (iblk m hO c 2 t) (iblk m hO c 3 t) (grid0.coords t 0).val (ws m c (ix1 (pt m hO t))).toNat
        ((grid0.coords t 1).val * 640 + r.val) r) (fun j => (iblk m hO c 4 t : S1x256.Idx → EReal) (ix2 0 j)) k
      = attended (ws m c) (ss m c) (qs m c) (ks m c) (vs m c) (gs m c) (ix2 (rowOf (pt m hO t) r) k) := by
  have e := (idx t).2.2.2.2.2.2
  rw [blk0, blk1, blk2, blk3, e.1, e.2]
  refine congrFun (congrArg₂ normed (funext fun j => ?_) (funext fun j => blk4 m hO c t j)) k
  exact congrArg₂ Ideal.div (head_total _ _ _ _ _ (pt m hO t) r _ _) (head_total _ _ _ _ _ (pt m hO t) r _ _)

theorem leaves (hf : Firsts (ws m 0)) (hO : Ok m) (hH : Hyps m hO) (c : Dev nD) (t : Fin (cfgM m hO).N) (r : Fin 640) (k : Fin 256) :
    (outsAt0 m hO hH c t : S640x256.Idx → EReal) (ix2 r k)
      = attended (ws m c) (ss m c) (qs m c) (ks m c) (vs m c) (gs m c) (ix2 (rowOf (pt m hO t) r) k) := by
  obtain rfl : c = 0 := Subsingleton.elim (α := Fin 1) _ _
  have hN := (pt m hO t).isLt
  have ha := hf (pt m hO t)
  exact (left (a := (ws m 0 (ix1 (pt m hO t))).toNat) (hn := nums t ⟨(ws m 0 (ix1 (pt m hO t))).toNat, lt_of_le_of_lt ha (Nat.mod_lt _ (by decide))⟩ ha)
    (hv := (word_Kernel7Ideal m t).trans (word_self _).symm) (r := r) (k := k) ..).trans (tile_eq m hO 0 t r k)

theorem covers (hO : Ok m) : ((cfgM m hO).win 5).Covers :=
  ⟨fun a => (by decide : ∀ a : Fin 2, 0 < S640x256.size a) a, fun β =>
    have h0 : (β (0 : Fin 2)).val < 52 := lt_of_lt_of_eq (β (0 : Fin 2)).isLt ((show ((cfgM m hO).win 5).nblk (0 : Fin 2) = (33280 + 640 - 1) / 640 from rfl).trans (by decide))
    have h1 : (β (1 : Fin 2)).val < 1 := lt_of_lt_of_eq (β (1 : Fin 2)).isLt ((show ((cfgM m hO).win 5).nblk (1 : Fin 2) = (256 + 256 - 1) / 256 from rfl).trans (by decide))
    have e := (idx ⟨(β (0 : Fin 2)).val, h0.trans_eq N_0.symm⟩).2.2.2.2.2.1
    ⟨⟨(β (0 : Fin 2)).val, h0.trans_eq (show 52 = (cfgM m hO).N from N_0.symm)⟩, flush0_5 _ _, fun a => ⟨match a with
      | ⟨0, _⟩ => e.1
      | ⟨1, _⟩ => e.2.trans (by have : (β (1 : Fin 2)).val = 0 := by omega
                                exact this.symm), Or.inl rfl⟩⟩⟩

theorem final (hw : Firsts (ws m 0)) (hO : Ok m) (hH : Hyps m hO) (c : Dev nD) :
    (dats m hO hH 0 c).arrAt 5 (cfgM m hO).N = attended (ws m c) (ss m c) (qs m c) (ks m c) (vs m c) (gs m c) := by
  refine (dats m hO hH 0 c).arrAt_eq_of_covers 5 _ ?_ fun t hf (y : S640x256.Idx) => ?_
  · exact covers m hO
  have e := (idx t).2.2.2.2.2.1
  show (dats m hO hH 0 c).after 5 t y = _
  rw [after0_5]
  refine (congrArg _ (Cert.Inproj.ix2_eta (a := 640) (b := 256) y)).trans ((leaves m hw hO hH c t (y 0) (y 1)).trans (congrArg _ (funext fun a => Fin.ext ?_)))
  match a with
  | ⟨0, _⟩ => show t.val * 640 + (y 0).val = cc0_transform_5 (grid0.coords t) 0 * 640 + 1 * (y 0).val; rw [e.1]; omega
  | ⟨1, _⟩ => show (y 1).val = cc0_transform_5 (grid0.coords t) 1 * 256 + 1 * (y 1).val; rw [e.2]; omega

theorem run (hf : Firsts (ws m 0)) (ρ : Dev nD → PrngReg) : θ_run defs (onTc (τ := τ) (main (F := Ideal))) ⟨m, fun _ => 0, ρ⟩ fun r => ∀ c : Dev nD,
      r.2.mem ((c.tc : Thread nD τ).loc main_v1) = attended (ws m c) (ss m c) (qs m c) (ks m c) (vs m c) (gs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c |>.1 5).trans (final m hf trivial (hyps_Kernel7Ideal m hf) c), h.2 c⟩)
    (θ_run_and (run_main m ρ trivial (hyps_Kernel7Ideal m hf)) (unchanged m ρ trivial (hyps_Kernel7Ideal m hf)))

end
end Cert.Fox
-- ==== Proof.FoxRef.lean ====
/- The forgetting attention: the reference's operations, and the keys that its mask keeps. Untrusted. -/
module

public import proofs.«01_k».proof.Proof.AttnRef
public import proofs.«01_k».proof.Proof.Gen.Reference7Ideal.Run

@[expose] public section

set_option maxRecDepth 16384

noncomputable section

namespace Cert.Fox

open Idealize.ShloMosaic hiding ix1 ix2 ix3 ix4
open Idealize.ShloMosaic.TcCoe Idealize.ShloMosaic.ValueIdx Idealize.SL.Sem
open Cert.Inproj (ix2_same ix1_same hz2)
open Cert.Attn (ix3_same ix4_same heads scores ratio aligned rows)

section
open Cert.Reference7Ideal Cert.Reference7Ideal.Gen

/-- The first position that the queries of a position see. -/
def starts (w : S52.Idx → BitVec 32) : S4x8320.Idx → BitVec 32 :=
  shapeCast S4x8320 (broadcastInDim S4x13x640 ![0, 1, 2] bcast_S4x13x1_S4x13x640_0_1_2
    (muli (broadcastInDim S4x13x1 ![] bcast_S_S4x13x1 (constantI S_ 32 640#32)) (shapeCast S4x13x1 w shapeCasts_S52_S4x13x1))) shapeCasts_S4x13x640_S4x8320
/-- The keys up to the query's own position. -/
def before : S1x8320x8320.Idx → BitVec 1 :=
  cmpi .sle (broadcastInDim S1x8320x8320 ![0, 1, 2] bcast_S1x1x8320_S1x8320x8320_0_1_2 (broadcastInDim S1x1x8320 ![2] bcast_S8320_S1x1x8320_2 (iotaInDim S8320 32 0)))
    (broadcastInDim S1x8320x8320 ![0, 1, 2] bcast_S1x8320x1_S1x8320x8320_0_1_2 (broadcastInDim S1x8320x1 ![1] bcast_S8320_S1x8320x1_1 (iotaInDim S8320 32 0)))
/-- The keys from the first position on. -/
def after (w : S52.Idx → BitVec 32) : S4x8320x8320.Idx → BitVec 1 :=
  cmpi .sge (broadcastInDim S4x8320x8320 ![0, 1, 2] bcast_S1x1x8320_S4x8320x8320_0_1_2 (broadcastInDim S1x1x8320 ![2] bcast_S8320_S1x1x8320_2 (iotaInDim S8320 32 0)))
    (broadcastInDim S4x8320x8320 ![0, 1, 2] bcast_S4x8320x1_S4x8320x8320_0_1_2 (broadcastInDim S4x8320x1 ![0, 1] bcast_S4x8320_S4x8320x1_0_1 (starts w)))
def seen (w : S52.Idx → BitVec 32) : S4x4x8320x8320.Idx → BitVec 1 :=
  broadcastInDim S4x4x8320x8320 ![0, 1, 2, 3] bcast_S4x1x8320x8320_S4x4x8320x8320_0_1_2_3 (broadcastInDim S4x1x8320x8320 ![0, 2, 3] bcast_S4x8320x8320_S4x1x8320x8320_0_2_3
    (andi (broadcastInDim S4x8320x8320 ![0, 1, 2] bcast_S1x8320x8320_S4x8320x8320_0_1_2 before) (after w)))
def weights (w : S52.Idx → BitVec 32) (s : S16.Idx → EReal) (q k : S33280x512.Idx → EReal) : S4x4x8320x8320.Idx → EReal :=
  select (seen w) (Host.powf (F := Ideal) (φ := .f32) (broadcastInDim S4x4x8320x8320 ![] bcast_S_S4x4x8320x8320 (constant S_ .f32 0x40000000#32)) (scores s q k))
    (broadcastInDim S4x4x8320x8320 ![] bcast_S_S4x4x8320x8320 (id (constant (F := Ideal) S_ .f32 0x00000000#32)))

theorem result_eq (m : (ℓ : Loc nD τ sig) → Buf (Elt Ideal) ℓ) (c : Dev nD) :
    (Value.res_main_v57 (F := Ideal) m c : S33280x256.Idx → EReal)
      = rows (aligned (ratio (weights (m ((c : Thread nD τ).loc main_arg0)) (m ((c : Thread nD τ).loc main_arg1)) (m ((c : Thread nD τ).loc main_arg2))
          (m ((c : Thread nD τ).loc main_arg3))) (m ((c : Thread nD τ).loc main_arg4)))) (m ((c : Thread nD τ).loc main_arg5)) := by
  unfold Value.res_main_v57
  rfl

theorem starts_apply (w : S52.Idx → BitVec 32) (b : Fin 4) (p : Fin 8320) :
    starts w (ix2 b p) = IntOp.muli 640#32 (w (ix1 ⟨b.val * 13 + p.val / 640, by omega⟩)) := by
  unfold starts
  pointwise
  exact congrArg (IntOp.muli _) (congrArg w (ix1_same _))

theorem before_apply (p n : Fin 8320) : before (ix3 0 p n) = IntOp.cmpi .sle (BitVec.ofNat 32 n.val) (BitVec.ofNat 32 p.val) := by
  unfold before
  pointwise

theorem after_apply (w : S52.Idx → BitVec 32) (b : Fin 4) (p n : Fin 8320) :
    after w (ix3 b p n) = IntOp.cmpi .sge (BitVec.ofNat 32 n.val) (starts w (ix2 b p)) := by
  unfold after
  pointwise
  exact congrArg (IntOp.cmpi .sge _) (congrArg (starts w) (ix2_same _ _))

theorem seen_apply (w : S52.Idx → BitVec 32) (b h : Fin 4) (p n : Fin 8320) :
    seen w (ix4 b h p n) = IntOp.andi (before (ix3 0 p n)) (after w (ix3 b p n)) := by
  unfold seen
  pointwise
  exact congrArg₂ IntOp.andi (congrArg before (ix3_same _ _ _)) (congrArg (after w) (ix3_same _ _ _))

theorem and_bits : ∀ x y : BitVec 1, IntOp.andi x y = 1#1 ↔ (x = 1#1 ∧ y = 1#1) := by decide

theorem times (x : BitVec 32) (hx : x.toNat < 13) : IntOp.muli 640#32 x = BitVec.ofNat 32 (640 * x.toNat) := by
  refine BitVec.eq_of_toNat_eq ?_
  show (640#32 * x).toNat = _
  rw [BitVec.toNat_mul, BitVec.toNat_ofNat, BitVec.toNat_ofNat]

theorem seen_iff (w : S52.Idx → BitVec 32) (b h : Fin 4) (p n : Fin 8320) (t : Fin 52) (ht : t.val = b.val * 13 + p.val / 640) (hw : (w (ix1 t)).toNat < 13) :
    seen w (ix4 b h p n) = 1#1 ↔ 640 * (w (ix1 t)).toNat ≤ n.val ∧ n.val ≤ p.val := by
  have et : (⟨b.val * 13 + p.val / 640, by omega⟩ : Fin 52) = t := Fin.ext ht.symm
  rw [seen_apply, before_apply, after_apply, starts_apply, and_bits, et, times _ hw]
  rw [WordCmp.cmpi_sle_ofNat_eq_one_iff (by omega) (by omega), WordCmp.cmpi_sge_ofNat_eq_one_iff (by omega) (by omega)]
  exact and_comm

theorem weights_apply (w : S52.Idx → BitVec 32) (s : S16.Idx → EReal) (q k : S33280x512.Idx → EReal) (b h : Fin 4) (p n : Fin 8320) :
    weights w s q k (ix4 b h p n) = if seen w (ix4 b h p n) = 1#1 then Ideal.exp2 (scores s q k (ix4 b h p n)) else 0 := by
  unfold weights
  rw [← Cert.Attn.pow_two]
  pointwise
  show Scalar.select _ _ (Ideal.ofBits .f32 0x00000000#32) = _
  rw [show Ideal.ofBits .f32 0x00000000#32 = 0 from by simp [Ideal.ofBits, Ideal.ieee]]
  rfl

end
end Cert.Fox
-- ==== Proof.FoxAttend.lean ====
/- The forgetting attention: with the lanes and the blocks that the precondition sets, the kernel's sums are the reference's. Untrusted. -/
module

public import proofs.«01_k».proof.Proof.FoxKer
public import proofs.«01_k».proof.Proof.FoxRef
public import proofs.«01_k».proof.Proof.Attend

@[expose] public section

set_option maxRecDepth 16384

noncomputable section

namespace Cert.Fox

open Idealize.ShloMosaic hiding ix1 ix2 ix3 ix4
open Idealize.ShloMosaic.TcCoe Idealize.ShloMosaic.ValueIdx Idealize.SL.Sem
open Cert.Inproj (ix2_same ix1_same hz2)
open Cert.Attn (wt bent normed Lanes bent_sum lane100 lane64 one_bf16 zero_bf16 heads scores ratio aligned rows heads_apply scores_apply rows_apply aligned_apply ratio_apply)

section
open Cert.Pre_first_and_lanes Cert.Pre_first_and_lanes.Gen

theorem lanes_of_fn (w : S52.Idx → BitVec 32) (s : S16.Idx → EReal) (q k v : S33280x512.Idx → EReal) (g : S256.Idx → EReal)
    (hp : (Cert.Pre_first_and_lanes.fn (F := Ideal) w s q k v g).1 = (fun _ => 1#1) ∧ (Cert.Pre_first_and_lanes.fn (F := Ideal) w s q k v g).2.1 = (fun _ => 1#1)
      ∧ (Cert.Pre_first_and_lanes.fn (F := Ideal) w s q k v g).2.2.1 = (fun _ => 1#1) ∧ (Cert.Pre_first_and_lanes.fn (F := Ideal) w s q k v g).2.2.2.1 = (fun _ => 1#1)
      ∧ (Cert.Pre_first_and_lanes.fn (F := Ideal) w s q k v g).2.2.2.2 = (fun _ => 1#1)) : Lanes q k v :=
  ⟨fun R h => (lane100 q _ R h hp.2.2.1).trans zero_bf16, fun R h => (lane100 k _ R h hp.2.2.2.1).trans one_bf16, fun R h => (lane64 v _ R h hp.2.2.2.2).trans one_bf16⟩

end

section
open Cert.Reference7Ideal Cert.Reference7Ideal.Gen

theorem weight_eq (w : S52.Idx → BitVec 32) (hw : Firsts w) (s : S16.Idx → EReal) (q K V : S33280x512.Idx → EReal) (hl : Lanes q K V) (R : Fin 33280) (h : Fin 4) (n : Fin 8320) :
    weights w s q K (ix4 ⟨R.val / 8320, by omega⟩ h ⟨R.val % 8320, by omega⟩ n)
      = if 640 * (w (ix1 ⟨R.val / 640, by omega⟩)).toNat ≤ n.val ∧ n.val ≤ R.val % 8320 then
          wt (bent (s (ix1 ⟨R.val / 8320 * 4 + h.val, by omega⟩)) fun l => q (ix2 R ⟨h.val * 128 + l.val, by omega⟩))
            (fun l => K (ix2 ⟨R.val / 8320 * 8320 + n.val, by omega⟩ ⟨h.val * 128 + l.val, by omega⟩)) else 0 := by
  rw [weights_apply]
  refine if_congr (seen_iff w _ _ _ _ ⟨R.val / 640, by omega⟩ (by show R.val / 640 = R.val / 8320 * 13 + R.val % 8320 / 640; omega)
    (lt_of_le_of_lt (hw _) (Nat.mod_lt _ (by decide)))) ?_ rfl
  unfold wt
  rw [bent_sum _ _ _ (hl.q0 R h) (hl.k1 _ h), scores_apply]
  refine congrArg Ideal.exp2 (congrArg (· - _) (Finset.sum_congr rfl fun l _ => ?_))
  rw [heads_apply, heads_apply]
  refine congrArg (· * _) (congrArg q (congrArg₂ ix2 (Fin.ext ?_) rfl))
  show R.val / 8320 * 8320 + R.val % 8320 = R.val
  omega

theorem head_eq (w : S52.Idx → BitVec 32) (hw : Firsts w) (s : S16.Idx → EReal) (q K V : S33280x512.Idx → EReal) (hl : Lanes q K V) (R : Fin 33280) (h : Fin 4) (d : Fin 128) :
    head w s q K V R h d = ∑ n : Fin 8320, weights w s q K (ix4 ⟨R.val / 8320, by omega⟩ h ⟨R.val % 8320, by omega⟩ n) * heads V (ix4 ⟨R.val / 8320, by omega⟩ h n d) := by
  unfold head
  refine Finset.sum_congr rfl fun n _ => ?_
  rw [weight_eq w hw s q K V hl R h n, heads_apply]
  split
  · rfl
  · exact (zero_mul _).symm

theorem head_ones (w : S52.Idx → BitVec 32) (hw : Firsts w) (s : S16.Idx → EReal) (q K V : S33280x512.Idx → EReal) (hl : Lanes q K V) (R : Fin 33280) (h : Fin 4) :
    head w s q K V R h ⟨64, by omega⟩ = ∑ n : Fin 8320, weights w s q K (ix4 ⟨R.val / 8320, by omega⟩ h ⟨R.val % 8320, by omega⟩ n) := by
  rw [head_eq w hw s q K V hl]
  refine Finset.sum_congr rfl fun n _ => ?_
  rw [heads_apply]
  exact (congrArg _ (hl.v1 _ h)).trans (mul_one _)

theorem attended_eq (w : S52.Idx → BitVec 32) (hw : Firsts w) (s : S16.Idx → EReal) (q K V : S33280x512.Idx → EReal) (g : S256.Idx → EReal) (hl : Lanes q K V) :
    rows (aligned (ratio (weights w s q K) V)) g = attended w s q K V g := by
  funext z
  refine (congrArg _ (Cert.Inproj.ix2_eta z)).trans ((rows_apply _ g (z 0) (z 1)).trans ?_)
  refine congrFun (congrArg (fun x => normed x _) (funext fun k => ?_)) (z 1)
  refine (aligned_apply _ (z 0) k).trans ((ratio_apply _ V _ _ _ _).trans ?_)
  exact congrArg₂ Ideal.div (head_eq w hw s q K V hl (z 0) _ ⟨k.val % 64, by omega⟩).symm (head_ones w hw s q K V hl (z 0) _).symm

end

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_kernelIdeal_pre : Cert.quiescent_Kernel7Ideal_pre_first_and_lanes := fun m ρ hp =>
  Cert.Kernel7Ideal.Gen.frame m ρ trivial (hyps_Kernel7Ideal m (firsts_of _ (hp 0).1 (hp 0).2.1))
theorem frame_reference_pre : Cert.quiescent_Reference7Ideal_pre_first_and_lanes := fun m ρ _ => frame_reference m ρ trivial

theorem value : Cert.algebraic_Kernel7Ideal_Reference7Ideal_pre_first_and_lanes := fun m ρ m' ρ' hp hm =>
  have hw : Firsts (ws m 0) := firsts_of _ (hp 0).1 (hp 0).2.1
  ⟨fun c => attended (ws m c) (ss m c) (qs m c) (ks m c) (vs m c) (gs m c), run m hw ρ,
    (θ_run Cert.Reference7Ideal.defs _ _).mono (fun r h c => by
        obtain ⟨h0, hk⟩ := h c
        obtain rfl : c = 0 := Subsingleton.elim (α := Fin 1) _ _
        obtain ⟨a0, a1, a2, a3, a4, a5⟩ := hm 0
        rw [result_eq, a0, a1, a2, a3, a4, a5] at h0
        exact ⟨h0.trans (attended_eq _ hw _ _ _ _ _ (lanes_of_fn _ _ _ _ _ _ (hp 0))), hk⟩)
      (Cert.Reference7Ideal.Value.run (F := Ideal) m' ρ')⟩

end Cert.Fox
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.ReferenceIdeal.Run
public import proofs.«01_k».proof.Proof.Gen.Reference.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Pre_slots_in_range
public import proofs.«01_k».proof.Proof.Gen.Pre_experts_in_range
public import proofs.«01_k».proof.Proof.Gen.Pre_lanes_set
public import proofs.«01_k».proof.Proof.Gen.Pre_first_in_range
public import proofs.«01_k».proof.Proof.Gen.Pre_first_and_lanes
public import Idealize.ShloMosaic.Adequacy
public import Idealize.ShloMosaic.Init
public import proofs.«01_k».proof.Proof.Run
public import proofs.«01_k».proof.Proof.Value
public import proofs.«01_k».proof.Proof.Spec
public import proofs.«01_k».proof.Proof.Claims
public import proofs.«01_k».proof.Proof.Body2
public import proofs.«01_k».proof.Proof.Run2
public import proofs.«01_k».proof.Proof.Swiglu
public import proofs.«01_k».proof.Proof.Value2
public import proofs.«01_k».proof.Proof.Spec2
public import proofs.«01_k».proof.Proof.Claims2
public import proofs.«01_k».proof.Proof.Dense
public import proofs.«01_k».proof.Proof.Columns
public import proofs.«01_k».proof.Proof.Inproj
public import proofs.«01_k».proof.Proof.Outproj
public import proofs.«01_k».proof.Proof.Attn
public import proofs.«01_k».proof.Proof.AttnRun
public import proofs.«01_k».proof.Proof.AttnAcc
public import proofs.«01_k».proof.Proof.AttnOut
public import proofs.«01_k».proof.Proof.AttnKer
public import proofs.«01_k».proof.Proof.AttnRef
public import proofs.«01_k».proof.Proof.Attend
public import proofs.«01_k».proof.Proof.Fox
public import proofs.«01_k».proof.Proof.FoxOut
public import proofs.«01_k».proof.Proof.FoxKer
public import proofs.«01_k».proof.Proof.FoxRef
public import proofs.«01_k».proof.Proof.FoxAttend

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_slots_in_range.Gen.facts, Cert.Pre_experts_in_range.Gen.facts, Cert.Pre_lanes_set.Gen.facts,
  Cert.Pre_first_in_range.Gen.facts, Cert.Pre_first_and_lanes.Gen.facts,
  Cert.KernelIdeal.Hand.frame_kernel, Cert.KernelIdeal.Hand.frame_kernelIdeal, Cert.KernelIdeal.Hand.frame_referenceIdeal,
  Cert.KernelIdeal.Hand.frame_referenceIdeal_pre, Cert.KernelIdeal.Hand.frame_reference,
  Cert.Kernel2Ideal.Hand.frame_kernel2, Cert.Kernel2Ideal.Hand.frame_kernel2Ideal, Cert.Kernel2Ideal.Hand.frame_reference2Ideal,
  Cert.Kernel2Ideal.Hand.frame_reference2Ideal_pre,
  Cert.Dense.frame_kernel, Cert.Dense.frame_kernelIdeal, Cert.Dense.frame_reference,
  Cert.Inproj.frame_kernel, Cert.Inproj.frame_kernelIdeal, Cert.Inproj.frame_reference,
  Cert.Outproj.frame_kernel, Cert.Outproj.frame_kernelIdeal, Cert.Outproj.frame_reference,
  Cert.Attn.frame_kernel, Cert.Attn.frame_kernelIdeal, Cert.Attn.frame_kernelIdeal_pre, Cert.Attn.frame_reference, Cert.Attn.frame_reference_pre,
  Cert.Fox.frame_kernel, Cert.Fox.frame_kernelIdeal, Cert.Fox.frame_kernelIdeal_pre, Cert.Fox.frame_reference, Cert.Fox.frame_reference_pre,
  trivial, Cert.KernelIdeal.Hand.value_ideal, Cert.KernelIdeal.Hand.value_bits, trivial, Cert.Kernel2Ideal.Hand.value2_ideal,
  trivial, Cert.Dense.value, trivial, Cert.Inproj.value, trivial, Cert.Outproj.value,
  trivial, Cert.Attn.value, trivial, Cert.Fox.value⟩

end Cert.Proof

end
